-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_AttnIn (m : (ℓ : Loc Cert.AttnIn.nD Cert.AttnIn.τ Cert.AttnIn.sig) → Buf (Elt Bits) ℓ) : Prop :=
  True

def Pre_AttnInIdeal (m : (ℓ : Loc Cert.AttnInIdeal.nD Cert.AttnInIdeal.τ Cert.AttnInIdeal.sig) → Buf (Elt Ideal) ℓ) : Prop :=
  True

def Pre_AttnInRefIdeal (m : (ℓ : Loc Cert.AttnInRefIdeal.nD Cert.AttnInRefIdeal.τ Cert.AttnInRefIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutRefIdeal (m : (ℓ : Loc Cert.AttnOutRefIdeal.nD Cert.AttnOutRefIdeal.τ Cert.AttnOutRefIdeal.sig) → Buf (Elt Ideal) ℓ) : Prop :=
  True

def Pre_DnOut (m : (ℓ : Loc Cert.DnOut.nD Cert.DnOut.τ Cert.DnOut.sig) → Buf (Elt Bits) ℓ) : Prop :=
  True

def Pre_DnOutIdeal (m : (ℓ : Loc Cert.DnOutIdeal.nD Cert.DnOutIdeal.τ Cert.DnOutIdeal.sig) → Buf (Elt Ideal) ℓ) : Prop :=
  True

def Pre_DnOutRefIdeal (m : (ℓ : Loc Cert.DnOutRefIdeal.nD Cert.DnOutRefIdeal.τ Cert.DnOutRefIdeal.sig) → Buf (Elt Ideal) ℓ) : Prop :=
  True

def Pre_DnIn (m : (ℓ : Loc Cert.DnIn.nD Cert.DnIn.τ Cert.DnIn.sig) → Buf (Elt Bits) ℓ) : Prop :=
  True

def Pre_DnInIdeal (m : (ℓ : Loc Cert.DnInIdeal.nD Cert.DnInIdeal.τ Cert.DnInIdeal.sig) → Buf (Elt Ideal) ℓ) : Prop :=
  True

def Pre_DnInRefIdeal (m : (ℓ : Loc Cert.DnInRefIdeal.nD Cert.DnInRefIdeal.τ Cert.DnInRefIdeal.sig) → Buf (Elt Ideal) ℓ) : Prop :=
  True

def Pre_AttnOutS (m : (ℓ : Loc Cert.AttnOutS.nD Cert.AttnOutS.τ Cert.AttnOutS.sig) → Buf (Elt Bits) ℓ) : Prop :=
  True

def Pre_AttnOutSIdeal (m : (ℓ : Loc Cert.AttnOutSIdeal.nD Cert.AttnOutSIdeal.τ Cert.AttnOutSIdeal.sig) → Buf (Elt Ideal) ℓ) : Prop :=
  True

def Pre_AttnOutSRefIdeal (m : (ℓ : Loc Cert.AttnOutSRefIdeal.nD Cert.AttnOutSRefIdeal.τ Cert.AttnOutSRefIdeal.sig) → Buf (Elt Ideal) ℓ) : Prop :=
  True

def Pre_AttnInS (m : (ℓ : Loc Cert.AttnInS.nD Cert.AttnInS.τ Cert.AttnInS.sig) → Buf (Elt Bits) ℓ) : Prop :=
  True

def Pre_AttnInSIdeal (m : (ℓ : Loc Cert.AttnInSIdeal.nD Cert.AttnInSIdeal.τ Cert.AttnInSIdeal.sig) → Buf (Elt Ideal) ℓ) : Prop :=
  True

def Pre_AttnInSRefIdeal (m : (ℓ : Loc Cert.AttnInSRefIdeal.nD Cert.AttnInSRefIdeal.τ Cert.AttnInSRefIdeal.sig) → Buf (Elt Ideal) ℓ) : Prop :=
  True

def Pre_ScanS (m : (ℓ : Loc Cert.ScanS.nD Cert.ScanS.τ Cert.ScanS.sig) → Buf (Elt Bits) ℓ) : Prop :=
  True

def Pre_ScanSIdeal (m : (ℓ : Loc Cert.ScanSIdeal.nD Cert.ScanSIdeal.τ Cert.ScanSIdeal.sig) → Buf (Elt Ideal) ℓ) : Prop :=
  True

def Pre_ScanSRefIdeal (m : (ℓ : Loc Cert.ScanSRefIdeal.nD Cert.ScanSRefIdeal.τ Cert.ScanSRefIdeal.sig) → Buf (Elt Ideal) ℓ) : Prop :=
  True

def Pre_DnInS (m : (ℓ : Loc Cert.DnInS.nD Cert.DnInS.τ Cert.DnInS.sig) → Buf (Elt Bits) ℓ) : Prop :=
  True

def Pre_DnInSIdeal (m : (ℓ : Loc Cert.DnInSIdeal.nD Cert.DnInSIdeal.τ Cert.DnInSIdeal.sig) → Buf (Elt Ideal) ℓ) : Prop :=
  True

def Pre_DnInSRefIdeal (m : (ℓ : Loc Cert.DnInSRefIdeal.nD Cert.DnInSRefIdeal.τ Cert.DnInSRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Moba (m : (ℓ : Loc Cert.Moba.nD Cert.Moba.τ Cert.Moba.sig) → Buf (Elt Bits) ℓ) : Prop :=
  True

def Pre_MobaIdeal (m : (ℓ : Loc Cert.MobaIdeal.nD Cert.MobaIdeal.τ Cert.MobaIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_AttnIn [hAttnIn : Cert.AttnIn.Facts] : Prop :=
  ∀ (m : (ℓ : Loc Cert.AttnIn.nD Cert.AttnIn.τ Cert.AttnIn.sig) → Buf (Elt Bits) ℓ) (g : Dev Cert.AttnIn.nD → PrngReg), Pre_AttnIn m →
    θ_run (Cert.AttnIn.defs (F := Bits)) (onTc (τ := Cert.AttnIn.τ) (Cert.AttnIn.main (F := Bits))) ⟨m, fun _ => 0, g⟩ (fun r => (∀ c : Dev Cert.AttnIn.nD,
      r.2.mem ((c.tc : Thread Cert.AttnIn.nD Cert.AttnIn.τ).loc Cert.AttnIn.main_arg0) = m ((c.tc : Thread Cert.AttnIn.nD Cert.AttnIn.τ).loc Cert.AttnIn.main_arg0)
      ∧ r.2.mem ((c.tc : Thread Cert.AttnIn.nD Cert.AttnIn.τ).loc Cert.AttnIn.main_arg1) = m ((c.tc : Thread Cert.AttnIn.nD Cert.AttnIn.τ).loc Cert.AttnIn.main_arg1)
      ∧ r.2.mem ((c.tc : Thread Cert.AttnIn.nD Cert.AttnIn.τ).loc Cert.AttnIn.main_arg2) = m ((c.tc : Thread Cert.AttnIn.nD Cert.AttnIn.τ).loc Cert.AttnIn.main_arg2)
      ∧ r.2.mem ((c.tc : Thread Cert.AttnIn.nD Cert.AttnIn.τ).loc Cert.AttnIn.main_arg3) = m ((c.tc : Thread Cert.AttnIn.nD Cert.AttnIn.τ).loc Cert.AttnIn.main_arg3)
      ∧ r.2.mem ((c.tc : Thread Cert.AttnIn.nD Cert.AttnIn.τ).loc Cert.AttnIn.main_arg4) = m ((c.tc : Thread Cert.AttnIn.nD Cert.AttnIn.τ).loc Cert.AttnIn.main_arg4)
      ∧ r.2.mem ((c.tc : Thread Cert.AttnIn.nD Cert.AttnIn.τ).loc Cert.AttnIn.main_arg5) = m ((c.tc : Thread Cert.AttnIn.nD Cert.AttnIn.τ).loc Cert.AttnIn.main_arg5))
      ∧ r.2.sem = fun _ => 0)

def quiescent_AttnInIdeal [hAttnInIdeal : Cert.AttnInIdeal.Facts] : Prop :=
  ∀ (m : (ℓ : Loc Cert.AttnInIdeal.nD Cert.AttnInIdeal.τ Cert.AttnInIdeal.sig) → Buf (Elt Ideal) ℓ) (g : Dev Cert.AttnInIdeal.nD → PrngReg), Pre_AttnInIdeal m →
    θ_run (Cert.AttnInIdeal.defs (F := Ideal)) (onTc (τ := Cert.AttnInIdeal.τ) (Cert.AttnInIdeal.main (F := Ideal))) ⟨m, fun _ => 0, g⟩ (fun r => (∀ c : Dev Cert.AttnInIdeal.nD,
      r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
      ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
      ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
      ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
      ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
      ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5))
      ∧ r.2.sem = fun _ => 0)

def quiescent_AttnInRefIdeal [hAttnInRefIdeal : Cert.AttnInRefIdeal.Facts] : Prop :=
  ∀ (m : (ℓ : Loc Cert.AttnInRefIdeal.nD Cert.AttnInRefIdeal.τ Cert.AttnInRefIdeal.sig) → Buf (Elt Ideal) ℓ) (g : Dev Cert.AttnInRefIdeal.nD → PrngReg), Pre_AttnInRefIdeal m →
    θ_run (Cert.AttnInRefIdeal.defs (F := Ideal)) (onTc (τ := Cert.AttnInRefIdeal.τ) (Cert.AttnInRefIdeal.main (F := Ideal))) ⟨m, fun _ => 0, g⟩ (fun r => (∀ c : Dev Cert.AttnInRefIdeal.nD,
      r.2.mem ((c.tc : Thread Cert.AttnInRefIdeal.nD Cert.AttnInRefIdeal.τ).loc Cert.AttnInRefIdeal.main_arg0) = m ((c.tc : Thread Cert.AttnInRefIdeal.nD Cert.AttnInRefIdeal.τ).loc Cert.AttnInRefIdeal.main_arg0)
      ∧ r.2.mem ((c.tc : Thread Cert.AttnInRefIdeal.nD Cert.AttnInRefIdeal.τ).loc Cert.AttnInRefIdeal.main_arg1) = m ((c.tc : Thread Cert.AttnInRefIdeal.nD Cert.AttnInRefIdeal.τ).loc Cert.AttnInRefIdeal.main_arg1)
      ∧ r.2.mem ((c.tc : Thread Cert.AttnInRefIdeal.nD Cert.AttnInRefIdeal.τ).loc Cert.AttnInRefIdeal.main_arg2) = m ((c.tc : Thread Cert.AttnInRefIdeal.nD Cert.AttnInRefIdeal.τ).loc Cert.AttnInRefIdeal.main_arg2)
      ∧ r.2.mem ((c.tc : Thread Cert.AttnInRefIdeal.nD Cert.AttnInRefIdeal.τ).loc Cert.AttnInRefIdeal.main_arg3) = m ((c.tc : Thread Cert.AttnInRefIdeal.nD Cert.AttnInRefIdeal.τ).loc Cert.AttnInRefIdeal.main_arg3)
      ∧ r.2.mem ((c.tc : Thread Cert.AttnInRefIdeal.nD Cert.AttnInRefIdeal.τ).loc Cert.AttnInRefIdeal.main_arg4) = m ((c.tc : Thread Cert.AttnInRefIdeal.nD Cert.AttnInRefIdeal.τ).loc Cert.AttnInRefIdeal.main_arg4)
      ∧ r.2.mem ((c.tc : Thread Cert.AttnInRefIdeal.nD Cert.AttnInRefIdeal.τ).loc Cert.AttnInRefIdeal.main_arg5) = m ((c.tc : Thread Cert.AttnInRefIdeal.nD Cert.AttnInRefIdeal.τ).loc Cert.AttnInRefIdeal.main_arg5))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutRefIdeal [hAttnOutRefIdeal : Cert.AttnOutRefIdeal.Facts] : Prop :=
  ∀ (m : (ℓ : Loc Cert.AttnOutRefIdeal.nD Cert.AttnOutRefIdeal.τ Cert.AttnOutRefIdeal.sig) → Buf (Elt Ideal) ℓ) (g : Dev Cert.AttnOutRefIdeal.nD → PrngReg), Pre_AttnOutRefIdeal m →
    θ_run (Cert.AttnOutRefIdeal.defs (F := Ideal)) (onTc (τ := Cert.AttnOutRefIdeal.τ) (Cert.AttnOutRefIdeal.main (F := Ideal))) ⟨m, fun _ => 0, g⟩ (fun r => (∀ c : Dev Cert.AttnOutRefIdeal.nD,
      r.2.mem ((c.tc : Thread Cert.AttnOutRefIdeal.nD Cert.AttnOutRefIdeal.τ).loc Cert.AttnOutRefIdeal.main_arg0) = m ((c.tc : Thread Cert.AttnOutRefIdeal.nD Cert.AttnOutRefIdeal.τ).loc Cert.AttnOutRefIdeal.main_arg0)
      ∧ r.2.mem ((c.tc : Thread Cert.AttnOutRefIdeal.nD Cert.AttnOutRefIdeal.τ).loc Cert.AttnOutRefIdeal.main_arg1) = m ((c.tc : Thread Cert.AttnOutRefIdeal.nD Cert.AttnOutRefIdeal.τ).loc Cert.AttnOutRefIdeal.main_arg1)
      ∧ r.2.mem ((c.tc : Thread Cert.AttnOutRefIdeal.nD Cert.AttnOutRefIdeal.τ).loc Cert.AttnOutRefIdeal.main_arg2) = m ((c.tc : Thread Cert.AttnOutRefIdeal.nD Cert.AttnOutRefIdeal.τ).loc Cert.AttnOutRefIdeal.main_arg2)
      ∧ r.2.mem ((c.tc : Thread Cert.AttnOutRefIdeal.nD Cert.AttnOutRefIdeal.τ).loc Cert.AttnOutRefIdeal.main_arg3) = m ((c.tc : Thread Cert.AttnOutRefIdeal.nD Cert.AttnOutRefIdeal.τ).loc Cert.AttnOutRefIdeal.main_arg3)
      ∧ r.2.mem ((c.tc : Thread Cert.AttnOutRefIdeal.nD Cert.AttnOutRefIdeal.τ).loc Cert.AttnOutRefIdeal.main_arg4) = m ((c.tc : Thread Cert.AttnOutRefIdeal.nD Cert.AttnOutRefIdeal.τ).loc Cert.AttnOutRefIdeal.main_arg4))
      ∧ r.2.sem = fun _ => 0)

def quiescent_DnOut [hDnOut : Cert.DnOut.Facts] : Prop :=
  ∀ (m : (ℓ : Loc Cert.DnOut.nD Cert.DnOut.τ Cert.DnOut.sig) → Buf (Elt Bits) ℓ) (g : Dev Cert.DnOut.nD → PrngReg), Pre_DnOut m →
    θ_run (Cert.DnOut.defs (F := Bits)) (onTc (τ := Cert.DnOut.τ) (Cert.DnOut.main (F := Bits))) ⟨m, fun _ => 0, g⟩ (fun r => (∀ c : Dev Cert.DnOut.nD,
      r.2.mem ((c.tc : Thread Cert.DnOut.nD Cert.DnOut.τ).loc Cert.DnOut.main_arg0) = m ((c.tc : Thread Cert.DnOut.nD Cert.DnOut.τ).loc Cert.DnOut.main_arg0)
      ∧ r.2.mem ((c.tc : Thread Cert.DnOut.nD Cert.DnOut.τ).loc Cert.DnOut.main_arg1) = m ((c.tc : Thread Cert.DnOut.nD Cert.DnOut.τ).loc Cert.DnOut.main_arg1)
      ∧ r.2.mem ((c.tc : Thread Cert.DnOut.nD Cert.DnOut.τ).loc Cert.DnOut.main_arg2) = m ((c.tc : Thread Cert.DnOut.nD Cert.DnOut.τ).loc Cert.DnOut.main_arg2)
      ∧ r.2.mem ((c.tc : Thread Cert.DnOut.nD Cert.DnOut.τ).loc Cert.DnOut.main_arg3) = m ((c.tc : Thread Cert.DnOut.nD Cert.DnOut.τ).loc Cert.DnOut.main_arg3)
      ∧ r.2.mem ((c.tc : Thread Cert.DnOut.nD Cert.DnOut.τ).loc Cert.DnOut.main_arg4) = m ((c.tc : Thread Cert.DnOut.nD Cert.DnOut.τ).loc Cert.DnOut.main_arg4)
      ∧ r.2.mem ((c.tc : Thread Cert.DnOut.nD Cert.DnOut.τ).loc Cert.DnOut.main_arg5) = m ((c.tc : Thread Cert.DnOut.nD Cert.DnOut.τ).loc Cert.DnOut.main_arg5)
      ∧ r.2.mem ((c.tc : Thread Cert.DnOut.nD Cert.DnOut.τ).loc Cert.DnOut.main_arg6) = m ((c.tc : Thread Cert.DnOut.nD Cert.DnOut.τ).loc Cert.DnOut.main_arg6))
      ∧ r.2.sem = fun _ => 0)

def quiescent_DnOutIdeal [hDnOutIdeal : Cert.DnOutIdeal.Facts] : Prop :=
  ∀ (m : (ℓ : Loc Cert.DnOutIdeal.nD Cert.DnOutIdeal.τ Cert.DnOutIdeal.sig) → Buf (Elt Ideal) ℓ) (g : Dev Cert.DnOutIdeal.nD → PrngReg), Pre_DnOutIdeal m →
    θ_run (Cert.DnOutIdeal.defs (F := Ideal)) (onTc (τ := Cert.DnOutIdeal.τ) (Cert.DnOutIdeal.main (F := Ideal))) ⟨m, fun _ => 0, g⟩ (fun r => (∀ c : Dev Cert.DnOutIdeal.nD,
      r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
      ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
      ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
      ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3)
      ∧ r.2.mem ((c.tc : Thread Cert.DnOutIdeal.nD Cert.DnOutIdeal.τ).loc Cert.DnOutIdeal.main_arg4) = m ((c.tc : Thread Cert.DnOutIdeal.nD Cert.DnOutIdeal.τ).loc Cert.DnOutIdeal.main_arg4)
      ∧ r.2.mem ((c.tc : Thread Cert.DnOutIdeal.nD Cert.DnOutIdeal.τ).loc Cert.DnOutIdeal.main_arg5) = m ((c.tc : Thread Cert.DnOutIdeal.nD Cert.DnOutIdeal.τ).loc Cert.DnOutIdeal.main_arg5)
      ∧ r.2.mem ((c.tc : Thread Cert.DnOutIdeal.nD Cert.DnOutIdeal.τ).loc Cert.DnOutIdeal.main_arg6) = m ((c.tc : Thread Cert.DnOutIdeal.nD Cert.DnOutIdeal.τ).loc Cert.DnOutIdeal.main_arg6))
      ∧ r.2.sem = fun _ => 0)

def quiescent_DnOutRefIdeal [hDnOutRefIdeal : Cert.DnOutRefIdeal.Facts] : Prop :=
  ∀ (m : (ℓ : Loc Cert.DnOutRefIdeal.nD Cert.DnOutRefIdeal.τ Cert.DnOutRefIdeal.sig) → Buf (Elt Ideal) ℓ) (g : Dev Cert.DnOutRefIdeal.nD → PrngReg), Pre_DnOutRefIdeal m →
    θ_run (Cert.DnOutRefIdeal.defs (F := Ideal)) (onTc (τ := Cert.DnOutRefIdeal.τ) (Cert.DnOutRefIdeal.main (F := Ideal))) ⟨m, fun _ => 0, g⟩ (fun r => (∀ c : Dev Cert.DnOutRefIdeal.nD,
      r.2.mem ((c.tc : Thread Cert.DnOutRefIdeal.nD Cert.DnOutRefIdeal.τ).loc Cert.DnOutRefIdeal.main_arg0) = m ((c.tc : Thread Cert.DnOutRefIdeal.nD Cert.DnOutRefIdeal.τ).loc Cert.DnOutRefIdeal.main_arg0)
      ∧ r.2.mem ((c.tc : Thread Cert.DnOutRefIdeal.nD Cert.DnOutRefIdeal.τ).loc Cert.DnOutRefIdeal.main_arg1) = m ((c.tc : Thread Cert.DnOutRefIdeal.nD Cert.DnOutRefIdeal.τ).loc Cert.DnOutRefIdeal.main_arg1)
      ∧ r.2.mem ((c.tc : Thread Cert.DnOutRefIdeal.nD Cert.DnOutRefIdeal.τ).loc Cert.DnOutRefIdeal.main_arg2) = m ((c.tc : Thread Cert.DnOutRefIdeal.nD Cert.DnOutRefIdeal.τ).loc Cert.DnOutRefIdeal.main_arg2)
      ∧ r.2.mem ((c.tc : Thread Cert.DnOutRefIdeal.nD Cert.DnOutRefIdeal.τ).loc Cert.DnOutRefIdeal.main_arg3) = m ((c.tc : Thread Cert.DnOutRefIdeal.nD Cert.DnOutRefIdeal.τ).loc Cert.DnOutRefIdeal.main_arg3)
      ∧ r.2.mem ((c.tc : Thread Cert.DnOutRefIdeal.nD Cert.DnOutRefIdeal.τ).loc Cert.DnOutRefIdeal.main_arg4) = m ((c.tc : Thread Cert.DnOutRefIdeal.nD Cert.DnOutRefIdeal.τ).loc Cert.DnOutRefIdeal.main_arg4)
      ∧ r.2.mem ((c.tc : Thread Cert.DnOutRefIdeal.nD Cert.DnOutRefIdeal.τ).loc Cert.DnOutRefIdeal.main_arg5) = m ((c.tc : Thread Cert.DnOutRefIdeal.nD Cert.DnOutRefIdeal.τ).loc Cert.DnOutRefIdeal.main_arg5)
      ∧ r.2.mem ((c.tc : Thread Cert.DnOutRefIdeal.nD Cert.DnOutRefIdeal.τ).loc Cert.DnOutRefIdeal.main_arg6) = m ((c.tc : Thread Cert.DnOutRefIdeal.nD Cert.DnOutRefIdeal.τ).loc Cert.DnOutRefIdeal.main_arg6))
      ∧ r.2.sem = fun _ => 0)

def quiescent_DnIn [hDnIn : Cert.DnIn.Facts] : Prop :=
  ∀ (m : (ℓ : Loc Cert.DnIn.nD Cert.DnIn.τ Cert.DnIn.sig) → Buf (Elt Bits) ℓ) (g : Dev Cert.DnIn.nD → PrngReg), Pre_DnIn m →
    θ_run (Cert.DnIn.defs (F := Bits)) (onTc (τ := Cert.DnIn.τ) (Cert.DnIn.main (F := Bits))) ⟨m, fun _ => 0, g⟩ (fun r => (∀ c : Dev Cert.DnIn.nD,
      r.2.mem ((c.tc : Thread Cert.DnIn.nD Cert.DnIn.τ).loc Cert.DnIn.main_arg0) = m ((c.tc : Thread Cert.DnIn.nD Cert.DnIn.τ).loc Cert.DnIn.main_arg0)
      ∧ r.2.mem ((c.tc : Thread Cert.DnIn.nD Cert.DnIn.τ).loc Cert.DnIn.main_arg1) = m ((c.tc : Thread Cert.DnIn.nD Cert.DnIn.τ).loc Cert.DnIn.main_arg1)
      ∧ r.2.mem ((c.tc : Thread Cert.DnIn.nD Cert.DnIn.τ).loc Cert.DnIn.main_arg2) = m ((c.tc : Thread Cert.DnIn.nD Cert.DnIn.τ).loc Cert.DnIn.main_arg2)
      ∧ r.2.mem ((c.tc : Thread Cert.DnIn.nD Cert.DnIn.τ).loc Cert.DnIn.main_arg3) = m ((c.tc : Thread Cert.DnIn.nD Cert.DnIn.τ).loc Cert.DnIn.main_arg3)
      ∧ r.2.mem ((c.tc : Thread Cert.DnIn.nD Cert.DnIn.τ).loc Cert.DnIn.main_arg4) = m ((c.tc : Thread Cert.DnIn.nD Cert.DnIn.τ).loc Cert.DnIn.main_arg4)
      ∧ r.2.mem ((c.tc : Thread Cert.DnIn.nD Cert.DnIn.τ).loc Cert.DnIn.main_arg5) = m ((c.tc : Thread Cert.DnIn.nD Cert.DnIn.τ).loc Cert.DnIn.main_arg5)
      ∧ r.2.mem ((c.tc : Thread Cert.DnIn.nD Cert.DnIn.τ).loc Cert.DnIn.main_arg6) = m ((c.tc : Thread Cert.DnIn.nD Cert.DnIn.τ).loc Cert.DnIn.main_arg6)
      ∧ r.2.mem ((c.tc : Thread Cert.DnIn.nD Cert.DnIn.τ).loc Cert.DnIn.main_arg7) = m ((c.tc : Thread Cert.DnIn.nD Cert.DnIn.τ).loc Cert.DnIn.main_arg7))
      ∧ r.2.sem = fun _ => 0)

def quiescent_DnInIdeal [hDnInIdeal : Cert.DnInIdeal.Facts] : Prop :=
  ∀ (m : (ℓ : Loc Cert.DnInIdeal.nD Cert.DnInIdeal.τ Cert.DnInIdeal.sig) → Buf (Elt Ideal) ℓ) (g : Dev Cert.DnInIdeal.nD → PrngReg), Pre_DnInIdeal m →
    θ_run (Cert.DnInIdeal.defs (F := Ideal)) (onTc (τ := Cert.DnInIdeal.τ) (Cert.DnInIdeal.main (F := Ideal))) ⟨m, fun _ => 0, g⟩ (fun r => (∀ c : Dev Cert.DnInIdeal.nD,
      r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
      ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1)
      ∧ r.2.mem ((c.tc : Thread Cert.DnInIdeal.nD Cert.DnInIdeal.τ).loc Cert.DnInIdeal.main_arg2) = m ((c.tc : Thread Cert.DnInIdeal.nD Cert.DnInIdeal.τ).loc Cert.DnInIdeal.main_arg2)
      ∧ r.2.mem ((c.tc : Thread Cert.DnInIdeal.nD Cert.DnInIdeal.τ).loc Cert.DnInIdeal.main_arg3) = m ((c.tc : Thread Cert.DnInIdeal.nD Cert.DnInIdeal.τ).loc Cert.DnInIdeal.main_arg3)
      ∧ r.2.mem ((c.tc : Thread Cert.DnInIdeal.nD Cert.DnInIdeal.τ).loc Cert.DnInIdeal.main_arg4) = m ((c.tc : Thread Cert.DnInIdeal.nD Cert.DnInIdeal.τ).loc Cert.DnInIdeal.main_arg4)
      ∧ r.2.mem ((c.tc : Thread Cert.DnInIdeal.nD Cert.DnInIdeal.τ).loc Cert.DnInIdeal.main_arg5) = m ((c.tc : Thread Cert.DnInIdeal.nD Cert.DnInIdeal.τ).loc Cert.DnInIdeal.main_arg5)
      ∧ r.2.mem ((c.tc : Thread Cert.DnInIdeal.nD Cert.DnInIdeal.τ).loc Cert.DnInIdeal.main_arg6) = m ((c.tc : Thread Cert.DnInIdeal.nD Cert.DnInIdeal.τ).loc Cert.DnInIdeal.main_arg6)
      ∧ r.2.mem ((c.tc : Thread Cert.DnInIdeal.nD Cert.DnInIdeal.τ).loc Cert.DnInIdeal.main_arg7) = m ((c.tc : Thread Cert.DnInIdeal.nD Cert.DnInIdeal.τ).loc Cert.DnInIdeal.main_arg7))
      ∧ r.2.sem = fun _ => 0)

def quiescent_DnInRefIdeal [hDnInRefIdeal : Cert.DnInRefIdeal.Facts] : Prop :=
  ∀ (m : (ℓ : Loc Cert.DnInRefIdeal.nD Cert.DnInRefIdeal.τ Cert.DnInRefIdeal.sig) → Buf (Elt Ideal) ℓ) (g : Dev Cert.DnInRefIdeal.nD → PrngReg), Pre_DnInRefIdeal m →
    θ_run (Cert.DnInRefIdeal.defs (F := Ideal)) (onTc (τ := Cert.DnInRefIdeal.τ) (Cert.DnInRefIdeal.main (F := Ideal))) ⟨m, fun _ => 0, g⟩ (fun r => (∀ c : Dev Cert.DnInRefIdeal.nD,
      r.2.mem ((c.tc : Thread Cert.DnInRefIdeal.nD Cert.DnInRefIdeal.τ).loc Cert.DnInRefIdeal.main_arg0) = m ((c.tc : Thread Cert.DnInRefIdeal.nD Cert.DnInRefIdeal.τ).loc Cert.DnInRefIdeal.main_arg0)
      ∧ r.2.mem ((c.tc : Thread Cert.DnInRefIdeal.nD Cert.DnInRefIdeal.τ).loc Cert.DnInRefIdeal.main_arg1) = m ((c.tc : Thread Cert.DnInRefIdeal.nD Cert.DnInRefIdeal.τ).loc Cert.DnInRefIdeal.main_arg1)
      ∧ r.2.mem ((c.tc : Thread Cert.DnInRefIdeal.nD Cert.DnInRefIdeal.τ).loc Cert.DnInRefIdeal.main_arg2) = m ((c.tc : Thread Cert.DnInRefIdeal.nD Cert.DnInRefIdeal.τ).loc Cert.DnInRefIdeal.main_arg2)
      ∧ r.2.mem ((c.tc : Thread Cert.DnInRefIdeal.nD Cert.DnInRefIdeal.τ).loc Cert.DnInRefIdeal.main_arg3) = m ((c.tc : Thread Cert.DnInRefIdeal.nD Cert.DnInRefIdeal.τ).loc Cert.DnInRefIdeal.main_arg3)
      ∧ r.2.mem ((c.tc : Thread Cert.DnInRefIdeal.nD Cert.DnInRefIdeal.τ).loc Cert.DnInRefIdeal.main_arg4) = m ((c.tc : Thread Cert.DnInRefIdeal.nD Cert.DnInRefIdeal.τ).loc Cert.DnInRefIdeal.main_arg4)
      ∧ r.2.mem ((c.tc : Thread Cert.DnInRefIdeal.nD Cert.DnInRefIdeal.τ).loc Cert.DnInRefIdeal.main_arg5) = m ((c.tc : Thread Cert.DnInRefIdeal.nD Cert.DnInRefIdeal.τ).loc Cert.DnInRefIdeal.main_arg5)
      ∧ r.2.mem ((c.tc : Thread Cert.DnInRefIdeal.nD Cert.DnInRefIdeal.τ).loc Cert.DnInRefIdeal.main_arg6) = m ((c.tc : Thread Cert.DnInRefIdeal.nD Cert.DnInRefIdeal.τ).loc Cert.DnInRefIdeal.main_arg6)
      ∧ r.2.mem ((c.tc : Thread Cert.DnInRefIdeal.nD Cert.DnInRefIdeal.τ).loc Cert.DnInRefIdeal.main_arg7) = m ((c.tc : Thread Cert.DnInRefIdeal.nD Cert.DnInRefIdeal.τ).loc Cert.DnInRefIdeal.main_arg7))
      ∧ r.2.sem = fun _ => 0)

def quiescent_AttnOutS [hAttnOutS : Cert.AttnOutS.Facts] : Prop :=
  ∀ (m : (ℓ : Loc Cert.AttnOutS.nD Cert.AttnOutS.τ Cert.AttnOutS.sig) → Buf (Elt Bits) ℓ) (g : Dev Cert.AttnOutS.nD → PrngReg), Pre_AttnOutS m →
    θ_run (Cert.AttnOutS.defs (F := Bits)) (onTc (τ := Cert.AttnOutS.τ) (Cert.AttnOutS.main (F := Bits))) ⟨m, fun _ => 0, g⟩ (fun r => (∀ c : Dev Cert.AttnOutS.nD,
      r.2.mem ((c.tc : Thread Cert.AttnOutS.nD Cert.AttnOutS.τ).loc Cert.AttnOutS.main_arg0) = m ((c.tc : Thread Cert.AttnOutS.nD Cert.AttnOutS.τ).loc Cert.AttnOutS.main_arg0)
      ∧ r.2.mem ((c.tc : Thread Cert.AttnOutS.nD Cert.AttnOutS.τ).loc Cert.AttnOutS.main_arg1) = m ((c.tc : Thread Cert.AttnOutS.nD Cert.AttnOutS.τ).loc Cert.AttnOutS.main_arg1)
      ∧ r.2.mem ((c.tc : Thread Cert.AttnOutS.nD Cert.AttnOutS.τ).loc Cert.AttnOutS.main_arg2) = m ((c.tc : Thread Cert.AttnOutS.nD Cert.AttnOutS.τ).loc Cert.AttnOutS.main_arg2)
      ∧ r.2.mem ((c.tc : Thread Cert.AttnOutS.nD Cert.AttnOutS.τ).loc Cert.AttnOutS.main_arg3) = m ((c.tc : Thread Cert.AttnOutS.nD Cert.AttnOutS.τ).loc Cert.AttnOutS.main_arg3)
      ∧ r.2.mem ((c.tc : Thread Cert.AttnOutS.nD Cert.AttnOutS.τ).loc Cert.AttnOutS.main_arg4) = m ((c.tc : Thread Cert.AttnOutS.nD Cert.AttnOutS.τ).loc Cert.AttnOutS.main_arg4))
      ∧ r.2.sem = fun _ => 0)

def quiescent_AttnOutSIdeal [hAttnOutSIdeal : Cert.AttnOutSIdeal.Facts] : Prop :=
  ∀ (m : (ℓ : Loc Cert.AttnOutSIdeal.nD Cert.AttnOutSIdeal.τ Cert.AttnOutSIdeal.sig) → Buf (Elt Ideal) ℓ) (g : Dev Cert.AttnOutSIdeal.nD → PrngReg), Pre_AttnOutSIdeal m →
    θ_run (Cert.AttnOutSIdeal.defs (F := Ideal)) (onTc (τ := Cert.AttnOutSIdeal.τ) (Cert.AttnOutSIdeal.main (F := Ideal))) ⟨m, fun _ => 0, g⟩ (fun r => (∀ c : Dev Cert.AttnOutSIdeal.nD,
      r.2.mem ((c.tc : Thread Cert.AttnOutSIdeal.nD Cert.AttnOutSIdeal.τ).loc Cert.AttnOutSIdeal.main_arg0) = m ((c.tc : Thread Cert.AttnOutSIdeal.nD Cert.AttnOutSIdeal.τ).loc Cert.AttnOutSIdeal.main_arg0)
      ∧ r.2.mem ((c.tc : Thread Cert.AttnOutSIdeal.nD Cert.AttnOutSIdeal.τ).loc Cert.AttnOutSIdeal.main_arg1) = m ((c.tc : Thread Cert.AttnOutSIdeal.nD Cert.AttnOutSIdeal.τ).loc Cert.AttnOutSIdeal.main_arg1)
      ∧ r.2.mem ((c.tc : Thread Cert.AttnOutSIdeal.nD Cert.AttnOutSIdeal.τ).loc Cert.AttnOutSIdeal.main_arg2) = m ((c.tc : Thread Cert.AttnOutSIdeal.nD Cert.AttnOutSIdeal.τ).loc Cert.AttnOutSIdeal.main_arg2)
      ∧ r.2.mem ((c.tc : Thread Cert.AttnOutSIdeal.nD Cert.AttnOutSIdeal.τ).loc Cert.AttnOutSIdeal.main_arg3) = m ((c.tc : Thread Cert.AttnOutSIdeal.nD Cert.AttnOutSIdeal.τ).loc Cert.AttnOutSIdeal.main_arg3)
      ∧ r.2.mem ((c.tc : Thread Cert.AttnOutSIdeal.nD Cert.AttnOutSIdeal.τ).loc Cert.AttnOutSIdeal.main_arg4) = m ((c.tc : Thread Cert.AttnOutSIdeal.nD Cert.AttnOutSIdeal.τ).loc Cert.AttnOutSIdeal.main_arg4))
      ∧ r.2.sem = fun _ => 0)

def quiescent_AttnOutSRefIdeal [hAttnOutSRefIdeal : Cert.AttnOutSRefIdeal.Facts] : Prop :=
  ∀ (m : (ℓ : Loc Cert.AttnOutSRefIdeal.nD Cert.AttnOutSRefIdeal.τ Cert.AttnOutSRefIdeal.sig) → Buf (Elt Ideal) ℓ) (g : Dev Cert.AttnOutSRefIdeal.nD → PrngReg), Pre_AttnOutSRefIdeal m →
    θ_run (Cert.AttnOutSRefIdeal.defs (F := Ideal)) (onTc (τ := Cert.AttnOutSRefIdeal.τ) (Cert.AttnOutSRefIdeal.main (F := Ideal))) ⟨m, fun _ => 0, g⟩ (fun r => (∀ c : Dev Cert.AttnOutSRefIdeal.nD,
      r.2.mem ((c.tc : Thread Cert.AttnOutSRefIdeal.nD Cert.AttnOutSRefIdeal.τ).loc Cert.AttnOutSRefIdeal.main_arg0) = m ((c.tc : Thread Cert.AttnOutSRefIdeal.nD Cert.AttnOutSRefIdeal.τ).loc Cert.AttnOutSRefIdeal.main_arg0)
      ∧ r.2.mem ((c.tc : Thread Cert.AttnOutSRefIdeal.nD Cert.AttnOutSRefIdeal.τ).loc Cert.AttnOutSRefIdeal.main_arg1) = m ((c.tc : Thread Cert.AttnOutSRefIdeal.nD Cert.AttnOutSRefIdeal.τ).loc Cert.AttnOutSRefIdeal.main_arg1)
      ∧ r.2.mem ((c.tc : Thread Cert.AttnOutSRefIdeal.nD Cert.AttnOutSRefIdeal.τ).loc Cert.AttnOutSRefIdeal.main_arg2) = m ((c.tc : Thread Cert.AttnOutSRefIdeal.nD Cert.AttnOutSRefIdeal.τ).loc Cert.AttnOutSRefIdeal.main_arg2)
      ∧ r.2.mem ((c.tc : Thread Cert.AttnOutSRefIdeal.nD Cert.AttnOutSRefIdeal.τ).loc Cert.AttnOutSRefIdeal.main_arg3) = m ((c.tc : Thread Cert.AttnOutSRefIdeal.nD Cert.AttnOutSRefIdeal.τ).loc Cert.AttnOutSRefIdeal.main_arg3)
      ∧ r.2.mem ((c.tc : Thread Cert.AttnOutSRefIdeal.nD Cert.AttnOutSRefIdeal.τ).loc Cert.AttnOutSRefIdeal.main_arg4) = m ((c.tc : Thread Cert.AttnOutSRefIdeal.nD Cert.AttnOutSRefIdeal.τ).loc Cert.AttnOutSRefIdeal.main_arg4))
      ∧ r.2.sem = fun _ => 0)

def quiescent_AttnInS [hAttnInS : Cert.AttnInS.Facts] : Prop :=
  ∀ (m : (ℓ : Loc Cert.AttnInS.nD Cert.AttnInS.τ Cert.AttnInS.sig) → Buf (Elt Bits) ℓ) (g : Dev Cert.AttnInS.nD → PrngReg), Pre_AttnInS m →
    θ_run (Cert.AttnInS.defs (F := Bits)) (onTc (τ := Cert.AttnInS.τ) (Cert.AttnInS.main (F := Bits))) ⟨m, fun _ => 0, g⟩ (fun r => (∀ c : Dev Cert.AttnInS.nD,
      r.2.mem ((c.tc : Thread Cert.AttnInS.nD Cert.AttnInS.τ).loc Cert.AttnInS.main_arg0) = m ((c.tc : Thread Cert.AttnInS.nD Cert.AttnInS.τ).loc Cert.AttnInS.main_arg0)
      ∧ r.2.mem ((c.tc : Thread Cert.AttnInS.nD Cert.AttnInS.τ).loc Cert.AttnInS.main_arg1) = m ((c.tc : Thread Cert.AttnInS.nD Cert.AttnInS.τ).loc Cert.AttnInS.main_arg1)
      ∧ r.2.mem ((c.tc : Thread Cert.AttnInS.nD Cert.AttnInS.τ).loc Cert.AttnInS.main_arg2) = m ((c.tc : Thread Cert.AttnInS.nD Cert.AttnInS.τ).loc Cert.AttnInS.main_arg2)
      ∧ r.2.mem ((c.tc : Thread Cert.AttnInS.nD Cert.AttnInS.τ).loc Cert.AttnInS.main_arg3) = m ((c.tc : Thread Cert.AttnInS.nD Cert.AttnInS.τ).loc Cert.AttnInS.main_arg3)
      ∧ r.2.mem ((c.tc : Thread Cert.AttnInS.nD Cert.AttnInS.τ).loc Cert.AttnInS.main_arg4) = m ((c.tc : Thread Cert.AttnInS.nD Cert.AttnInS.τ).loc Cert.AttnInS.main_arg4)
      ∧ r.2.mem ((c.tc : Thread Cert.AttnInS.nD Cert.AttnInS.τ).loc Cert.AttnInS.main_arg5) = m ((c.tc : Thread Cert.AttnInS.nD Cert.AttnInS.τ).loc Cert.AttnInS.main_arg5))
      ∧ r.2.sem = fun _ => 0)

def quiescent_AttnInSIdeal [hAttnInSIdeal : Cert.AttnInSIdeal.Facts] : Prop :=
  ∀ (m : (ℓ : Loc Cert.AttnInSIdeal.nD Cert.AttnInSIdeal.τ Cert.AttnInSIdeal.sig) → Buf (Elt Ideal) ℓ) (g : Dev Cert.AttnInSIdeal.nD → PrngReg), Pre_AttnInSIdeal m →
    θ_run (Cert.AttnInSIdeal.defs (F := Ideal)) (onTc (τ := Cert.AttnInSIdeal.τ) (Cert.AttnInSIdeal.main (F := Ideal))) ⟨m, fun _ => 0, g⟩ (fun r => (∀ c : Dev Cert.AttnInSIdeal.nD,
      r.2.mem ((c.tc : Thread Cert.AttnInSIdeal.nD Cert.AttnInSIdeal.τ).loc Cert.AttnInSIdeal.main_arg0) = m ((c.tc : Thread Cert.AttnInSIdeal.nD Cert.AttnInSIdeal.τ).loc Cert.AttnInSIdeal.main_arg0)
      ∧ r.2.mem ((c.tc : Thread Cert.AttnInSIdeal.nD Cert.AttnInSIdeal.τ).loc Cert.AttnInSIdeal.main_arg1) = m ((c.tc : Thread Cert.AttnInSIdeal.nD Cert.AttnInSIdeal.τ).loc Cert.AttnInSIdeal.main_arg1)
      ∧ r.2.mem ((c.tc : Thread Cert.AttnInSIdeal.nD Cert.AttnInSIdeal.τ).loc Cert.AttnInSIdeal.main_arg2) = m ((c.tc : Thread Cert.AttnInSIdeal.nD Cert.AttnInSIdeal.τ).loc Cert.AttnInSIdeal.main_arg2)
      ∧ r.2.mem ((c.tc : Thread Cert.AttnInSIdeal.nD Cert.AttnInSIdeal.τ).loc Cert.AttnInSIdeal.main_arg3) = m ((c.tc : Thread Cert.AttnInSIdeal.nD Cert.AttnInSIdeal.τ).loc Cert.AttnInSIdeal.main_arg3)
      ∧ r.2.mem ((c.tc : Thread Cert.AttnInSIdeal.nD Cert.AttnInSIdeal.τ).loc Cert.AttnInSIdeal.main_arg4) = m ((c.tc : Thread Cert.AttnInSIdeal.nD Cert.AttnInSIdeal.τ).loc Cert.AttnInSIdeal.main_arg4)
      ∧ r.2.mem ((c.tc : Thread Cert.AttnInSIdeal.nD Cert.AttnInSIdeal.τ).loc Cert.AttnInSIdeal.main_arg5) = m ((c.tc : Thread Cert.AttnInSIdeal.nD Cert.AttnInSIdeal.τ).loc Cert.AttnInSIdeal.main_arg5))
      ∧ r.2.sem = fun _ => 0)

def quiescent_AttnInSRefIdeal [hAttnInSRefIdeal : Cert.AttnInSRefIdeal.Facts] : Prop :=
  ∀ (m : (ℓ : Loc Cert.AttnInSRefIdeal.nD Cert.AttnInSRefIdeal.τ Cert.AttnInSRefIdeal.sig) → Buf (Elt Ideal) ℓ) (g : Dev Cert.AttnInSRefIdeal.nD → PrngReg), Pre_AttnInSRefIdeal m →
    θ_run (Cert.AttnInSRefIdeal.defs (F := Ideal)) (onTc (τ := Cert.AttnInSRefIdeal.τ) (Cert.AttnInSRefIdeal.main (F := Ideal))) ⟨m, fun _ => 0, g⟩ (fun r => (∀ c : Dev Cert.AttnInSRefIdeal.nD,
      r.2.mem ((c.tc : Thread Cert.AttnInSRefIdeal.nD Cert.AttnInSRefIdeal.τ).loc Cert.AttnInSRefIdeal.main_arg0) = m ((c.tc : Thread Cert.AttnInSRefIdeal.nD Cert.AttnInSRefIdeal.τ).loc Cert.AttnInSRefIdeal.main_arg0)
      ∧ r.2.mem ((c.tc : Thread Cert.AttnInSRefIdeal.nD Cert.AttnInSRefIdeal.τ).loc Cert.AttnInSRefIdeal.main_arg1) = m ((c.tc : Thread Cert.AttnInSRefIdeal.nD Cert.AttnInSRefIdeal.τ).loc Cert.AttnInSRefIdeal.main_arg1)
      ∧ r.2.mem ((c.tc : Thread Cert.AttnInSRefIdeal.nD Cert.AttnInSRefIdeal.τ).loc Cert.AttnInSRefIdeal.main_arg2) = m ((c.tc : Thread Cert.AttnInSRefIdeal.nD Cert.AttnInSRefIdeal.τ).loc Cert.AttnInSRefIdeal.main_arg2)
      ∧ r.2.mem ((c.tc : Thread Cert.AttnInSRefIdeal.nD Cert.AttnInSRefIdeal.τ).loc Cert.AttnInSRefIdeal.main_arg3) = m ((c.tc : Thread Cert.AttnInSRefIdeal.nD Cert.AttnInSRefIdeal.τ).loc Cert.AttnInSRefIdeal.main_arg3)
      ∧ r.2.mem ((c.tc : Thread Cert.AttnInSRefIdeal.nD Cert.AttnInSRefIdeal.τ).loc Cert.AttnInSRefIdeal.main_arg4) = m ((c.tc : Thread Cert.AttnInSRefIdeal.nD Cert.AttnInSRefIdeal.τ).loc Cert.AttnInSRefIdeal.main_arg4)
      ∧ r.2.mem ((c.tc : Thread Cert.AttnInSRefIdeal.nD Cert.AttnInSRefIdeal.τ).loc Cert.AttnInSRefIdeal.main_arg5) = m ((c.tc : Thread Cert.AttnInSRefIdeal.nD Cert.AttnInSRefIdeal.τ).loc Cert.AttnInSRefIdeal.main_arg5))
      ∧ r.2.sem = fun _ => 0)

def quiescent_ScanS [hScanS : Cert.ScanS.Facts] : Prop :=
  ∀ (m : (ℓ : Loc Cert.ScanS.nD Cert.ScanS.τ Cert.ScanS.sig) → Buf (Elt Bits) ℓ) (g : Dev Cert.ScanS.nD → PrngReg), Pre_ScanS m →
    θ_run (Cert.ScanS.defs (F := Bits)) (onTc (τ := Cert.ScanS.τ) (Cert.ScanS.main (F := Bits))) ⟨m, fun _ => 0, g⟩ (fun r => (∀ c : Dev Cert.ScanS.nD,
      r.2.mem ((c.tc : Thread Cert.ScanS.nD Cert.ScanS.τ).loc Cert.ScanS.main_arg0) = m ((c.tc : Thread Cert.ScanS.nD Cert.ScanS.τ).loc Cert.ScanS.main_arg0)
      ∧ r.2.mem ((c.tc : Thread Cert.ScanS.nD Cert.ScanS.τ).loc Cert.ScanS.main_arg1) = m ((c.tc : Thread Cert.ScanS.nD Cert.ScanS.τ).loc Cert.ScanS.main_arg1)
      ∧ r.2.mem ((c.tc : Thread Cert.ScanS.nD Cert.ScanS.τ).loc Cert.ScanS.main_arg2) = m ((c.tc : Thread Cert.ScanS.nD Cert.ScanS.τ).loc Cert.ScanS.main_arg2)
      ∧ r.2.mem ((c.tc : Thread Cert.ScanS.nD Cert.ScanS.τ).loc Cert.ScanS.main_arg3) = m ((c.tc : Thread Cert.ScanS.nD Cert.ScanS.τ).loc Cert.ScanS.main_arg3)
      ∧ r.2.mem ((c.tc : Thread Cert.ScanS.nD Cert.ScanS.τ).loc Cert.ScanS.main_arg4) = m ((c.tc : Thread Cert.ScanS.nD Cert.ScanS.τ).loc Cert.ScanS.main_arg4)
      ∧ r.2.mem ((c.tc : Thread Cert.ScanS.nD Cert.ScanS.τ).loc Cert.ScanS.main_arg5) = m ((c.tc : Thread Cert.ScanS.nD Cert.ScanS.τ).loc Cert.ScanS.main_arg5)
      ∧ r.2.mem ((c.tc : Thread Cert.ScanS.nD Cert.ScanS.τ).loc Cert.ScanS.main_arg6) = m ((c.tc : Thread Cert.ScanS.nD Cert.ScanS.τ).loc Cert.ScanS.main_arg6))
      ∧ r.2.sem = fun _ => 0)

def quiescent_ScanSIdeal [hScanSIdeal : Cert.ScanSIdeal.Facts] : Prop :=
  ∀ (m : (ℓ : Loc Cert.ScanSIdeal.nD Cert.ScanSIdeal.τ Cert.ScanSIdeal.sig) → Buf (Elt Ideal) ℓ) (g : Dev Cert.ScanSIdeal.nD → PrngReg), Pre_ScanSIdeal m →
    θ_run (Cert.ScanSIdeal.defs (F := Ideal)) (onTc (τ := Cert.ScanSIdeal.τ) (Cert.ScanSIdeal.main (F := Ideal))) ⟨m, fun _ => 0, g⟩ (fun r => (∀ c : Dev Cert.ScanSIdeal.nD,
      r.2.mem ((c.tc : Thread Cert.ScanSIdeal.nD Cert.ScanSIdeal.τ).loc Cert.ScanSIdeal.main_arg0) = m ((c.tc : Thread Cert.ScanSIdeal.nD Cert.ScanSIdeal.τ).loc Cert.ScanSIdeal.main_arg0)
      ∧ r.2.mem ((c.tc : Thread Cert.ScanSIdeal.nD Cert.ScanSIdeal.τ).loc Cert.ScanSIdeal.main_arg1) = m ((c.tc : Thread Cert.ScanSIdeal.nD Cert.ScanSIdeal.τ).loc Cert.ScanSIdeal.main_arg1)
      ∧ r.2.mem ((c.tc : Thread Cert.ScanSIdeal.nD Cert.ScanSIdeal.τ).loc Cert.ScanSIdeal.main_arg2) = m ((c.tc : Thread Cert.ScanSIdeal.nD Cert.ScanSIdeal.τ).loc Cert.ScanSIdeal.main_arg2)
      ∧ r.2.mem ((c.tc : Thread Cert.ScanSIdeal.nD Cert.ScanSIdeal.τ).loc Cert.ScanSIdeal.main_arg3) = m ((c.tc : Thread Cert.ScanSIdeal.nD Cert.ScanSIdeal.τ).loc Cert.ScanSIdeal.main_arg3)
      ∧ r.2.mem ((c.tc : Thread Cert.ScanSIdeal.nD Cert.ScanSIdeal.τ).loc Cert.ScanSIdeal.main_arg4) = m ((c.tc : Thread Cert.ScanSIdeal.nD Cert.ScanSIdeal.τ).loc Cert.ScanSIdeal.main_arg4)
      ∧ r.2.mem ((c.tc : Thread Cert.ScanSIdeal.nD Cert.ScanSIdeal.τ).loc Cert.ScanSIdeal.main_arg5) = m ((c.tc : Thread Cert.ScanSIdeal.nD Cert.ScanSIdeal.τ).loc Cert.ScanSIdeal.main_arg5)
      ∧ r.2.mem ((c.tc : Thread Cert.ScanSIdeal.nD Cert.ScanSIdeal.τ).loc Cert.ScanSIdeal.main_arg6) = m ((c.tc : Thread Cert.ScanSIdeal.nD Cert.ScanSIdeal.τ).loc Cert.ScanSIdeal.main_arg6))
      ∧ r.2.sem = fun _ => 0)

def quiescent_ScanSRefIdeal [hScanSRefIdeal : Cert.ScanSRefIdeal.Facts] : Prop :=
  ∀ (m : (ℓ : Loc Cert.ScanSRefIdeal.nD Cert.ScanSRefIdeal.τ Cert.ScanSRefIdeal.sig) → Buf (Elt Ideal) ℓ) (g : Dev Cert.ScanSRefIdeal.nD → PrngReg), Pre_ScanSRefIdeal m →
    θ_run (Cert.ScanSRefIdeal.defs (F := Ideal)) (onTc (τ := Cert.ScanSRefIdeal.τ) (Cert.ScanSRefIdeal.main (F := Ideal))) ⟨m, fun _ => 0, g⟩ (fun r => (∀ c : Dev Cert.ScanSRefIdeal.nD,
      r.2.mem ((c.tc : Thread Cert.ScanSRefIdeal.nD Cert.ScanSRefIdeal.τ).loc Cert.ScanSRefIdeal.main_arg0) = m ((c.tc : Thread Cert.ScanSRefIdeal.nD Cert.ScanSRefIdeal.τ).loc Cert.ScanSRefIdeal.main_arg0)
      ∧ r.2.mem ((c.tc : Thread Cert.ScanSRefIdeal.nD Cert.ScanSRefIdeal.τ).loc Cert.ScanSRefIdeal.main_arg1) = m ((c.tc : Thread Cert.ScanSRefIdeal.nD Cert.ScanSRefIdeal.τ).loc Cert.ScanSRefIdeal.main_arg1)
      ∧ r.2.mem ((c.tc : Thread Cert.ScanSRefIdeal.nD Cert.ScanSRefIdeal.τ).loc Cert.ScanSRefIdeal.main_arg2) = m ((c.tc : Thread Cert.ScanSRefIdeal.nD Cert.ScanSRefIdeal.τ).loc Cert.ScanSRefIdeal.main_arg2)
      ∧ r.2.mem ((c.tc : Thread Cert.ScanSRefIdeal.nD Cert.ScanSRefIdeal.τ).loc Cert.ScanSRefIdeal.main_arg3) = m ((c.tc : Thread Cert.ScanSRefIdeal.nD Cert.ScanSRefIdeal.τ).loc Cert.ScanSRefIdeal.main_arg3)
      ∧ r.2.mem ((c.tc : Thread Cert.ScanSRefIdeal.nD Cert.ScanSRefIdeal.τ).loc Cert.ScanSRefIdeal.main_arg4) = m ((c.tc : Thread Cert.ScanSRefIdeal.nD Cert.ScanSRefIdeal.τ).loc Cert.ScanSRefIdeal.main_arg4)
      ∧ r.2.mem ((c.tc : Thread Cert.ScanSRefIdeal.nD Cert.ScanSRefIdeal.τ).loc Cert.ScanSRefIdeal.main_arg5) = m ((c.tc : Thread Cert.ScanSRefIdeal.nD Cert.ScanSRefIdeal.τ).loc Cert.ScanSRefIdeal.main_arg5)
      ∧ r.2.mem ((c.tc : Thread Cert.ScanSRefIdeal.nD Cert.ScanSRefIdeal.τ).loc Cert.ScanSRefIdeal.main_arg6) = m ((c.tc : Thread Cert.ScanSRefIdeal.nD Cert.ScanSRefIdeal.τ).loc Cert.ScanSRefIdeal.main_arg6))
      ∧ r.2.sem = fun _ => 0)

def quiescent_DnInS [hDnInS : Cert.DnInS.Facts] : Prop :=
  ∀ (m : (ℓ : Loc Cert.DnInS.nD Cert.DnInS.τ Cert.DnInS.sig) → Buf (Elt Bits) ℓ) (g : Dev Cert.DnInS.nD → PrngReg), Pre_DnInS m →
    θ_run (Cert.DnInS.defs (F := Bits)) (onTc (τ := Cert.DnInS.τ) (Cert.DnInS.main (F := Bits))) ⟨m, fun _ => 0, g⟩ (fun r => (∀ c : Dev Cert.DnInS.nD,
      r.2.mem ((c.tc : Thread Cert.DnInS.nD Cert.DnInS.τ).loc Cert.DnInS.main_arg0) = m ((c.tc : Thread Cert.DnInS.nD Cert.DnInS.τ).loc Cert.DnInS.main_arg0)
      ∧ r.2.mem ((c.tc : Thread Cert.DnInS.nD Cert.DnInS.τ).loc Cert.DnInS.main_arg1) = m ((c.tc : Thread Cert.DnInS.nD Cert.DnInS.τ).loc Cert.DnInS.main_arg1)
      ∧ r.2.mem ((c.tc : Thread Cert.DnInS.nD Cert.DnInS.τ).loc Cert.DnInS.main_arg2) = m ((c.tc : Thread Cert.DnInS.nD Cert.DnInS.τ).loc Cert.DnInS.main_arg2)
      ∧ r.2.mem ((c.tc : Thread Cert.DnInS.nD Cert.DnInS.τ).loc Cert.DnInS.main_arg3) = m ((c.tc : Thread Cert.DnInS.nD Cert.DnInS.τ).loc Cert.DnInS.main_arg3)
      ∧ r.2.mem ((c.tc : Thread Cert.DnInS.nD Cert.DnInS.τ).loc Cert.DnInS.main_arg4) = m ((c.tc : Thread Cert.DnInS.nD Cert.DnInS.τ).loc Cert.DnInS.main_arg4)
      ∧ r.2.mem ((c.tc : Thread Cert.DnInS.nD Cert.DnInS.τ).loc Cert.DnInS.main_arg5) = m ((c.tc : Thread Cert.DnInS.nD Cert.DnInS.τ).loc Cert.DnInS.main_arg5)
      ∧ r.2.mem ((c.tc : Thread Cert.DnInS.nD Cert.DnInS.τ).loc Cert.DnInS.main_arg6) = m ((c.tc : Thread Cert.DnInS.nD Cert.DnInS.τ).loc Cert.DnInS.main_arg6)
      ∧ r.2.mem ((c.tc : Thread Cert.DnInS.nD Cert.DnInS.τ).loc Cert.DnInS.main_arg7) = m ((c.tc : Thread Cert.DnInS.nD Cert.DnInS.τ).loc Cert.DnInS.main_arg7)
      ∧ r.2.mem ((c.tc : Thread Cert.DnInS.nD Cert.DnInS.τ).loc Cert.DnInS.main_arg8) = m ((c.tc : Thread Cert.DnInS.nD Cert.DnInS.τ).loc Cert.DnInS.main_arg8)
      ∧ r.2.mem ((c.tc : Thread Cert.DnInS.nD Cert.DnInS.τ).loc Cert.DnInS.main_arg9) = m ((c.tc : Thread Cert.DnInS.nD Cert.DnInS.τ).loc Cert.DnInS.main_arg9))
      ∧ r.2.sem = fun _ => 0)

def quiescent_DnInSIdeal [hDnInSIdeal : Cert.DnInSIdeal.Facts] : Prop :=
  ∀ (m : (ℓ : Loc Cert.DnInSIdeal.nD Cert.DnInSIdeal.τ Cert.DnInSIdeal.sig) → Buf (Elt Ideal) ℓ) (g : Dev Cert.DnInSIdeal.nD → PrngReg), Pre_DnInSIdeal m →
    θ_run (Cert.DnInSIdeal.defs (F := Ideal)) (onTc (τ := Cert.DnInSIdeal.τ) (Cert.DnInSIdeal.main (F := Ideal))) ⟨m, fun _ => 0, g⟩ (fun r => (∀ c : Dev Cert.DnInSIdeal.nD,
      r.2.mem ((c.tc : Thread Cert.DnInSIdeal.nD Cert.DnInSIdeal.τ).loc Cert.DnInSIdeal.main_arg0) = m ((c.tc : Thread Cert.DnInSIdeal.nD Cert.DnInSIdeal.τ).loc Cert.DnInSIdeal.main_arg0)
      ∧ r.2.mem ((c.tc : Thread Cert.DnInSIdeal.nD Cert.DnInSIdeal.τ).loc Cert.DnInSIdeal.main_arg1) = m ((c.tc : Thread Cert.DnInSIdeal.nD Cert.DnInSIdeal.τ).loc Cert.DnInSIdeal.main_arg1)
      ∧ r.2.mem ((c.tc : Thread Cert.DnInSIdeal.nD Cert.DnInSIdeal.τ).loc Cert.DnInSIdeal.main_arg2) = m ((c.tc : Thread Cert.DnInSIdeal.nD Cert.DnInSIdeal.τ).loc Cert.DnInSIdeal.main_arg2)
      ∧ r.2.mem ((c.tc : Thread Cert.DnInSIdeal.nD Cert.DnInSIdeal.τ).loc Cert.DnInSIdeal.main_arg3) = m ((c.tc : Thread Cert.DnInSIdeal.nD Cert.DnInSIdeal.τ).loc Cert.DnInSIdeal.main_arg3)
      ∧ r.2.mem ((c.tc : Thread Cert.DnInSIdeal.nD Cert.DnInSIdeal.τ).loc Cert.DnInSIdeal.main_arg4) = m ((c.tc : Thread Cert.DnInSIdeal.nD Cert.DnInSIdeal.τ).loc Cert.DnInSIdeal.main_arg4)
      ∧ r.2.mem ((c.tc : Thread Cert.DnInSIdeal.nD Cert.DnInSIdeal.τ).loc Cert.DnInSIdeal.main_arg5) = m ((c.tc : Thread Cert.DnInSIdeal.nD Cert.DnInSIdeal.τ).loc Cert.DnInSIdeal.main_arg5)
      ∧ r.2.mem ((c.tc : Thread Cert.DnInSIdeal.nD Cert.DnInSIdeal.τ).loc Cert.DnInSIdeal.main_arg6) = m ((c.tc : Thread Cert.DnInSIdeal.nD Cert.DnInSIdeal.τ).loc Cert.DnInSIdeal.main_arg6)
      ∧ r.2.mem ((c.tc : Thread Cert.DnInSIdeal.nD Cert.DnInSIdeal.τ).loc Cert.DnInSIdeal.main_arg7) = m ((c.tc : Thread Cert.DnInSIdeal.nD Cert.DnInSIdeal.τ).loc Cert.DnInSIdeal.main_arg7)
      ∧ r.2.mem ((c.tc : Thread Cert.DnInSIdeal.nD Cert.DnInSIdeal.τ).loc Cert.DnInSIdeal.main_arg8) = m ((c.tc : Thread Cert.DnInSIdeal.nD Cert.DnInSIdeal.τ).loc Cert.DnInSIdeal.main_arg8)
      ∧ r.2.mem ((c.tc : Thread Cert.DnInSIdeal.nD Cert.DnInSIdeal.τ).loc Cert.DnInSIdeal.main_arg9) = m ((c.tc : Thread Cert.DnInSIdeal.nD Cert.DnInSIdeal.τ).loc Cert.DnInSIdeal.main_arg9))
      ∧ r.2.sem = fun _ => 0)

def quiescent_DnInSRefIdeal [hDnInSRefIdeal : Cert.DnInSRefIdeal.Facts] : Prop :=
  ∀ (m : (ℓ : Loc Cert.DnInSRefIdeal.nD Cert.DnInSRefIdeal.τ Cert.DnInSRefIdeal.sig) → Buf (Elt Ideal) ℓ) (g : Dev Cert.DnInSRefIdeal.nD → PrngReg), Pre_DnInSRefIdeal m →
    θ_run (Cert.DnInSRefIdeal.defs (F := Ideal)) (onTc (τ := Cert.DnInSRefIdeal.τ) (Cert.DnInSRefIdeal.main (F := Ideal))) ⟨m, fun _ => 0, g⟩ (fun r => (∀ c : Dev Cert.DnInSRefIdeal.nD,
      r.2.mem ((c.tc : Thread Cert.DnInSRefIdeal.nD Cert.DnInSRefIdeal.τ).loc Cert.DnInSRefIdeal.main_arg0) = m ((c.tc : Thread Cert.DnInSRefIdeal.nD Cert.DnInSRefIdeal.τ).loc Cert.DnInSRefIdeal.main_arg0)
      ∧ r.2.mem ((c.tc : Thread Cert.DnInSRefIdeal.nD Cert.DnInSRefIdeal.τ).loc Cert.DnInSRefIdeal.main_arg1) = m ((c.tc : Thread Cert.DnInSRefIdeal.nD Cert.DnInSRefIdeal.τ).loc Cert.DnInSRefIdeal.main_arg1)
      ∧ r.2.mem ((c.tc : Thread Cert.DnInSRefIdeal.nD Cert.DnInSRefIdeal.τ).loc Cert.DnInSRefIdeal.main_arg2) = m ((c.tc : Thread Cert.DnInSRefIdeal.nD Cert.DnInSRefIdeal.τ).loc Cert.DnInSRefIdeal.main_arg2)
      ∧ r.2.mem ((c.tc : Thread Cert.DnInSRefIdeal.nD Cert.DnInSRefIdeal.τ).loc Cert.DnInSRefIdeal.main_arg3) = m ((c.tc : Thread Cert.DnInSRefIdeal.nD Cert.DnInSRefIdeal.τ).loc Cert.DnInSRefIdeal.main_arg3)
      ∧ r.2.mem ((c.tc : Thread Cert.DnInSRefIdeal.nD Cert.DnInSRefIdeal.τ).loc Cert.DnInSRefIdeal.main_arg4) = m ((c.tc : Thread Cert.DnInSRefIdeal.nD Cert.DnInSRefIdeal.τ).loc Cert.DnInSRefIdeal.main_arg4)
      ∧ r.2.mem ((c.tc : Thread Cert.DnInSRefIdeal.nD Cert.DnInSRefIdeal.τ).loc Cert.DnInSRefIdeal.main_arg5) = m ((c.tc : Thread Cert.DnInSRefIdeal.nD Cert.DnInSRefIdeal.τ).loc Cert.DnInSRefIdeal.main_arg5)
      ∧ r.2.mem ((c.tc : Thread Cert.DnInSRefIdeal.nD Cert.DnInSRefIdeal.τ).loc Cert.DnInSRefIdeal.main_arg6) = m ((c.tc : Thread Cert.DnInSRefIdeal.nD Cert.DnInSRefIdeal.τ).loc Cert.DnInSRefIdeal.main_arg6)
      ∧ r.2.mem ((c.tc : Thread Cert.DnInSRefIdeal.nD Cert.DnInSRefIdeal.τ).loc Cert.DnInSRefIdeal.main_arg7) = m ((c.tc : Thread Cert.DnInSRefIdeal.nD Cert.DnInSRefIdeal.τ).loc Cert.DnInSRefIdeal.main_arg7)
      ∧ r.2.mem ((c.tc : Thread Cert.DnInSRefIdeal.nD Cert.DnInSRefIdeal.τ).loc Cert.DnInSRefIdeal.main_arg8) = m ((c.tc : Thread Cert.DnInSRefIdeal.nD Cert.DnInSRefIdeal.τ).loc Cert.DnInSRefIdeal.main_arg8)
      ∧ r.2.mem ((c.tc : Thread Cert.DnInSRefIdeal.nD Cert.DnInSRefIdeal.τ).loc Cert.DnInSRefIdeal.main_arg9) = m ((c.tc : Thread Cert.DnInSRefIdeal.nD Cert.DnInSRefIdeal.τ).loc Cert.DnInSRefIdeal.main_arg9))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Moba [hMoba : Cert.Moba.Facts] : Prop :=
  ∀ (m : (ℓ : Loc Cert.Moba.nD Cert.Moba.τ Cert.Moba.sig) → Buf (Elt Bits) ℓ) (g : Dev Cert.Moba.nD → PrngReg), Pre_Moba m →
    θ_run (Cert.Moba.defs (F := Bits)) (onTc (τ := Cert.Moba.τ) (Cert.Moba.main (F := Bits))) ⟨m, fun _ => 0, g⟩ (fun r => (∀ c : Dev Cert.Moba.nD,
      r.2.mem ((c.tc : Thread Cert.Moba.nD Cert.Moba.τ).loc Cert.Moba.main_arg0) = m ((c.tc : Thread Cert.Moba.nD Cert.Moba.τ).loc Cert.Moba.main_arg0)
      ∧ r.2.mem ((c.tc : Thread Cert.Moba.nD Cert.Moba.τ).loc Cert.Moba.main_arg1) = m ((c.tc : Thread Cert.Moba.nD Cert.Moba.τ).loc Cert.Moba.main_arg1)
      ∧ r.2.mem ((c.tc : Thread Cert.Moba.nD Cert.Moba.τ).loc Cert.Moba.main_arg2) = m ((c.tc : Thread Cert.Moba.nD Cert.Moba.τ).loc Cert.Moba.main_arg2)
      ∧ r.2.mem ((c.tc : Thread Cert.Moba.nD Cert.Moba.τ).loc Cert.Moba.main_arg3) = m ((c.tc : Thread Cert.Moba.nD Cert.Moba.τ).loc Cert.Moba.main_arg3))
      ∧ r.2.sem = fun _ => 0)

def quiescent_MobaIdeal [hMobaIdeal : Cert.MobaIdeal.Facts] : Prop :=
  ∀ (m : (ℓ : Loc Cert.MobaIdeal.nD Cert.MobaIdeal.τ Cert.MobaIdeal.sig) → Buf (Elt Ideal) ℓ) (g : Dev Cert.MobaIdeal.nD → PrngReg), Pre_MobaIdeal m →
    θ_run (Cert.MobaIdeal.defs (F := Ideal)) (onTc (τ := Cert.MobaIdeal.τ) (Cert.MobaIdeal.main (F := Ideal))) ⟨m, fun _ => 0, g⟩ (fun r => (∀ c : Dev Cert.MobaIdeal.nD,
      r.2.mem ((c.tc : Thread Cert.MobaIdeal.nD Cert.MobaIdeal.τ).loc Cert.MobaIdeal.main_arg0) = m ((c.tc : Thread Cert.MobaIdeal.nD Cert.MobaIdeal.τ).loc Cert.MobaIdeal.main_arg0)
      ∧ r.2.mem ((c.tc : Thread Cert.MobaIdeal.nD Cert.MobaIdeal.τ).loc Cert.MobaIdeal.main_arg1) = m ((c.tc : Thread Cert.MobaIdeal.nD Cert.MobaIdeal.τ).loc Cert.MobaIdeal.main_arg1)
      ∧ r.2.mem ((c.tc : Thread Cert.MobaIdeal.nD Cert.MobaIdeal.τ).loc Cert.MobaIdeal.main_arg2) = m ((c.tc : Thread Cert.MobaIdeal.nD Cert.MobaIdeal.τ).loc Cert.MobaIdeal.main_arg2)
      ∧ r.2.mem ((c.tc : Thread Cert.MobaIdeal.nD Cert.MobaIdeal.τ).loc Cert.MobaIdeal.main_arg3) = m ((c.tc : Thread Cert.MobaIdeal.nD Cert.MobaIdeal.τ).loc Cert.MobaIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v13_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_AttnIn_AttnInIdeal : Prop :=
  True

def algebraic_AttnInIdeal_AttnInRefIdeal [hAttnInIdeal : Cert.AttnInIdeal.Facts] [hAttnInRefIdeal : Cert.AttnInRefIdeal.Facts] : Prop :=
  ∀ (m : (ℓ : Loc Cert.AttnInIdeal.nD Cert.AttnInIdeal.τ Cert.AttnInIdeal.sig) → Buf (Elt Ideal) ℓ) (g : Dev Cert.AttnInIdeal.nD → PrngReg)
    (m' : (ℓ : Loc Cert.AttnInRefIdeal.nD Cert.AttnInRefIdeal.τ Cert.AttnInRefIdeal.sig) → Buf (Elt Ideal) ℓ) (g' : Dev Cert.AttnInRefIdeal.nD → PrngReg), Pre_AttnInIdeal m →
    (∀ c : Dev Cert.AttnInIdeal.nD,
      m' ((c.tc : Thread Cert.AttnInRefIdeal.nD Cert.AttnInRefIdeal.τ).loc Cert.AttnInRefIdeal.main_arg0) = m ((c.tc : Thread Cert.AttnInIdeal.nD Cert.AttnInIdeal.τ).loc Cert.AttnInIdeal.main_arg0)
      ∧ m' ((c.tc : Thread Cert.AttnInRefIdeal.nD Cert.AttnInRefIdeal.τ).loc Cert.AttnInRefIdeal.main_arg1) = m ((c.tc : Thread Cert.AttnInIdeal.nD Cert.AttnInIdeal.τ).loc Cert.AttnInIdeal.main_arg1)
      ∧ m' ((c.tc : Thread Cert.AttnInRefIdeal.nD Cert.AttnInRefIdeal.τ).loc Cert.AttnInRefIdeal.main_arg2) = m ((c.tc : Thread Cert.AttnInIdeal.nD Cert.AttnInIdeal.τ).loc Cert.AttnInIdeal.main_arg2)
      ∧ m' ((c.tc : Thread Cert.AttnInRefIdeal.nD Cert.AttnInRefIdeal.τ).loc Cert.AttnInRefIdeal.main_arg3) = m ((c.tc : Thread Cert.AttnInIdeal.nD Cert.AttnInIdeal.τ).loc Cert.AttnInIdeal.main_arg3)
      ∧ m' ((c.tc : Thread Cert.AttnInRefIdeal.nD Cert.AttnInRefIdeal.τ).loc Cert.AttnInRefIdeal.main_arg4) = m ((c.tc : Thread Cert.AttnInIdeal.nD Cert.AttnInIdeal.τ).loc Cert.AttnInIdeal.main_arg4)
      ∧ m' ((c.tc : Thread Cert.AttnInRefIdeal.nD Cert.AttnInRefIdeal.τ).loc Cert.AttnInRefIdeal.main_arg5) = m ((c.tc : Thread Cert.AttnInIdeal.nD Cert.AttnInIdeal.τ).loc Cert.AttnInIdeal.main_arg5)) →
    ∃ (v0 : (c : Dev Cert.AttnInIdeal.nD) → Buf (Elt Ideal) ((c.tc : Thread Cert.AttnInIdeal.nD Cert.AttnInIdeal.τ).loc Cert.AttnInIdeal.main_v5_0)) (v1 : (c : Dev Cert.AttnInIdeal.nD) → Buf (Elt Ideal) ((c.tc : Thread Cert.AttnInIdeal.nD Cert.AttnInIdeal.τ).loc Cert.AttnInIdeal.main_v5_1)) (v2 : (c : Dev Cert.AttnInIdeal.nD) → Buf (Elt Ideal) ((c.tc : Thread Cert.AttnInIdeal.nD Cert.AttnInIdeal.τ).loc Cert.AttnInIdeal.main_v5_2)) (v3 : (c : Dev Cert.AttnInIdeal.nD) → Buf (Elt Ideal) ((c.tc : Thread Cert.AttnInIdeal.nD Cert.AttnInIdeal.τ).loc Cert.AttnInIdeal.main_v5_3)) (v4 : (c : Dev Cert.AttnInIdeal.nD) → Buf (Elt Ideal) ((c.tc : Thread Cert.AttnInIdeal.nD Cert.AttnInIdeal.τ).loc Cert.AttnInIdeal.main_v5_4)) (v5 : (c : Dev Cert.AttnInIdeal.nD) → Buf (Elt Ideal) ((c.tc : Thread Cert.AttnInIdeal.nD Cert.AttnInIdeal.τ).loc Cert.AttnInIdeal.main_v5_5)) (v6 : (c : Dev Cert.AttnInIdeal.nD) → Buf (Elt Ideal) ((c.tc : Thread Cert.AttnInIdeal.nD Cert.AttnInIdeal.τ).loc Cert.AttnInIdeal.main_v5_6)),
      θ_run (Cert.AttnInIdeal.defs (F := Ideal)) (onTc (τ := Cert.AttnInIdeal.τ) (Cert.AttnInIdeal.main (F := Ideal))) ⟨m, fun _ => 0, g⟩ (fun r => ∀ c : Dev Cert.AttnInIdeal.nD,
          r.2.mem ((c.tc : Thread Cert.AttnInIdeal.nD Cert.AttnInIdeal.τ).loc Cert.AttnInIdeal.main_v5_0) = v0 c
          ∧ r.2.mem ((c.tc : Thread Cert.AttnInIdeal.nD Cert.AttnInIdeal.τ).loc Cert.AttnInIdeal.main_v5_1) = v1 c
          ∧ r.2.mem ((c.tc : Thread Cert.AttnInIdeal.nD Cert.AttnInIdeal.τ).loc Cert.AttnInIdeal.main_v5_2) = v2 c
          ∧ r.2.mem ((c.tc : Thread Cert.AttnInIdeal.nD Cert.AttnInIdeal.τ).loc Cert.AttnInIdeal.main_v5_3) = v3 c
          ∧ r.2.mem ((c.tc : Thread Cert.AttnInIdeal.nD Cert.AttnInIdeal.τ).loc Cert.AttnInIdeal.main_v5_4) = v4 c
          ∧ r.2.mem ((c.tc : Thread Cert.AttnInIdeal.nD Cert.AttnInIdeal.τ).loc Cert.AttnInIdeal.main_v5_5) = v5 c
          ∧ r.2.mem ((c.tc : Thread Cert.AttnInIdeal.nD Cert.AttnInIdeal.τ).loc Cert.AttnInIdeal.main_v5_6) = v6 c
          ∧ r.2.mem ((c.tc : Thread Cert.AttnInIdeal.nD Cert.AttnInIdeal.τ).loc Cert.AttnInIdeal.main_arg0) = m ((c.tc : Thread Cert.AttnInIdeal.nD Cert.AttnInIdeal.τ).loc Cert.AttnInIdeal.main_arg0)
          ∧ r.2.mem ((c.tc : Thread Cert.AttnInIdeal.nD Cert.AttnInIdeal.τ).loc Cert.AttnInIdeal.main_arg1) = m ((c.tc : Thread Cert.AttnInIdeal.nD Cert.AttnInIdeal.τ).loc Cert.AttnInIdeal.main_arg1)
          ∧ r.2.mem ((c.tc : Thread Cert.AttnInIdeal.nD Cert.AttnInIdeal.τ).loc Cert.AttnInIdeal.main_arg2) = m ((c.tc : Thread Cert.AttnInIdeal.nD Cert.AttnInIdeal.τ).loc Cert.AttnInIdeal.main_arg2)
          ∧ r.2.mem ((c.tc : Thread Cert.AttnInIdeal.nD Cert.AttnInIdeal.τ).loc Cert.AttnInIdeal.main_arg3) = m ((c.tc : Thread Cert.AttnInIdeal.nD Cert.AttnInIdeal.τ).loc Cert.AttnInIdeal.main_arg3)
          ∧ r.2.mem ((c.tc : Thread Cert.AttnInIdeal.nD Cert.AttnInIdeal.τ).loc Cert.AttnInIdeal.main_arg4) = m ((c.tc : Thread Cert.AttnInIdeal.nD Cert.AttnInIdeal.τ).loc Cert.AttnInIdeal.main_arg4)
          ∧ r.2.mem ((c.tc : Thread Cert.AttnInIdeal.nD Cert.AttnInIdeal.τ).loc Cert.AttnInIdeal.main_arg5) = m ((c.tc : Thread Cert.AttnInIdeal.nD Cert.AttnInIdeal.τ).loc Cert.AttnInIdeal.main_arg5))
      ∧ θ_run (Cert.AttnInRefIdeal.defs (F := Ideal)) (onTc (τ := Cert.AttnInRefIdeal.τ) (Cert.AttnInRefIdeal.main (F := Ideal))) ⟨m', fun _ => 0, g'⟩ (fun r => ∀ c : Dev Cert.AttnInRefIdeal.nD,
          r.2.mem ((c.tc : Thread Cert.AttnInRefIdeal.nD Cert.AttnInRefIdeal.τ).loc Cert.AttnInRefIdeal.main_v42) = v0 c
          ∧ r.2.mem ((c.tc : Thread Cert.AttnInRefIdeal.nD Cert.AttnInRefIdeal.τ).loc Cert.AttnInRefIdeal.main_v57) = v1 c
          ∧ r.2.mem ((c.tc : Thread Cert.AttnInRefIdeal.nD Cert.AttnInRefIdeal.τ).loc Cert.AttnInRefIdeal.main_v26) = v2 c
          ∧ r.2.mem ((c.tc : Thread Cert.AttnInRefIdeal.nD Cert.AttnInRefIdeal.τ).loc Cert.AttnInRefIdeal.main_v63) = v3 c
          ∧ r.2.mem ((c.tc : Thread Cert.AttnInRefIdeal.nD Cert.AttnInRefIdeal.τ).loc Cert.AttnInRefIdeal.main_v64) = v4 c
          ∧ r.2.mem ((c.tc : Thread Cert.AttnInRefIdeal.nD Cert.AttnInRefIdeal.τ).loc Cert.AttnInRefIdeal.main_v65) = v5 c
          ∧ r.2.mem ((c.tc : Thread Cert.AttnInRefIdeal.nD Cert.AttnInRefIdeal.τ).loc Cert.AttnInRefIdeal.main_v62) = v6 c
          ∧ r.2.mem ((c.tc : Thread Cert.AttnInRefIdeal.nD Cert.AttnInRefIdeal.τ).loc Cert.AttnInRefIdeal.main_arg0) = m' ((c.tc : Thread Cert.AttnInRefIdeal.nD Cert.AttnInRefIdeal.τ).loc Cert.AttnInRefIdeal.main_arg0)
          ∧ r.2.mem ((c.tc : Thread Cert.AttnInRefIdeal.nD Cert.AttnInRefIdeal.τ).loc Cert.AttnInRefIdeal.main_arg1) = m' ((c.tc : Thread Cert.AttnInRefIdeal.nD Cert.AttnInRefIdeal.τ).loc Cert.AttnInRefIdeal.main_arg1)
          ∧ r.2.mem ((c.tc : Thread Cert.AttnInRefIdeal.nD Cert.AttnInRefIdeal.τ).loc Cert.AttnInRefIdeal.main_arg2) = m' ((c.tc : Thread Cert.AttnInRefIdeal.nD Cert.AttnInRefIdeal.τ).loc Cert.AttnInRefIdeal.main_arg2)
          ∧ r.2.mem ((c.tc : Thread Cert.AttnInRefIdeal.nD Cert.AttnInRefIdeal.τ).loc Cert.AttnInRefIdeal.main_arg3) = m' ((c.tc : Thread Cert.AttnInRefIdeal.nD Cert.AttnInRefIdeal.τ).loc Cert.AttnInRefIdeal.main_arg3)
          ∧ r.2.mem ((c.tc : Thread Cert.AttnInRefIdeal.nD Cert.AttnInRefIdeal.τ).loc Cert.AttnInRefIdeal.main_arg4) = m' ((c.tc : Thread Cert.AttnInRefIdeal.nD Cert.AttnInRefIdeal.τ).loc Cert.AttnInRefIdeal.main_arg4)
          ∧ r.2.mem ((c.tc : Thread Cert.AttnInRefIdeal.nD Cert.AttnInRefIdeal.τ).loc Cert.AttnInRefIdeal.main_arg5) = m' ((c.tc : Thread Cert.AttnInRefIdeal.nD Cert.AttnInRefIdeal.τ).loc Cert.AttnInRefIdeal.main_arg5))

def preserves_AttnOut_AttnOutIdeal : Prop :=
  True

def algebraic_AttnOutIdeal_AttnOutRefIdeal [hAttnOutIdeal : Cert.AttnOutIdeal.Facts] [hAttnOutRefIdeal : Cert.AttnOutRefIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutRefIdeal.nD Cert.AttnOutRefIdeal.τ Cert.AttnOutRefIdeal.sig) → Buf (Elt Ideal) ℓ) (g' : Dev Cert.AttnOutRefIdeal.nD → PrngReg), Pre_AttnOutIdeal m →
    (∀ c : Dev Cert.AttnOutIdeal.nD,
      m' ((c.tc : Thread Cert.AttnOutRefIdeal.nD Cert.AttnOutRefIdeal.τ).loc Cert.AttnOutRefIdeal.main_arg0) = m ((c.tc : Thread Cert.AttnOutIdeal.nD Cert.AttnOutIdeal.τ).loc Cert.AttnOutIdeal.main_arg0)
      ∧ m' ((c.tc : Thread Cert.AttnOutRefIdeal.nD Cert.AttnOutRefIdeal.τ).loc Cert.AttnOutRefIdeal.main_arg1) = m ((c.tc : Thread Cert.AttnOutIdeal.nD Cert.AttnOutIdeal.τ).loc Cert.AttnOutIdeal.main_arg1)
      ∧ m' ((c.tc : Thread Cert.AttnOutRefIdeal.nD Cert.AttnOutRefIdeal.τ).loc Cert.AttnOutRefIdeal.main_arg2) = m ((c.tc : Thread Cert.AttnOutIdeal.nD Cert.AttnOutIdeal.τ).loc Cert.AttnOutIdeal.main_arg2)
      ∧ m' ((c.tc : Thread Cert.AttnOutRefIdeal.nD Cert.AttnOutRefIdeal.τ).loc Cert.AttnOutRefIdeal.main_arg3) = m ((c.tc : Thread Cert.AttnOutIdeal.nD Cert.AttnOutIdeal.τ).loc Cert.AttnOutIdeal.main_arg3)
      ∧ m' ((c.tc : Thread Cert.AttnOutRefIdeal.nD Cert.AttnOutRefIdeal.τ).loc Cert.AttnOutRefIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v2) = v0 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutRefIdeal.defs (F := Ideal)) (onTc (τ := Cert.AttnOutRefIdeal.τ) (Cert.AttnOutRefIdeal.main (F := Ideal))) ⟨m', fun _ => 0, g'⟩ (fun r => ∀ c : Dev Cert.AttnOutRefIdeal.nD,
          r.2.mem ((c.tc : Thread Cert.AttnOutRefIdeal.nD Cert.AttnOutRefIdeal.τ).loc Cert.AttnOutRefIdeal.main_v5) = v0 c
          ∧ r.2.mem ((c.tc : Thread Cert.AttnOutRefIdeal.nD Cert.AttnOutRefIdeal.τ).loc Cert.AttnOutRefIdeal.main_arg0) = m' ((c.tc : Thread Cert.AttnOutRefIdeal.nD Cert.AttnOutRefIdeal.τ).loc Cert.AttnOutRefIdeal.main_arg0)
          ∧ r.2.mem ((c.tc : Thread Cert.AttnOutRefIdeal.nD Cert.AttnOutRefIdeal.τ).loc Cert.AttnOutRefIdeal.main_arg1) = m' ((c.tc : Thread Cert.AttnOutRefIdeal.nD Cert.AttnOutRefIdeal.τ).loc Cert.AttnOutRefIdeal.main_arg1)
          ∧ r.2.mem ((c.tc : Thread Cert.AttnOutRefIdeal.nD Cert.AttnOutRefIdeal.τ).loc Cert.AttnOutRefIdeal.main_arg2) = m' ((c.tc : Thread Cert.AttnOutRefIdeal.nD Cert.AttnOutRefIdeal.τ).loc Cert.AttnOutRefIdeal.main_arg2)
          ∧ r.2.mem ((c.tc : Thread Cert.AttnOutRefIdeal.nD Cert.AttnOutRefIdeal.τ).loc Cert.AttnOutRefIdeal.main_arg3) = m' ((c.tc : Thread Cert.AttnOutRefIdeal.nD Cert.AttnOutRefIdeal.τ).loc Cert.AttnOutRefIdeal.main_arg3)
          ∧ r.2.mem ((c.tc : Thread Cert.AttnOutRefIdeal.nD Cert.AttnOutRefIdeal.τ).loc Cert.AttnOutRefIdeal.main_arg4) = m' ((c.tc : Thread Cert.AttnOutRefIdeal.nD Cert.AttnOutRefIdeal.τ).loc Cert.AttnOutRefIdeal.main_arg4))

def preserves_DnOut_DnOutIdeal : Prop :=
  True

def algebraic_DnOutIdeal_DnOutRefIdeal [hDnOutIdeal : Cert.DnOutIdeal.Facts] [hDnOutRefIdeal : Cert.DnOutRefIdeal.Facts] : Prop :=
  ∀ (m : (ℓ : Loc Cert.DnOutIdeal.nD Cert.DnOutIdeal.τ Cert.DnOutIdeal.sig) → Buf (Elt Ideal) ℓ) (g : Dev Cert.DnOutIdeal.nD → PrngReg)
    (m' : (ℓ : Loc Cert.DnOutRefIdeal.nD Cert.DnOutRefIdeal.τ Cert.DnOutRefIdeal.sig) → Buf (Elt Ideal) ℓ) (g' : Dev Cert.DnOutRefIdeal.nD → PrngReg), Pre_DnOutIdeal m →
    (∀ c : Dev Cert.DnOutIdeal.nD,
      m' ((c.tc : Thread Cert.DnOutRefIdeal.nD Cert.DnOutRefIdeal.τ).loc Cert.DnOutRefIdeal.main_arg0) = m ((c.tc : Thread Cert.DnOutIdeal.nD Cert.DnOutIdeal.τ).loc Cert.DnOutIdeal.main_arg0)
      ∧ m' ((c.tc : Thread Cert.DnOutRefIdeal.nD Cert.DnOutRefIdeal.τ).loc Cert.DnOutRefIdeal.main_arg1) = m ((c.tc : Thread Cert.DnOutIdeal.nD Cert.DnOutIdeal.τ).loc Cert.DnOutIdeal.main_arg1)
      ∧ m' ((c.tc : Thread Cert.DnOutRefIdeal.nD Cert.DnOutRefIdeal.τ).loc Cert.DnOutRefIdeal.main_arg2) = m ((c.tc : Thread Cert.DnOutIdeal.nD Cert.DnOutIdeal.τ).loc Cert.DnOutIdeal.main_arg2)
      ∧ m' ((c.tc : Thread Cert.DnOutRefIdeal.nD Cert.DnOutRefIdeal.τ).loc Cert.DnOutRefIdeal.main_arg3) = m ((c.tc : Thread Cert.DnOutIdeal.nD Cert.DnOutIdeal.τ).loc Cert.DnOutIdeal.main_arg3)
      ∧ m' ((c.tc : Thread Cert.DnOutRefIdeal.nD Cert.DnOutRefIdeal.τ).loc Cert.DnOutRefIdeal.main_arg4) = m ((c.tc : Thread Cert.DnOutIdeal.nD Cert.DnOutIdeal.τ).loc Cert.DnOutIdeal.main_arg4)
      ∧ m' ((c.tc : Thread Cert.DnOutRefIdeal.nD Cert.DnOutRefIdeal.τ).loc Cert.DnOutRefIdeal.main_arg5) = m ((c.tc : Thread Cert.DnOutIdeal.nD Cert.DnOutIdeal.τ).loc Cert.DnOutIdeal.main_arg5)
      ∧ m' ((c.tc : Thread Cert.DnOutRefIdeal.nD Cert.DnOutRefIdeal.τ).loc Cert.DnOutRefIdeal.main_arg6) = m ((c.tc : Thread Cert.DnOutIdeal.nD Cert.DnOutIdeal.τ).loc Cert.DnOutIdeal.main_arg6)) →
    ∃ (v0 : (c : Dev Cert.DnOutIdeal.nD) → Buf (Elt Ideal) ((c.tc : Thread Cert.DnOutIdeal.nD Cert.DnOutIdeal.τ).loc Cert.DnOutIdeal.main_v3)),
      θ_run (Cert.DnOutIdeal.defs (F := Ideal)) (onTc (τ := Cert.DnOutIdeal.τ) (Cert.DnOutIdeal.main (F := Ideal))) ⟨m, fun _ => 0, g⟩ (fun r => ∀ c : Dev Cert.DnOutIdeal.nD,
          r.2.mem ((c.tc : Thread Cert.DnOutIdeal.nD Cert.DnOutIdeal.τ).loc Cert.DnOutIdeal.main_v3) = v0 c
          ∧ r.2.mem ((c.tc : Thread Cert.DnOutIdeal.nD Cert.DnOutIdeal.τ).loc Cert.DnOutIdeal.main_arg0) = m ((c.tc : Thread Cert.DnOutIdeal.nD Cert.DnOutIdeal.τ).loc Cert.DnOutIdeal.main_arg0)
          ∧ r.2.mem ((c.tc : Thread Cert.DnOutIdeal.nD Cert.DnOutIdeal.τ).loc Cert.DnOutIdeal.main_arg1) = m ((c.tc : Thread Cert.DnOutIdeal.nD Cert.DnOutIdeal.τ).loc Cert.DnOutIdeal.main_arg1)
          ∧ r.2.mem ((c.tc : Thread Cert.DnOutIdeal.nD Cert.DnOutIdeal.τ).loc Cert.DnOutIdeal.main_arg2) = m ((c.tc : Thread Cert.DnOutIdeal.nD Cert.DnOutIdeal.τ).loc Cert.DnOutIdeal.main_arg2)
          ∧ r.2.mem ((c.tc : Thread Cert.DnOutIdeal.nD Cert.DnOutIdeal.τ).loc Cert.DnOutIdeal.main_arg3) = m ((c.tc : Thread Cert.DnOutIdeal.nD Cert.DnOutIdeal.τ).loc Cert.DnOutIdeal.main_arg3)
          ∧ r.2.mem ((c.tc : Thread Cert.DnOutIdeal.nD Cert.DnOutIdeal.τ).loc Cert.DnOutIdeal.main_arg4) = m ((c.tc : Thread Cert.DnOutIdeal.nD Cert.DnOutIdeal.τ).loc Cert.DnOutIdeal.main_arg4)
          ∧ r.2.mem ((c.tc : Thread Cert.DnOutIdeal.nD Cert.DnOutIdeal.τ).loc Cert.DnOutIdeal.main_arg5) = m ((c.tc : Thread Cert.DnOutIdeal.nD Cert.DnOutIdeal.τ).loc Cert.DnOutIdeal.main_arg5)
          ∧ r.2.mem ((c.tc : Thread Cert.DnOutIdeal.nD Cert.DnOutIdeal.τ).loc Cert.DnOutIdeal.main_arg6) = m ((c.tc : Thread Cert.DnOutIdeal.nD Cert.DnOutIdeal.τ).loc Cert.DnOutIdeal.main_arg6))
      ∧ θ_run (Cert.DnOutRefIdeal.defs (F := Ideal)) (onTc (τ := Cert.DnOutRefIdeal.τ) (Cert.DnOutRefIdeal.main (F := Ideal))) ⟨m', fun _ => 0, g'⟩ (fun r => ∀ c : Dev Cert.DnOutRefIdeal.nD,
          r.2.mem ((c.tc : Thread Cert.DnOutRefIdeal.nD Cert.DnOutRefIdeal.τ).loc Cert.DnOutRefIdeal.main_v21) = v0 c
          ∧ r.2.mem ((c.tc : Thread Cert.DnOutRefIdeal.nD Cert.DnOutRefIdeal.τ).loc Cert.DnOutRefIdeal.main_arg0) = m' ((c.tc : Thread Cert.DnOutRefIdeal.nD Cert.DnOutRefIdeal.τ).loc Cert.DnOutRefIdeal.main_arg0)
          ∧ r.2.mem ((c.tc : Thread Cert.DnOutRefIdeal.nD Cert.DnOutRefIdeal.τ).loc Cert.DnOutRefIdeal.main_arg1) = m' ((c.tc : Thread Cert.DnOutRefIdeal.nD Cert.DnOutRefIdeal.τ).loc Cert.DnOutRefIdeal.main_arg1)
          ∧ r.2.mem ((c.tc : Thread Cert.DnOutRefIdeal.nD Cert.DnOutRefIdeal.τ).loc Cert.DnOutRefIdeal.main_arg2) = m' ((c.tc : Thread Cert.DnOutRefIdeal.nD Cert.DnOutRefIdeal.τ).loc Cert.DnOutRefIdeal.main_arg2)
          ∧ r.2.mem ((c.tc : Thread Cert.DnOutRefIdeal.nD Cert.DnOutRefIdeal.τ).loc Cert.DnOutRefIdeal.main_arg3) = m' ((c.tc : Thread Cert.DnOutRefIdeal.nD Cert.DnOutRefIdeal.τ).loc Cert.DnOutRefIdeal.main_arg3)
          ∧ r.2.mem ((c.tc : Thread Cert.DnOutRefIdeal.nD Cert.DnOutRefIdeal.τ).loc Cert.DnOutRefIdeal.main_arg4) = m' ((c.tc : Thread Cert.DnOutRefIdeal.nD Cert.DnOutRefIdeal.τ).loc Cert.DnOutRefIdeal.main_arg4)
          ∧ r.2.mem ((c.tc : Thread Cert.DnOutRefIdeal.nD Cert.DnOutRefIdeal.τ).loc Cert.DnOutRefIdeal.main_arg5) = m' ((c.tc : Thread Cert.DnOutRefIdeal.nD Cert.DnOutRefIdeal.τ).loc Cert.DnOutRefIdeal.main_arg5)
          ∧ r.2.mem ((c.tc : Thread Cert.DnOutRefIdeal.nD Cert.DnOutRefIdeal.τ).loc Cert.DnOutRefIdeal.main_arg6) = m' ((c.tc : Thread Cert.DnOutRefIdeal.nD Cert.DnOutRefIdeal.τ).loc Cert.DnOutRefIdeal.main_arg6))

def preserves_DnIn_DnInIdeal : Prop :=
  True

def algebraic_DnInIdeal_DnInRefIdeal [hDnInIdeal : Cert.DnInIdeal.Facts] [hDnInRefIdeal : Cert.DnInRefIdeal.Facts] : Prop :=
  ∀ (m : (ℓ : Loc Cert.DnInIdeal.nD Cert.DnInIdeal.τ Cert.DnInIdeal.sig) → Buf (Elt Ideal) ℓ) (g : Dev Cert.DnInIdeal.nD → PrngReg)
    (m' : (ℓ : Loc Cert.DnInRefIdeal.nD Cert.DnInRefIdeal.τ Cert.DnInRefIdeal.sig) → Buf (Elt Ideal) ℓ) (g' : Dev Cert.DnInRefIdeal.nD → PrngReg), Pre_DnInIdeal m →
    (∀ c : Dev Cert.DnInIdeal.nD,
      m' ((c.tc : Thread Cert.DnInRefIdeal.nD Cert.DnInRefIdeal.τ).loc Cert.DnInRefIdeal.main_arg0) = m ((c.tc : Thread Cert.DnInIdeal.nD Cert.DnInIdeal.τ).loc Cert.DnInIdeal.main_arg0)
      ∧ m' ((c.tc : Thread Cert.DnInRefIdeal.nD Cert.DnInRefIdeal.τ).loc Cert.DnInRefIdeal.main_arg1) = m ((c.tc : Thread Cert.DnInIdeal.nD Cert.DnInIdeal.τ).loc Cert.DnInIdeal.main_arg1)
      ∧ m' ((c.tc : Thread Cert.DnInRefIdeal.nD Cert.DnInRefIdeal.τ).loc Cert.DnInRefIdeal.main_arg2) = m ((c.tc : Thread Cert.DnInIdeal.nD Cert.DnInIdeal.τ).loc Cert.DnInIdeal.main_arg2)
      ∧ m' ((c.tc : Thread Cert.DnInRefIdeal.nD Cert.DnInRefIdeal.τ).loc Cert.DnInRefIdeal.main_arg3) = m ((c.tc : Thread Cert.DnInIdeal.nD Cert.DnInIdeal.τ).loc Cert.DnInIdeal.main_arg3)
      ∧ m' ((c.tc : Thread Cert.DnInRefIdeal.nD Cert.DnInRefIdeal.τ).loc Cert.DnInRefIdeal.main_arg4) = m ((c.tc : Thread Cert.DnInIdeal.nD Cert.DnInIdeal.τ).loc Cert.DnInIdeal.main_arg4)
      ∧ m' ((c.tc : Thread Cert.DnInRefIdeal.nD Cert.DnInRefIdeal.τ).loc Cert.DnInRefIdeal.main_arg5) = m ((c.tc : Thread Cert.DnInIdeal.nD Cert.DnInIdeal.τ).loc Cert.DnInIdeal.main_arg5)
      ∧ m' ((c.tc : Thread Cert.DnInRefIdeal.nD Cert.DnInRefIdeal.τ).loc Cert.DnInRefIdeal.main_arg6) = m ((c.tc : Thread Cert.DnInIdeal.nD Cert.DnInIdeal.τ).loc Cert.DnInIdeal.main_arg6)
      ∧ m' ((c.tc : Thread Cert.DnInRefIdeal.nD Cert.DnInRefIdeal.τ).loc Cert.DnInRefIdeal.main_arg7) = m ((c.tc : Thread Cert.DnInIdeal.nD Cert.DnInIdeal.τ).loc Cert.DnInIdeal.main_arg7)) →
    ∃ (v0 : (c : Dev Cert.DnInIdeal.nD) → Buf (Elt Ideal) ((c.tc : Thread Cert.DnInIdeal.nD Cert.DnInIdeal.τ).loc Cert.DnInIdeal.main_v12_0)) (v1 : (c : Dev Cert.DnInIdeal.nD) → Buf (Elt Ideal) ((c.tc : Thread Cert.DnInIdeal.nD Cert.DnInIdeal.τ).loc Cert.DnInIdeal.main_v12_1)) (v2 : (c : Dev Cert.DnInIdeal.nD) → Buf (Elt Ideal) ((c.tc : Thread Cert.DnInIdeal.nD Cert.DnInIdeal.τ).loc Cert.DnInIdeal.main_v12_2)) (v3 : (c : Dev Cert.DnInIdeal.nD) → Buf (Elt Ideal) ((c.tc : Thread Cert.DnInIdeal.nD Cert.DnInIdeal.τ).loc Cert.DnInIdeal.main_v12_3)) (v4 : (c : Dev Cert.DnInIdeal.nD) → Buf (Elt Ideal) ((c.tc : Thread Cert.DnInIdeal.nD Cert.DnInIdeal.τ).loc Cert.DnInIdeal.main_v12_4)) (v5 : (c : Dev Cert.DnInIdeal.nD) → Buf (Elt Ideal) ((c.tc : Thread Cert.DnInIdeal.nD Cert.DnInIdeal.τ).loc Cert.DnInIdeal.main_v12_5)) (v6 : (c : Dev Cert.DnInIdeal.nD) → Buf (Elt Ideal) ((c.tc : Thread Cert.DnInIdeal.nD Cert.DnInIdeal.τ).loc Cert.DnInIdeal.main_v12_6)) (v7 : (c : Dev Cert.DnInIdeal.nD) → Buf (Elt Ideal) ((c.tc : Thread Cert.DnInIdeal.nD Cert.DnInIdeal.τ).loc Cert.DnInIdeal.main_v12_7)),
      θ_run (Cert.DnInIdeal.defs (F := Ideal)) (onTc (τ := Cert.DnInIdeal.τ) (Cert.DnInIdeal.main (F := Ideal))) ⟨m, fun _ => 0, g⟩ (fun r => ∀ c : Dev Cert.DnInIdeal.nD,
          r.2.mem ((c.tc : Thread Cert.DnInIdeal.nD Cert.DnInIdeal.τ).loc Cert.DnInIdeal.main_v12_0) = v0 c
          ∧ r.2.mem ((c.tc : Thread Cert.DnInIdeal.nD Cert.DnInIdeal.τ).loc Cert.DnInIdeal.main_v12_1) = v1 c
          ∧ r.2.mem ((c.tc : Thread Cert.DnInIdeal.nD Cert.DnInIdeal.τ).loc Cert.DnInIdeal.main_v12_2) = v2 c
          ∧ r.2.mem ((c.tc : Thread Cert.DnInIdeal.nD Cert.DnInIdeal.τ).loc Cert.DnInIdeal.main_v12_3) = v3 c
          ∧ r.2.mem ((c.tc : Thread Cert.DnInIdeal.nD Cert.DnInIdeal.τ).loc Cert.DnInIdeal.main_v12_4) = v4 c
          ∧ r.2.mem ((c.tc : Thread Cert.DnInIdeal.nD Cert.DnInIdeal.τ).loc Cert.DnInIdeal.main_v12_5) = v5 c
          ∧ r.2.mem ((c.tc : Thread Cert.DnInIdeal.nD Cert.DnInIdeal.τ).loc Cert.DnInIdeal.main_v12_6) = v6 c
          ∧ r.2.mem ((c.tc : Thread Cert.DnInIdeal.nD Cert.DnInIdeal.τ).loc Cert.DnInIdeal.main_v12_7) = v7 c
          ∧ r.2.mem ((c.tc : Thread Cert.DnInIdeal.nD Cert.DnInIdeal.τ).loc Cert.DnInIdeal.main_arg0) = m ((c.tc : Thread Cert.DnInIdeal.nD Cert.DnInIdeal.τ).loc Cert.DnInIdeal.main_arg0)
          ∧ r.2.mem ((c.tc : Thread Cert.DnInIdeal.nD Cert.DnInIdeal.τ).loc Cert.DnInIdeal.main_arg1) = m ((c.tc : Thread Cert.DnInIdeal.nD Cert.DnInIdeal.τ).loc Cert.DnInIdeal.main_arg1)
          ∧ r.2.mem ((c.tc : Thread Cert.DnInIdeal.nD Cert.DnInIdeal.τ).loc Cert.DnInIdeal.main_arg2) = m ((c.tc : Thread Cert.DnInIdeal.nD Cert.DnInIdeal.τ).loc Cert.DnInIdeal.main_arg2)
          ∧ r.2.mem ((c.tc : Thread Cert.DnInIdeal.nD Cert.DnInIdeal.τ).loc Cert.DnInIdeal.main_arg3) = m ((c.tc : Thread Cert.DnInIdeal.nD Cert.DnInIdeal.τ).loc Cert.DnInIdeal.main_arg3)
          ∧ r.2.mem ((c.tc : Thread Cert.DnInIdeal.nD Cert.DnInIdeal.τ).loc Cert.DnInIdeal.main_arg4) = m ((c.tc : Thread Cert.DnInIdeal.nD Cert.DnInIdeal.τ).loc Cert.DnInIdeal.main_arg4)
          ∧ r.2.mem ((c.tc : Thread Cert.DnInIdeal.nD Cert.DnInIdeal.τ).loc Cert.DnInIdeal.main_arg5) = m ((c.tc : Thread Cert.DnInIdeal.nD Cert.DnInIdeal.τ).loc Cert.DnInIdeal.main_arg5)
          ∧ r.2.mem ((c.tc : Thread Cert.DnInIdeal.nD Cert.DnInIdeal.τ).loc Cert.DnInIdeal.main_arg6) = m ((c.tc : Thread Cert.DnInIdeal.nD Cert.DnInIdeal.τ).loc Cert.DnInIdeal.main_arg6)
          ∧ r.2.mem ((c.tc : Thread Cert.DnInIdeal.nD Cert.DnInIdeal.τ).loc Cert.DnInIdeal.main_arg7) = m ((c.tc : Thread Cert.DnInIdeal.nD Cert.DnInIdeal.τ).loc Cert.DnInIdeal.main_arg7))
      ∧ θ_run (Cert.DnInRefIdeal.defs (F := Ideal)) (onTc (τ := Cert.DnInRefIdeal.τ) (Cert.DnInRefIdeal.main (F := Ideal))) ⟨m', fun _ => 0, g'⟩ (fun r => ∀ c : Dev Cert.DnInRefIdeal.nD,
          r.2.mem ((c.tc : Thread Cert.DnInRefIdeal.nD Cert.DnInRefIdeal.τ).loc Cert.DnInRefIdeal.main_v77) = v0 c
          ∧ r.2.mem ((c.tc : Thread Cert.DnInRefIdeal.nD Cert.DnInRefIdeal.τ).loc Cert.DnInRefIdeal.main_v87) = v1 c
          ∧ r.2.mem ((c.tc : Thread Cert.DnInRefIdeal.nD Cert.DnInRefIdeal.τ).loc Cert.DnInRefIdeal.main_v65) = v2 c
          ∧ r.2.mem ((c.tc : Thread Cert.DnInRefIdeal.nD Cert.DnInRefIdeal.τ).loc Cert.DnInRefIdeal.main_v104) = v3 c
          ∧ r.2.mem ((c.tc : Thread Cert.DnInRefIdeal.nD Cert.DnInRefIdeal.τ).loc Cert.DnInRefIdeal.main_v132) = v4 c
          ∧ r.2.mem ((c.tc : Thread Cert.DnInRefIdeal.nD Cert.DnInRefIdeal.τ).loc Cert.DnInRefIdeal.main_v131) = v5 c
          ∧ r.2.mem ((c.tc : Thread Cert.DnInRefIdeal.nD Cert.DnInRefIdeal.τ).loc Cert.DnInRefIdeal.main_v133) = v6 c
          ∧ r.2.mem ((c.tc : Thread Cert.DnInRefIdeal.nD Cert.DnInRefIdeal.τ).loc Cert.DnInRefIdeal.main_v134) = v7 c
          ∧ r.2.mem ((c.tc : Thread Cert.DnInRefIdeal.nD Cert.DnInRefIdeal.τ).loc Cert.DnInRefIdeal.main_arg0) = m' ((c.tc : Thread Cert.DnInRefIdeal.nD Cert.DnInRefIdeal.τ).loc Cert.DnInRefIdeal.main_arg0)
          ∧ r.2.mem ((c.tc : Thread Cert.DnInRefIdeal.nD Cert.DnInRefIdeal.τ).loc Cert.DnInRefIdeal.main_arg1) = m' ((c.tc : Thread Cert.DnInRefIdeal.nD Cert.DnInRefIdeal.τ).loc Cert.DnInRefIdeal.main_arg1)
          ∧ r.2.mem ((c.tc : Thread Cert.DnInRefIdeal.nD Cert.DnInRefIdeal.τ).loc Cert.DnInRefIdeal.main_arg2) = m' ((c.tc : Thread Cert.DnInRefIdeal.nD Cert.DnInRefIdeal.τ).loc Cert.DnInRefIdeal.main_arg2)
          ∧ r.2.mem ((c.tc : Thread Cert.DnInRefIdeal.nD Cert.DnInRefIdeal.τ).loc Cert.DnInRefIdeal.main_arg3) = m' ((c.tc : Thread Cert.DnInRefIdeal.nD Cert.DnInRefIdeal.τ).loc Cert.DnInRefIdeal.main_arg3)
          ∧ r.2.mem ((c.tc : Thread Cert.DnInRefIdeal.nD Cert.DnInRefIdeal.τ).loc Cert.DnInRefIdeal.main_arg4) = m' ((c.tc : Thread Cert.DnInRefIdeal.nD Cert.DnInRefIdeal.τ).loc Cert.DnInRefIdeal.main_arg4)
          ∧ r.2.mem ((c.tc : Thread Cert.DnInRefIdeal.nD Cert.DnInRefIdeal.τ).loc Cert.DnInRefIdeal.main_arg5) = m' ((c.tc : Thread Cert.DnInRefIdeal.nD Cert.DnInRefIdeal.τ).loc Cert.DnInRefIdeal.main_arg5)
          ∧ r.2.mem ((c.tc : Thread Cert.DnInRefIdeal.nD Cert.DnInRefIdeal.τ).loc Cert.DnInRefIdeal.main_arg6) = m' ((c.tc : Thread Cert.DnInRefIdeal.nD Cert.DnInRefIdeal.τ).loc Cert.DnInRefIdeal.main_arg6)
          ∧ r.2.mem ((c.tc : Thread Cert.DnInRefIdeal.nD Cert.DnInRefIdeal.τ).loc Cert.DnInRefIdeal.main_arg7) = m' ((c.tc : Thread Cert.DnInRefIdeal.nD Cert.DnInRefIdeal.τ).loc Cert.DnInRefIdeal.main_arg7))

def preserves_AttnOutS_AttnOutSIdeal : Prop :=
  True

def algebraic_AttnOutSIdeal_AttnOutSRefIdeal [hAttnOutSIdeal : Cert.AttnOutSIdeal.Facts] [hAttnOutSRefIdeal : Cert.AttnOutSRefIdeal.Facts] : Prop :=
  ∀ (m : (ℓ : Loc Cert.AttnOutSIdeal.nD Cert.AttnOutSIdeal.τ Cert.AttnOutSIdeal.sig) → Buf (Elt Ideal) ℓ) (g : Dev Cert.AttnOutSIdeal.nD → PrngReg)
    (m' : (ℓ : Loc Cert.AttnOutSRefIdeal.nD Cert.AttnOutSRefIdeal.τ Cert.AttnOutSRefIdeal.sig) → Buf (Elt Ideal) ℓ) (g' : Dev Cert.AttnOutSRefIdeal.nD → PrngReg), Pre_AttnOutSIdeal m →
    (∀ c : Dev Cert.AttnOutSIdeal.nD,
      m' ((c.tc : Thread Cert.AttnOutSRefIdeal.nD Cert.AttnOutSRefIdeal.τ).loc Cert.AttnOutSRefIdeal.main_arg0) = m ((c.tc : Thread Cert.AttnOutSIdeal.nD Cert.AttnOutSIdeal.τ).loc Cert.AttnOutSIdeal.main_arg0)
      ∧ m' ((c.tc : Thread Cert.AttnOutSRefIdeal.nD Cert.AttnOutSRefIdeal.τ).loc Cert.AttnOutSRefIdeal.main_arg1) = m ((c.tc : Thread Cert.AttnOutSIdeal.nD Cert.AttnOutSIdeal.τ).loc Cert.AttnOutSIdeal.main_arg1)
      ∧ m' ((c.tc : Thread Cert.AttnOutSRefIdeal.nD Cert.AttnOutSRefIdeal.τ).loc Cert.AttnOutSRefIdeal.main_arg2) = m ((c.tc : Thread Cert.AttnOutSIdeal.nD Cert.AttnOutSIdeal.τ).loc Cert.AttnOutSIdeal.main_arg2)
      ∧ m' ((c.tc : Thread Cert.AttnOutSRefIdeal.nD Cert.AttnOutSRefIdeal.τ).loc Cert.AttnOutSRefIdeal.main_arg3) = m ((c.tc : Thread Cert.AttnOutSIdeal.nD Cert.AttnOutSIdeal.τ).loc Cert.AttnOutSIdeal.main_arg3)
      ∧ m' ((c.tc : Thread Cert.AttnOutSRefIdeal.nD Cert.AttnOutSRefIdeal.τ).loc Cert.AttnOutSRefIdeal.main_arg4) = m ((c.tc : Thread Cert.AttnOutSIdeal.nD Cert.AttnOutSIdeal.τ).loc Cert.AttnOutSIdeal.main_arg4)) →
    ∃ (v0 : (c : Dev Cert.AttnOutSIdeal.nD) → Buf (Elt Ideal) ((c.tc : Thread Cert.AttnOutSIdeal.nD Cert.AttnOutSIdeal.τ).loc Cert.AttnOutSIdeal.main_v7)),
      θ_run (Cert.AttnOutSIdeal.defs (F := Ideal)) (onTc (τ := Cert.AttnOutSIdeal.τ) (Cert.AttnOutSIdeal.main (F := Ideal))) ⟨m, fun _ => 0, g⟩ (fun r => ∀ c : Dev Cert.AttnOutSIdeal.nD,
          r.2.mem ((c.tc : Thread Cert.AttnOutSIdeal.nD Cert.AttnOutSIdeal.τ).loc Cert.AttnOutSIdeal.main_v7) = v0 c
          ∧ r.2.mem ((c.tc : Thread Cert.AttnOutSIdeal.nD Cert.AttnOutSIdeal.τ).loc Cert.AttnOutSIdeal.main_arg0) = m ((c.tc : Thread Cert.AttnOutSIdeal.nD Cert.AttnOutSIdeal.τ).loc Cert.AttnOutSIdeal.main_arg0)
          ∧ r.2.mem ((c.tc : Thread Cert.AttnOutSIdeal.nD Cert.AttnOutSIdeal.τ).loc Cert.AttnOutSIdeal.main_arg1) = m ((c.tc : Thread Cert.AttnOutSIdeal.nD Cert.AttnOutSIdeal.τ).loc Cert.AttnOutSIdeal.main_arg1)
          ∧ r.2.mem ((c.tc : Thread Cert.AttnOutSIdeal.nD Cert.AttnOutSIdeal.τ).loc Cert.AttnOutSIdeal.main_arg2) = m ((c.tc : Thread Cert.AttnOutSIdeal.nD Cert.AttnOutSIdeal.τ).loc Cert.AttnOutSIdeal.main_arg2)
          ∧ r.2.mem ((c.tc : Thread Cert.AttnOutSIdeal.nD Cert.AttnOutSIdeal.τ).loc Cert.AttnOutSIdeal.main_arg3) = m ((c.tc : Thread Cert.AttnOutSIdeal.nD Cert.AttnOutSIdeal.τ).loc Cert.AttnOutSIdeal.main_arg3)
          ∧ r.2.mem ((c.tc : Thread Cert.AttnOutSIdeal.nD Cert.AttnOutSIdeal.τ).loc Cert.AttnOutSIdeal.main_arg4) = m ((c.tc : Thread Cert.AttnOutSIdeal.nD Cert.AttnOutSIdeal.τ).loc Cert.AttnOutSIdeal.main_arg4))
      ∧ θ_run (Cert.AttnOutSRefIdeal.defs (F := Ideal)) (onTc (τ := Cert.AttnOutSRefIdeal.τ) (Cert.AttnOutSRefIdeal.main (F := Ideal))) ⟨m', fun _ => 0, g'⟩ (fun r => ∀ c : Dev Cert.AttnOutSRefIdeal.nD,
          r.2.mem ((c.tc : Thread Cert.AttnOutSRefIdeal.nD Cert.AttnOutSRefIdeal.τ).loc Cert.AttnOutSRefIdeal.main_v6) = v0 c
          ∧ r.2.mem ((c.tc : Thread Cert.AttnOutSRefIdeal.nD Cert.AttnOutSRefIdeal.τ).loc Cert.AttnOutSRefIdeal.main_arg0) = m' ((c.tc : Thread Cert.AttnOutSRefIdeal.nD Cert.AttnOutSRefIdeal.τ).loc Cert.AttnOutSRefIdeal.main_arg0)
          ∧ r.2.mem ((c.tc : Thread Cert.AttnOutSRefIdeal.nD Cert.AttnOutSRefIdeal.τ).loc Cert.AttnOutSRefIdeal.main_arg1) = m' ((c.tc : Thread Cert.AttnOutSRefIdeal.nD Cert.AttnOutSRefIdeal.τ).loc Cert.AttnOutSRefIdeal.main_arg1)
          ∧ r.2.mem ((c.tc : Thread Cert.AttnOutSRefIdeal.nD Cert.AttnOutSRefIdeal.τ).loc Cert.AttnOutSRefIdeal.main_arg2) = m' ((c.tc : Thread Cert.AttnOutSRefIdeal.nD Cert.AttnOutSRefIdeal.τ).loc Cert.AttnOutSRefIdeal.main_arg2)
          ∧ r.2.mem ((c.tc : Thread Cert.AttnOutSRefIdeal.nD Cert.AttnOutSRefIdeal.τ).loc Cert.AttnOutSRefIdeal.main_arg3) = m' ((c.tc : Thread Cert.AttnOutSRefIdeal.nD Cert.AttnOutSRefIdeal.τ).loc Cert.AttnOutSRefIdeal.main_arg3)
          ∧ r.2.mem ((c.tc : Thread Cert.AttnOutSRefIdeal.nD Cert.AttnOutSRefIdeal.τ).loc Cert.AttnOutSRefIdeal.main_arg4) = m' ((c.tc : Thread Cert.AttnOutSRefIdeal.nD Cert.AttnOutSRefIdeal.τ).loc Cert.AttnOutSRefIdeal.main_arg4))

def preserves_AttnInS_AttnInSIdeal : Prop :=
  True

def algebraic_AttnInSIdeal_AttnInSRefIdeal [hAttnInSIdeal : Cert.AttnInSIdeal.Facts] [hAttnInSRefIdeal : Cert.AttnInSRefIdeal.Facts] : Prop :=
  ∀ (m : (ℓ : Loc Cert.AttnInSIdeal.nD Cert.AttnInSIdeal.τ Cert.AttnInSIdeal.sig) → Buf (Elt Ideal) ℓ) (g : Dev Cert.AttnInSIdeal.nD → PrngReg)
    (m' : (ℓ : Loc Cert.AttnInSRefIdeal.nD Cert.AttnInSRefIdeal.τ Cert.AttnInSRefIdeal.sig) → Buf (Elt Ideal) ℓ) (g' : Dev Cert.AttnInSRefIdeal.nD → PrngReg), Pre_AttnInSIdeal m →
    (∀ c : Dev Cert.AttnInSIdeal.nD,
      m' ((c.tc : Thread Cert.AttnInSRefIdeal.nD Cert.AttnInSRefIdeal.τ).loc Cert.AttnInSRefIdeal.main_arg0) = m ((c.tc : Thread Cert.AttnInSIdeal.nD Cert.AttnInSIdeal.τ).loc Cert.AttnInSIdeal.main_arg0)
      ∧ m' ((c.tc : Thread Cert.AttnInSRefIdeal.nD Cert.AttnInSRefIdeal.τ).loc Cert.AttnInSRefIdeal.main_arg1) = m ((c.tc : Thread Cert.AttnInSIdeal.nD Cert.AttnInSIdeal.τ).loc Cert.AttnInSIdeal.main_arg1)
      ∧ m' ((c.tc : Thread Cert.AttnInSRefIdeal.nD Cert.AttnInSRefIdeal.τ).loc Cert.AttnInSRefIdeal.main_arg2) = m ((c.tc : Thread Cert.AttnInSIdeal.nD Cert.AttnInSIdeal.τ).loc Cert.AttnInSIdeal.main_arg2)
      ∧ m' ((c.tc : Thread Cert.AttnInSRefIdeal.nD Cert.AttnInSRefIdeal.τ).loc Cert.AttnInSRefIdeal.main_arg3) = m ((c.tc : Thread Cert.AttnInSIdeal.nD Cert.AttnInSIdeal.τ).loc Cert.AttnInSIdeal.main_arg3)
      ∧ m' ((c.tc : Thread Cert.AttnInSRefIdeal.nD Cert.AttnInSRefIdeal.τ).loc Cert.AttnInSRefIdeal.main_arg4) = m ((c.tc : Thread Cert.AttnInSIdeal.nD Cert.AttnInSIdeal.τ).loc Cert.AttnInSIdeal.main_arg4)
      ∧ m' ((c.tc : Thread Cert.AttnInSRefIdeal.nD Cert.AttnInSRefIdeal.τ).loc Cert.AttnInSRefIdeal.main_arg5) = m ((c.tc : Thread Cert.AttnInSIdeal.nD Cert.AttnInSIdeal.τ).loc Cert.AttnInSIdeal.main_arg5)) →
    ∃ (v0 : (c : Dev Cert.AttnInSIdeal.nD) → Buf (Elt Ideal) ((c.tc : Thread Cert.AttnInSIdeal.nD Cert.AttnInSIdeal.τ).loc Cert.AttnInSIdeal.main_v8_0)) (v1 : (c : Dev Cert.AttnInSIdeal.nD) → Buf (Elt Ideal) ((c.tc : Thread Cert.AttnInSIdeal.nD Cert.AttnInSIdeal.τ).loc Cert.AttnInSIdeal.main_v8_1)) (v2 : (c : Dev Cert.AttnInSIdeal.nD) → Buf (Elt Ideal) ((c.tc : Thread Cert.AttnInSIdeal.nD Cert.AttnInSIdeal.τ).loc Cert.AttnInSIdeal.main_v8_2)) (v3 : (c : Dev Cert.AttnInSIdeal.nD) → Buf (Elt Ideal) ((c.tc : Thread Cert.AttnInSIdeal.nD Cert.AttnInSIdeal.τ).loc Cert.AttnInSIdeal.main_v8_3)) (v4 : (c : Dev Cert.AttnInSIdeal.nD) → Buf (Elt Ideal) ((c.tc : Thread Cert.AttnInSIdeal.nD Cert.AttnInSIdeal.τ).loc Cert.AttnInSIdeal.main_v8_4)) (v5 : (c : Dev Cert.AttnInSIdeal.nD) → Buf (Elt Ideal) ((c.tc : Thread Cert.AttnInSIdeal.nD Cert.AttnInSIdeal.τ).loc Cert.AttnInSIdeal.main_v8_5)),
      θ_run (Cert.AttnInSIdeal.defs (F := Ideal)) (onTc (τ := Cert.AttnInSIdeal.τ) (Cert.AttnInSIdeal.main (F := Ideal))) ⟨m, fun _ => 0, g⟩ (fun r => ∀ c : Dev Cert.AttnInSIdeal.nD,
          r.2.mem ((c.tc : Thread Cert.AttnInSIdeal.nD Cert.AttnInSIdeal.τ).loc Cert.AttnInSIdeal.main_v8_0) = v0 c
          ∧ r.2.mem ((c.tc : Thread Cert.AttnInSIdeal.nD Cert.AttnInSIdeal.τ).loc Cert.AttnInSIdeal.main_v8_1) = v1 c
          ∧ r.2.mem ((c.tc : Thread Cert.AttnInSIdeal.nD Cert.AttnInSIdeal.τ).loc Cert.AttnInSIdeal.main_v8_2) = v2 c
          ∧ r.2.mem ((c.tc : Thread Cert.AttnInSIdeal.nD Cert.AttnInSIdeal.τ).loc Cert.AttnInSIdeal.main_v8_3) = v3 c
          ∧ r.2.mem ((c.tc : Thread Cert.AttnInSIdeal.nD Cert.AttnInSIdeal.τ).loc Cert.AttnInSIdeal.main_v8_4) = v4 c
          ∧ r.2.mem ((c.tc : Thread Cert.AttnInSIdeal.nD Cert.AttnInSIdeal.τ).loc Cert.AttnInSIdeal.main_v8_5) = v5 c
          ∧ r.2.mem ((c.tc : Thread Cert.AttnInSIdeal.nD Cert.AttnInSIdeal.τ).loc Cert.AttnInSIdeal.main_arg0) = m ((c.tc : Thread Cert.AttnInSIdeal.nD Cert.AttnInSIdeal.τ).loc Cert.AttnInSIdeal.main_arg0)
          ∧ r.2.mem ((c.tc : Thread Cert.AttnInSIdeal.nD Cert.AttnInSIdeal.τ).loc Cert.AttnInSIdeal.main_arg1) = m ((c.tc : Thread Cert.AttnInSIdeal.nD Cert.AttnInSIdeal.τ).loc Cert.AttnInSIdeal.main_arg1)
          ∧ r.2.mem ((c.tc : Thread Cert.AttnInSIdeal.nD Cert.AttnInSIdeal.τ).loc Cert.AttnInSIdeal.main_arg2) = m ((c.tc : Thread Cert.AttnInSIdeal.nD Cert.AttnInSIdeal.τ).loc Cert.AttnInSIdeal.main_arg2)
          ∧ r.2.mem ((c.tc : Thread Cert.AttnInSIdeal.nD Cert.AttnInSIdeal.τ).loc Cert.AttnInSIdeal.main_arg3) = m ((c.tc : Thread Cert.AttnInSIdeal.nD Cert.AttnInSIdeal.τ).loc Cert.AttnInSIdeal.main_arg3)
          ∧ r.2.mem ((c.tc : Thread Cert.AttnInSIdeal.nD Cert.AttnInSIdeal.τ).loc Cert.AttnInSIdeal.main_arg4) = m ((c.tc : Thread Cert.AttnInSIdeal.nD Cert.AttnInSIdeal.τ).loc Cert.AttnInSIdeal.main_arg4)
          ∧ r.2.mem ((c.tc : Thread Cert.AttnInSIdeal.nD Cert.AttnInSIdeal.τ).loc Cert.AttnInSIdeal.main_arg5) = m ((c.tc : Thread Cert.AttnInSIdeal.nD Cert.AttnInSIdeal.τ).loc Cert.AttnInSIdeal.main_arg5))
      ∧ θ_run (Cert.AttnInSRefIdeal.defs (F := Ideal)) (onTc (τ := Cert.AttnInSRefIdeal.τ) (Cert.AttnInSRefIdeal.main (F := Ideal))) ⟨m', fun _ => 0, g'⟩ (fun r => ∀ c : Dev Cert.AttnInSRefIdeal.nD,
          r.2.mem ((c.tc : Thread Cert.AttnInSRefIdeal.nD Cert.AttnInSRefIdeal.τ).loc Cert.AttnInSRefIdeal.main_v57) = v0 c
          ∧ r.2.mem ((c.tc : Thread Cert.AttnInSRefIdeal.nD Cert.AttnInSRefIdeal.τ).loc Cert.AttnInSRefIdeal.main_v58) = v1 c
          ∧ r.2.mem ((c.tc : Thread Cert.AttnInSRefIdeal.nD Cert.AttnInSRefIdeal.τ).loc Cert.AttnInSRefIdeal.main_v59) = v2 c
          ∧ r.2.mem ((c.tc : Thread Cert.AttnInSRefIdeal.nD Cert.AttnInSRefIdeal.τ).loc Cert.AttnInSRefIdeal.main_v61) = v3 c
          ∧ r.2.mem ((c.tc : Thread Cert.AttnInSRefIdeal.nD Cert.AttnInSRefIdeal.τ).loc Cert.AttnInSRefIdeal.main_v62) = v4 c
          ∧ r.2.mem ((c.tc : Thread Cert.AttnInSRefIdeal.nD Cert.AttnInSRefIdeal.τ).loc Cert.AttnInSRefIdeal.main_v60) = v5 c
          ∧ r.2.mem ((c.tc : Thread Cert.AttnInSRefIdeal.nD Cert.AttnInSRefIdeal.τ).loc Cert.AttnInSRefIdeal.main_arg0) = m' ((c.tc : Thread Cert.AttnInSRefIdeal.nD Cert.AttnInSRefIdeal.τ).loc Cert.AttnInSRefIdeal.main_arg0)
          ∧ r.2.mem ((c.tc : Thread Cert.AttnInSRefIdeal.nD Cert.AttnInSRefIdeal.τ).loc Cert.AttnInSRefIdeal.main_arg1) = m' ((c.tc : Thread Cert.AttnInSRefIdeal.nD Cert.AttnInSRefIdeal.τ).loc Cert.AttnInSRefIdeal.main_arg1)
          ∧ r.2.mem ((c.tc : Thread Cert.AttnInSRefIdeal.nD Cert.AttnInSRefIdeal.τ).loc Cert.AttnInSRefIdeal.main_arg2) = m' ((c.tc : Thread Cert.AttnInSRefIdeal.nD Cert.AttnInSRefIdeal.τ).loc Cert.AttnInSRefIdeal.main_arg2)
          ∧ r.2.mem ((c.tc : Thread Cert.AttnInSRefIdeal.nD Cert.AttnInSRefIdeal.τ).loc Cert.AttnInSRefIdeal.main_arg3) = m' ((c.tc : Thread Cert.AttnInSRefIdeal.nD Cert.AttnInSRefIdeal.τ).loc Cert.AttnInSRefIdeal.main_arg3)
          ∧ r.2.mem ((c.tc : Thread Cert.AttnInSRefIdeal.nD Cert.AttnInSRefIdeal.τ).loc Cert.AttnInSRefIdeal.main_arg4) = m' ((c.tc : Thread Cert.AttnInSRefIdeal.nD Cert.AttnInSRefIdeal.τ).loc Cert.AttnInSRefIdeal.main_arg4)
          ∧ r.2.mem ((c.tc : Thread Cert.AttnInSRefIdeal.nD Cert.AttnInSRefIdeal.τ).loc Cert.AttnInSRefIdeal.main_arg5) = m' ((c.tc : Thread Cert.AttnInSRefIdeal.nD Cert.AttnInSRefIdeal.τ).loc Cert.AttnInSRefIdeal.main_arg5))

def preserves_ScanS_ScanSIdeal : Prop :=
  True

def algebraic_ScanSIdeal_ScanSRefIdeal [hScanSIdeal : Cert.ScanSIdeal.Facts] [hScanSRefIdeal : Cert.ScanSRefIdeal.Facts] : Prop :=
  ∀ (m : (ℓ : Loc Cert.ScanSIdeal.nD Cert.ScanSIdeal.τ Cert.ScanSIdeal.sig) → Buf (Elt Ideal) ℓ) (g : Dev Cert.ScanSIdeal.nD → PrngReg)
    (m' : (ℓ : Loc Cert.ScanSRefIdeal.nD Cert.ScanSRefIdeal.τ Cert.ScanSRefIdeal.sig) → Buf (Elt Ideal) ℓ) (g' : Dev Cert.ScanSRefIdeal.nD → PrngReg), Pre_ScanSIdeal m →
    (∀ c : Dev Cert.ScanSIdeal.nD,
      m' ((c.tc : Thread Cert.ScanSRefIdeal.nD Cert.ScanSRefIdeal.τ).loc Cert.ScanSRefIdeal.main_arg0) = m ((c.tc : Thread Cert.ScanSIdeal.nD Cert.ScanSIdeal.τ).loc Cert.ScanSIdeal.main_arg0)
      ∧ m' ((c.tc : Thread Cert.ScanSRefIdeal.nD Cert.ScanSRefIdeal.τ).loc Cert.ScanSRefIdeal.main_arg1) = m ((c.tc : Thread Cert.ScanSIdeal.nD Cert.ScanSIdeal.τ).loc Cert.ScanSIdeal.main_arg1)
      ∧ m' ((c.tc : Thread Cert.ScanSRefIdeal.nD Cert.ScanSRefIdeal.τ).loc Cert.ScanSRefIdeal.main_arg2) = m ((c.tc : Thread Cert.ScanSIdeal.nD Cert.ScanSIdeal.τ).loc Cert.ScanSIdeal.main_arg2)
      ∧ m' ((c.tc : Thread Cert.ScanSRefIdeal.nD Cert.ScanSRefIdeal.τ).loc Cert.ScanSRefIdeal.main_arg3) = m ((c.tc : Thread Cert.ScanSIdeal.nD Cert.ScanSIdeal.τ).loc Cert.ScanSIdeal.main_arg3)
      ∧ m' ((c.tc : Thread Cert.ScanSRefIdeal.nD Cert.ScanSRefIdeal.τ).loc Cert.ScanSRefIdeal.main_arg4) = m ((c.tc : Thread Cert.ScanSIdeal.nD Cert.ScanSIdeal.τ).loc Cert.ScanSIdeal.main_arg4)
      ∧ m' ((c.tc : Thread Cert.ScanSRefIdeal.nD Cert.ScanSRefIdeal.τ).loc Cert.ScanSRefIdeal.main_arg5) = m ((c.tc : Thread Cert.ScanSIdeal.nD Cert.ScanSIdeal.τ).loc Cert.ScanSIdeal.main_arg5)
      ∧ m' ((c.tc : Thread Cert.ScanSRefIdeal.nD Cert.ScanSRefIdeal.τ).loc Cert.ScanSRefIdeal.main_arg6) = m ((c.tc : Thread Cert.ScanSIdeal.nD Cert.ScanSIdeal.τ).loc Cert.ScanSIdeal.main_arg6)) →
    ∃ (v0 : (c : Dev Cert.ScanSIdeal.nD) → Buf (Elt Ideal) ((c.tc : Thread Cert.ScanSIdeal.nD Cert.ScanSIdeal.τ).loc Cert.ScanSIdeal.main_v0_0)) (v1 : (c : Dev Cert.ScanSIdeal.nD) → Buf (Elt Ideal) ((c.tc : Thread Cert.ScanSIdeal.nD Cert.ScanSIdeal.τ).loc Cert.ScanSIdeal.main_v0_1)),
      θ_run (Cert.ScanSIdeal.defs (F := Ideal)) (onTc (τ := Cert.ScanSIdeal.τ) (Cert.ScanSIdeal.main (F := Ideal))) ⟨m, fun _ => 0, g⟩ (fun r => ∀ c : Dev Cert.ScanSIdeal.nD,
          r.2.mem ((c.tc : Thread Cert.ScanSIdeal.nD Cert.ScanSIdeal.τ).loc Cert.ScanSIdeal.main_v0_0) = v0 c
          ∧ r.2.mem ((c.tc : Thread Cert.ScanSIdeal.nD Cert.ScanSIdeal.τ).loc Cert.ScanSIdeal.main_v0_1) = v1 c
          ∧ r.2.mem ((c.tc : Thread Cert.ScanSIdeal.nD Cert.ScanSIdeal.τ).loc Cert.ScanSIdeal.main_arg0) = m ((c.tc : Thread Cert.ScanSIdeal.nD Cert.ScanSIdeal.τ).loc Cert.ScanSIdeal.main_arg0)
          ∧ r.2.mem ((c.tc : Thread Cert.ScanSIdeal.nD Cert.ScanSIdeal.τ).loc Cert.ScanSIdeal.main_arg1) = m ((c.tc : Thread Cert.ScanSIdeal.nD Cert.ScanSIdeal.τ).loc Cert.ScanSIdeal.main_arg1)
          ∧ r.2.mem ((c.tc : Thread Cert.ScanSIdeal.nD Cert.ScanSIdeal.τ).loc Cert.ScanSIdeal.main_arg2) = m ((c.tc : Thread Cert.ScanSIdeal.nD Cert.ScanSIdeal.τ).loc Cert.ScanSIdeal.main_arg2)
          ∧ r.2.mem ((c.tc : Thread Cert.ScanSIdeal.nD Cert.ScanSIdeal.τ).loc Cert.ScanSIdeal.main_arg3) = m ((c.tc : Thread Cert.ScanSIdeal.nD Cert.ScanSIdeal.τ).loc Cert.ScanSIdeal.main_arg3)
          ∧ r.2.mem ((c.tc : Thread Cert.ScanSIdeal.nD Cert.ScanSIdeal.τ).loc Cert.ScanSIdeal.main_arg4) = m ((c.tc : Thread Cert.ScanSIdeal.nD Cert.ScanSIdeal.τ).loc Cert.ScanSIdeal.main_arg4)
          ∧ r.2.mem ((c.tc : Thread Cert.ScanSIdeal.nD Cert.ScanSIdeal.τ).loc Cert.ScanSIdeal.main_arg5) = m ((c.tc : Thread Cert.ScanSIdeal.nD Cert.ScanSIdeal.τ).loc Cert.ScanSIdeal.main_arg5)
          ∧ r.2.mem ((c.tc : Thread Cert.ScanSIdeal.nD Cert.ScanSIdeal.τ).loc Cert.ScanSIdeal.main_arg6) = m ((c.tc : Thread Cert.ScanSIdeal.nD Cert.ScanSIdeal.τ).loc Cert.ScanSIdeal.main_arg6))
      ∧ θ_run (Cert.ScanSRefIdeal.defs (F := Ideal)) (onTc (τ := Cert.ScanSRefIdeal.τ) (Cert.ScanSRefIdeal.main (F := Ideal))) ⟨m', fun _ => 0, g'⟩ (fun r => ∀ c : Dev Cert.ScanSRefIdeal.nD,
          r.2.mem ((c.tc : Thread Cert.ScanSRefIdeal.nD Cert.ScanSRefIdeal.τ).loc Cert.ScanSRefIdeal.main_v23) = v0 c
          ∧ r.2.mem ((c.tc : Thread Cert.ScanSRefIdeal.nD Cert.ScanSRefIdeal.τ).loc Cert.ScanSRefIdeal.main_v21) = v1 c
          ∧ r.2.mem ((c.tc : Thread Cert.ScanSRefIdeal.nD Cert.ScanSRefIdeal.τ).loc Cert.ScanSRefIdeal.main_arg0) = m' ((c.tc : Thread Cert.ScanSRefIdeal.nD Cert.ScanSRefIdeal.τ).loc Cert.ScanSRefIdeal.main_arg0)
          ∧ r.2.mem ((c.tc : Thread Cert.ScanSRefIdeal.nD Cert.ScanSRefIdeal.τ).loc Cert.ScanSRefIdeal.main_arg1) = m' ((c.tc : Thread Cert.ScanSRefIdeal.nD Cert.ScanSRefIdeal.τ).loc Cert.ScanSRefIdeal.main_arg1)
          ∧ r.2.mem ((c.tc : Thread Cert.ScanSRefIdeal.nD Cert.ScanSRefIdeal.τ).loc Cert.ScanSRefIdeal.main_arg2) = m' ((c.tc : Thread Cert.ScanSRefIdeal.nD Cert.ScanSRefIdeal.τ).loc Cert.ScanSRefIdeal.main_arg2)
          ∧ r.2.mem ((c.tc : Thread Cert.ScanSRefIdeal.nD Cert.ScanSRefIdeal.τ).loc Cert.ScanSRefIdeal.main_arg3) = m' ((c.tc : Thread Cert.ScanSRefIdeal.nD Cert.ScanSRefIdeal.τ).loc Cert.ScanSRefIdeal.main_arg3)
          ∧ r.2.mem ((c.tc : Thread Cert.ScanSRefIdeal.nD Cert.ScanSRefIdeal.τ).loc Cert.ScanSRefIdeal.main_arg4) = m' ((c.tc : Thread Cert.ScanSRefIdeal.nD Cert.ScanSRefIdeal.τ).loc Cert.ScanSRefIdeal.main_arg4)
          ∧ r.2.mem ((c.tc : Thread Cert.ScanSRefIdeal.nD Cert.ScanSRefIdeal.τ).loc Cert.ScanSRefIdeal.main_arg5) = m' ((c.tc : Thread Cert.ScanSRefIdeal.nD Cert.ScanSRefIdeal.τ).loc Cert.ScanSRefIdeal.main_arg5)
          ∧ r.2.mem ((c.tc : Thread Cert.ScanSRefIdeal.nD Cert.ScanSRefIdeal.τ).loc Cert.ScanSRefIdeal.main_arg6) = m' ((c.tc : Thread Cert.ScanSRefIdeal.nD Cert.ScanSRefIdeal.τ).loc Cert.ScanSRefIdeal.main_arg6))

def preserves_DnInS_DnInSIdeal : Prop :=
  True

def algebraic_DnInSIdeal_DnInSRefIdeal [hDnInSIdeal : Cert.DnInSIdeal.Facts] [hDnInSRefIdeal : Cert.DnInSRefIdeal.Facts] : Prop :=
  ∀ (m : (ℓ : Loc Cert.DnInSIdeal.nD Cert.DnInSIdeal.τ Cert.DnInSIdeal.sig) → Buf (Elt Ideal) ℓ) (g : Dev Cert.DnInSIdeal.nD → PrngReg)
    (m' : (ℓ : Loc Cert.DnInSRefIdeal.nD Cert.DnInSRefIdeal.τ Cert.DnInSRefIdeal.sig) → Buf (Elt Ideal) ℓ) (g' : Dev Cert.DnInSRefIdeal.nD → PrngReg), Pre_DnInSIdeal m →
    (∀ c : Dev Cert.DnInSIdeal.nD,
      m' ((c.tc : Thread Cert.DnInSRefIdeal.nD Cert.DnInSRefIdeal.τ).loc Cert.DnInSRefIdeal.main_arg0) = m ((c.tc : Thread Cert.DnInSIdeal.nD Cert.DnInSIdeal.τ).loc Cert.DnInSIdeal.main_arg0)
      ∧ m' ((c.tc : Thread Cert.DnInSRefIdeal.nD Cert.DnInSRefIdeal.τ).loc Cert.DnInSRefIdeal.main_arg1) = m ((c.tc : Thread Cert.DnInSIdeal.nD Cert.DnInSIdeal.τ).loc Cert.DnInSIdeal.main_arg1)
      ∧ m' ((c.tc : Thread Cert.DnInSRefIdeal.nD Cert.DnInSRefIdeal.τ).loc Cert.DnInSRefIdeal.main_arg2) = m ((c.tc : Thread Cert.DnInSIdeal.nD Cert.DnInSIdeal.τ).loc Cert.DnInSIdeal.main_arg2)
      ∧ m' ((c.tc : Thread Cert.DnInSRefIdeal.nD Cert.DnInSRefIdeal.τ).loc Cert.DnInSRefIdeal.main_arg3) = m ((c.tc : Thread Cert.DnInSIdeal.nD Cert.DnInSIdeal.τ).loc Cert.DnInSIdeal.main_arg3)
      ∧ m' ((c.tc : Thread Cert.DnInSRefIdeal.nD Cert.DnInSRefIdeal.τ).loc Cert.DnInSRefIdeal.main_arg4) = m ((c.tc : Thread Cert.DnInSIdeal.nD Cert.DnInSIdeal.τ).loc Cert.DnInSIdeal.main_arg4)
      ∧ m' ((c.tc : Thread Cert.DnInSRefIdeal.nD Cert.DnInSRefIdeal.τ).loc Cert.DnInSRefIdeal.main_arg5) = m ((c.tc : Thread Cert.DnInSIdeal.nD Cert.DnInSIdeal.τ).loc Cert.DnInSIdeal.main_arg5)
      ∧ m' ((c.tc : Thread Cert.DnInSRefIdeal.nD Cert.DnInSRefIdeal.τ).loc Cert.DnInSRefIdeal.main_arg6) = m ((c.tc : Thread Cert.DnInSIdeal.nD Cert.DnInSIdeal.τ).loc Cert.DnInSIdeal.main_arg6)
      ∧ m' ((c.tc : Thread Cert.DnInSRefIdeal.nD Cert.DnInSRefIdeal.τ).loc Cert.DnInSRefIdeal.main_arg7) = m ((c.tc : Thread Cert.DnInSIdeal.nD Cert.DnInSIdeal.τ).loc Cert.DnInSIdeal.main_arg7)
      ∧ m' ((c.tc : Thread Cert.DnInSRefIdeal.nD Cert.DnInSRefIdeal.τ).loc Cert.DnInSRefIdeal.main_arg8) = m ((c.tc : Thread Cert.DnInSIdeal.nD Cert.DnInSIdeal.τ).loc Cert.DnInSIdeal.main_arg8)
      ∧ m' ((c.tc : Thread Cert.DnInSRefIdeal.nD Cert.DnInSRefIdeal.τ).loc Cert.DnInSRefIdeal.main_arg9) = m ((c.tc : Thread Cert.DnInSIdeal.nD Cert.DnInSIdeal.τ).loc Cert.DnInSIdeal.main_arg9)) →
    ∃ (v0 : (c : Dev Cert.DnInSIdeal.nD) → Buf (Elt Ideal) ((c.tc : Thread Cert.DnInSIdeal.nD Cert.DnInSIdeal.τ).loc Cert.DnInSIdeal.main_v14_0)) (v1 : (c : Dev Cert.DnInSIdeal.nD) → Buf (Elt Ideal) ((c.tc : Thread Cert.DnInSIdeal.nD Cert.DnInSIdeal.τ).loc Cert.DnInSIdeal.main_v14_1)) (v2 : (c : Dev Cert.DnInSIdeal.nD) → Buf (Elt Ideal) ((c.tc : Thread Cert.DnInSIdeal.nD Cert.DnInSIdeal.τ).loc Cert.DnInSIdeal.main_v14_2)) (v3 : (c : Dev Cert.DnInSIdeal.nD) → Buf (Elt Ideal) ((c.tc : Thread Cert.DnInSIdeal.nD Cert.DnInSIdeal.τ).loc Cert.DnInSIdeal.main_v14_3)) (v4 : (c : Dev Cert.DnInSIdeal.nD) → Buf (Elt Ideal) ((c.tc : Thread Cert.DnInSIdeal.nD Cert.DnInSIdeal.τ).loc Cert.DnInSIdeal.main_v14_4)) (v5 : (c : Dev Cert.DnInSIdeal.nD) → Buf (Elt Ideal) ((c.tc : Thread Cert.DnInSIdeal.nD Cert.DnInSIdeal.τ).loc Cert.DnInSIdeal.main_v14_5)) (v6 : (c : Dev Cert.DnInSIdeal.nD) → Buf (Elt Ideal) ((c.tc : Thread Cert.DnInSIdeal.nD Cert.DnInSIdeal.τ).loc Cert.DnInSIdeal.main_v14_6)) (v7 : (c : Dev Cert.DnInSIdeal.nD) → Buf (Elt Ideal) ((c.tc : Thread Cert.DnInSIdeal.nD Cert.DnInSIdeal.τ).loc Cert.DnInSIdeal.main_v14_7)),
      θ_run (Cert.DnInSIdeal.defs (F := Ideal)) (onTc (τ := Cert.DnInSIdeal.τ) (Cert.DnInSIdeal.main (F := Ideal))) ⟨m, fun _ => 0, g⟩ (fun r => ∀ c : Dev Cert.DnInSIdeal.nD,
          r.2.mem ((c.tc : Thread Cert.DnInSIdeal.nD Cert.DnInSIdeal.τ).loc Cert.DnInSIdeal.main_v14_0) = v0 c
          ∧ r.2.mem ((c.tc : Thread Cert.DnInSIdeal.nD Cert.DnInSIdeal.τ).loc Cert.DnInSIdeal.main_v14_1) = v1 c
          ∧ r.2.mem ((c.tc : Thread Cert.DnInSIdeal.nD Cert.DnInSIdeal.τ).loc Cert.DnInSIdeal.main_v14_2) = v2 c
          ∧ r.2.mem ((c.tc : Thread Cert.DnInSIdeal.nD Cert.DnInSIdeal.τ).loc Cert.DnInSIdeal.main_v14_3) = v3 c
          ∧ r.2.mem ((c.tc : Thread Cert.DnInSIdeal.nD Cert.DnInSIdeal.τ).loc Cert.DnInSIdeal.main_v14_4) = v4 c
          ∧ r.2.mem ((c.tc : Thread Cert.DnInSIdeal.nD Cert.DnInSIdeal.τ).loc Cert.DnInSIdeal.main_v14_5) = v5 c
          ∧ r.2.mem ((c.tc : Thread Cert.DnInSIdeal.nD Cert.DnInSIdeal.τ).loc Cert.DnInSIdeal.main_v14_6) = v6 c
          ∧ r.2.mem ((c.tc : Thread Cert.DnInSIdeal.nD Cert.DnInSIdeal.τ).loc Cert.DnInSIdeal.main_v14_7) = v7 c
          ∧ r.2.mem ((c.tc : Thread Cert.DnInSIdeal.nD Cert.DnInSIdeal.τ).loc Cert.DnInSIdeal.main_arg0) = m ((c.tc : Thread Cert.DnInSIdeal.nD Cert.DnInSIdeal.τ).loc Cert.DnInSIdeal.main_arg0)
          ∧ r.2.mem ((c.tc : Thread Cert.DnInSIdeal.nD Cert.DnInSIdeal.τ).loc Cert.DnInSIdeal.main_arg1) = m ((c.tc : Thread Cert.DnInSIdeal.nD Cert.DnInSIdeal.τ).loc Cert.DnInSIdeal.main_arg1)
          ∧ r.2.mem ((c.tc : Thread Cert.DnInSIdeal.nD Cert.DnInSIdeal.τ).loc Cert.DnInSIdeal.main_arg2) = m ((c.tc : Thread Cert.DnInSIdeal.nD Cert.DnInSIdeal.τ).loc Cert.DnInSIdeal.main_arg2)
          ∧ r.2.mem ((c.tc : Thread Cert.DnInSIdeal.nD Cert.DnInSIdeal.τ).loc Cert.DnInSIdeal.main_arg3) = m ((c.tc : Thread Cert.DnInSIdeal.nD Cert.DnInSIdeal.τ).loc Cert.DnInSIdeal.main_arg3)
          ∧ r.2.mem ((c.tc : Thread Cert.DnInSIdeal.nD Cert.DnInSIdeal.τ).loc Cert.DnInSIdeal.main_arg4) = m ((c.tc : Thread Cert.DnInSIdeal.nD Cert.DnInSIdeal.τ).loc Cert.DnInSIdeal.main_arg4)
          ∧ r.2.mem ((c.tc : Thread Cert.DnInSIdeal.nD Cert.DnInSIdeal.τ).loc Cert.DnInSIdeal.main_arg5) = m ((c.tc : Thread Cert.DnInSIdeal.nD Cert.DnInSIdeal.τ).loc Cert.DnInSIdeal.main_arg5)
          ∧ r.2.mem ((c.tc : Thread Cert.DnInSIdeal.nD Cert.DnInSIdeal.τ).loc Cert.DnInSIdeal.main_arg6) = m ((c.tc : Thread Cert.DnInSIdeal.nD Cert.DnInSIdeal.τ).loc Cert.DnInSIdeal.main_arg6)
          ∧ r.2.mem ((c.tc : Thread Cert.DnInSIdeal.nD Cert.DnInSIdeal.τ).loc Cert.DnInSIdeal.main_arg7) = m ((c.tc : Thread Cert.DnInSIdeal.nD Cert.DnInSIdeal.τ).loc Cert.DnInSIdeal.main_arg7)
          ∧ r.2.mem ((c.tc : Thread Cert.DnInSIdeal.nD Cert.DnInSIdeal.τ).loc Cert.DnInSIdeal.main_arg8) = m ((c.tc : Thread Cert.DnInSIdeal.nD Cert.DnInSIdeal.τ).loc Cert.DnInSIdeal.main_arg8)
          ∧ r.2.mem ((c.tc : Thread Cert.DnInSIdeal.nD Cert.DnInSIdeal.τ).loc Cert.DnInSIdeal.main_arg9) = m ((c.tc : Thread Cert.DnInSIdeal.nD Cert.DnInSIdeal.τ).loc Cert.DnInSIdeal.main_arg9))
      ∧ θ_run (Cert.DnInSRefIdeal.defs (F := Ideal)) (onTc (τ := Cert.DnInSRefIdeal.τ) (Cert.DnInSRefIdeal.main (F := Ideal))) ⟨m', fun _ => 0, g'⟩ (fun r => ∀ c : Dev Cert.DnInSRefIdeal.nD,
          r.2.mem ((c.tc : Thread Cert.DnInSRefIdeal.nD Cert.DnInSRefIdeal.τ).loc Cert.DnInSRefIdeal.main_v135) = v0 c
          ∧ r.2.mem ((c.tc : Thread Cert.DnInSRefIdeal.nD Cert.DnInSRefIdeal.τ).loc Cert.DnInSRefIdeal.main_v136) = v1 c
          ∧ r.2.mem ((c.tc : Thread Cert.DnInSRefIdeal.nD Cert.DnInSRefIdeal.τ).loc Cert.DnInSRefIdeal.main_v137) = v2 c
          ∧ r.2.mem ((c.tc : Thread Cert.DnInSRefIdeal.nD Cert.DnInSRefIdeal.τ).loc Cert.DnInSRefIdeal.main_v138) = v3 c
          ∧ r.2.mem ((c.tc : Thread Cert.DnInSRefIdeal.nD Cert.DnInSRefIdeal.τ).loc Cert.DnInSRefIdeal.main_v139) = v4 c
          ∧ r.2.mem ((c.tc : Thread Cert.DnInSRefIdeal.nD Cert.DnInSRefIdeal.τ).loc Cert.DnInSRefIdeal.main_v140) = v5 c
          ∧ r.2.mem ((c.tc : Thread Cert.DnInSRefIdeal.nD Cert.DnInSRefIdeal.τ).loc Cert.DnInSRefIdeal.main_v141) = v6 c
          ∧ r.2.mem ((c.tc : Thread Cert.DnInSRefIdeal.nD Cert.DnInSRefIdeal.τ).loc Cert.DnInSRefIdeal.main_v142) = v7 c
          ∧ r.2.mem ((c.tc : Thread Cert.DnInSRefIdeal.nD Cert.DnInSRefIdeal.τ).loc Cert.DnInSRefIdeal.main_arg0) = m' ((c.tc : Thread Cert.DnInSRefIdeal.nD Cert.DnInSRefIdeal.τ).loc Cert.DnInSRefIdeal.main_arg0)
          ∧ r.2.mem ((c.tc : Thread Cert.DnInSRefIdeal.nD Cert.DnInSRefIdeal.τ).loc Cert.DnInSRefIdeal.main_arg1) = m' ((c.tc : Thread Cert.DnInSRefIdeal.nD Cert.DnInSRefIdeal.τ).loc Cert.DnInSRefIdeal.main_arg1)
          ∧ r.2.mem ((c.tc : Thread Cert.DnInSRefIdeal.nD Cert.DnInSRefIdeal.τ).loc Cert.DnInSRefIdeal.main_arg2) = m' ((c.tc : Thread Cert.DnInSRefIdeal.nD Cert.DnInSRefIdeal.τ).loc Cert.DnInSRefIdeal.main_arg2)
          ∧ r.2.mem ((c.tc : Thread Cert.DnInSRefIdeal.nD Cert.DnInSRefIdeal.τ).loc Cert.DnInSRefIdeal.main_arg3) = m' ((c.tc : Thread Cert.DnInSRefIdeal.nD Cert.DnInSRefIdeal.τ).loc Cert.DnInSRefIdeal.main_arg3)
          ∧ r.2.mem ((c.tc : Thread Cert.DnInSRefIdeal.nD Cert.DnInSRefIdeal.τ).loc Cert.DnInSRefIdeal.main_arg4) = m' ((c.tc : Thread Cert.DnInSRefIdeal.nD Cert.DnInSRefIdeal.τ).loc Cert.DnInSRefIdeal.main_arg4)
          ∧ r.2.mem ((c.tc : Thread Cert.DnInSRefIdeal.nD Cert.DnInSRefIdeal.τ).loc Cert.DnInSRefIdeal.main_arg5) = m' ((c.tc : Thread Cert.DnInSRefIdeal.nD Cert.DnInSRefIdeal.τ).loc Cert.DnInSRefIdeal.main_arg5)
          ∧ r.2.mem ((c.tc : Thread Cert.DnInSRefIdeal.nD Cert.DnInSRefIdeal.τ).loc Cert.DnInSRefIdeal.main_arg6) = m' ((c.tc : Thread Cert.DnInSRefIdeal.nD Cert.DnInSRefIdeal.τ).loc Cert.DnInSRefIdeal.main_arg6)
          ∧ r.2.mem ((c.tc : Thread Cert.DnInSRefIdeal.nD Cert.DnInSRefIdeal.τ).loc Cert.DnInSRefIdeal.main_arg7) = m' ((c.tc : Thread Cert.DnInSRefIdeal.nD Cert.DnInSRefIdeal.τ).loc Cert.DnInSRefIdeal.main_arg7)
          ∧ r.2.mem ((c.tc : Thread Cert.DnInSRefIdeal.nD Cert.DnInSRefIdeal.τ).loc Cert.DnInSRefIdeal.main_arg8) = m' ((c.tc : Thread Cert.DnInSRefIdeal.nD Cert.DnInSRefIdeal.τ).loc Cert.DnInSRefIdeal.main_arg8)
          ∧ r.2.mem ((c.tc : Thread Cert.DnInSRefIdeal.nD Cert.DnInSRefIdeal.τ).loc Cert.DnInSRefIdeal.main_arg9) = m' ((c.tc : Thread Cert.DnInSRefIdeal.nD Cert.DnInSRefIdeal.τ).loc Cert.DnInSRefIdeal.main_arg9))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v2)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v2) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v36) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Moba_MobaIdeal : Prop :=
  True

def Claim : Prop :=
  ∃ (hKernel : Cert.Kernel.Facts) (hKernelIdeal : Cert.KernelIdeal.Facts) (hReferenceIdeal : Cert.ReferenceIdeal.Facts) (hAttnIn : Cert.AttnIn.Facts) (hAttnInIdeal : Cert.AttnInIdeal.Facts) (hAttnInRefIdeal : Cert.AttnInRefIdeal.Facts) (hAttnOut : Cert.AttnOut.Facts) (hAttnOutIdeal : Cert.AttnOutIdeal.Facts) (hAttnOutRefIdeal : Cert.AttnOutRefIdeal.Facts) (hDnOut : Cert.DnOut.Facts) (hDnOutIdeal : Cert.DnOutIdeal.Facts) (hDnOutRefIdeal : Cert.DnOutRefIdeal.Facts) (hDnIn : Cert.DnIn.Facts) (hDnInIdeal : Cert.DnInIdeal.Facts) (hDnInRefIdeal : Cert.DnInRefIdeal.Facts) (hAttnOutS : Cert.AttnOutS.Facts) (hAttnOutSIdeal : Cert.AttnOutSIdeal.Facts) (hAttnOutSRefIdeal : Cert.AttnOutSRefIdeal.Facts) (hAttnInS : Cert.AttnInS.Facts) (hAttnInSIdeal : Cert.AttnInSIdeal.Facts) (hAttnInSRefIdeal : Cert.AttnInSRefIdeal.Facts) (hScanS : Cert.ScanS.Facts) (hScanSIdeal : Cert.ScanSIdeal.Facts) (hScanSRefIdeal : Cert.ScanSRefIdeal.Facts) (hDnInS : Cert.DnInS.Facts) (hDnInSIdeal : Cert.DnInSIdeal.Facts) (hDnInSRefIdeal : Cert.DnInSRefIdeal.Facts) (hMod : Cert.Mod.Facts) (hModIdeal : Cert.ModIdeal.Facts) (hModRefIdeal : Cert.ModRefIdeal.Facts) (hMoba : Cert.Moba.Facts) (hMobaIdeal : Cert.MobaIdeal.Facts),
    quiescent_Kernel (hKernel := hKernel)
    ∧ quiescent_KernelIdeal (hKernelIdeal := hKernelIdeal)
    ∧ quiescent_ReferenceIdeal (hReferenceIdeal := hReferenceIdeal)
    ∧ quiescent_AttnIn (hAttnIn := hAttnIn)
    ∧ quiescent_AttnInIdeal (hAttnInIdeal := hAttnInIdeal)
    ∧ quiescent_AttnInRefIdeal (hAttnInRefIdeal := hAttnInRefIdeal)
    ∧ quiescent_AttnOut (hAttnOut := hAttnOut)
    ∧ quiescent_AttnOutIdeal (hAttnOutIdeal := hAttnOutIdeal)
    ∧ quiescent_AttnOutRefIdeal (hAttnOutRefIdeal := hAttnOutRefIdeal)
    ∧ quiescent_DnOut (hDnOut := hDnOut)
    ∧ quiescent_DnOutIdeal (hDnOutIdeal := hDnOutIdeal)
    ∧ quiescent_DnOutRefIdeal (hDnOutRefIdeal := hDnOutRefIdeal)
    ∧ quiescent_DnIn (hDnIn := hDnIn)
    ∧ quiescent_DnInIdeal (hDnInIdeal := hDnInIdeal)
    ∧ quiescent_DnInRefIdeal (hDnInRefIdeal := hDnInRefIdeal)
    ∧ quiescent_AttnOutS (hAttnOutS := hAttnOutS)
    ∧ quiescent_AttnOutSIdeal (hAttnOutSIdeal := hAttnOutSIdeal)
    ∧ quiescent_AttnOutSRefIdeal (hAttnOutSRefIdeal := hAttnOutSRefIdeal)
    ∧ quiescent_AttnInS (hAttnInS := hAttnInS)
    ∧ quiescent_AttnInSIdeal (hAttnInSIdeal := hAttnInSIdeal)
    ∧ quiescent_AttnInSRefIdeal (hAttnInSRefIdeal := hAttnInSRefIdeal)
    ∧ quiescent_ScanS (hScanS := hScanS)
    ∧ quiescent_ScanSIdeal (hScanSIdeal := hScanSIdeal)
    ∧ quiescent_ScanSRefIdeal (hScanSRefIdeal := hScanSRefIdeal)
    ∧ quiescent_DnInS (hDnInS := hDnInS)
    ∧ quiescent_DnInSIdeal (hDnInSIdeal := hDnInSIdeal)
    ∧ quiescent_DnInSRefIdeal (hDnInSRefIdeal := hDnInSRefIdeal)
    ∧ quiescent_Mod (hMod := hMod)
    ∧ quiescent_ModIdeal (hModIdeal := hModIdeal)
    ∧ quiescent_ModRefIdeal (hModRefIdeal := hModRefIdeal)
    ∧ quiescent_Moba (hMoba := hMoba)
    ∧ quiescent_MobaIdeal (hMobaIdeal := hMobaIdeal)
    ∧ preserves_Kernel_KernelIdeal
    ∧ algebraic_KernelIdeal_ReferenceIdeal (hKernelIdeal := hKernelIdeal) (hReferenceIdeal := hReferenceIdeal)
    ∧ preserves_AttnIn_AttnInIdeal
    ∧ algebraic_AttnInIdeal_AttnInRefIdeal (hAttnInIdeal := hAttnInIdeal) (hAttnInRefIdeal := hAttnInRefIdeal)
    ∧ preserves_AttnOut_AttnOutIdeal
    ∧ algebraic_AttnOutIdeal_AttnOutRefIdeal (hAttnOutIdeal := hAttnOutIdeal) (hAttnOutRefIdeal := hAttnOutRefIdeal)
    ∧ preserves_DnOut_DnOutIdeal
    ∧ algebraic_DnOutIdeal_DnOutRefIdeal (hDnOutIdeal := hDnOutIdeal) (hDnOutRefIdeal := hDnOutRefIdeal)
    ∧ preserves_DnIn_DnInIdeal
    ∧ algebraic_DnInIdeal_DnInRefIdeal (hDnInIdeal := hDnInIdeal) (hDnInRefIdeal := hDnInRefIdeal)
    ∧ preserves_AttnOutS_AttnOutSIdeal
    ∧ algebraic_AttnOutSIdeal_AttnOutSRefIdeal (hAttnOutSIdeal := hAttnOutSIdeal) (hAttnOutSRefIdeal := hAttnOutSRefIdeal)
    ∧ preserves_AttnInS_AttnInSIdeal
    ∧ algebraic_AttnInSIdeal_AttnInSRefIdeal (hAttnInSIdeal := hAttnInSIdeal) (hAttnInSRefIdeal := hAttnInSRefIdeal)
    ∧ preserves_ScanS_ScanSIdeal
    ∧ algebraic_ScanSIdeal_ScanSRefIdeal (hScanSIdeal := hScanSIdeal) (hScanSRefIdeal := hScanSRefIdeal)
    ∧ preserves_DnInS_DnInSIdeal
    ∧ algebraic_DnInSIdeal_DnInSRefIdeal (hDnInSIdeal := hDnInSIdeal) (hDnInSRefIdeal := hDnInSRefIdeal)
    ∧ preserves_Mod_ModIdeal
    ∧ algebraic_ModIdeal_ModRefIdeal (hModIdeal := hModIdeal) (hModRefIdeal := hModRefIdeal)
    ∧ preserves_Moba_MobaIdeal
-- ==== Kernel.lean ====
abbrev S4x4096x512 : Shape := ⟨3, ![4, 4096, 512]⟩
abbrev S4x4096x256 : Shape := ⟨3, ![4, 4096, 256]⟩
abbrev S4x4x128x128 : Shape := ⟨4, ![4, 4, 128, 128]⟩
abbrev S4x64x512 : Shape := ⟨3, ![4, 64, 512]⟩
abbrev S4x64x256 : Shape := ⟨3, ![4, 64, 256]⟩
abbrev S1x1x128x128 : Shape := ⟨4, ![1, 1, 128, 128]⟩
abbrev S128x128 : Shape := ⟨2, ![128, 128]⟩
abbrev S1x64x128 : Shape := ⟨3, ![1, 64, 128]⟩
abbrev S64x128 : Shape := ⟨2, ![64, 128]⟩
abbrev S1x64x64 : Shape := ⟨3, ![1, 64, 64]⟩
abbrev S64x64 : Shape := ⟨2, ![64, 64]⟩
abbrev S1x1x128 : Shape := ⟨3, ![1, 1, 128]⟩
abbrev S1x128 : Shape := ⟨2, ![1, 128]⟩

abbrev nBuf : Space → Nat
  | .hbm => 9
  | .vmem => 16
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x256, .f32⟩
  | .hbm, ⟨6, _⟩ => ⟨S4x4x128x128, .f32⟩
  | .hbm, ⟨7, _⟩ => ⟨S4x4096x512, .f32⟩
  | .hbm, ⟨8, _⟩ => ⟨S4x4x128x128, .f32⟩
  | .local _ .vmem, ⟨0, _⟩ => ⟨S4x64x512, .f32⟩
  | .local _ .vmem, ⟨1, _⟩ => ⟨S4x64x512, .f32⟩
  | .local _ .vmem, ⟨2, _⟩ => ⟨S4x64x512, .f32⟩
  | .local _ .vmem, ⟨3, _⟩ => ⟨S4x64x512, .f32⟩
  | .local _ .vmem, ⟨4, _⟩ => ⟨S4x64x512, .f32⟩
  | .local _ .vmem, ⟨5, _⟩ => ⟨S4x64x512, .f32⟩
  | .local _ .vmem, ⟨6, _⟩ => ⟨S4x64x512, .f32⟩
  | .local _ .vmem, ⟨7, _⟩ => ⟨S4x64x512, .f32⟩
  | .local _ .vmem, ⟨8, _⟩ => ⟨S4x64x512, .f32⟩
  | .local _ .vmem, ⟨9, _⟩ => ⟨S4x64x512, .f32⟩
  | .local _ .vmem, ⟨10, _⟩ => ⟨S4x64x256, .f32⟩
  | .local _ .vmem, ⟨11, _⟩ => ⟨S4x64x256, .f32⟩
  | .local _ .vmem, ⟨12, _⟩ => ⟨S4x4x128x128, .f32⟩
  | .local _ .vmem, ⟨13, _⟩ => ⟨S4x64x512, .f32⟩
  | .local _ .vmem, ⟨14, _⟩ => ⟨S4x64x512, .f32⟩
  | .local _ .vmem, ⟨15, _⟩ => ⟨S4x4x128x128, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![1, 64], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S4x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4x4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 2 → Memref sig .tc .vmem S4x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S4x4x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== ReferenceIdeal.lean ====
abbrev S4x4096x512 : Shape := ⟨3, ![4, 4096, 512]⟩
abbrev S4x4096x256 : Shape := ⟨3, ![4, 4096, 256]⟩
abbrev S4x4x128x128 : Shape := ⟨4, ![4, 4, 128, 128]⟩
abbrev S4x64x64x4x128 : Shape := ⟨5, ![4, 64, 64, 4, 128]⟩
abbrev S64x4x4x64x128 : Shape := ⟨5, ![64, 4, 4, 64, 128]⟩
abbrev S4x64x64x4x64 : Shape := ⟨5, ![4, 64, 64, 4, 64]⟩
abbrev S64x4x4x64x64 : Shape := ⟨5, ![64, 4, 4, 64, 64]⟩
abbrev S_ : Shape := ⟨0, ![]⟩
abbrev S1x4x4x64x128 : Shape := ⟨5, ![1, 4, 4, 64, 128]⟩
abbrev S4x4x64x128 : Shape := ⟨4, ![4, 4, 64, 128]⟩
abbrev S1x4x4x64x64 : Shape := ⟨5, ![1, 4, 4, 64, 64]⟩
abbrev S4x4x64x64 : Shape := ⟨4, ![4, 4, 64, 64]⟩
abbrev S4x4x1x128 : Shape := ⟨4, ![4, 4, 1, 128]⟩

abbrev nBuf : Space → Nat
  | .hbm => 89
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x512, .f32⟩
  | .hbm, ⟨4, _⟩ => ⟨S4x4096x512, .f32⟩
  | .hbm, ⟨5, _⟩ => ⟨S4x4096x256, .f32⟩
  | .hbm, ⟨6, _⟩ => ⟨S4x4x128x128, .f32⟩
  | .hbm, ⟨7, _⟩ => ⟨S4x64x64x4x128, .f32⟩
  | .hbm, ⟨8, _⟩ => ⟨S64x4x4x64x128, .f32⟩
  | .hbm, ⟨9, _⟩ => ⟨S4x64x64x4x128, .f32⟩
  | .hbm, ⟨10, _⟩ => ⟨S64x4x4x64x128, .f32⟩
  | .hbm, ⟨11, _⟩ => ⟨S4x64x64x4x128, .f32⟩
  | .hbm, ⟨12, _⟩ => ⟨S64x4x4x64x128, .f32⟩
  | .hbm, ⟨13, _⟩ => ⟨S4x64x64x4x128, .f32⟩
  | .hbm, ⟨14, _⟩ => ⟨S64x4x4x64x128, .f32⟩
  | .hbm, ⟨15, _⟩ => ⟨S4x64x64x4x128, .f32⟩
  | .hbm, ⟨16, _⟩ => ⟨S64x4x4x64x128, .f32⟩
  | .hbm, ⟨17, _⟩ => ⟨S4x64x64x4x64, .f32⟩
  | .hbm, ⟨18, _⟩ => ⟨S64x4x4x64x64, .f32⟩
  | .hbm, ⟨19, _⟩ => ⟨S_, .f32⟩
  | .hbm, ⟨20, _⟩ => ⟨S64x4x4x64x128, .f32⟩
  | .hbm, ⟨21, _⟩ => ⟨S_, .i32⟩
  | .hbm, ⟨22, _⟩ => ⟨S64x4x4x64x128, .f32⟩
  | .hbm, ⟨23, _⟩ => ⟨S64x4x4x64x128, .f32⟩
  | .hbm, ⟨24, _⟩ => ⟨S64x4x4x64x128, .f32⟩
  | .hbm, ⟨25, _⟩ => ⟨S64x4x4x64x128, .f32⟩
  | .hbm, ⟨26, _⟩ => ⟨S64x4x4x64x128, .f32⟩
  | .hbm, ⟨27, _⟩ => ⟨S64x4x4x64x64, .f32⟩
  | .hbm, ⟨28, _⟩ => ⟨S_, .i32⟩
  | .hbm, ⟨29, _⟩ => ⟨S4x4x128x128, .f32⟩
  | .hbm, ⟨30, _⟩ => ⟨S64x4x4x64x128, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1x4x4x64x128, .f32⟩
  | .hbm, ⟨38, _⟩ => ⟨S4x4x64x128, .f32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S1x4x4x64x128, .f32⟩
  | .hbm, ⟨44, _⟩ => ⟨S4x4x64x128, .f32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S1x4x4x64x128, .f32⟩
  | .hbm, ⟨50, _⟩ => ⟨S4x4x64x128, .f32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i32⟩
  | .hbm, ⟨55, _⟩ => ⟨S1x4x4x64x128, .f32⟩
  | .hbm, ⟨56, _⟩ => ⟨S4x4x64x128, .f32⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S1x4x4x64x128, .f32⟩
  | .hbm, ⟨62, _⟩ => ⟨S4x4x64x128, .f32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x4x4x64x64, .f32⟩
  | .hbm, ⟨68, _⟩ => ⟨S4x4x64x64, .f32⟩
  | .hbm, ⟨69, _⟩ => ⟨S4x4x64x128, .f32⟩
  | .hbm, ⟨70, _⟩ => ⟨S4x4x64x128, .f32⟩
  | .hbm, ⟨71, _⟩ => ⟨S4x4x64x128, .f32⟩
  | .hbm, ⟨72, _⟩ => ⟨S4x4x64x128, .f32⟩
  | .hbm, ⟨73, _⟩ => ⟨S4x4x64x128, .f32⟩
  | .hbm, ⟨74, _⟩ => ⟨S4x4x1x128, .f32⟩
  | .hbm, ⟨75, _⟩ => ⟨S4x4x128x128, .f32⟩
  | .hbm, ⟨76, _⟩ => ⟨S4x4x128x128, .f32⟩
  | .hbm, ⟨77, _⟩ => ⟨S4x4x128x128, .f32⟩
  | .hbm, ⟨78, _⟩ => ⟨S4x4x128x128, .f32⟩
  | .hbm, ⟨79, _⟩ => ⟨S1x4x4x64x128, .f32⟩
  | .hbm, ⟨80, _⟩ => ⟨S_, .i32⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S64x4x4x64x128, .f32⟩
  | .hbm, ⟨85, _⟩ => ⟨S_, .i32⟩
  | .hbm, ⟨86, _⟩ => ⟨S_, .i32⟩
  | .hbm, ⟨87, _⟩ => ⟨S4x64x64x4x128, .f32⟩
  | .hbm, ⟨88, _⟩ => ⟨S4x4096x512, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_v13_8 : Ref sig .tc := ⟨.hbm, 30, rfl⟩
abbrev main_while0c_c_8 : Ref sig .tc := ⟨.hbm, 31, rfl⟩
abbrev main_while0c_v16 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_c_1 : Ref sig .tc := ⟨.hbm, 35, rfl⟩
abbrev main_while0b_call0_c_2 : Ref sig .tc := ⟨.hbm, 36, rfl⟩
abbrev main_while0b_call0_v0 : Ref sig .tc := ⟨.hbm, 37, rfl⟩
abbrev main_while0b_v16 : Ref sig .tc := ⟨.hbm, 38, rfl⟩
abbrev main_while0b_call1_c : Ref sig .tc := ⟨.hbm, 39, rfl⟩
abbrev main_while0b_call1_c_0 : Ref sig .tc := ⟨.hbm, 40, rfl⟩
abbrev main_while0b_call1_c_1 : Ref sig .tc := ⟨.hbm, 41, rfl⟩
abbrev main_while0b_call1_c_2 : Ref sig .tc := ⟨.hbm, 42, rfl⟩
abbrev main_while0b_call1_v0 : Ref sig .tc := ⟨.hbm, 43, rfl⟩
abbrev main_while0b_v17 : Ref sig .tc := ⟨.hbm, 44, rfl⟩
abbrev main_while0b_call2_c : Ref sig .tc := ⟨.hbm, 45, rfl⟩
abbrev main_while0b_call2_c_0 : Ref sig .tc := ⟨.hbm, 46, rfl⟩
abbrev main_while0b_call2_c_1 : Ref sig .tc := ⟨.hbm, 47, rfl⟩
abbrev main_while0b_call2_c_2 : Ref sig .tc := ⟨.hbm, 48, rfl⟩
abbrev main_while0b_call2_v0 : Ref sig .tc := ⟨.hbm, 49, rfl⟩
abbrev main_while0b_v18 : Ref sig .tc := ⟨.hbm, 50, rfl⟩
abbrev main_while0b_call3_c : Ref sig .tc := ⟨.hbm, 51, rfl⟩
abbrev main_while0b_call3_c_0 : Ref sig .tc := ⟨.hbm, 52, rfl⟩
abbrev main_while0b_call3_c_1 : Ref sig .tc := ⟨.hbm, 53, rfl⟩
abbrev main_while0b_call3_c_2 : Ref sig .tc := ⟨.hbm, 54, rfl⟩
abbrev main_while0b_call3_v0 : Ref sig .tc := ⟨.hbm, 55, rfl⟩
abbrev main_while0b_v19 : Ref sig .tc := ⟨.hbm, 56, rfl⟩
abbrev main_while0b_call4_c : Ref sig .tc := ⟨.hbm, 57, rfl⟩
abbrev main_while0b_call4_c_0 : Ref sig .tc := ⟨.hbm, 58, rfl⟩
abbrev main_while0b_call4_c_1 : Ref sig .tc := ⟨.hbm, 59, rfl⟩
abbrev main_while0b_call4_c_2 : Ref sig .tc := ⟨.hbm, 60, rfl⟩
abbrev main_while0b_call4_v0 : Ref sig .tc := ⟨.hbm, 61, rfl⟩
abbrev main_while0b_v20 : Ref sig .tc := ⟨.hbm, 62, rfl⟩
abbrev main_while0b_call5_c : Ref sig .tc := ⟨.hbm, 63, rfl⟩
abbrev main_while0b_call5_c_0 : Ref sig .tc := ⟨.hbm, 64, rfl⟩
abbrev main_while0b_call5_c_1 : Ref sig .tc := ⟨.hbm, 65, rfl⟩
abbrev main_while0b_call5_c_2 : Ref sig .tc := ⟨.hbm, 66, rfl⟩
abbrev main_while0b_call5_v0 : Ref sig .tc := ⟨.hbm, 67, rfl⟩
abbrev main_while0b_v21 : Ref sig .tc := ⟨.hbm, 68, rfl⟩
abbrev main_while0b_v22 : Ref sig .tc := ⟨.hbm, 69, rfl⟩
abbrev main_while0b_v23 : Ref sig .tc := ⟨.hbm, 70, rfl⟩
abbrev main_while0b_v24 : Ref sig .tc := ⟨.hbm, 71, rfl⟩
abbrev main_while0b_v25 : Ref sig .tc := ⟨.hbm, 72, rfl⟩
abbrev main_while0b_v26 : Ref sig .tc := ⟨.hbm, 73, rfl⟩
abbrev main_while0b_v27 : Ref sig .tc := ⟨.hbm, 74, rfl⟩
abbrev main_while0b_v28 : Ref sig .tc := ⟨.hbm, 75, rfl⟩
abbrev main_while0b_v29 : Ref sig .tc := ⟨.hbm, 76, rfl⟩
abbrev main_while0b_v30 : Ref sig .tc := ⟨.hbm, 77, rfl⟩
abbrev main_while0b_v31 : Ref sig .tc := ⟨.hbm, 78, rfl⟩
abbrev main_while0b_call6_v0 : Ref sig .tc := ⟨.hbm, 79, rfl⟩
abbrev main_while0b_call6_c : Ref sig .tc := ⟨.hbm, 80, rfl⟩
abbrev main_while0b_call6_c_0 : Ref sig .tc := ⟨.hbm, 81, rfl⟩
abbrev main_while0b_call6_c_1 : Ref sig .tc := ⟨.hbm, 82, rfl⟩
abbrev main_while0b_call6_c_2 : Ref sig .tc := ⟨.hbm, 83, rfl⟩
abbrev main_while0b_v32 : Ref sig .tc := ⟨.hbm, 84, rfl⟩
abbrev main_while0b_c_8 : Ref sig .tc := ⟨.hbm, 85, rfl⟩
abbrev main_while0b_v33 : Ref sig .tc := ⟨.hbm, 86, rfl⟩
abbrev main_v14 : Ref sig .tc := ⟨.hbm, 87, rfl⟩
abbrev main_v15 : Ref sig .tc := ⟨.hbm, 88, rfl⟩

abbrev nD : Nat := 1
abbrev τ : Topo := Topo.v7x

variable {F : FTy → Type} [FloatOps F]

abbrev main_while0_count : Scf.Loop 32 := ⟨0#32, 64#32, 1#32⟩
-- ==== AttnIn.lean ====
abbrev S4x4096x1024 : Shape := ⟨3, ![4, 4096, 1024]⟩
abbrev S4x3072 : Shape := ⟨2, ![4, 3072]⟩
abbrev S1024 : Shape := ⟨1, ![1024]⟩
abbrev S1024x4096 : Shape := ⟨2, ![1024, 4096]⟩
abbrev S128 : Shape := ⟨1, ![128]⟩
abbrev S4x1x3072 : Shape := ⟨3, ![4, 1, 3072]⟩
abbrev S1x1024 : Shape := ⟨2, ![1, 1024]⟩
abbrev S1x128 : Shape := ⟨2, ![1, 128]⟩
abbrev S4x16x1x1024 : Shape := ⟨4, ![4, 16, 1, 1024]⟩
abbrev S1x256x1024 : Shape := ⟨3, ![1, 256, 1024]⟩
abbrev S1x1x3072 : Shape := ⟨3, ![1, 1, 3072]⟩
abbrev S1x1x1x1024 : Shape := ⟨4, ![1, 1, 1, 1024]⟩
abbrev S256x1024 : Shape := ⟨2, ![256, 1024]⟩
abbrev S1x3072 : Shape := ⟨2, ![1, 3072]⟩
abbrev S256 : Shape := ⟨1, ![256]⟩
abbrev S256x1 : Shape := ⟨2, ![256, 1]⟩
abbrev S1024x1024 : Shape := ⟨2, ![1024, 1024]⟩
abbrev S256x128 : Shape := ⟨2, ![256, 128]⟩

abbrev nBuf : Space → Nat
  | .hbm => 18
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024, .f32⟩
  | .hbm, ⟨3, _⟩ => ⟨S1024x4096, .f32⟩
  | .hbm, ⟨4, _⟩ => ⟨S128, .f32⟩
  | .hbm, ⟨5, _⟩ => ⟨S128, .f32⟩
  | .hbm, ⟨6, _⟩ => ⟨S4x1x3072, .f32⟩
  | .hbm, ⟨7, _⟩ => ⟨S1x1024, .f32⟩
  | .hbm, ⟨8, _⟩ => ⟨S1024x4096, .bf16⟩
  | .hbm, ⟨9, _⟩ => ⟨S1x128, .f32⟩
  | .hbm, ⟨10, _⟩ => ⟨S1x128, .f32⟩
  | .hbm, ⟨11, _⟩ => ⟨S4x4096x1024, .f32⟩
  | .hbm, ⟨12, _⟩ => ⟨S4x4096x1024, .f32⟩
  | .hbm, ⟨13, _⟩ => ⟨S4x4096x1024, .f32⟩
  | .hbm, ⟨14, _⟩ => ⟨S4x4096x1024, .bf16⟩
  | .hbm, ⟨15, _⟩ => ⟨S4x4096x1024, .bf16⟩
  | .hbm, ⟨16, _⟩ => ⟨S4x4096x1024, .f32⟩
  | .hbm, ⟨17, _⟩ => ⟨S4x16x1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x4096, .bf16⟩
  | .local _ .vmem, ⟨6, _⟩ => ⟨S1x128, .f32⟩
  | .local _ .vmem, ⟨7, _⟩ => ⟨S1x128, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .bf16⟩
  | .local _ .vmem, ⟨17, _⟩ => ⟨S1x256x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x1x1x1024, .f32⟩
  | .local _ .vmem, ⟨21, _⟩ => ⟨S1x1x1x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev main_v5_6 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnInRefIdeal.lean ====
abbrev S4x4096x1024 : Shape := ⟨3, ![4, 4096, 1024]⟩
abbrev S4x3072 : Shape := ⟨2, ![4, 3072]⟩
abbrev S1024 : Shape := ⟨1, ![1024]⟩
abbrev S1024x4096 : Shape := ⟨2, ![1024, 4096]⟩
abbrev S128 : Shape := ⟨1, ![128]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4096 : Shape := ⟨3, ![4, 4096, 4096]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x16x256x1024 : Shape := ⟨4, ![4, 16, 256, 1024]⟩
abbrev S4x16x1024 : Shape := ⟨3, ![4, 16, 1024]⟩
abbrev S4x16x1x1024 : Shape := ⟨4, ![4, 16, 1, 1024]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024, .f32⟩
  | .hbm, ⟨3, _⟩ => ⟨S1024x4096, .f32⟩
  | .hbm, ⟨4, _⟩ => ⟨S128, .f32⟩
  | .hbm, ⟨5, _⟩ => ⟨S128, .f32⟩
  | .hbm, ⟨6, _⟩ => ⟨S4x1x3072, .f32⟩
  | .hbm, ⟨7, _⟩ => ⟨S4x1x1024, .f32⟩
  | .hbm, ⟨8, _⟩ => ⟨S4x1x1024, .f32⟩
  | .hbm, ⟨9, _⟩ => ⟨S4x1x1024, .f32⟩
  | .hbm, ⟨10, _⟩ => ⟨S4x4096x1024, .f32⟩
  | .hbm, ⟨11, _⟩ => ⟨S_, .f32⟩
  | .hbm, ⟨12, _⟩ => ⟨S4x4096, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S_, .f32⟩
  | .hbm, ⟨18, _⟩ => ⟨S4x4096x1, .f32⟩
  | .hbm, ⟨19, _⟩ => ⟨S4x4096x1, .f32⟩
  | .hbm, ⟨20, _⟩ => ⟨S4x4096x1, .f32⟩
  | .hbm, ⟨21, _⟩ => ⟨S4x4096x1024, .f32⟩
  | .hbm, ⟨22, _⟩ => ⟨S4x4096x1024, .f32⟩
  | .hbm, ⟨23, _⟩ => ⟨S1x1x1024, .f32⟩
  | .hbm, ⟨24, _⟩ => ⟨S4x4096x1024, .f32⟩
  | .hbm, ⟨25, _⟩ => ⟨S4x4096x1024, .f32⟩
  | .hbm, ⟨26, _⟩ => ⟨S_, .f32⟩
  | .hbm, ⟨27, _⟩ => ⟨S4x1x1024, .f32⟩
  | .hbm, ⟨28, _⟩ => ⟨S4x1x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | .hbm, ⟨32, _⟩ => ⟨S4x4096x1024, .f32⟩
  | .hbm, ⟨33, _⟩ => ⟨S4x4096x4096, .f32⟩
  | .hbm, ⟨34, _⟩ => ⟨S4x4096x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x8x128, .f32⟩
  | .hbm, ⟨39, _⟩ => ⟨S4x4096x8x128, .f32⟩
  | .hbm, ⟨40, _⟩ => ⟨S_, .f32⟩
  | .hbm, ⟨41, _⟩ => ⟨S4x4096x8, .f32⟩
  | .hbm, ⟨42, _⟩ => ⟨S4x4096x8x1, .f32⟩
  | .hbm, ⟨43, _⟩ => ⟨S_, .f32⟩
  | .hbm, ⟨44, _⟩ => ⟨S4x4096x8x1, .f32⟩
  | .hbm, ⟨45, _⟩ => ⟨S4x4096x8x1, .f32⟩
  | .hbm, ⟨46, _⟩ => ⟨S_, .f32⟩
  | .hbm, ⟨47, _⟩ => ⟨S4x4096x8x1, .f32⟩
  | .hbm, ⟨48, _⟩ => ⟨S4x4096x8x1, .f32⟩
  | .hbm, ⟨49, _⟩ => ⟨S4x4096x8x1, .f32⟩
  | .hbm, ⟨50, _⟩ => ⟨S4x4096x8x128, .f32⟩
  | .hbm, ⟨51, _⟩ => ⟨S4x4096x8x128, .f32⟩
  | .hbm, ⟨52, _⟩ => ⟨S1x1x1x128, .f32⟩
  | .hbm, ⟨53, _⟩ => ⟨S4x4096x8x128, .f32⟩
  | .hbm, ⟨54, _⟩ => ⟨S4x4096x8x128, .f32⟩
  | .hbm, ⟨55, _⟩ => ⟨S4x4096x1024, .f32⟩
  | .hbm, ⟨56, _⟩ => ⟨S4x4096x8x128, .f32⟩
  | .hbm, ⟨57, _⟩ => ⟨S4x4096x8x128, .f32⟩
  | .hbm, ⟨58, _⟩ => ⟨S_, .f32⟩
  | .hbm, ⟨59, _⟩ => ⟨S4x4096x8, .f32⟩
  | .hbm, ⟨60, _⟩ => ⟨S4x4096x8x1, .f32⟩
  | .hbm, ⟨61, _⟩ => ⟨S_, .f32⟩
  | .hbm, ⟨62, _⟩ => ⟨S4x4096x8x1, .f32⟩
  | .hbm, ⟨63, _⟩ => ⟨S4x4096x8x1, .f32⟩
  | .hbm, ⟨64, _⟩ => ⟨S_, .f32⟩
  | .hbm, ⟨65, _⟩ => ⟨S4x4096x8x1, .f32⟩
  | .hbm, ⟨66, _⟩ => ⟨S4x4096x8x1, .f32⟩
  | .hbm, ⟨67, _⟩ => ⟨S4x4096x8x1, .f32⟩
  | .hbm, ⟨68, _⟩ => ⟨S4x4096x8x128, .f32⟩
  | .hbm, ⟨69, _⟩ => ⟨S4x4096x8x128, .f32⟩
  | .hbm, ⟨70, _⟩ => ⟨S1x1x1x128, .f32⟩
  | .hbm, ⟨71, _⟩ => ⟨S4x4096x8x128, .f32⟩
  | .hbm, ⟨72, _⟩ => ⟨S4x4096x8x128, .f32⟩
  | .hbm, ⟨73, _⟩ => ⟨S4x4096x1024, .f32⟩
  | .hbm, ⟨74, _⟩ => ⟨S4x16x256x1024, .f32⟩
  | .hbm, ⟨75, _⟩ => ⟨S_, .f32⟩
  | .hbm, ⟨76, _⟩ => ⟨S4x16x1024, .f32⟩
  | .hbm, ⟨77, _⟩ => ⟨S4x16x1x1024, .f32⟩
  | .hbm, ⟨78, _⟩ => ⟨S_, .f32⟩
  | .hbm, ⟨79, _⟩ => ⟨S4x16x1x1024, .f32⟩
  | .hbm, ⟨80, _⟩ => ⟨S4x16x1x1024, .f32⟩
  | .hbm, ⟨81, _⟩ => ⟨S4x4096x1024, .bf16⟩
  | .hbm, ⟨82, _⟩ => ⟨S4x4096x1024, .bf16⟩
  | .hbm, ⟨83, _⟩ => ⟨S4x4096x1024, .f32⟩
  | .hbm, ⟨84, _⟩ => ⟨S4x4096x1024, .f32⟩
  | .hbm, ⟨85, _⟩ => ⟨S_, .f32⟩
  | .hbm, ⟨86, _⟩ => ⟨S4x4096x1024, .f32⟩
  | .hbm, ⟨87, _⟩ => ⟨S4x4096x1024, .f32⟩
  | .hbm, ⟨88, _⟩ => ⟨S_, .f32⟩
  | .hbm, ⟨89, _⟩ => ⟨S4x4096x1024, .f32⟩
  | .hbm, ⟨90, _⟩ => ⟨S4x4096x1024, .f32⟩
  | .hbm, ⟨91, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_6 : Ref sig .tc := ⟨.hbm, 58, rfl⟩
abbrev main_v45 : Ref sig .tc := ⟨.hbm, 59, rfl⟩
abbrev main_v46 : Ref sig .tc := ⟨.hbm, 60, rfl⟩
abbrev main_cst_7 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_cst_10 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_call0_v0 : Ref sig .tc := ⟨.hbm, 83, rfl⟩
abbrev main_call0_v1 : Ref sig .tc := ⟨.hbm, 84, rfl⟩
abbrev main_call0_cst : Ref sig .tc := ⟨.hbm, 85, rfl⟩
abbrev main_call0_v2 : Ref sig .tc := ⟨.hbm, 86, rfl⟩
abbrev main_call0_v3 : Ref sig .tc := ⟨.hbm, 87, rfl⟩
abbrev main_call0_cst_0 : Ref sig .tc := ⟨.hbm, 88, rfl⟩
abbrev main_call0_v4 : Ref sig .tc := ⟨.hbm, 89, rfl⟩
abbrev main_call0_v5 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== AttnOut.lean ====
abbrev S4x4096x1024 : Shape := ⟨3, ![4, 4096, 1024]⟩
abbrev S4x1024 : Shape := ⟨2, ![4, 1024]⟩
abbrev S1024x1024 : Shape := ⟨2, ![1024, 1024]⟩
abbrev S4x1x1024 : Shape := ⟨3, ![4, 1, 1024]⟩
abbrev S1x256x1024 : Shape := ⟨3, ![1, 256, 1024]⟩
abbrev S1x1x1024 : Shape := ⟨3, ![1, 1, 1024]⟩
abbrev S256x1024 : Shape := ⟨2, ![256, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x1024, .f32⟩
  | .hbm, ⟨4, _⟩ => ⟨S1024x1024, .f32⟩
  | .hbm, ⟨5, _⟩ => ⟨S4x1x1024, .f32⟩
  | .hbm, ⟨6, _⟩ => ⟨S1024x1024, .bf16⟩
  | .hbm, ⟨7, _⟩ => ⟨S4x4096x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x256x1024, .f32⟩
  | .local _ .vmem, ⟨10, _⟩ => ⟨S1x256x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== AttnOutRefIdeal.lean ====
abbrev S4x4096x1024 : Shape := ⟨3, ![4, 4096, 1024]⟩
abbrev S4x1024 : Shape := ⟨2, ![4, 1024]⟩
abbrev S1024x1024 : Shape := ⟨2, ![1024, 1024]⟩
abbrev S4x1x1024 : Shape := ⟨3, ![4, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x1024, .f32⟩
  | .hbm, ⟨4, _⟩ => ⟨S1024x1024, .f32⟩
  | .hbm, ⟨5, _⟩ => ⟨S4x1x1024, .f32⟩
  | .hbm, ⟨6, _⟩ => ⟨S4x4096x1024, .f32⟩
  | .hbm, ⟨7, _⟩ => ⟨S4x4096x1024, .f32⟩
  | .hbm, ⟨8, _⟩ => ⟨S4x4096x1024, .f32⟩
  | .hbm, ⟨9, _⟩ => ⟨S4x4096x1024, .f32⟩
  | .hbm, ⟨10, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== DnOut.lean ====
abbrev S4x4096x512 : Shape := ⟨3, ![4, 4096, 512]⟩
abbrev S4x4096x1024 : Shape := ⟨3, ![4, 4096, 1024]⟩
abbrev S4x1024 : Shape := ⟨2, ![4, 1024]⟩
abbrev S128 : Shape := ⟨1, ![128]⟩
abbrev S1024x1024 : Shape := ⟨2, ![1024, 1024]⟩
abbrev S4x1x1024 : Shape := ⟨3, ![4, 1, 1024]⟩
abbrev S1x128 : Shape := ⟨2, ![1, 128]⟩
abbrev S1x256x512 : Shape := ⟨3, ![1, 256, 512]⟩
abbrev S1x256x1024 : Shape := ⟨3, ![1, 256, 1024]⟩
abbrev S1x1x1024 : Shape := ⟨3, ![1, 1, 1024]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S512x1024 : Shape := ⟨2, ![512, 1024]⟩
abbrev S256x1024 : Shape := ⟨2, ![256, 1024]⟩
abbrev S1x1024 : Shape := ⟨2, ![1, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x1024, .f32⟩
  | .hbm, ⟨4, _⟩ => ⟨S4x1024, .f32⟩
  | .hbm, ⟨5, _⟩ => ⟨S128, .f32⟩
  | .hbm, ⟨6, _⟩ => ⟨S1024x1024, .f32⟩
  | .hbm, ⟨7, _⟩ => ⟨S4x1x1024, .f32⟩
  | .hbm, ⟨8, _⟩ => ⟨S1x128, .f32⟩
  | .hbm, ⟨9, _⟩ => ⟨S1024x1024, .bf16⟩
  | .hbm, ⟨10, _⟩ => ⟨S4x4096x1024, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x1024, .f32⟩
  | .local _ .vmem, ⟨7, _⟩ => ⟨S1x256x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x128, .f32⟩
  | .local _ .vmem, ⟨11, _⟩ => ⟨S1024x1024, .bf16⟩
  | .local _ .vmem, ⟨12, _⟩ => ⟨S1x256x1024, .f32⟩
  | .local _ .vmem, ⟨13, _⟩ => ⟨S1x256x1024, .f32⟩
  | _, _ => ⟨S4x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DnOutRefIdeal.lean ====
abbrev S4x4096x512 : Shape := ⟨3, ![4, 4096, 512]⟩
abbrev S4x4096x1024 : Shape := ⟨3, ![4, 4096, 1024]⟩
abbrev S4x1024 : Shape := ⟨2, ![4, 1024]⟩
abbrev S128 : Shape := ⟨1, ![128]⟩
abbrev S1024x1024 : Shape := ⟨2, ![1024, 1024]⟩
abbrev S4x4096x4x128 : Shape := ⟨4, ![4, 4096, 4, 128]⟩
abbrev S_ : Shape := ⟨0, ![]⟩
abbrev S4x4096x4 : Shape := ⟨3, ![4, 4096, 4]⟩
abbrev S4x4096x4x1 : Shape := ⟨4, ![4, 4096, 4, 1]⟩
abbrev S1x1x1x128 : Shape := ⟨4, ![1, 1, 1, 128]⟩
abbrev S4x1x1024 : Shape := ⟨3, ![4, 1, 1024]⟩

abbrev nBuf : Space → Nat
  | .hbm => 32
  | .vmem => 0
  | .smem => 0
  | _ => 0

abbrev bufTy : (tb : Table) → Fin (tcTables nBuf tb) → BufTy
  | .hbm, ⟨0, _⟩ => ⟨S4x4096x512, .f32⟩
  | .hbm, ⟨1, _⟩ => ⟨S4x4096x512, .f32⟩
  | .hbm, ⟨2, _⟩ => ⟨S4x4096x512, .f32⟩
  | .hbm, ⟨3, _⟩ => ⟨S4x4096x1024, .f32⟩
  | .hbm, ⟨4, _⟩ => ⟨S4x1024, .f32⟩
  | .hbm, ⟨5, _⟩ => ⟨S128, .f32⟩
  | .hbm, ⟨6, _⟩ => ⟨S1024x1024, .f32⟩
  | .hbm, ⟨7, _⟩ => ⟨S4x4096x4x128, .f32⟩
  | .hbm, ⟨8, _⟩ => ⟨S4x4096x4x128, .f32⟩
  | .hbm, ⟨9, _⟩ => ⟨S_, .f32⟩
  | .hbm, ⟨10, _⟩ => ⟨S4x4096x4, .f32⟩
  | .hbm, ⟨11, _⟩ => ⟨S4x4096x4x1, .f32⟩
  | .hbm, ⟨12, _⟩ => ⟨S_, .f32⟩
  | .hbm, ⟨13, _⟩ => ⟨S4x4096x4x1, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S4x4096x4x1, .f32⟩
  | .hbm, ⟨19, _⟩ => ⟨S4x4096x4x128, .f32⟩
  | .hbm, ⟨20, _⟩ => ⟨S4x4096x4x128, .f32⟩
  | .hbm, ⟨21, _⟩ => ⟨S1x1x1x128, .f32⟩
  | .hbm, ⟨22, _⟩ => ⟨S4x4096x4x128, .f32⟩
  | .hbm, ⟨23, _⟩ => ⟨S4x4096x4x128, .f32⟩
  | .hbm, ⟨24, _⟩ => ⟨S4x4096x512, .f32⟩
  | .hbm, ⟨25, _⟩ => ⟨S4x4096x512, .f32⟩
  | .hbm, ⟨26, _⟩ => ⟨S4x1x1024, .f32⟩
  | .hbm, ⟨27, _⟩ => ⟨S4x4096x1024, .f32⟩
  | .hbm, ⟨28, _⟩ => ⟨S4x4096x1024, .f32⟩
  | .hbm, ⟨29, _⟩ => ⟨S4x4096x1024, .f32⟩
  | .hbm, ⟨30, _⟩ => ⟨S4x4096x1024, .f32⟩
  | .hbm, ⟨31, _⟩ => ⟨S4x4096x1024, .f32⟩
  | _, _ => ⟨S4x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== DnIn.lean ====
abbrev S4x4096x1024 : Shape := ⟨3, ![4, 4096, 1024]⟩
abbrev S4x3072 : Shape := ⟨2, ![4, 3072]⟩
abbrev S1024 : Shape := ⟨1, ![1024]⟩
abbrev S1024x4104 : Shape := ⟨2, ![1024, 4104]⟩
abbrev S4x1536 : Shape := ⟨2, ![4, 1536]⟩
abbrev S4 : Shape := ⟨1, ![4]⟩
abbrev S3x512 : Shape := ⟨2, ![3, 512]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x4224 : Shape := ⟨2, ![1024, 4224]⟩
abbrev S1x4 : Shape := ⟨2, ![1, 4]⟩
abbrev S1x128 : Shape := ⟨2, ![1, 128]⟩
abbrev S4x1x3072 : Shape := ⟨3, ![4, 1, 3072]⟩
abbrev S1x1024 : Shape := ⟨2, ![1, 1024]⟩
abbrev S4x4096x512 : Shape := ⟨3, ![4, 4096, 512]⟩
abbrev S4x4096x128 : Shape := ⟨3, ![4, 4096, 128]⟩
abbrev S4x8x1536 : Shape := ⟨3, ![4, 8, 1536]⟩
abbrev S4x8x512 : Shape := ⟨3, ![4, 8, 512]⟩
abbrev S1x256x1024 : Shape := ⟨3, ![1, 256, 1024]⟩
abbrev S1x1x3072 : Shape := ⟨3, ![1, 1, 3072]⟩
abbrev S1x256x512 : Shape := ⟨3, ![1, 256, 512]⟩
abbrev S1x256x128 : Shape := ⟨3, ![1, 256, 128]⟩
abbrev S1x8x1536 : Shape := ⟨3, ![1, 8, 1536]⟩
abbrev S1x8x512 : Shape := ⟨3, ![1, 8, 512]⟩
abbrev S8x1536 : Shape := ⟨2, ![8, 1536]⟩
abbrev S8x512 : Shape := ⟨2, ![8, 512]⟩
abbrev S256x1024 : Shape := ⟨2, ![256, 1024]⟩
abbrev S1x3072 : Shape := ⟨2, ![1, 3072]⟩
abbrev S256 : Shape := ⟨1, ![256]⟩
abbrev S256x1 : Shape := ⟨2, ![256, 1]⟩
abbrev S1024x1536 : Shape := ⟨2, ![1024, 1536]⟩
abbrev S256x1536 : Shape := ⟨2, ![256, 1536]⟩
abbrev S1x1536 : Shape := ⟨2, ![1, 1536]⟩
abbrev S264x1536 : Shape := ⟨2, ![264, 1536]⟩
abbrev S256x128 : Shape := ⟨2, ![256, 128]⟩
abbrev S256x512 : Shape := ⟨2, ![256, 512]⟩
abbrev S1024x512 : Shape := ⟨2, ![1024, 512]⟩
abbrev S256x2048 : Shape := ⟨2, ![256, 2048]⟩
abbrev S1x512 : Shape := ⟨2, ![1, 512]⟩
abbrev S264x512 : Shape := ⟨2, ![264, 512]⟩

abbrev nBuf : Space → Nat
  | .hbm => 34
  | .vmem => 28
  | .smem => 0
  | _ => 0

abbrev bufTy : (tb : Table) → Fin (tcTables nBuf tb) → BufTy
  | .hbm, ⟨0, _⟩ => ⟨S4x4096x1024, .f32⟩
  | .hbm, ⟨1, _⟩ => ⟨S4x3072, .f32⟩
  | .hbm, ⟨2, _⟩ => ⟨S1024, .f32⟩
  | .hbm, ⟨3, _⟩ => ⟨S1024x4104, .f32⟩
  | .hbm, ⟨4, _⟩ => ⟨S4x1536, .f32⟩
  | .hbm, ⟨5, _⟩ => ⟨S4, .f32⟩
  | .hbm, ⟨6, _⟩ => ⟨S4, .f32⟩
  | .hbm, ⟨7, _⟩ => ⟨S3x512, .f32⟩
  | .hbm, ⟨8, _⟩ => ⟨S1024x2048, .f32⟩
  | .hbm, ⟨9, _⟩ => ⟨S1024x8, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x2048, .f32⟩
  | .hbm, ⟨14, _⟩ => ⟨S1024x4224, .f32⟩
  | .hbm, ⟨15, _⟩ => ⟨S1024x4224, .bf16⟩
  | .hbm, ⟨16, _⟩ => ⟨S1x4, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1x4, .f32⟩
  | .hbm, ⟨21, _⟩ => ⟨S_, .i32⟩
  | .hbm, ⟨22, _⟩ => ⟨S_, .f32⟩
  | .hbm, ⟨23, _⟩ => ⟨S1x128, .f32⟩
  | .hbm, ⟨24, _⟩ => ⟨S4x1x3072, .f32⟩
  | .hbm, ⟨25, _⟩ => ⟨S1x1024, .f32⟩
  | .hbm, ⟨26, _⟩ => ⟨S4x4096x512, .f32⟩
  | .hbm, ⟨27, _⟩ => ⟨S4x4096x512, .f32⟩
  | .hbm, ⟨28, _⟩ => ⟨S4x4096x512, .f32⟩
  | .hbm, ⟨29, _⟩ => ⟨S4x4096x128, .f32⟩
  | .hbm, ⟨30, _⟩ => ⟨S4x4096x512, .f32⟩
  | .hbm, ⟨31, _⟩ => ⟨S4x4096x512, .f32⟩
  | .hbm, ⟨32, _⟩ => ⟨S4x8x1536, .f32⟩
  | .hbm, ⟨33, _⟩ => ⟨S4x8x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S1024x4224, .bf16⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S3x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x128, .f32⟩
  | .local _ .vmem, ⟨17, _⟩ => ⟨S1x256x128, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | .local _ .vmem, ⟨22, _⟩ => ⟨S1x8x1536, .f32⟩
  | .local _ .vmem, ⟨23, _⟩ => ⟨S1x8x1536, .f32⟩
  | .local _ .vmem, ⟨24, _⟩ => ⟨S1x8x512, .f32⟩
  | .local _ .vmem, ⟨25, _⟩ => ⟨S1x8x512, .f32⟩
  | .local _ .vmem, ⟨26, _⟩ => ⟨S8x1536, .f32⟩
  | .local _ .vmem, ⟨27, _⟩ => ⟨S8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_call2_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev main_v12_2 : Ref sig .tc := ⟨.hbm, 28, rfl⟩
abbrev main_v12_3 : Ref sig .tc := ⟨.hbm, 29, rfl⟩
abbrev main_v12_4 : Ref sig .tc := ⟨.hbm, 30, rfl⟩
abbrev main_v12_5 : Ref sig .tc := ⟨.hbm, 31, rfl⟩
abbrev main_v12_6 : Ref sig .tc := ⟨.hbm, 32, rfl⟩
abbrev main_v12_7 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x8x1536 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]
-- ==== DnInRefIdeal.lean ====
abbrev S4x4096x1024 : Shape := ⟨3, ![4, 4096, 1024]⟩
abbrev S4x3072 : Shape := ⟨2, ![4, 3072]⟩
abbrev S1024 : Shape := ⟨1, ![1024]⟩
abbrev S1024x4104 : Shape := ⟨2, ![1024, 4104]⟩
abbrev S4x1536 : Shape := ⟨2, ![4, 1536]⟩
abbrev S4 : Shape := ⟨1, ![4]⟩
abbrev S3x512 : Shape := ⟨2, ![3, 512]⟩
abbrev S4x1x3072 : Shape := ⟨3, ![4, 1, 3072]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x4096x4104 : Shape := ⟨3, ![4, 4096, 4104]⟩
abbrev S4x4096x1536 : Shape := ⟨3, ![4, 4096, 1536]⟩
abbrev S4x4096x512 : Shape := ⟨3, ![4, 4096, 512]⟩
abbrev S4x4096x4 : Shape := ⟨3, ![4, 4096, 4]⟩
abbrev S4x4099x1536 : Shape := ⟨3, ![4, 4099, 1536]⟩
abbrev S1x1536 : Shape := ⟨2, ![1, 1536]⟩
abbrev S1536 : Shape := ⟨1, ![1536]⟩
abbrev S1x1x1536 : Shape := ⟨3, ![1, 1, 1536]⟩
abbrev S4x4096x4x128 : Shape := ⟨4, ![4, 4096, 4, 128]⟩
abbrev S4x4096x4x1 : Shape := ⟨4, ![4, 4096, 4, 1]⟩
abbrev S1x1x4 : Shape := ⟨3, ![1, 1, 4]⟩
abbrev S4x4096x8 : Shape := ⟨3, ![4, 4096, 8]⟩
abbrev S4x4096x128 : Shape := ⟨3, ![4, 4096, 128]⟩
abbrev S4x4098x512 : Shape := ⟨3, ![4, 4098, 512]⟩
abbrev S1x512 : Shape := ⟨2, ![1, 512]⟩
abbrev S512 : Shape := ⟨1, ![512]⟩
abbrev S1x1x512 : Shape := ⟨3, ![1, 1, 512]⟩
abbrev S4x8x1536 : Shape := ⟨3, ![4, 8, 1536]⟩
abbrev S4x8x512 : Shape := ⟨3, ![4, 8, 512]⟩

abbrev nBuf : Space → Nat
  | .hbm => 199
  | .vmem => 0
  | .smem => 0
  | _ => 0

abbrev hbmTy0_0 (i : Nat) : BufTy := match i % 128 with
  | 0 => ⟨S4x4096x1024, .f32⟩
  | 1 => ⟨S4x3072, .f32⟩
  | 2 => ⟨S1024, .f32⟩
  | 3 => ⟨S1024x4104, .f32⟩
  | 4 => ⟨S4x1536, .f32⟩
  | 5 => ⟨S4, .f32⟩
  | 6 => ⟨S4, .f32⟩
  | 7 => ⟨S3x512, .f32⟩
  | 8 => ⟨S4x1x3072, .f32⟩
  | 9 => ⟨S4x1x1024, .f32⟩
  | 10 => ⟨S4x1x1024, .f32⟩
  | 11 => ⟨S4x1x1024, .f32⟩
  | 12 => ⟨S4x4096x1024, .f32⟩
  | 13 => ⟨S_, .f32⟩
  | 14 => ⟨S4x4096, .f32⟩
  | 15 => ⟨S4x4096x1, .f32⟩
  | 16 => ⟨S_, .f32⟩
  | 17 => ⟨S4x4096x1, .f32⟩
  | 18 => ⟨S4x4096x1, .f32⟩
  | 19 => ⟨S_, .f32⟩
  | 20 => ⟨S4x4096x1, .f32⟩
  | 21 => ⟨S4x4096x1, .f32⟩
  | 22 => ⟨S4x4096x1, .f32⟩
  | 23 => ⟨S4x4096x1024, .f32⟩
  | 24 => ⟨S4x4096x1024, .f32⟩
  | 25 => ⟨S1x1x1024, .f32⟩
  | 26 => ⟨S4x4096x1024, .f32⟩
  | 27 => ⟨S4x4096x1024, .f32⟩
  | 28 => ⟨S_, .f32⟩
  | 29 => ⟨S4x1x1024, .f32⟩
  | 30 => ⟨S4x1x1024, .f32⟩
  | 31 => ⟨S4x4096x1024, .f32⟩
  | 32 => ⟨S4x4096x1024, .f32⟩
  | 33 => ⟨S4x4096x1024, .f32⟩
  | 34 => ⟨S4x4096x1024, .f32⟩
  | 35 => ⟨S4x4096x4104, .f32⟩
  | 36 => ⟨S4x4096x1536, .f32⟩
  | 37 => ⟨S4x4096x512, .f32⟩
  | 38 => ⟨S4x4096x4, .f32⟩
  | 39 => ⟨S4x4096x4, .f32⟩
  | 40 => ⟨S4x4096x512, .f32⟩
  | 41 => ⟨S4x4096x512, .f32⟩
  | 42 => ⟨S4x4096x512, .f32⟩
  | 43 => ⟨S4x4096x512, .f32⟩
  | 44 => ⟨S_, .i32⟩
  | 45 => ⟨S_, .f32⟩
  | 46 => ⟨S4x4099x1536, .f32⟩
  | 47 => ⟨S4x4096x1536, .f32⟩
  | 48 => ⟨S1x1536, .f32⟩
  | 49 => ⟨S1536, .f32⟩
  | 50 => ⟨S1x1x1536, .f32⟩
  | 51 => ⟨S4x4096x1536, .f32⟩
  | 52 => ⟨S4x4096x1536, .f32⟩
  | 53 => ⟨S_, .f32⟩
  | 54 => ⟨S4x4096x1536, .f32⟩
  | 55 => ⟨S4x4096x1536, .f32⟩
  | 56 => ⟨S4x4096x1536, .f32⟩
  | 57 => ⟨S1x1536, .f32⟩
  | 58 => ⟨S1536, .f32⟩
  | 59 => ⟨S1x1x1536, .f32⟩
  | 60 => ⟨S4x4096x1536, .f32⟩
  | 61 => ⟨S4x4096x1536, .f32⟩
  | 62 => ⟨S4x4096x1536, .f32⟩
  | 63 => ⟨S4x4096x1536, .f32⟩
  | 64 => ⟨S1x1536, .f32⟩
  | 65 => ⟨S1536, .f32⟩
  | 66 => ⟨S1x1x1536, .f32⟩
  | 67 => ⟨S4x4096x1536, .f32⟩
  | 68 => ⟨S4x4096x1536, .f32⟩
  | 69 => ⟨S4x4096x1536, .f32⟩
  | 70 => ⟨S4x4096x1536, .f32⟩
  | 71 => ⟨S1x1536, .f32⟩
  | 72 => ⟨S1536, .f32⟩
  | 73 => ⟨S1x1x1536, .f32⟩
  | 74 => ⟨S4x4096x1536, .f32⟩
  | 75 => ⟨S4x4096x1536, .f32⟩
  | 76 => ⟨S4x4096x1536, .f32⟩
  | 77 => ⟨S4x4096x1536, .f32⟩
  | 78 => ⟨S4x4096x1536, .f32⟩
  | 79 => ⟨S_, .f32⟩
  | 80 => ⟨S4x4096x1536, .f32⟩
  | 81 => ⟨S4x4096x1536, .f32⟩
  | 82 => ⟨S_, .f32⟩
  | 83 => ⟨S4x4096x1536, .f32⟩
  | 84 => ⟨S4x4096x1536, .f32⟩
  | 85 => ⟨S4x4096x1536, .f32⟩
  | 86 => ⟨S4x4096x512, .f32⟩
  | 87 => ⟨S4x4096x512, .f32⟩
  | 88 => ⟨S4x4096x512, .f32⟩
  | 89 => ⟨S4x4096x4x128, .f32⟩
  | 90 => ⟨S4x4096x4x128, .f32⟩
  | 91 => ⟨S_, .f32⟩
  | 92 => ⟨S4x4096x4, .f32⟩
  | 93 => ⟨S4x4096x4x1, .f32⟩
  | 94 => ⟨S_, .f32⟩
  | 95 => ⟨S4x4096x4x1, .f32⟩
  | 96 => ⟨S4x4096x4x1, .f32⟩
  | 97 => ⟨S4x4096x4x1, .f32⟩
  | 98 => ⟨S4x4096x4x128, .f32⟩
  | 99 => ⟨S4x4096x4x128, .f32⟩
  | 100 => ⟨S_, .f32⟩
  | 101 => ⟨S4x4096x4x128, .f32⟩
  | 102 => ⟨S4x4096x4x128, .f32⟩
  | 103 => ⟨S4x4096x512, .f32⟩
  | 104 => ⟨S4x4096x4x128, .f32⟩
  | 105 => ⟨S4x4096x4x128, .f32⟩
  | 106 => ⟨S_, .f32⟩
  | 107 => ⟨S4x4096x4, .f32⟩
  | 108 => ⟨S4x4096x4x1, .f32⟩
  | 109 => ⟨S_, .f32⟩
  | 110 => ⟨S4x4096x4x1, .f32⟩
  | 111 => ⟨S4x4096x4x1, .f32⟩
  | 112 => ⟨S4x4096x4x1, .f32⟩
  | 113 => ⟨S4x4096x4x128, .f32⟩
  | 114 => ⟨S4x4096x4x128, .f32⟩
  | 115 => ⟨S4x4096x512, .f32⟩
  | 116 => ⟨S4, .f32⟩
  | 117 => ⟨S4, .f32⟩
  | 118 => ⟨S1x1x4, .f32⟩
  | 119 => ⟨S4x4096x4, .f32⟩
  | 120 => ⟨S4x4096x4, .f32⟩
  | 121 => ⟨S_, .f32⟩
  | 122 => ⟨S4x4096x4, .f32⟩
  | 123 => ⟨S4x4096x4, .f32⟩
  | 124 => ⟨S4x4096x4, .f32⟩
  | 125 => ⟨S4x4096x4, .f32⟩
  | 126 => ⟨S4x4096x4, .i1⟩
  | 127 => ⟨S4x4096x4, .f32⟩
  | _ => ⟨S4x4096x1024, .f32⟩

abbrev hbmTy0_1 (i : Nat) : BufTy := match i % 128 with
  | 0 => ⟨S4x4096x4, .f32⟩
  | 1 => ⟨S4x4096x4, .f32⟩
  | 2 => ⟨S4x4096x4, .f32⟩
  | 3 => ⟨S4x4096x4, .f32⟩
  | 4 => ⟨S4x4096x4, .f32⟩
  | 5 => ⟨S4x4096x4, .f32⟩
  | 6 => ⟨S4x4096x4, .f32⟩
  | 7 => ⟨S1x1x4, .f32⟩
  | 8 => ⟨S4x4096x4, .f32⟩
  | 9 => ⟨S4x4096x4, .f32⟩
  | 10 => ⟨S4x4096x4, .f32⟩
  | 11 => ⟨S4x4096x4, .f32⟩
  | 12 => ⟨S_, .f32⟩
  | 13 => ⟨S4x4096x4, .f32⟩
  | 14 => ⟨S4x4096x4, .f32⟩
  | 15 => ⟨S_, .f32⟩
  | 16 => ⟨S4x4096x4, .f32⟩
  | 17 => ⟨S4x4096x4, .f32⟩
  | 18 => ⟨S4x4096x8, .f32⟩
  | 19 => ⟨S_, .i32⟩
  | 20 => ⟨S_, .f32⟩
  | 21 => ⟨S4x4096x128, .f32⟩
  | 22 => ⟨S4x4096x512, .f32⟩
  | 23 => ⟨S_, .i32⟩
  | 24 => ⟨S_, .f32⟩
  | 25 => ⟨S4x4098x512, .f32⟩
  | 26 => ⟨S4x4096x512, .f32⟩
  | 27 => ⟨S1x512, .f32⟩
  | 28 => ⟨S512, .f32⟩
  | 29 => ⟨S1x1x512, .f32⟩
  | 30 => ⟨S4x4096x512, .f32⟩
  | 31 => ⟨S4x4096x512, .f32⟩
  | 32 => ⟨S_, .f32⟩
  | 33 => ⟨S4x4096x512, .f32⟩
  | 34 => ⟨S4x4096x512, .f32⟩
  | 35 => ⟨S4x4096x512, .f32⟩
  | 36 => ⟨S1x512, .f32⟩
  | 37 => ⟨S512, .f32⟩
  | 38 => ⟨S1x1x512, .f32⟩
  | 39 => ⟨S4x4096x512, .f32⟩
  | 40 => ⟨S4x4096x512, .f32⟩
  | 41 => ⟨S4x4096x512, .f32⟩
  | 42 => ⟨S4x4096x512, .f32⟩
  | 43 => ⟨S1x512, .f32⟩
  | 44 => ⟨S512, .f32⟩
  | 45 => ⟨S1x1x512, .f32⟩
  | 46 => ⟨S4x4096x512, .f32⟩
  | 47 => ⟨S4x4096x512, .f32⟩
  | 48 => ⟨S4x4096x512, .f32⟩
  | 49 => ⟨S4x4096x512, .f32⟩
  | 50 => ⟨S4x4096x512, .f32⟩
  | 51 => ⟨S4x4096x512, .f32⟩
  | 52 => ⟨S_, .f32⟩
  | 53 => ⟨S4x4096x512, .f32⟩
  | 54 => ⟨S4x4096x512, .f32⟩
  | 55 => ⟨S_, .f32⟩
  | 56 => ⟨S4x4096x512, .f32⟩
  | 57 => ⟨S4x4096x512, .f32⟩
  | 58 => ⟨S4x4096x512, .f32⟩
  | 59 => ⟨S4x4096x512, .f32⟩
  | 60 => ⟨S4x4096x512, .f32⟩
  | 61 => ⟨S4x4096x512, .f32⟩
  | 62 => ⟨S_, .f32⟩
  | 63 => ⟨S4x4096x512, .f32⟩
  | 64 => ⟨S4x4096x512, .f32⟩
  | 65 => ⟨S_, .f32⟩
  | 66 => ⟨S4x4096x512, .f32⟩
  | 67 => ⟨S4x4096x512, .f32⟩
  | 68 => ⟨S4x4096x512, .f32⟩
  | 69 => ⟨S4x8x1536, .f32⟩
  | 70 => ⟨S4x8x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_call0_v0 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_call1_v0 : Ref sig .tc := ⟨.hbm, 77, rfl⟩
abbrev main_call1_v1 : Ref sig .tc := ⟨.hbm, 78, rfl⟩
abbrev main_call1_cst : Ref sig .tc := ⟨.hbm, 79, rfl⟩
abbrev main_call1_v2 : Ref sig .tc := ⟨.hbm, 80, rfl⟩
abbrev main_call1_v3 : Ref sig .tc := ⟨.hbm, 81, rfl⟩
abbrev main_call1_cst_0 : Ref sig .tc := ⟨.hbm, 82, rfl⟩
abbrev main_call1_v4 : Ref sig .tc := ⟨.hbm, 83, rfl⟩
abbrev main_call1_v5 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_cst_4 : Ref sig .tc := ⟨.hbm, 91, rfl⟩
abbrev main_v68 : Ref sig .tc := ⟨.hbm, 92, rfl⟩
abbrev main_v69 : Ref sig .tc := ⟨.hbm, 93, rfl⟩
abbrev main_cst_5 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_6 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_7 : Ref sig .tc := ⟨.hbm, 106, rfl⟩
abbrev main_v80 : Ref sig .tc := ⟨.hbm, 107, rfl⟩
abbrev main_v81 : Ref sig .tc := ⟨.hbm, 108, rfl⟩
abbrev main_cst_8 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call2_cst : Ref sig .tc := ⟨.hbm, 121, rfl⟩
abbrev main_call2_v0 : Ref sig .tc := ⟨.hbm, 122, rfl⟩
abbrev main_call2_v1 : Ref sig .tc := ⟨.hbm, 123, rfl⟩
abbrev main_call2_v2 : Ref sig .tc := ⟨.hbm, 124, rfl⟩
abbrev main_call2_v3 : Ref sig .tc := ⟨.hbm, 125, rfl⟩
abbrev main_call2_v4 : Ref sig .tc := ⟨.hbm, 126, rfl⟩
abbrev main_call2_v5 : Ref sig .tc := ⟨.hbm, 127, rfl⟩
abbrev main_call2_v6 : Ref sig .tc := ⟨.hbm, 128, rfl⟩
abbrev main_call2_v7 : Ref sig .tc := ⟨.hbm, 129, rfl⟩
abbrev main_call2_v8 : Ref sig .tc := ⟨.hbm, 130, rfl⟩
abbrev main_call2_v9 : Ref sig .tc := ⟨.hbm, 131, rfl⟩
abbrev main_call2_v10 : Ref sig .tc := ⟨.hbm, 132, rfl⟩
abbrev main_call2_v11 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_9 : Ref sig .tc := ⟨.hbm, 140, rfl⟩
abbrev main_v99 : Ref sig .tc := ⟨.hbm, 141, rfl⟩
abbrev main_v100 : Ref sig .tc := ⟨.hbm, 142, rfl⟩
abbrev main_cst_10 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_c_11 : Ref sig .tc := ⟨.hbm, 147, rfl⟩
abbrev main_call3_v0 : Ref sig .tc := ⟨.hbm, 148, rfl⟩
abbrev main_v104 : Ref sig .tc := ⟨.hbm, 149, rfl⟩
abbrev main_v105 : Ref sig .tc := ⟨.hbm, 150, rfl⟩
abbrev main_c_12 : Ref sig .tc := ⟨.hbm, 151, rfl⟩
abbrev main_call4_v0 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_13 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_call5_v0 : Ref sig .tc := ⟨.hbm, 178, rfl⟩
abbrev main_call5_v1 : Ref sig .tc := ⟨.hbm, 179, rfl⟩
abbrev main_call5_cst : Ref sig .tc := ⟨.hbm, 180, rfl⟩
abbrev main_call5_v2 : Ref sig .tc := ⟨.hbm, 181, rfl⟩
abbrev main_call5_v3 : Ref sig .tc := ⟨.hbm, 182, rfl⟩
abbrev main_call5_cst_0 : Ref sig .tc := ⟨.hbm, 183, rfl⟩
abbrev main_call5_v4 : Ref sig .tc := ⟨.hbm, 184, rfl⟩
abbrev main_call5_v5 : Ref sig .tc := ⟨.hbm, 185, rfl⟩
abbrev main_v130 : Ref sig .tc := ⟨.hbm, 186, rfl⟩
abbrev main_v131 : Ref sig .tc := ⟨.hbm, 187, rfl⟩
abbrev main_call6_v0 : Ref sig .tc := ⟨.hbm, 188, rfl⟩
abbrev main_call6_v1 : Ref sig .tc := ⟨.hbm, 189, rfl⟩
abbrev main_call6_cst : Ref sig .tc := ⟨.hbm, 190, rfl⟩
abbrev main_call6_v2 : Ref sig .tc := ⟨.hbm, 191, rfl⟩
abbrev main_call6_v3 : Ref sig .tc := ⟨.hbm, 192, rfl⟩
abbrev main_call6_cst_0 : Ref sig .tc := ⟨.hbm, 193, rfl⟩
abbrev main_call6_v4 : Ref sig .tc := ⟨.hbm, 194, rfl⟩
abbrev main_call6_v5 : Ref sig .tc := ⟨.hbm, 195, rfl⟩
abbrev main_v132 : Ref sig .tc := ⟨.hbm, 196, rfl⟩
abbrev main_v133 : Ref sig .tc := ⟨.hbm, 197, rfl⟩
abbrev main_v134 : Ref sig .tc := ⟨.hbm, 198, rfl⟩

abbrev nD : Nat := 1
abbrev τ : Topo := Topo.v7x

variable {F : FTy → Type} [FloatOps F]
-- ==== AttnOutS.lean ====
abbrev S128x4x1024 : Shape := ⟨3, ![128, 4, 1024]⟩
abbrev S128x1024 : Shape := ⟨2, ![128, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 13
  | .vmem => 6
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S128x4x1024, .f32⟩
  | .hbm, ⟨3, _⟩ => ⟨S128x1024, .f32⟩
  | .hbm, ⟨4, _⟩ => ⟨S1024x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .hbm, ⟨8, _⟩ => ⟨S128x4x1024, .f32⟩
  | .hbm, ⟨9, _⟩ => ⟨S512x1024, .f32⟩
  | .hbm, ⟨10, _⟩ => ⟨S1x512x1024, .f32⟩
  | .hbm, ⟨11, _⟩ => ⟨S1024x1024, .bf16⟩
  | .hbm, ⟨12, _⟩ => ⟨S1x512x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1024x1024, .bf16⟩
  | .local _ .vmem, ⟨5, _⟩ => ⟨S1x512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]
-- ==== AttnOutSRefIdeal.lean ====
abbrev S128x4x1024 : Shape := ⟨3, ![128, 4, 1024]⟩
abbrev S128x1024 : Shape := ⟨2, ![128, 1024]⟩
abbrev S1024x1024 : Shape := ⟨2, ![1024, 1024]⟩
abbrev S128x1x1024 : Shape := ⟨3, ![128, 1, 1024]⟩
abbrev S1x512x1024 : Shape := ⟨3, ![1, 512, 1024]⟩

abbrev nBuf : Space → Nat
  | .hbm => 12
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x4x1024, .f32⟩
  | .hbm, ⟨2, _⟩ => ⟨S128x4x1024, .f32⟩
  | .hbm, ⟨3, _⟩ => ⟨S128x1024, .f32⟩
  | .hbm, ⟨4, _⟩ => ⟨S1024x1024, .f32⟩
  | .hbm, ⟨5, _⟩ => ⟨S128x1x1024, .f32⟩
  | .hbm, ⟨6, _⟩ => ⟨S128x4x1024, .f32⟩
  | .hbm, ⟨7, _⟩ => ⟨S128x4x1024, .f32⟩
  | .hbm, ⟨8, _⟩ => ⟨S128x4x1024, .f32⟩
  | .hbm, ⟨9, _⟩ => ⟨S128x4x1024, .f32⟩
  | .hbm, ⟨10, _⟩ => ⟨S128x4x1024, .f32⟩
  | .hbm, ⟨11, _⟩ => ⟨S1x512x1024, .f32⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== AttnInS.lean ====
abbrev S128x4x1024 : Shape := ⟨3, ![128, 4, 1024]⟩
abbrev S128x3072 : Shape := ⟨2, ![128, 3072]⟩
abbrev S1024 : Shape := ⟨1, ![1024]⟩
abbrev S1024x4096 : Shape := ⟨2, ![1024, 4096]⟩
abbrev S128 : Shape := ⟨1, ![128]⟩
abbrev S1x512x1024 : Shape := ⟨3, ![1, 512, 1024]⟩
abbrev S128x4x3072 : Shape := ⟨3, ![128, 4, 3072]⟩
abbrev S512x3072 : Shape := ⟨2, ![512, 3072]⟩
abbrev S1x512x3072 : Shape := ⟨3, ![1, 512, 3072]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1024x1024 : Shape := ⟨2, ![1024, 1024]⟩
abbrev S512x128 : Shape := ⟨2, ![512, 128]⟩

abbrev nBuf : Space → Nat
  | .hbm => 20
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S128x3072, .f32⟩
  | .hbm, ⟨2, _⟩ => ⟨S1024, .f32⟩
  | .hbm, ⟨3, _⟩ => ⟨S1024x4096, .f32⟩
  | .hbm, ⟨4, _⟩ => ⟨S128, .f32⟩
  | .hbm, ⟨5, _⟩ => ⟨S128, .f32⟩
  | .hbm, ⟨6, _⟩ => ⟨S1x512x1024, .f32⟩
  | .hbm, ⟨7, _⟩ => ⟨S128x4x3072, .f32⟩
  | .hbm, ⟨8, _⟩ => ⟨S512x3072, .f32⟩
  | .hbm, ⟨9, _⟩ => ⟨S1x512x3072, .f32⟩
  | .hbm, ⟨10, _⟩ => ⟨S1x1024, .f32⟩
  | .hbm, ⟨11, _⟩ => ⟨S1024x4096, .bf16⟩
  | .hbm, ⟨12, _⟩ => ⟨S1x128, .f32⟩
  | .hbm, ⟨13, _⟩ => ⟨S1x128, .f32⟩
  | .hbm, ⟨14, _⟩ => ⟨S1x512x1024, .f32⟩
  | .hbm, ⟨15, _⟩ => ⟨S1x512x1024, .f32⟩
  | .hbm, ⟨16, _⟩ => ⟨S1x512x1024, .f32⟩
  | .hbm, ⟨17, _⟩ => ⟨S1x512x1024, .bf16⟩
  | .hbm, ⟨18, _⟩ => ⟨S1x512x1024, .bf16⟩
  | .hbm, ⟨19, _⟩ => ⟨S1x512x1024, .f32⟩
  | .local _ .vmem, ⟨0, _⟩ => ⟨S1x512x1024, .f32⟩
  | .local _ .vmem, ⟨1, _⟩ => ⟨S1x512x3072, .f32⟩
  | .local _ .vmem, ⟨2, _⟩ => ⟨S1x1024, .f32⟩
  | .local _ .vmem, ⟨3, _⟩ => ⟨S1024x4096, .bf16⟩
  | .local _ .vmem, ⟨4, _⟩ => ⟨S1x128, .f32⟩
  | .local _ .vmem, ⟨5, _⟩ => ⟨S1x128, .f32⟩
  | .local _ .vmem, ⟨6, _⟩ => ⟨S1x512x1024, .f32⟩
  | .local _ .vmem, ⟨7, _⟩ => ⟨S1x512x1024, .f32⟩
  | .local _ .vmem, ⟨8, _⟩ => ⟨S1x512x1024, .f32⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x512x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S1x512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]

abbrev stage0_11 : Fin 1 → Memref sig .tc .vmem S1x512x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, true]
-- ==== AttnInSRefIdeal.lean ====
abbrev S128x4x1024 : Shape := ⟨3, ![128, 4, 1024]⟩
abbrev S128x3072 : Shape := ⟨2, ![128, 3072]⟩
abbrev S1024 : Shape := ⟨1, ![1024]⟩
abbrev S1024x4096 : Shape := ⟨2, ![1024, 4096]⟩
abbrev S128 : Shape := ⟨1, ![128]⟩
abbrev S128x1x3072 : Shape := ⟨3, ![128, 1, 3072]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x4096 : Shape := ⟨3, ![128, 4, 4096]⟩
abbrev S128x4x8x128 : Shape := ⟨4, ![128, 4, 8, 128]⟩
abbrev S128x4x8 : Shape := ⟨3, ![128, 4, 8]⟩
abbrev S128x4x8x1 : Shape := ⟨4, ![128, 4, 8, 1]⟩
abbrev S1x1x1x128 : Shape := ⟨4, ![1, 1, 1, 128]⟩
abbrev S1x512x1024 : Shape := ⟨3, ![1, 512, 1024]⟩

abbrev nBuf : Space → Nat
  | .hbm => 87
  | .vmem => 0
  | .smem => 0
  | _ => 0

abbrev bufTy : (tb : Table) → Fin (tcTables nBuf tb) → BufTy
  | .hbm, ⟨0, _⟩ => ⟨S128x4x1024, .f32⟩
  | .hbm, ⟨1, _⟩ => ⟨S128x3072, .f32⟩
  | .hbm, ⟨2, _⟩ => ⟨S1024, .f32⟩
  | .hbm, ⟨3, _⟩ => ⟨S1024x4096, .f32⟩
  | .hbm, ⟨4, _⟩ => ⟨S128, .f32⟩
  | .hbm, ⟨5, _⟩ => ⟨S128, .f32⟩
  | .hbm, ⟨6, _⟩ => ⟨S128x1x3072, .f32⟩
  | .hbm, ⟨7, _⟩ => ⟨S128x1x1024, .f32⟩
  | .hbm, ⟨8, _⟩ => ⟨S128x1x1024, .f32⟩
  | .hbm, ⟨9, _⟩ => ⟨S128x1x1024, .f32⟩
  | .hbm, ⟨10, _⟩ => ⟨S128x4x1024, .f32⟩
  | .hbm, ⟨11, _⟩ => ⟨S_, .f32⟩
  | .hbm, ⟨12, _⟩ => ⟨S128x4, .f32⟩
  | .hbm, ⟨13, _⟩ => ⟨S128x4x1, .f32⟩
  | .hbm, ⟨14, _⟩ => ⟨S_, .f32⟩
  | .hbm, ⟨15, _⟩ => ⟨S128x4x1, .f32⟩
  | .hbm, ⟨16, _⟩ => ⟨S128x4x1, .f32⟩
  | .hbm, ⟨17, _⟩ => ⟨S_, .f32⟩
  | .hbm, ⟨18, _⟩ => ⟨S128x4x1, .f32⟩
  | .hbm, ⟨19, _⟩ => ⟨S128x4x1, .f32⟩
  | .hbm, ⟨20, _⟩ => ⟨S128x4x1, .f32⟩
  | .hbm, ⟨21, _⟩ => ⟨S128x4x1024, .f32⟩
  | .hbm, ⟨22, _⟩ => ⟨S128x4x1024, .f32⟩
  | .hbm, ⟨23, _⟩ => ⟨S1x1x1024, .f32⟩
  | .hbm, ⟨24, _⟩ => ⟨S128x4x1024, .f32⟩
  | .hbm, ⟨25, _⟩ => ⟨S128x4x1024, .f32⟩
  | .hbm, ⟨26, _⟩ => ⟨S_, .f32⟩
  | .hbm, ⟨27, _⟩ => ⟨S128x1x1024, .f32⟩
  | .hbm, ⟨28, _⟩ => ⟨S128x1x1024, .f32⟩
  | .hbm, ⟨29, _⟩ => ⟨S128x4x1024, .f32⟩
  | .hbm, ⟨30, _⟩ => ⟨S128x4x1024, .f32⟩
  | .hbm, ⟨31, _⟩ => ⟨S128x4x1024, .f32⟩
  | .hbm, ⟨32, _⟩ => ⟨S128x4x1024, .f32⟩
  | .hbm, ⟨33, _⟩ => ⟨S128x4x4096, .f32⟩
  | .hbm, ⟨34, _⟩ => ⟨S128x4x1024, .f32⟩
  | .hbm, ⟨35, _⟩ => ⟨S128x4x1024, .f32⟩
  | .hbm, ⟨36, _⟩ => ⟨S128x4x1024, .f32⟩
  | .hbm, ⟨37, _⟩ => ⟨S128x4x1024, .f32⟩
  | .hbm, ⟨38, _⟩ => ⟨S128x4x8x128, .f32⟩
  | .hbm, ⟨39, _⟩ => ⟨S128x4x8x128, .f32⟩
  | .hbm, ⟨40, _⟩ => ⟨S_, .f32⟩
  | .hbm, ⟨41, _⟩ => ⟨S128x4x8, .f32⟩
  | .hbm, ⟨42, _⟩ => ⟨S128x4x8x1, .f32⟩
  | .hbm, ⟨43, _⟩ => ⟨S_, .f32⟩
  | .hbm, ⟨44, _⟩ => ⟨S128x4x8x1, .f32⟩
  | .hbm, ⟨45, _⟩ => ⟨S128x4x8x1, .f32⟩
  | .hbm, ⟨46, _⟩ => ⟨S_, .f32⟩
  | .hbm, ⟨47, _⟩ => ⟨S128x4x8x1, .f32⟩
  | .hbm, ⟨48, _⟩ => ⟨S128x4x8x1, .f32⟩
  | .hbm, ⟨49, _⟩ => ⟨S128x4x8x1, .f32⟩
  | .hbm, ⟨50, _⟩ => ⟨S128x4x8x128, .f32⟩
  | .hbm, ⟨51, _⟩ => ⟨S128x4x8x128, .f32⟩
  | .hbm, ⟨52, _⟩ => ⟨S1x1x1x128, .f32⟩
  | .hbm, ⟨53, _⟩ => ⟨S128x4x8x128, .f32⟩
  | .hbm, ⟨54, _⟩ => ⟨S128x4x8x128, .f32⟩
  | .hbm, ⟨55, _⟩ => ⟨S128x4x8x128, .f32⟩
  | .hbm, ⟨56, _⟩ => ⟨S128x4x8x128, .f32⟩
  | .hbm, ⟨57, _⟩ => ⟨S_, .f32⟩
  | .hbm, ⟨58, _⟩ => ⟨S128x4x8, .f32⟩
  | .hbm, ⟨59, _⟩ => ⟨S128x4x8x1, .f32⟩
  | .hbm, ⟨60, _⟩ => ⟨S_, .f32⟩
  | .hbm, ⟨61, _⟩ => ⟨S128x4x8x1, .f32⟩
  | .hbm, ⟨62, _⟩ => ⟨S128x4x8x1, .f32⟩
  | .hbm, ⟨63, _⟩ => ⟨S_, .f32⟩
  | .hbm, ⟨64, _⟩ => ⟨S128x4x8x1, .f32⟩
  | .hbm, ⟨65, _⟩ => ⟨S128x4x8x1, .f32⟩
  | .hbm, ⟨66, _⟩ => ⟨S128x4x8x1, .f32⟩
  | .hbm, ⟨67, _⟩ => ⟨S128x4x8x128, .f32⟩
  | .hbm, ⟨68, _⟩ => ⟨S128x4x8x128, .f32⟩
  | .hbm, ⟨69, _⟩ => ⟨S1x1x1x128, .f32⟩
  | .hbm, ⟨70, _⟩ => ⟨S128x4x8x128, .f32⟩
  | .hbm, ⟨71, _⟩ => ⟨S128x4x8x128, .f32⟩
  | .hbm, ⟨72, _⟩ => ⟨S128x4x1024, .f32⟩
  | .hbm, ⟨73, _⟩ => ⟨S128x4x1024, .f32⟩
  | .hbm, ⟨74, _⟩ => ⟨S_, .f32⟩
  | .hbm, ⟨75, _⟩ => ⟨S128x4x1024, .f32⟩
  | .hbm, ⟨76, _⟩ => ⟨S128x4x1024, .f32⟩
  | .hbm, ⟨77, _⟩ => ⟨S_, .f32⟩
  | .hbm, ⟨78, _⟩ => ⟨S128x4x1024, .f32⟩
  | .hbm, ⟨79, _⟩ => ⟨S128x4x1024, .f32⟩
  | .hbm, ⟨80, _⟩ => ⟨S128x4x1024, .f32⟩
  | .hbm, ⟨81, _⟩ => ⟨S1x512x1024, .f32⟩
  | .hbm, ⟨82, _⟩ => ⟨S1x512x1024, .f32⟩
  | .hbm, ⟨83, _⟩ => ⟨S1x512x1024, .f32⟩
  | .hbm, ⟨84, _⟩ => ⟨S1x512x1024, .f32⟩
  | .hbm, ⟨85, _⟩ => ⟨S1x512x1024, .bf16⟩
  | .hbm, ⟨86, _⟩ => ⟨S1x512x1024, .bf16⟩
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_cst_4 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_6 : Ref sig .tc := ⟨.hbm, 57, rfl⟩
abbrev main_v44 : Ref sig .tc := ⟨.hbm, 58, rfl⟩
abbrev main_v45 : Ref sig .tc := ⟨.hbm, 59, rfl⟩
abbrev main_cst_7 : Ref sig .tc := ⟨.hbm, 60, rfl⟩
abbrev main_v46 : Ref sig .tc := ⟨.hbm, 61, rfl⟩
abbrev main_v47 : Ref sig .tc := ⟨.hbm, 62, rfl⟩
abbrev main_cst_8 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩

abbrev nD : Nat := 1
abbrev τ : Topo := Topo.v7x

variable {F : FTy → Type} [FloatOps F]
-- ==== ScanS.lean ====
abbrev S128x16x512 : Shape := ⟨3, ![128, 16, 512]⟩
abbrev S128x16x64 : Shape := ⟨3, ![128, 16, 64]⟩
abbrev S128x4x128x128 : Shape := ⟨4, ![128, 4, 128, 128]⟩
abbrev S8x16x512 : Shape := ⟨3, ![8, 16, 512]⟩
abbrev S8x16x64 : Shape := ⟨3, ![8, 16, 64]⟩
abbrev S8x4x128x128 : Shape := ⟨4, ![8, 4, 128, 128]⟩
abbrev S1x1x128x128 : Shape := ⟨4, ![1, 1, 128, 128]⟩
abbrev S128x128 : Shape := ⟨2, ![128, 128]⟩
abbrev S1x16x128 : Shape := ⟨3, ![1, 16, 128]⟩
abbrev S16x128 : Shape := ⟨2, ![16, 128]⟩
abbrev S1x16x16 : Shape := ⟨3, ![1, 16, 16]⟩
abbrev S16x16 : Shape := ⟨2, ![16, 16]⟩
abbrev S1x1x128 : Shape := ⟨3, ![1, 1, 128]⟩
abbrev S1x128 : Shape := ⟨2, ![1, 128]⟩

abbrev nBuf : Space → Nat
  | .hbm => 9
  | .vmem => 18
  | .smem => 0
  | _ => 0

abbrev bufTy : (tb : Table) → Fin (tcTables nBuf tb) → BufTy
  | .hbm, ⟨0, _⟩ => ⟨S128x16x512, .f32⟩
  | .hbm, ⟨1, _⟩ => ⟨S128x16x512, .f32⟩
  | .hbm, ⟨2, _⟩ => ⟨S128x16x512, .f32⟩
  | .hbm, ⟨3, _⟩ => ⟨S128x16x512, .f32⟩
  | .hbm, ⟨4, _⟩ => ⟨S128x16x512, .f32⟩
  | .hbm, ⟨5, _⟩ => ⟨S128x16x64, .f32⟩
  | .hbm, ⟨6, _⟩ => ⟨S128x4x128x128, .f32⟩
  | .hbm, ⟨7, _⟩ => ⟨S128x16x512, .f32⟩
  | .hbm, ⟨8, _⟩ => ⟨S128x4x128x128, .f32⟩
  | .local _ .vmem, ⟨0, _⟩ => ⟨S8x16x512, .f32⟩
  | .local _ .vmem, ⟨1, _⟩ => ⟨S8x16x512, .f32⟩
  | .local _ .vmem, ⟨2, _⟩ => ⟨S8x16x512, .f32⟩
  | .local _ .vmem, ⟨3, _⟩ => ⟨S8x16x512, .f32⟩
  | .local _ .vmem, ⟨4, _⟩ => ⟨S8x16x512, .f32⟩
  | .local _ .vmem, ⟨5, _⟩ => ⟨S8x16x512, .f32⟩
  | .local _ .vmem, ⟨6, _⟩ => ⟨S8x16x512, .f32⟩
  | .local _ .vmem, ⟨7, _⟩ => ⟨S8x16x512, .f32⟩
  | .local _ .vmem, ⟨8, _⟩ => ⟨S8x16x512, .f32⟩
  | .local _ .vmem, ⟨9, _⟩ => ⟨S8x16x512, .f32⟩
  | .local _ .vmem, ⟨10, _⟩ => ⟨S8x16x64, .f32⟩
  | .local _ .vmem, ⟨11, _⟩ => ⟨S8x16x64, .f32⟩
  | .local _ .vmem, ⟨12, _⟩ => ⟨S8x4x128x128, .f32⟩
  | .local _ .vmem, ⟨13, _⟩ => ⟨S8x4x128x128, .f32⟩
  | .local _ .vmem, ⟨14, _⟩ => ⟨S8x16x512, .f32⟩
  | .local _ .vmem, ⟨15, _⟩ => ⟨S8x16x512, .f32⟩
  | .local _ .vmem, ⟨16, _⟩ => ⟨S8x4x128x128, .f32⟩
  | .local _ .vmem, ⟨17, _⟩ => ⟨S8x4x128x128, .f32⟩
  | _, _ => ⟨S128x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![16, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x16x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x4x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8x16x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ScanSRefIdeal.lean ====
abbrev S128x16x512 : Shape := ⟨3, ![128, 16, 512]⟩
abbrev S128x16x64 : Shape := ⟨3, ![128, 16, 64]⟩
abbrev S128x4x128x128 : Shape := ⟨4, ![128, 4, 128, 128]⟩
abbrev S128x16x4x128 : Shape := ⟨4, ![128, 16, 4, 128]⟩
abbrev S128x4x16x128 : Shape := ⟨4, ![128, 4, 16, 128]⟩
abbrev S128x16x4x16 : Shape := ⟨4, ![128, 16, 4, 16]⟩
abbrev S128x4x16x16 : Shape := ⟨4, ![128, 4, 16, 16]⟩
abbrev S128x4x1x128 : Shape := ⟨4, ![128, 4, 1, 128]⟩

abbrev nBuf : Space → Nat
  | .hbm => 31
  | .vmem => 0
  | .smem => 0
  | _ => 0

abbrev bufTy : (tb : Table) → Fin (tcTables nBuf tb) → BufTy
  | .hbm, ⟨0, _⟩ => ⟨S128x16x512, .f32⟩
  | .hbm, ⟨1, _⟩ => ⟨S128x16x512, .f32⟩
  | .hbm, ⟨2, _⟩ => ⟨S128x16x512, .f32⟩
  | .hbm, ⟨3, _⟩ => ⟨S128x16x512, .f32⟩
  | .hbm, ⟨4, _⟩ => ⟨S128x16x512, .f32⟩
  | .hbm, ⟨5, _⟩ => ⟨S128x16x64, .f32⟩
  | .hbm, ⟨6, _⟩ => ⟨S128x4x128x128, .f32⟩
  | .hbm, ⟨7, _⟩ => ⟨S128x16x4x128, .f32⟩
  | .hbm, ⟨8, _⟩ => ⟨S128x4x16x128, .f32⟩
  | .hbm, ⟨9, _⟩ => ⟨S128x16x4x128, .f32⟩
  | .hbm, ⟨10, _⟩ => ⟨S128x4x16x128, .f32⟩
  | .hbm, ⟨11, _⟩ => ⟨S128x16x4x128, .f32⟩
  | .hbm, ⟨12, _⟩ => ⟨S128x4x16x128, .f32⟩
  | .hbm, ⟨13, _⟩ => ⟨S128x16x4x128, .f32⟩
  | .hbm, ⟨14, _⟩ => ⟨S128x4x16x128, .f32⟩
  | .hbm, ⟨15, _⟩ => ⟨S128x16x4x128, .f32⟩
  | .hbm, ⟨16, _⟩ => ⟨S128x4x16x128, .f32⟩
  | .hbm, ⟨17, _⟩ => ⟨S128x16x4x16, .f32⟩
  | .hbm, ⟨18, _⟩ => ⟨S128x4x16x16, .f32⟩
  | .hbm, ⟨19, _⟩ => ⟨S128x4x16x128, .f32⟩
  | .hbm, ⟨20, _⟩ => ⟨S128x4x16x128, .f32⟩
  | .hbm, ⟨21, _⟩ => ⟨S128x4x16x128, .f32⟩
  | .hbm, ⟨22, _⟩ => ⟨S128x4x16x128, .f32⟩
  | .hbm, ⟨23, _⟩ => ⟨S128x4x16x128, .f32⟩
  | .hbm, ⟨24, _⟩ => ⟨S128x4x1x128, .f32⟩
  | .hbm, ⟨25, _⟩ => ⟨S128x4x128x128, .f32⟩
  | .hbm, ⟨26, _⟩ => ⟨S128x4x128x128, .f32⟩
  | .hbm, ⟨27, _⟩ => ⟨S128x4x128x128, .f32⟩
  | .hbm, ⟨28, _⟩ => ⟨S128x4x128x128, .f32⟩
  | .hbm, ⟨29, _⟩ => ⟨S128x16x4x128, .f32⟩
  | .hbm, ⟨30, _⟩ => ⟨S128x16x512, .f32⟩
  | _, _ => ⟨S128x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== DnInS.lean ====
abbrev S128x4x1024 : Shape := ⟨3, ![128, 4, 1024]⟩
abbrev S128x3072 : Shape := ⟨2, ![128, 3072]⟩
abbrev S1024 : Shape := ⟨1, ![1024]⟩
abbrev S1024x4104 : Shape := ⟨2, ![1024, 4104]⟩
abbrev S128x3x1536 : Shape := ⟨3, ![128, 3, 1536]⟩
abbrev S128x2x512 : Shape := ⟨3, ![128, 2, 512]⟩
abbrev S4x1536 : Shape := ⟨2, ![4, 1536]⟩
abbrev S4 : Shape := ⟨1, ![4]⟩
abbrev S3x512 : Shape := ⟨2, ![3, 512]⟩
abbrev S1024x2048 : Shape := ⟨2, ![1024, 2048]⟩
abbrev S1024x8 : Shape := ⟨2, ![1024, 8]⟩
abbrev S_ : Shape := ⟨0, ![]⟩
abbrev S1024x128 : Shape := ⟨2, ![1024, 128]⟩
abbrev S1024x4224 : Shape := ⟨2, ![1024, 4224]⟩
abbrev S1x4 : Shape := ⟨2, ![1, 4]⟩
abbrev S1x128 : Shape := ⟨2, ![1, 128]⟩
abbrev S4x128x1024 : Shape := ⟨3, ![4, 128, 1024]⟩
abbrev S1x1024 : Shape := ⟨2, ![1, 1024]⟩
abbrev S3x128x1536 : Shape := ⟨3, ![3, 128, 1536]⟩
abbrev S2x128x512 : Shape := ⟨3, ![2, 128, 512]⟩
abbrev S4x128x512 : Shape := ⟨3, ![4, 128, 512]⟩
abbrev S4x128x128 : Shape := ⟨3, ![4, 128, 128]⟩
abbrev S1x128x1536 : Shape := ⟨3, ![1, 128, 1536]⟩
abbrev S128x1536 : Shape := ⟨2, ![128, 1536]⟩
abbrev S1x128x512 : Shape := ⟨3, ![1, 128, 512]⟩
abbrev S128x512 : Shape := ⟨2, ![128, 512]⟩
abbrev S1x128x1024 : Shape := ⟨3, ![1, 128, 1024]⟩
abbrev S128x1024 : Shape := ⟨2, ![128, 1024]⟩
abbrev S128 : Shape := ⟨1, ![128]⟩
abbrev S128x1 : Shape := ⟨2, ![128, 1]⟩
abbrev S1024x1536 : Shape := ⟨2, ![1024, 1536]⟩
abbrev S128x2048 : Shape := ⟨2, ![128, 2048]⟩
abbrev S1x1536 : Shape := ⟨2, ![1, 1536]⟩
abbrev S128x128 : Shape := ⟨2, ![128, 128]⟩
abbrev S1x128x128 : Shape := ⟨3, ![1, 128, 128]⟩
abbrev S1024x512 : Shape := ⟨2, ![1024, 512]⟩
abbrev S1x512 : Shape := ⟨2, ![1, 512]⟩

abbrev nBuf : Space → Nat
  | .hbm => 38
  | .vmem => 18
  | .smem => 0
  | _ => 0

abbrev bufTy : (tb : Table) → Fin (tcTables nBuf tb) → BufTy
  | .hbm, ⟨0, _⟩ => ⟨S128x4x1024, .f32⟩
  | .hbm, ⟨1, _⟩ => ⟨S128x3072, .f32⟩
  | .hbm, ⟨2, _⟩ => ⟨S1024, .f32⟩
  | .hbm, ⟨3, _⟩ => ⟨S1024x4104, .f32⟩
  | .hbm, ⟨4, _⟩ => ⟨S128x3x1536, .f32⟩
  | .hbm, ⟨5, _⟩ => ⟨S128x2x512, .f32⟩
  | .hbm, ⟨6, _⟩ => ⟨S4x1536, .f32⟩
  | .hbm, ⟨7, _⟩ => ⟨S4, .f32⟩
  | .hbm, ⟨8, _⟩ => ⟨S4, .f32⟩
  | .hbm, ⟨9, _⟩ => ⟨S3x512, .f32⟩
  | .hbm, ⟨10, _⟩ => ⟨S1024x2048, .f32⟩
  | .hbm, ⟨11, _⟩ => ⟨S1024x8, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x2048, .f32⟩
  | .hbm, ⟨16, _⟩ => ⟨S1024x4224, .f32⟩
  | .hbm, ⟨17, _⟩ => ⟨S1024x4224, .bf16⟩
  | .hbm, ⟨18, _⟩ => ⟨S1x4, .f32⟩
  | .hbm, ⟨19, _⟩ => ⟨S_, .i32⟩
  | .hbm, ⟨20, _⟩ => ⟨S_, .f32⟩
  | .hbm, ⟨21, _⟩ => ⟨S1x128, .f32⟩
  | .hbm, ⟨22, _⟩ => ⟨S1x4, .f32⟩
  | .hbm, ⟨23, _⟩ => ⟨S_, .i32⟩
  | .hbm, ⟨24, _⟩ => ⟨S_, .f32⟩
  | .hbm, ⟨25, _⟩ => ⟨S1x128, .f32⟩
  | .hbm, ⟨26, _⟩ => ⟨S4x128x1024, .f32⟩
  | .hbm, ⟨27, _⟩ => ⟨S1x1024, .f32⟩
  | .hbm, ⟨28, _⟩ => ⟨S3x128x1536, .f32⟩
  | .hbm, ⟨29, _⟩ => ⟨S2x128x512, .f32⟩
  | .hbm, ⟨30, _⟩ => ⟨S4x128x512, .f32⟩
  | .hbm, ⟨31, _⟩ => ⟨S4x128x512, .f32⟩
  | .hbm, ⟨32, _⟩ => ⟨S4x128x512, .f32⟩
  | .hbm, ⟨33, _⟩ => ⟨S4x128x128, .f32⟩
  | .hbm, ⟨34, _⟩ => ⟨S4x128x512, .f32⟩
  | .hbm, ⟨35, _⟩ => ⟨S4x128x512, .f32⟩
  | .hbm, ⟨36, _⟩ => ⟨S3x128x1536, .f32⟩
  | .hbm, ⟨37, _⟩ => ⟨S2x128x512, .f32⟩
  | .local _ .vmem, ⟨0, _⟩ => ⟨S4x128x1024, .f32⟩
  | .local _ .vmem, ⟨1, _⟩ => ⟨S128x3072, .f32⟩
  | .local _ .vmem, ⟨2, _⟩ => ⟨S1x1024, .f32⟩
  | .local _ .vmem, ⟨3, _⟩ => ⟨S1024x4224, .bf16⟩
  | .local _ .vmem, ⟨4, _⟩ => ⟨S3x128x1536, .f32⟩
  | .local _ .vmem, ⟨5, _⟩ => ⟨S2x128x512, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S3x512, .f32⟩
  | .local _ .vmem, ⟨10, _⟩ => ⟨S4x128x512, .f32⟩
  | .local _ .vmem, ⟨11, _⟩ => ⟨S4x128x512, .f32⟩
  | .local _ .vmem, ⟨12, _⟩ => ⟨S4x128x512, .f32⟩
  | .local _ .vmem, ⟨13, _⟩ => ⟨S4x128x128, .f32⟩
  | .local _ .vmem, ⟨14, _⟩ => ⟨S4x128x512, .f32⟩
  | .local _ .vmem, ⟨15, _⟩ => ⟨S4x128x512, .f32⟩
  | .local _ .vmem, ⟨16, _⟩ => ⟨S3x128x1536, .f32⟩
  | .local _ .vmem, ⟨17, _⟩ => ⟨S2x128x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_call1_v0 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_call2_v0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14_0 : Ref sig .tc := ⟨.hbm, 30, rfl⟩
abbrev main_v14_1 : Ref sig .tc := ⟨.hbm, 31, rfl⟩
abbrev main_v14_2 : Ref sig .tc := ⟨.hbm, 32, rfl⟩
abbrev main_v14_3 : Ref sig .tc := ⟨.hbm, 33, rfl⟩
abbrev main_v14_4 : Ref sig .tc := ⟨.hbm, 34, rfl⟩
abbrev main_v14_5 : Ref sig .tc := ⟨.hbm, 35, rfl⟩
abbrev main_v14_6 : Ref sig .tc := ⟨.hbm, 36, rfl⟩
abbrev main_v14_7 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S4x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4224 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S4x128x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S4x128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S4x128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S4x128x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]

abbrev stage0_15 : Fin 1 → Memref sig .tc .vmem S4x128x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true]

abbrev stage0_16 : Fin 1 → Memref sig .tc .vmem S3x128x1536 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![true]

abbrev stage0_17 : Fin 1 → Memref sig .tc .vmem S2x128x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![true]
-- ==== DnInSRefIdeal.lean ====
abbrev S128x4x1024 : Shape := ⟨3, ![128, 4, 1024]⟩
abbrev S128x3072 : Shape := ⟨2, ![128, 3072]⟩
abbrev S1024 : Shape := ⟨1, ![1024]⟩
abbrev S1024x4104 : Shape := ⟨2, ![1024, 4104]⟩
abbrev S128x3x1536 : Shape := ⟨3, ![128, 3, 1536]⟩
abbrev S128x2x512 : Shape := ⟨3, ![128, 2, 512]⟩
abbrev S4x1536 : Shape := ⟨2, ![4, 1536]⟩
abbrev S4 : Shape := ⟨1, ![4]⟩
abbrev S3x512 : Shape := ⟨2, ![3, 512]⟩
abbrev S128x1x3072 : Shape := ⟨3, ![128, 1, 3072]⟩
abbrev S128x1x1024 : Shape := ⟨3, ![128, 1, 1024]⟩
abbrev S_ : Shape := ⟨0, ![]⟩
abbrev S128x4 : Shape := ⟨2, ![128, 4]⟩
abbrev S128x4x1 : Shape := ⟨3, ![128, 4, 1]⟩
abbrev S1x1x1024 : Shape := ⟨3, ![1, 1, 1024]⟩
abbrev S128x4x4104 : Shape := ⟨3, ![128, 4, 4104]⟩
abbrev S128x4x1536 : Shape := ⟨3, ![128, 4, 1536]⟩
abbrev S128x4x512 : Shape := ⟨3, ![128, 4, 512]⟩
abbrev S128x4x4 : Shape := ⟨3, ![128, 4, 4]⟩
abbrev S128x7x1536 : Shape := ⟨3, ![128, 7, 1536]⟩
abbrev S1x1536 : Shape := ⟨2, ![1, 1536]⟩
abbrev S1536 : Shape := ⟨1, ![1536]⟩
abbrev S1x1x1536 : Shape := ⟨3, ![1, 1, 1536]⟩
abbrev S128x4x4x128 : Shape := ⟨4, ![128, 4, 4, 128]⟩
abbrev S128x4x4x1 : Shape := ⟨4, ![128, 4, 4, 1]⟩
abbrev S1x1x4 : Shape := ⟨3, ![1, 1, 4]⟩
abbrev S128x4x8 : Shape := ⟨3, ![128, 4, 8]⟩
abbrev S128x4x128 : Shape := ⟨3, ![128, 4, 128]⟩
abbrev S128x6x512 : Shape := ⟨3, ![128, 6, 512]⟩
abbrev S1x512 : Shape := ⟨2, ![1, 512]⟩
abbrev S512 : Shape := ⟨1, ![512]⟩
abbrev S1x1x512 : Shape := ⟨3, ![1, 1, 512]⟩
abbrev S4x128x512 : Shape := ⟨3, ![4, 128, 512]⟩
abbrev S4x128x128 : Shape := ⟨3, ![4, 128, 128]⟩
abbrev S3x128x1536 : Shape := ⟨3, ![3, 128, 1536]⟩
abbrev S2x128x512 : Shape := ⟨3, ![2, 128, 512]⟩

abbrev nBuf : Space → Nat
  | .hbm => 205
  | .vmem => 0
  | .smem => 0
  | _ => 0

abbrev hbmTy0_0 (i : Nat) : BufTy := match i % 128 with
  | 0 => ⟨S128x4x1024, .f32⟩
  | 1 => ⟨S128x3072, .f32⟩
  | 2 => ⟨S1024, .f32⟩
  | 3 => ⟨S1024x4104, .f32⟩
  | 4 => ⟨S128x3x1536, .f32⟩
  | 5 => ⟨S128x2x512, .f32⟩
  | 6 => ⟨S4x1536, .f32⟩
  | 7 => ⟨S4, .f32⟩
  | 8 => ⟨S4, .f32⟩
  | 9 => ⟨S3x512, .f32⟩
  | 10 => ⟨S128x1x3072, .f32⟩
  | 11 => ⟨S128x1x1024, .f32⟩
  | 12 => ⟨S128x1x1024, .f32⟩
  | 13 => ⟨S128x1x1024, .f32⟩
  | 14 => ⟨S128x4x1024, .f32⟩
  | 15 => ⟨S_, .f32⟩
  | 16 => ⟨S128x4, .f32⟩
  | 17 => ⟨S128x4x1, .f32⟩
  | 18 => ⟨S_, .f32⟩
  | 19 => ⟨S128x4x1, .f32⟩
  | 20 => ⟨S128x4x1, .f32⟩
  | 21 => ⟨S_, .f32⟩
  | 22 => ⟨S128x4x1, .f32⟩
  | 23 => ⟨S128x4x1, .f32⟩
  | 24 => ⟨S128x4x1, .f32⟩
  | 25 => ⟨S128x4x1024, .f32⟩
  | 26 => ⟨S128x4x1024, .f32⟩
  | 27 => ⟨S1x1x1024, .f32⟩
  | 28 => ⟨S128x4x1024, .f32⟩
  | 29 => ⟨S128x4x1024, .f32⟩
  | 30 => ⟨S_, .f32⟩
  | 31 => ⟨S128x1x1024, .f32⟩
  | 32 => ⟨S128x1x1024, .f32⟩
  | 33 => ⟨S128x4x1024, .f32⟩
  | 34 => ⟨S128x4x1024, .f32⟩
  | 35 => ⟨S128x4x1024, .f32⟩
  | 36 => ⟨S128x4x1024, .f32⟩
  | 37 => ⟨S128x4x4104, .f32⟩
  | 38 => ⟨S128x4x1536, .f32⟩
  | 39 => ⟨S128x4x512, .f32⟩
  | 40 => ⟨S128x4x4, .f32⟩
  | 41 => ⟨S128x4x4, .f32⟩
  | 42 => ⟨S128x4x512, .f32⟩
  | 43 => ⟨S128x4x512, .f32⟩
  | 44 => ⟨S128x4x512, .f32⟩
  | 45 => ⟨S128x4x512, .f32⟩
  | 46 => ⟨S128x7x1536, .f32⟩
  | 47 => ⟨S128x4x1536, .f32⟩
  | 48 => ⟨S1x1536, .f32⟩
  | 49 => ⟨S1536, .f32⟩
  | 50 => ⟨S1x1x1536, .f32⟩
  | 51 => ⟨S128x4x1536, .f32⟩
  | 52 => ⟨S128x4x1536, .f32⟩
  | 53 => ⟨S_, .f32⟩
  | 54 => ⟨S128x4x1536, .f32⟩
  | 55 => ⟨S128x4x1536, .f32⟩
  | 56 => ⟨S128x4x1536, .f32⟩
  | 57 => ⟨S1x1536, .f32⟩
  | 58 => ⟨S1536, .f32⟩
  | 59 => ⟨S1x1x1536, .f32⟩
  | 60 => ⟨S128x4x1536, .f32⟩
  | 61 => ⟨S128x4x1536, .f32⟩
  | 62 => ⟨S128x4x1536, .f32⟩
  | 63 => ⟨S128x4x1536, .f32⟩
  | 64 => ⟨S1x1536, .f32⟩
  | 65 => ⟨S1536, .f32⟩
  | 66 => ⟨S1x1x1536, .f32⟩
  | 67 => ⟨S128x4x1536, .f32⟩
  | 68 => ⟨S128x4x1536, .f32⟩
  | 69 => ⟨S128x4x1536, .f32⟩
  | 70 => ⟨S128x4x1536, .f32⟩
  | 71 => ⟨S1x1536, .f32⟩
  | 72 => ⟨S1536, .f32⟩
  | 73 => ⟨S1x1x1536, .f32⟩
  | 74 => ⟨S128x4x1536, .f32⟩
  | 75 => ⟨S128x4x1536, .f32⟩
  | 76 => ⟨S128x4x1536, .f32⟩
  | 77 => ⟨S128x3x1536, .f32⟩
  | 78 => ⟨S128x4x1536, .f32⟩
  | 79 => ⟨S128x4x1536, .f32⟩
  | 80 => ⟨S_, .f32⟩
  | 81 => ⟨S128x4x1536, .f32⟩
  | 82 => ⟨S128x4x1536, .f32⟩
  | 83 => ⟨S_, .f32⟩
  | 84 => ⟨S128x4x1536, .f32⟩
  | 85 => ⟨S128x4x1536, .f32⟩
  | 86 => ⟨S128x4x1536, .f32⟩
  | 87 => ⟨S128x4x512, .f32⟩
  | 88 => ⟨S128x4x512, .f32⟩
  | 89 => ⟨S128x4x512, .f32⟩
  | 90 => ⟨S128x4x4x128, .f32⟩
  | 91 => ⟨S128x4x4x128, .f32⟩
  | 92 => ⟨S_, .f32⟩
  | 93 => ⟨S128x4x4, .f32⟩
  | 94 => ⟨S128x4x4x1, .f32⟩
  | 95 => ⟨S_, .f32⟩
  | 96 => ⟨S128x4x4x1, .f32⟩
  | 97 => ⟨S128x4x4x1, .f32⟩
  | 98 => ⟨S128x4x4x1, .f32⟩
  | 99 => ⟨S128x4x4x128, .f32⟩
  | 100 => ⟨S128x4x4x128, .f32⟩
  | 101 => ⟨S_, .f32⟩
  | 102 => ⟨S128x4x4x128, .f32⟩
  | 103 => ⟨S128x4x4x128, .f32⟩
  | 104 => ⟨S128x4x512, .f32⟩
  | 105 => ⟨S128x4x4x128, .f32⟩
  | 106 => ⟨S128x4x4x128, .f32⟩
  | 107 => ⟨S_, .f32⟩
  | 108 => ⟨S128x4x4, .f32⟩
  | 109 => ⟨S128x4x4x1, .f32⟩
  | 110 => ⟨S_, .f32⟩
  | 111 => ⟨S128x4x4x1, .f32⟩
  | 112 => ⟨S128x4x4x1, .f32⟩
  | 113 => ⟨S128x4x4x1, .f32⟩
  | 114 => ⟨S128x4x4x128, .f32⟩
  | 115 => ⟨S128x4x4x128, .f32⟩
  | 116 => ⟨S128x4x512, .f32⟩
  | 117 => ⟨S4, .f32⟩
  | 118 => ⟨S4, .f32⟩
  | 119 => ⟨S1x1x4, .f32⟩
  | 120 => ⟨S128x4x4, .f32⟩
  | 121 => ⟨S128x4x4, .f32⟩
  | 122 => ⟨S_, .f32⟩
  | 123 => ⟨S128x4x4, .f32⟩
  | 124 => ⟨S128x4x4, .f32⟩
  | 125 => ⟨S128x4x4, .f32⟩
  | 126 => ⟨S128x4x4, .f32⟩
  | 127 => ⟨S128x4x4, .i1⟩
  | _ => ⟨S128x4x1024, .f32⟩

abbrev hbmTy0_1 (i : Nat) : BufTy := match i % 128 with
  | 0 => ⟨S128x4x4, .f32⟩
  | 1 => ⟨S128x4x4, .f32⟩
  | 2 => ⟨S128x4x4, .f32⟩
  | 3 => ⟨S128x4x4, .f32⟩
  | 4 => ⟨S128x4x4, .f32⟩
  | 5 => ⟨S128x4x4, .f32⟩
  | 6 => ⟨S128x4x4, .f32⟩
  | 7 => ⟨S128x4x4, .f32⟩
  | 8 => ⟨S1x1x4, .f32⟩
  | 9 => ⟨S128x4x4, .f32⟩
  | 10 => ⟨S128x4x4, .f32⟩
  | 11 => ⟨S128x4x4, .f32⟩
  | 12 => ⟨S128x4x4, .f32⟩
  | 13 => ⟨S_, .f32⟩
  | 14 => ⟨S128x4x4, .f32⟩
  | 15 => ⟨S128x4x4, .f32⟩
  | 16 => ⟨S_, .f32⟩
  | 17 => ⟨S128x4x4, .f32⟩
  | 18 => ⟨S128x4x4, .f32⟩
  | 19 => ⟨S128x4x8, .f32⟩
  | 20 => ⟨S_, .i32⟩
  | 21 => ⟨S_, .f32⟩
  | 22 => ⟨S128x4x128, .f32⟩
  | 23 => ⟨S128x4x512, .f32⟩
  | 24 => ⟨S128x6x512, .f32⟩
  | 25 => ⟨S128x4x512, .f32⟩
  | 26 => ⟨S1x512, .f32⟩
  | 27 => ⟨S512, .f32⟩
  | 28 => ⟨S1x1x512, .f32⟩
  | 29 => ⟨S128x4x512, .f32⟩
  | 30 => ⟨S128x4x512, .f32⟩
  | 31 => ⟨S_, .f32⟩
  | 32 => ⟨S128x4x512, .f32⟩
  | 33 => ⟨S128x4x512, .f32⟩
  | 34 => ⟨S128x4x512, .f32⟩
  | 35 => ⟨S1x512, .f32⟩
  | 36 => ⟨S512, .f32⟩
  | 37 => ⟨S1x1x512, .f32⟩
  | 38 => ⟨S128x4x512, .f32⟩
  | 39 => ⟨S128x4x512, .f32⟩
  | 40 => ⟨S128x4x512, .f32⟩
  | 41 => ⟨S128x4x512, .f32⟩
  | 42 => ⟨S1x512, .f32⟩
  | 43 => ⟨S512, .f32⟩
  | 44 => ⟨S1x1x512, .f32⟩
  | 45 => ⟨S128x4x512, .f32⟩
  | 46 => ⟨S128x4x512, .f32⟩
  | 47 => ⟨S128x4x512, .f32⟩
  | 48 => ⟨S128x2x512, .f32⟩
  | 49 => ⟨S128x4x512, .f32⟩
  | 50 => ⟨S128x4x512, .f32⟩
  | 51 => ⟨S128x4x512, .f32⟩
  | 52 => ⟨S_, .f32⟩
  | 53 => ⟨S128x4x512, .f32⟩
  | 54 => ⟨S128x4x512, .f32⟩
  | 55 => ⟨S_, .f32⟩
  | 56 => ⟨S128x4x512, .f32⟩
  | 57 => ⟨S128x4x512, .f32⟩
  | 58 => ⟨S128x4x512, .f32⟩
  | 59 => ⟨S128x4x512, .f32⟩
  | 60 => ⟨S128x4x512, .f32⟩
  | 61 => ⟨S128x4x512, .f32⟩
  | 62 => ⟨S_, .f32⟩
  | 63 => ⟨S128x4x512, .f32⟩
  | 64 => ⟨S128x4x512, .f32⟩
  | 65 => ⟨S_, .f32⟩
  | 66 => ⟨S128x4x512, .f32⟩
  | 67 => ⟨S128x4x512, .f32⟩
  | 68 => ⟨S128x4x512, .f32⟩
  | 69 => ⟨S4x128x512, .f32⟩
  | 70 => ⟨S4x128x512, .f32⟩
  | 71 => ⟨S4x128x512, .f32⟩
  | 72 => ⟨S4x128x128, .f32⟩
  | 73 => ⟨S4x128x512, .f32⟩
  | 74 => ⟨S4x128x512, .f32⟩
  | 75 => ⟨S3x128x1536, .f32⟩
  | 76 => ⟨S2x128x512, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_call0_v0 : Ref sig .tc := ⟨.hbm, 78, rfl⟩
abbrev main_call0_v1 : Ref sig .tc := ⟨.hbm, 79, rfl⟩
abbrev main_call0_cst : Ref sig .tc := ⟨.hbm, 80, rfl⟩
abbrev main_call0_v2 : Ref sig .tc := ⟨.hbm, 81, rfl⟩
abbrev main_call0_v3 : Ref sig .tc := ⟨.hbm, 82, rfl⟩
abbrev main_call0_cst_0 : Ref sig .tc := ⟨.hbm, 83, rfl⟩
abbrev main_call0_v4 : Ref sig .tc := ⟨.hbm, 84, rfl⟩
abbrev main_call0_v5 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_4 : Ref sig .tc := ⟨.hbm, 92, rfl⟩
abbrev main_v69 : Ref sig .tc := ⟨.hbm, 93, rfl⟩
abbrev main_v70 : Ref sig .tc := ⟨.hbm, 94, rfl⟩
abbrev main_cst_5 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_6 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_7 : Ref sig .tc := ⟨.hbm, 107, rfl⟩
abbrev main_v81 : Ref sig .tc := ⟨.hbm, 108, rfl⟩
abbrev main_v82 : Ref sig .tc := ⟨.hbm, 109, rfl⟩
abbrev main_cst_8 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_call1_cst : Ref sig .tc := ⟨.hbm, 122, rfl⟩
abbrev main_call1_v0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_v7 : Ref sig .tc := ⟨.hbm, 130, rfl⟩
abbrev main_call1_v8 : Ref sig .tc := ⟨.hbm, 131, rfl⟩
abbrev main_call1_v9 : Ref sig .tc := ⟨.hbm, 132, rfl⟩
abbrev main_call1_v10 : Ref sig .tc := ⟨.hbm, 133, rfl⟩
abbrev main_call1_v11 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_cst_9 : Ref sig .tc := ⟨.hbm, 141, rfl⟩
abbrev main_v100 : Ref sig .tc := ⟨.hbm, 142, rfl⟩
abbrev main_v101 : Ref sig .tc := ⟨.hbm, 143, rfl⟩
abbrev main_cst_10 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_c : Ref sig .tc := ⟨.hbm, 148, rfl⟩
abbrev main_call2_v0 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_cst_11 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_call3_v0 : Ref sig .tc := ⟨.hbm, 178, rfl⟩
abbrev main_call3_v1 : Ref sig .tc := ⟨.hbm, 179, rfl⟩
abbrev main_call3_cst : Ref sig .tc := ⟨.hbm, 180, rfl⟩
abbrev main_call3_v2 : Ref sig .tc := ⟨.hbm, 181, rfl⟩
abbrev main_call3_v3 : Ref sig .tc := ⟨.hbm, 182, rfl⟩
abbrev main_call3_cst_0 : Ref sig .tc := ⟨.hbm, 183, rfl⟩
abbrev main_call3_v4 : Ref sig .tc := ⟨.hbm, 184, rfl⟩
abbrev main_call3_v5 : Ref sig .tc := ⟨.hbm, 185, rfl⟩
abbrev main_v132 : Ref sig .tc := ⟨.hbm, 186, rfl⟩
abbrev main_v133 : Ref sig .tc := ⟨.hbm, 187, rfl⟩
abbrev main_call4_v0 : Ref sig .tc := ⟨.hbm, 188, rfl⟩
abbrev main_call4_v1 : Ref sig .tc := ⟨.hbm, 189, rfl⟩
abbrev main_call4_cst : Ref sig .tc := ⟨.hbm, 190, rfl⟩
abbrev main_call4_v2 : Ref sig .tc := ⟨.hbm, 191, rfl⟩
abbrev main_call4_v3 : Ref sig .tc := ⟨.hbm, 192, rfl⟩
abbrev main_call4_cst_0 : Ref sig .tc := ⟨.hbm, 193, rfl⟩
abbrev main_call4_v4 : Ref sig .tc := ⟨.hbm, 194, rfl⟩
abbrev main_call4_v5 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩

abbrev nD : Nat := 1
abbrev τ : Topo := Topo.v7x

variable {F : FTy → Type} [FloatOps F]
-- ==== Mod.lean ====
abbrev S4x1024 : Shape := ⟨2, ![4, 1024]⟩
abbrev S128x1024 : Shape := ⟨2, ![128, 1024]⟩
abbrev S2x1024x3072 : Shape := ⟨3, ![2, 1024, 3072]⟩
abbrev S2x3072 : Shape := ⟨2, ![2, 3072]⟩
abbrev S132x1024 : Shape := ⟨2, ![132, 1024]⟩
abbrev S2x1x3072 : Shape := ⟨3, ![2, 1, 3072]⟩
abbrev S2x132x3072 : Shape := ⟨3, ![2, 132, 3072]⟩
abbrev S1x1024x1024 : Shape := ⟨3, ![1, 1024, 1024]⟩
abbrev S1x1x1024 : Shape := ⟨3, ![1, 1, 1024]⟩
abbrev S1x132x1024 : Shape := ⟨3, ![1, 132, 1024]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S2x1024x3072, .f32⟩
  | .hbm, ⟨3, _⟩ => ⟨S2x3072, .f32⟩
  | .hbm, ⟨4, _⟩ => ⟨S132x1024, .f32⟩
  | .hbm, ⟨5, _⟩ => ⟨S2x1x3072, .f32⟩
  | .hbm, ⟨6, _⟩ => ⟨S2x132x3072, .f32⟩
  | .local _ .vmem, ⟨0, _⟩ => ⟨S132x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x132x1024, .f32⟩
  | .local _ .vmem, ⟨6, _⟩ => ⟨S1x132x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S132x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x132x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S4x1024 : Shape := ⟨2, ![4, 1024]⟩
abbrev S128x1024 : Shape := ⟨2, ![128, 1024]⟩
abbrev S2x1024x3072 : Shape := ⟨3, ![2, 1024, 3072]⟩
abbrev S2x3072 : Shape := ⟨2, ![2, 3072]⟩
abbrev S1x1024x3072 : Shape := ⟨3, ![1, 1024, 3072]⟩
abbrev S1024x3072 : Shape := ⟨2, ![1024, 3072]⟩
abbrev S4x3072 : Shape := ⟨2, ![4, 3072]⟩
abbrev S1x3072 : Shape := ⟨2, ![1, 3072]⟩
abbrev S3072 : Shape := ⟨1, ![3072]⟩
abbrev S128x3072 : Shape := ⟨2, ![128, 3072]⟩
abbrev S132x3072 : Shape := ⟨2, ![132, 3072]⟩
abbrev S1x132x3072 : Shape := ⟨3, ![1, 132, 3072]⟩
abbrev S2x132x3072 : Shape := ⟨3, ![2, 132, 3072]⟩

abbrev nBuf : Space → Nat
  | .hbm => 41
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S128x1024, .f32⟩
  | .hbm, ⟨2, _⟩ => ⟨S2x1024x3072, .f32⟩
  | .hbm, ⟨3, _⟩ => ⟨S2x3072, .f32⟩
  | .hbm, ⟨4, _⟩ => ⟨S1x1024x3072, .f32⟩
  | .hbm, ⟨5, _⟩ => ⟨S1024x3072, .f32⟩
  | .hbm, ⟨6, _⟩ => ⟨S4x3072, .f32⟩
  | .hbm, ⟨7, _⟩ => ⟨S1x3072, .f32⟩
  | .hbm, ⟨8, _⟩ => ⟨S3072, .f32⟩
  | .hbm, ⟨9, _⟩ => ⟨S1x3072, .f32⟩
  | .hbm, ⟨10, _⟩ => ⟨S4x3072, .f32⟩
  | .hbm, ⟨11, _⟩ => ⟨S4x3072, .f32⟩
  | .hbm, ⟨12, _⟩ => ⟨S1x1024x3072, .f32⟩
  | .hbm, ⟨13, _⟩ => ⟨S1024x3072, .f32⟩
  | .hbm, ⟨14, _⟩ => ⟨S128x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S128x3072, .f32⟩
  | .hbm, ⟨19, _⟩ => ⟨S128x3072, .f32⟩
  | .hbm, ⟨20, _⟩ => ⟨S132x3072, .f32⟩
  | .hbm, ⟨21, _⟩ => ⟨S1x1024x3072, .f32⟩
  | .hbm, ⟨22, _⟩ => ⟨S1024x3072, .f32⟩
  | .hbm, ⟨23, _⟩ => ⟨S4x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S4x3072, .f32⟩
  | .hbm, ⟨28, _⟩ => ⟨S4x3072, .f32⟩
  | .hbm, ⟨29, _⟩ => ⟨S1x1024x3072, .f32⟩
  | .hbm, ⟨30, _⟩ => ⟨S1024x3072, .f32⟩
  | .hbm, ⟨31, _⟩ => ⟨S128x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S128x3072, .f32⟩
  | .hbm, ⟨36, _⟩ => ⟨S128x3072, .f32⟩
  | .hbm, ⟨37, _⟩ => ⟨S132x3072, .f32⟩
  | .hbm, ⟨38, _⟩ => ⟨S1x132x3072, .f32⟩
  | .hbm, ⟨39, _⟩ => ⟨S1x132x3072, .f32⟩
  | .hbm, ⟨40, _⟩ => ⟨S2x132x3072, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩

abbrev nD : Nat := 1
abbrev τ : Topo := Topo.v7x

variable {F : FTy → Type} [FloatOps F]
-- ==== Moba.lean ====
abbrev S4x4096x1024 : Shape := ⟨3, ![4, 4096, 1024]⟩
abbrev S4x16x1024 : Shape := ⟨3, ![4, 16, 1024]⟩
abbrev S1x256x128 : Shape := ⟨3, ![1, 256, 128]⟩
abbrev S1x4096x128 : Shape := ⟨3, ![1, 4096, 128]⟩
abbrev S1x16x128 : Shape := ⟨3, ![1, 16, 128]⟩
abbrev S256x128 : Shape := ⟨2, ![256, 128]⟩
abbrev S16x256x128 : Shape := ⟨3, ![16, 256, 128]⟩
abbrev S16x128 : Shape := ⟨2, ![16, 128]⟩
abbrev S256x16 : Shape := ⟨2, ![256, 16]⟩
abbrev S256x1 : Shape := ⟨2, ![256, 1]⟩
abbrev S256x256 : Shape := ⟨2, ![256, 256]⟩
abbrev S256 : Shape := ⟨1, ![256]⟩

abbrev nBuf : Space → Nat
  | .hbm => 5
  | .vmem => 14
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .bf16⟩
  | .hbm, ⟨2, _⟩ => ⟨S4x4096x1024, .bf16⟩
  | .hbm, ⟨3, _⟩ => ⟨S4x16x1024, .f32⟩
  | .hbm, ⟨4, _⟩ => ⟨S4x4096x1024, .f32⟩
  | .local _ .vmem, ⟨0, _⟩ => ⟨S1x256x128, .f32⟩
  | .local _ .vmem, ⟨1, _⟩ => ⟨S1x256x128, .f32⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x16x128, .f32⟩
  | .local _ .vmem, ⟨7, _⟩ => ⟨S1x16x128, .f32⟩
  | .local _ .vmem, ⟨8, _⟩ => ⟨S1x256x128, .f32⟩
  | .local _ .vmem, ⟨9, _⟩ => ⟨S1x256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S16x256x128, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let arg2 : BitVec 32 := BitVec.ofNat 32 (i 2).val
  let c256_i32 : BitVec 32 := 256#32
  let v290 : BitVec 32 := Scalar.muli arg2 c256_i32
  v290
def k0_off1 (i : grid0.Coords) : Fin 3 → Nat :=
  let c0_41 : Index := 0#32
  let arg2 : BitVec 32 := BitVec.ofNat 32 (i 2).val
  let c256_i32 : BitVec 32 := 256#32
  let v290 : BitVec 32 := Scalar.muli arg2 c256_i32
  let v291 : BitVec 32 := v290
  let v292 : Index := Scalar.indexCast v291
  let c0_42 : Index := 0#32
  ![0, v292.toNat, 0]
@[reducible] def k0_t1_loop (i : grid0.Coords) : Scf.Loop 32 :=
  let c0_i32_59 : BitVec 32 := 0#32
  let arg2 : BitVec 32 := BitVec.ofNat 32 (i 2).val
  let v330 : BitVec 32 := Scalar.subi arg2 c0_i32_59
  let c1_i32_60 : BitVec 32 := 1#32
  let v332 : BitVec 32 := Scalar.divsi v330 c1_i32_60
  let v333 : BitVec 32 := Scalar.muli v332 c1_i32_60
  let v334 : BitVec 32 := Scalar.addi c0_i32_59 v333
  let c1_i32_61 : BitVec 32 := 1#32
  ⟨c0_i32_59, v334, c1_i32_61⟩
def k0_mult2 (i : grid0.Coords) (k0_t1 : Fin (k0_t1_loop i).trips) : BitVec 32 :=
  let c0_i32_59 : BitVec 32 := 0#32
  let c1_i32_61 : BitVec 32 := 1#32
  let arg12 : BitVec 32 := Scf.iv c0_i32_59 c1_i32_61 k0_t1
  let c256_i32_70 : BitVec 32 := 256#32
  let v341 : BitVec 32 := Scalar.muli arg12 c256_i32_70
  v341
def k0_off2 (i : grid0.Coords) (k0_t1 : Fin (k0_t1_loop i).trips) : Fin 3 → Nat :=
  let c0_71 : Index := 0#32
  let c0_i32_59 : BitVec 32 := 0#32
  let c1_i32_61 : BitVec 32 := 1#32
  let arg12 : BitVec 32 := Scf.iv c0_i32_59 c1_i32_61 k0_t1
  let c256_i32_70 : BitVec 32 := 256#32
  let v341 : BitVec 32 := Scalar.muli arg12 c256_i32_70
  let v342 : BitVec 32 := v341
  let v343 : Index := Scalar.indexCast v342
  let c0_72 : Index := 0#32
  ![0, v343.toNat, 0]
def k0_off3 (i : grid0.Coords) (k0_t1 : Fin (k0_t1_loop i).trips) : Fin 3 → Nat :=
  let c0_i32_59 : BitVec 32 := 0#32
  let c1_i32_61 : BitVec 32 := 1#32
  let arg12 : BitVec 32 := Scf.iv c0_i32_59 c1_i32_61 k0_t1
  let v349 : Index := Scalar.indexCast arg12
  let c0_75 : Index := 0#32
  let c0_76 : Index := 0#32
  ![v349.toNat, 0, 0]
@[reducible] def k0_t2_loop (i : grid0.Coords) : Scf.Loop 32 :=
  let c0_i32_59 : BitVec 32 := 0#32
  let arg2 : BitVec 32 := BitVec.ofNat 32 (i 2).val
  let v330 : BitVec 32 := Scalar.subi arg2 c0_i32_59
  let c1_i32_60 : BitVec 32 := 1#32
  let v332 : BitVec 32 := Scalar.divsi v330 c1_i32_60
  let v333 : BitVec 32 := Scalar.muli v332 c1_i32_60
  let v334 : BitVec 32 := Scalar.addi c0_i32_59 v333
  let v331 : BitVec 32 := Scalar.addi c0_i32_59 v330
  let c1_i32_62 : BitVec 32 := 1#32
  ⟨v334, v331, c1_i32_62⟩
def k0_mult3 (i : grid0.Coords) (k0_t2 : Fin (k0_t2_loop i).trips) : BitVec 32 :=
  let c0_i32_59 : BitVec 32 := 0#32
  let arg2 : BitVec 32 := BitVec.ofNat 32 (i 2).val
  let v330 : BitVec 32 := Scalar.subi arg2 c0_i32_59
  let c1_i32_60 : BitVec 32 := 1#32
  let v332 : BitVec 32 := Scalar.divsi v330 c1_i32_60
  let v333 : BitVec 32 := Scalar.muli v332 c1_i32_60
  let v334 : BitVec 32 := Scalar.addi c0_i32_59 v333
  let c1_i32_62 : BitVec 32 := 1#32
  let arg12 : BitVec 32 := Scf.iv v334 c1_i32_62 k0_t2
  let c256_i32_70 : BitVec 32 := 256#32
  let v341 : BitVec 32 := Scalar.muli arg12 c256_i32_70
  v341
def k0_off4 (i : grid0.Coords) (k0_t2 : Fin (k0_t2_loop i).trips) : Fin 3 → Nat :=
  let c0_71 : Index := 0#32
  let c0_i32_59 : BitVec 32 := 0#32
  let arg2 : BitVec 32 := BitVec.ofNat 32 (i 2).val
  let v330 : BitVec 32 := Scalar.subi arg2 c0_i32_59
  let c1_i32_60 : BitVec 32 := 1#32
  let v332 : BitVec 32 := Scalar.divsi v330 c1_i32_60
  let v333 : BitVec 32 := Scalar.muli v332 c1_i32_60
  let v334 : BitVec 32 := Scalar.addi c0_i32_59 v333
  let c1_i32_62 : BitVec 32 := 1#32
  let arg12 : BitVec 32 := Scf.iv v334 c1_i32_62 k0_t2
  let c256_i32_70 : BitVec 32 := 256#32
  let v341 : BitVec 32 := Scalar.muli arg12 c256_i32_70
  let v342 : BitVec 32 := v341
  let v343 : Index := Scalar.indexCast v342
  let c0_72 : Index := 0#32
  ![0, v343.toNat, 0]
def k0_off5 (i : grid0.Coords) (k0_t2 : Fin (k0_t2_loop i).trips) : Fin 3 → Nat :=
  let c0_i32_59 : BitVec 32 := 0#32
  let arg2 : BitVec 32 := BitVec.ofNat 32 (i 2).val
  let v330 : BitVec 32 := Scalar.subi arg2 c0_i32_59
  let c1_i32_60 : BitVec 32 := 1#32
  let v332 : BitVec 32 := Scalar.divsi v330 c1_i32_60
  let v333 : BitVec 32 := Scalar.muli v332 c1_i32_60
  let v334 : BitVec 32 := Scalar.addi c0_i32_59 v333
  let c1_i32_62 : BitVec 32 := 1#32
  let arg12 : BitVec 32 := Scf.iv v334 c1_i32_62 k0_t2
  let v349 : Index := Scalar.indexCast arg12
  let c0_75 : Index := 0#32
  let c0_76 : Index := 0#32
  ![v349.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Proof.ScanPieces.lean ====
/- One grid point of the scan's kernel at the extended reals: what one sequence's and one head's part of the body computes, read at an
   index. -/
module

public import proofs.«01_k».proof.Proof.Gen.KernelIdeal.Value
public import Idealize.ShloMosaic.Lib.Pointwise

@[expose] public section

set_option maxRecDepth 16384

noncomputable section

namespace Cert.ScanBlock

open Idealize.ShloMosaic Idealize.ShloMosaic.TcCoe Idealize.SL.Sem
open Cert.KernelIdeal Cert.KernelIdeal.Gen

/-- The lane of head `h`'s channel `k` among the 512 lanes. -/
def lane (h : Fin 4) (k : Fin 128) : Fin 512 := ⟨128 * h.val + k.val, by omega⟩

/-- The lane of head `h`'s chunk position `k` among the 256 lanes. -/
def lane' (h : Fin 4) (k : Fin 64) : Fin 256 := ⟨64 * h.val + k.val, by omega⟩

variable (u w qg kd el : Vec Ideal S4x64x512 .f32) (a : Vec Ideal S4x64x256 .f32) (S : Vec Ideal S4x4x128x128 .f32)

/-- The corrected values of a chunk: `u − w · S`. -/
def fresh (g h : Fin 4) (r : Fin 64) (v : Fin 128) : EReal :=
  u (ix3 g r (lane h v)) - ∑ k : Fin 128, w (ix3 g r (lane h k)) * S (ix4 g h k v)

/-- The outputs of a chunk: `qg · S + a · (u − w · S)`. -/
def out (g h : Fin 4) (r : Fin 64) (v : Fin 128) : EReal :=
  ∑ k : Fin 128, qg (ix3 g r (lane h k)) * S (ix4 g h k v) + ∑ j : Fin 64, a (ix3 g r (lane' h j)) * fresh u w S g h j v

/-- The state after a chunk: `el · S + kdᵀ · (u − w · S)`. -/
def next (g h : Fin 4) (k v : Fin 128) : EReal :=
  S (ix4 g h k v) * el (ix3 g 0 (lane h v)) + ∑ r : Fin 64, kd (ix3 g r (lane h k)) * fresh u w S g h r v

/-- The state after a chunk as one array. -/
def nextV : Vec Ideal S4x4x128x128 .f32 := fun i => next u w kd el S (i 0) (i 1) (i 2) (i 3)

/-- The head and the channel of a lane. -/
def headOf (l : Fin 512) : Fin 4 := ⟨l.val / 128, by omega⟩
def chanOf (l : Fin 512) : Fin 128 := ⟨l.val % 128, by omega⟩

/-- The outputs of a chunk as one array. -/
def outV : Vec Ideal S4x64x512 .f32 := fun i => out u w qg a S (i 0) (headOf (i 2)) (i 1) (chanOf (i 2))

/-- The index that the state's part `g, h` puts its index `x` at. -/
theorem state_emb (g h : Fin 4) (hS) (x : (⟨4, ![1, 1, 128, 128]⟩ : Shape).Idx) :
    (Rect.unit (s := S4x4x128x128) ![g.val, h.val, 0, 0] ![1, 1, 128, 128] hS).emb x = ix4 g h (x 2) (x 3) := by
  have h0 : (x 0).val = 0 := by have := (x 0).isLt; change _ < 1 at this; omega
  have h1 : (x 1).val = 0 := by have := (x 1).isLt; change _ < 1 at this; omega
  funext b
  refine Fin.ext ?_
  fin_cases b
  · show g.val + 1 * (x 0).val = g.val; omega
  · show h.val + 1 * (x 1).val = h.val; omega
  · show 0 + 1 * (x 2).val = (x 2).val; omega
  · show 0 + 1 * (x 3).val = (x 3).val; omega

/-- What the body stores in the state's part `g, h` is the new state there. -/
theorem state_piece (g h : Fin 4) (hS hU hE) (x : (⟨4, ![1, 1, 128, 128]⟩ : Shape).Idx) :
    k0_pay6 (F := Ideal)
      (k0_pay3 (View.ld S (Rect.unit ![g.val, h.val, 0, 0] ![1, 1, 128, 128] hS))
        (View.ld u (Rect.unit ![g.val, 0, 128 * h.val] ![1, 64, 128] hU)) (View.ld w (Rect.unit ![g.val, 0, 128 * h.val] ![1, 64, 128] hU)))
      (k0_pay5 (View.ld S (Rect.unit ![g.val, h.val, 0, 0] ![1, 1, 128, 128] hS)) (View.ld el (Rect.unit ![g.val, 0, 128 * h.val] ![1, 1, 128] hE)))
      (View.ld kd (Rect.unit ![g.val, 0, 128 * h.val] ![1, 64, 128] hU)) x
    = nextV u w kd el S ((Rect.unit (s := S4x4x128x128) ![g.val, h.val, 0, 0] ![1, 1, 128, 128] hS).emb x) := by
  rw [state_emb]
  pointwise [k0_pay6, k0_pay3, k0_pay5, k0_pay2, nextV, next, fresh, lane]

/-- The index that the outputs' part `g, h` puts its index `x` at. -/
theorem out_emb (g h : Fin 4) (hU) (x : (⟨3, ![1, 64, 128]⟩ : Shape).Idx) :
    (Rect.unit (s := S4x64x512) ![g.val, 0, 128 * h.val] ![1, 64, 128] hU).emb x = ix3 g (x 1) (lane h (x 2)) := by
  have h0 : (x 0).val = 0 := by have := (x 0).isLt; change _ < 1 at this; omega
  funext b
  refine Fin.ext ?_
  fin_cases b
  · show g.val + 1 * (x 0).val = g.val; omega
  · show 0 + 1 * (x 1).val = (x 1).val; omega
  · show 128 * h.val + 1 * (x 2).val = 128 * h.val + (x 2).val; omega

theorem headOf_lane (h : Fin 4) (k : Fin 128) : headOf (lane h k) = h := Fin.ext (by simp only [headOf, lane]; omega)
theorem chanOf_lane (h : Fin 4) (k : Fin 128) : chanOf (lane h k) = k := Fin.ext (by simp only [chanOf, lane]; omega)

/-- What the body stores in the outputs' part `g, h` is the outputs there. -/
theorem out_piece (g h : Fin 4) (hS hU hA) (x : (⟨3, ![1, 64, 128]⟩ : Shape).Idx) :
    k0_pay4 (F := Ideal) (View.ld S (Rect.unit ![g.val, h.val, 0, 0] ![1, 1, 128, 128] hS))
      (View.ld u (Rect.unit ![g.val, 0, 128 * h.val] ![1, 64, 128] hU)) (View.ld w (Rect.unit ![g.val, 0, 128 * h.val] ![1, 64, 128] hU))
      (View.ld qg (Rect.unit ![g.val, 0, 128 * h.val] ![1, 64, 128] hU)) (View.ld a (Rect.unit ![g.val, 0, 64 * h.val] ![1, 64, 64] hA)) x
    = outV u w qg a S ((Rect.unit (s := S4x64x512) ![g.val, 0, 128 * h.val] ![1, 64, 128] hU).emb x) := by
  rw [out_emb]
  refine Eq.trans ?_ (show out u w qg a S g h (x 1) (x 2) = outV u w qg a S (ix3 g (x 1) (lane h (x 2))) from ?_)
  swap
  · unfold outV
    exact congr (congrFun (congrArg (out u w qg a S g) (headOf_lane h (x 2)).symm) (x 1)) (chanOf_lane h (x 2)).symm
  pointwise [k0_pay4, k0_pay3, k0_pay2, out, fresh, lane, lane']

end Cert.ScanBlock

end
-- ==== Proof.ScanPoint.lean ====
/- One grid point of the scan's kernel: what its body leaves in the outputs' block and in the state's block. -/
module

public import proofs.«01_k».proof.Proof.ScanPieces
public import Idealize.ShloMosaic.Lib.Pipeline.ReadBack

@[expose] public section

set_option maxRecDepth 16384

noncomputable section

namespace Cert.ScanBlock

open Idealize.ShloMosaic Idealize.ShloMosaic.TcCoe Idealize.SL.Sem
open Cert.KernelIdeal Cert.KernelIdeal.Gen

variable (m : (ℓ : Loc nD τ sig) → Buf (Elt Ideal) ℓ) (c : Dev nD)

/-- A load of the whole state is the state. -/
theorem ld_whole (X : Vec Ideal S4x4x128x128 .f32) (hX) :
    View.ld X (Rect.unit (s := S4x4x128x128) ![0, 0, 0, 0] ![4, 4, 128, 128] hX) = X :=
  View.ld_unit_zero (S := S4x4x128x128) (by funext b; fin_cases b <;> rfl) hX X

/-- The sixteen parts of the state, each stored once. -/
theorem state_later (t : Fin cfg0.N) (h0 : ¬ t.val % 64 = 0) :
    (outsAt0 m c t.val t.isLt).2 = nextV (iblk m c 0 t) (iblk m c 1 t) (iblk m c 3 t) (iblk m c 4 t)
      (outsAt0 m c (t.val - 1) (Nat.lt_of_le_of_lt (Nat.sub_le _ _) t.isLt)).2 := by
  rw [outsAt0_B m c t h0]
  dsimp only
  generalize (outsAt0 m c (t.val - 1) (Nat.lt_of_le_of_lt (Nat.sub_le _ _) t.isLt)).2 = S
  funext y
  unfold out0_B_8
  rw [View.read_writes_apply_eq_canon _ _ _ _ (by apply cover0_B_8)]
  refine View.canon_apply_of_pieces _ _ (View.PiecesOf.mem ?_) y (by apply cover0_B_8)
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_8 t).read_unread]
  exact ⟨state_piece _ _ _ _ _ 3 3 _ _ _, state_piece _ _ _ _ _ 3 2 _ _ _, state_piece _ _ _ _ _ 3 1 _ _ _, state_piece _ _ _ _ _ 3 0 _ _ _,
    state_piece _ _ _ _ _ 2 3 _ _ _, state_piece _ _ _ _ _ 2 2 _ _ _, state_piece _ _ _ _ _ 2 1 _ _ _, state_piece _ _ _ _ _ 2 0 _ _ _,
    state_piece _ _ _ _ _ 1 3 _ _ _, state_piece _ _ _ _ _ 1 2 _ _ _, state_piece _ _ _ _ _ 1 1 _ _ _, state_piece _ _ _ _ _ 1 0 _ _ _,
    state_piece _ _ _ _ _ 0 3 _ _ _, state_piece _ _ _ _ _ 0 2 _ _ _, state_piece _ _ _ _ _ 0 1 _ _ _, state_piece _ _ _ _ _ 0 0 _ _ _, trivial⟩

/-- The sixteen parts of the outputs, each stored once. -/
theorem out_later (t : Fin cfg0.N) (h0 : ¬ t.val % 64 = 0) :
    (outsAt0 m c t.val t.isLt).1 = outV (iblk m c 0 t) (iblk m c 1 t) (iblk m c 2 t) (iblk m c 5 t)
      (outsAt0 m c (t.val - 1) (Nat.lt_of_le_of_lt (Nat.sub_le _ _) t.isLt)).2 := by
  rw [outsAt0_B m c t h0]
  dsimp only
  generalize (outsAt0 m c (t.val - 1) (Nat.lt_of_le_of_lt (Nat.sub_le _ _) t.isLt)).2 = S
  funext y
  unfold out0_B_7
  rw [View.read_writes_apply_eq_canon _ _ _ _ (by apply cover0_B_7)]
  refine View.canon_apply_of_pieces _ _ (View.PiecesOf.mem ?_) y (by apply cover0_B_7)
  unfold kernelRun0_B
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_8 t).read_unread]
  exact ⟨out_piece _ _ _ _ _ 3 3 _ _ _, out_piece _ _ _ _ _ 3 2 _ _ _, out_piece _ _ _ _ _ 3 1 _ _ _, out_piece _ _ _ _ _ 3 0 _ _ _,
    out_piece _ _ _ _ _ 2 3 _ _ _, out_piece _ _ _ _ _ 2 2 _ _ _, out_piece _ _ _ _ _ 2 1 _ _ _, out_piece _ _ _ _ _ 2 0 _ _ _,
    out_piece _ _ _ _ _ 1 3 _ _ _, out_piece _ _ _ _ _ 1 2 _ _ _, out_piece _ _ _ _ _ 1 1 _ _ _, out_piece _ _ _ _ _ 1 0 _ _ _,
    out_piece _ _ _ _ _ 0 3 _ _ _, out_piece _ _ _ _ _ 0 2 _ _ _, out_piece _ _ _ _ _ 0 1 _ _ _, out_piece _ _ _ _ _ 0 0 _ _ _, trivial⟩

/-- At the first chunk the outputs are over the given state. -/
theorem out_first (t : Fin cfg0.N) (h0 : t.val % 64 = 0) :
    (outsAt0 m c t.val t.isLt).1 = outV (iblk m c 0 t) (iblk m c 1 t) (iblk m c 2 t) (iblk m c 5 t) (iblk m c 6 t) := by
  rw [outsAt0_A m c t h0]
  dsimp only
  funext y
  unfold out0_A_7
  rw [View.read_writes_apply_eq_canon _ _ _ _ (by apply cover0_A_7)]
  refine View.canon_apply_of_pieces _ _ (View.PiecesOf.mem ?_) y (by apply cover0_A_7)
  unfold kernelRun0_A
  dsimp only
  sl_unfold_words
  simp (disch := decide) only [↓View.readCov_skip, ↓View.readCov_fill]
  simp only [View.readAt_eq_ld, (hs0_0 t).read_unread, (hs0_1 t).read_unread, (hs0_2 t).read_unread, (hs0_3 t).read_unread,
    (hs0_4 t).read_unread, (hs0_5 t).read_unread, (hs0_6 t).read_unread, ld_whole]
  exact ⟨out_piece _ _ _ _ _ 3 3 _ _ _, out_piece _ _ _ _ _ 3 2 _ _ _, out_piece _ _ _ _ _ 3 1 _ _ _, out_piece _ _ _ _ _ 3 0 _ _ _,
    out_piece _ _ _ _ _ 2 3 _ _ _, out_piece _ _ _ _ _ 2 2 _ _ _, out_piece _ _ _ _ _ 2 1 _ _ _, out_piece _ _ _ _ _ 2 0 _ _ _,
    out_piece _ _ _ _ _ 1 3 _ _ _, out_piece _ _ _ _ _ 1 2 _ _ _, out_piece _ _ _ _ _ 1 1 _ _ _, out_piece _ _ _ _ _ 1 0 _ _ _,
    out_piece _ _ _ _ _ 0 3 _ _ _, out_piece _ _ _ _ _ 0 2 _ _ _, out_piece _ _ _ _ _ 0 1 _ _ _, out_piece _ _ _ _ _ 0 0 _ _ _, trivial⟩

/-- At the first chunk the state is made of the given one. -/
theorem state_first (t : Fin cfg0.N) (h0 : t.val % 64 = 0) :
    (outsAt0 m c t.val t.isLt).2 = nextV (iblk m c 0 t) (iblk m c 1 t) (iblk m c 3 t) (iblk m c 4 t) (iblk m c 6 t) := by
  rw [outsAt0_A m c t h0]
  dsimp only
  funext y
  unfold out0_A_8
  rw [View.read_writes_apply_eq_canon _ _ _ _ (by apply cover0_A_8)]
  unfold kernelRun0_A
  dsimp only
  sl_unfold_words
  simp (disch := decide) only [↓View.readCov_skip, ↓View.readCov_fill]
  simp only [View.readAt_eq_ld, (hs0_0 t).read_unread, (hs0_1 t).read_unread, (hs0_2 t).read_unread, (hs0_3 t).read_unread,
    (hs0_4 t).read_unread, (hs0_5 t).read_unread, (hs0_6 t).read_unread, ld_whole]
  refine View.canon_append_of_piecesOf _ [_] [_, _, _, _, _, _, _, _, _, _, _, _, _, _, _, _] ⟨state_piece _ _ _ _ _ 3 3 _ _ _, state_piece _ _ _ _ _ 3 2 _ _ _, state_piece _ _ _ _ _ 3 1 _ _ _, state_piece _ _ _ _ _ 3 0 _ _ _,
    state_piece _ _ _ _ _ 2 3 _ _ _, state_piece _ _ _ _ _ 2 2 _ _ _, state_piece _ _ _ _ _ 2 1 _ _ _, state_piece _ _ _ _ _ 2 0 _ _ _,
    state_piece _ _ _ _ _ 1 3 _ _ _, state_piece _ _ _ _ _ 1 2 _ _ _, state_piece _ _ _ _ _ 1 1 _ _ _, state_piece _ _ _ _ _ 1 0 _ _ _,
    state_piece _ _ _ _ _ 0 3 _ _ _, state_piece _ _ _ _ _ 0 2 _ _ _, state_piece _ _ _ _ _ 0 1 _ _ _, state_piece _ _ _ _ _ 0 0 _ _ _, trivial⟩ y
    (View.cover_of_tiledBy _ ![1, 1, 128, 128] (by sl_kernel_rfl) y)

end Cert.ScanBlock

end
-- ==== Proof.ScanFold.lean ====
/- The scan's kernel over all grid points: the recurrence over the 64 chunks of the arguments, and the two arrays that the run leaves. -/
module

public import proofs.«01_k».proof.Proof.ScanPoint

@[expose] public section

set_option maxRecDepth 16384

noncomputable section

namespace Cert.ScanBlock

open Idealize.ShloMosaic Idealize.ShloMosaic.TcCoe Idealize.SL.Sem
open Cert.KernelIdeal Cert.KernelIdeal.Gen
open Idealize.ShloMosaic.Pipeline (Dat)

/-- The row of chunk `n`'s position `r`. -/
def rowOf (n : ℕ) (r : Fin 64) : Fin 4096 := ⟨(64 * n + r.val) % 4096, Nat.mod_lt _ (by omega)⟩

/-- Chunk `n` of an array with 512 lanes. -/
def chunk (X : Vec Ideal S4x4096x512 .f32) (n : ℕ) : Vec Ideal S4x64x512 .f32 := fun i => X (ix3 (i 0) (rowOf n (i 1)) (i 2))

/-- Chunk `n` of an array with 256 lanes. -/
def chunk' (X : Vec Ideal S4x4096x256 .f32) (n : ℕ) : Vec Ideal S4x64x256 .f32 := fun i => X (ix3 (i 0) (rowOf n (i 1)) (i 2))

/-- The state before chunk `n`. -/
def stateAt (u w kd el : Vec Ideal S4x4096x512 .f32) (s0 : Vec Ideal S4x4x128x128 .f32) : ℕ → Vec Ideal S4x4x128x128 .f32
  | 0 => s0
  | n + 1 => nextV (chunk u n) (chunk w n) (chunk kd n) (chunk el n) (stateAt u w kd el s0 n)

/-- The outputs of chunk `n`. -/
def outAt (u w qg kd el : Vec Ideal S4x4096x512 .f32) (a : Vec Ideal S4x4096x256 .f32) (s0 : Vec Ideal S4x4x128x128 .f32) (n : ℕ) :
    Vec Ideal S4x64x512 .f32 :=
  outV (chunk u n) (chunk w n) (chunk qg n) (chunk' a n) (stateAt u w kd el s0 n)

/-- All outputs: row `64 n + r` is row `r` of chunk `n`'s outputs. -/
def outAll (u w qg kd el : Vec Ideal S4x4096x512 .f32) (a : Vec Ideal S4x4096x256 .f32) (s0 : Vec Ideal S4x4x128x128 .f32) :
    Vec Ideal S4x4096x512 .f32 :=
  fun i => outAt u w qg kd el a s0 ((i 1).val / 64) (ix3 (i 0) ⟨(i 1).val % 64, Nat.mod_lt _ (by omega)⟩ (i 2))

variable (m : (ℓ : Loc nD τ sig) → Buf (Elt Ideal) ℓ) (c : Dev nD)

/-- The six chunked windows read, and the outputs' window writes, the chunk of the grid point's number. -/
theorem index_chunk : ∀ t : Fin cfg0.N,
    (win0_0.index t 0 = 0 ∧ win0_0.index t 1 = t.val ∧ win0_0.index t 2 = 0) ∧
    (win0_1.index t 0 = 0 ∧ win0_1.index t 1 = t.val ∧ win0_1.index t 2 = 0) ∧
    (win0_2.index t 0 = 0 ∧ win0_2.index t 1 = t.val ∧ win0_2.index t 2 = 0) ∧
    (win0_3.index t 0 = 0 ∧ win0_3.index t 1 = t.val ∧ win0_3.index t 2 = 0) ∧
    (win0_4.index t 0 = 0 ∧ win0_4.index t 1 = t.val ∧ win0_4.index t 2 = 0) ∧
    (win0_5.index t 0 = 0 ∧ win0_5.index t 1 = t.val ∧ win0_5.index t 2 = 0) ∧
    (win0_7.index t 0 = 0 ∧ win0_7.index t 1 = t.val ∧ win0_7.index t 2 = 0) := by
  decide +kernel

/-- The state's windows are the whole state at each grid point. -/
theorem index_state : ∀ t : Fin cfg0.N,
    (win0_6.index t 0 = 0 ∧ win0_6.index t 1 = 0 ∧ win0_6.index t 2 = 0 ∧ win0_6.index t 3 = 0) ∧
    (win0_8.index t 0 = 0 ∧ win0_8.index t 1 = 0 ∧ win0_8.index t 2 = 0 ∧ win0_8.index t 3 = 0) := by
  decide +kernel

/-- The index of an array that a block's index `j` at block index `0, t, 0` is. -/
theorem chunk_index {L : ℕ} (t : ℕ) (ht : t < 64) {p q s : ℕ} (hp : p = 0) (hq : q = t) (hs : s = 0) (j : (⟨3, ![4, 64, L]⟩ : Shape).Idx)
    (e : (⟨3, ![4, 4096, L]⟩ : Shape).Idx) (h0 : (e 0).val = p * 4 + 1 * (j 0).val) (h1 : (e 1).val = q * 64 + 1 * (j 1).val)
    (h2 : (e 2).val = s * L + 1 * (j 2).val) : e = ix3 (j 0) (rowOf t (j 1)) (j 2) := by
  subst hp hq hs
  have hj : (j 1).val < 64 := (j 1).isLt
  funext b
  refine Fin.ext ?_
  fin_cases b
  · show (e 0).val = (j 0).val; omega
  · show (e 1).val = (64 * q + (j 1).val) % 4096; omega
  · show (e 2).val = (j 2).val; omega

theorem lt_N (t : Fin cfg0.N) : t.val < 64 := t.isLt

theorem block_u (t : Fin cfg0.N) : (iblk m c 0 t : Vec Ideal S4x64x512 .f32) = chunk (m ((c : Thread nD τ).loc main_arg0)) t.val := by
  obtain ⟨⟨h0, h1, h2⟩, -⟩ := index_chunk t
  funext j
  unfold iblk
  rw [View.read_apply]
  exact congrArg (m ((c : Thread nD τ).loc main_arg0)) (chunk_index t.val (lt_N t) h0 h1 h2 j _ rfl rfl rfl)

theorem block_w (t : Fin cfg0.N) : (iblk m c 1 t : Vec Ideal S4x64x512 .f32) = chunk (m ((c : Thread nD τ).loc main_arg1)) t.val := by
  obtain ⟨-, ⟨h0, h1, h2⟩, -⟩ := index_chunk t
  funext j
  unfold iblk
  rw [View.read_apply]
  exact congrArg (m ((c : Thread nD τ).loc main_arg1)) (chunk_index t.val (lt_N t) h0 h1 h2 j _ rfl rfl rfl)

theorem block_qg (t : Fin cfg0.N) : (iblk m c 2 t : Vec Ideal S4x64x512 .f32) = chunk (m ((c : Thread nD τ).loc main_arg2)) t.val := by
  obtain ⟨-, -, ⟨h0, h1, h2⟩, -⟩ := index_chunk t
  funext j
  unfold iblk
  rw [View.read_apply]
  exact congrArg (m ((c : Thread nD τ).loc main_arg2)) (chunk_index t.val (lt_N t) h0 h1 h2 j _ rfl rfl rfl)

theorem block_kd (t : Fin cfg0.N) : (iblk m c 3 t : Vec Ideal S4x64x512 .f32) = chunk (m ((c : Thread nD τ).loc main_arg3)) t.val := by
  obtain ⟨-, -, -, ⟨h0, h1, h2⟩, -⟩ := index_chunk t
  funext j
  unfold iblk
  rw [View.read_apply]
  exact congrArg (m ((c : Thread nD τ).loc main_arg3)) (chunk_index t.val (lt_N t) h0 h1 h2 j _ rfl rfl rfl)

theorem block_el (t : Fin cfg0.N) : (iblk m c 4 t : Vec Ideal S4x64x512 .f32) = chunk (m ((c : Thread nD τ).loc main_arg4)) t.val := by
  obtain ⟨-, -, -, -, ⟨h0, h1, h2⟩, -⟩ := index_chunk t
  funext j
  unfold iblk
  rw [View.read_apply]
  exact congrArg (m ((c : Thread nD τ).loc main_arg4)) (chunk_index t.val (lt_N t) h0 h1 h2 j _ rfl rfl rfl)

theorem block_a (t : Fin cfg0.N) : (iblk m c 5 t : Vec Ideal S4x64x256 .f32) = chunk' (m ((c : Thread nD τ).loc main_arg5)) t.val := by
  obtain ⟨-, -, -, -, -, ⟨h0, h1, h2⟩, -⟩ := index_chunk t
  funext j
  unfold iblk
  rw [View.read_apply]
  exact congrArg (m ((c : Thread nD τ).loc main_arg5)) (chunk_index t.val (lt_N t) h0 h1 h2 j _ rfl rfl rfl)

/-- The state's block is at the origin of the state: an index of it is the same index of the state. -/
theorem state_index {p q s v : ℕ} (hp : p = 0) (hq : q = 0) (hs : s = 0) (hv : v = 0) (j e : (⟨4, ![4, 4, 128, 128]⟩ : Shape).Idx)
    (h0 : (e 0).val = p * 4 + 1 * (j 0).val) (h1 : (e 1).val = q * 4 + 1 * (j 1).val) (h2 : (e 2).val = s * 128 + 1 * (j 2).val)
    (h3 : (e 3).val = v * 128 + 1 * (j 3).val) : e = j := by
  subst hp hq hs hv
  funext b
  refine Fin.ext ?_
  fin_cases b
  · show (e 0).val = (j 0).val; omega
  · show (e 1).val = (j 1).val; omega
  · show (e 2).val = (j 2).val; omega
  · show (e 3).val = (j 3).val; omega

theorem block_s0 (t : Fin cfg0.N) : (iblk m c 6 t : Vec Ideal S4x4x128x128 .f32) = m ((c : Thread nD τ).loc main_arg6) := by
  obtain ⟨⟨h0, h1, h2, h3⟩, -⟩ := index_state t
  funext j
  unfold iblk
  rw [View.read_apply]
  exact congrArg (m ((c : Thread nD τ).loc main_arg6)) (state_index h0 h1 h2 h3 j _ rfl rfl rfl rfl)

/-- The state before chunk `n`, of the arguments in memory. -/
abbrev memState (n : ℕ) : Vec Ideal S4x4x128x128 .f32 :=
  stateAt (m ((c : Thread nD τ).loc main_arg0)) (m ((c : Thread nD τ).loc main_arg1)) (m ((c : Thread nD τ).loc main_arg3))
    (m ((c : Thread nD τ).loc main_arg4)) (m ((c : Thread nD τ).loc main_arg6)) n

/-- After grid point `n` the state's block holds the state before chunk `n + 1`. -/
theorem state_point : ∀ (n : ℕ) (hn : n < cfg0.N), (outsAt0 m c n hn).2 = memState m c (n + 1)
  | 0, hn => by
    rw [state_first m c ⟨0, hn⟩ rfl, block_u, block_w, block_kd, block_el, block_s0]
    rfl
  | n + 1, hn => by
    have h : ¬ (n + 1) % 64 = 0 := by have := lt_N ⟨n + 1, hn⟩; simp only at this; omega
    rw [state_later m c ⟨n + 1, hn⟩ h, block_u, block_w, block_kd, block_el]
    simp only [Nat.add_sub_cancel]
    rw [state_point n]
    rfl

/-- All outputs, of the arguments in memory. -/
abbrev memOut : Vec Ideal S4x4096x512 .f32 :=
  outAll (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6))

/-- After grid point `n` the outputs' block holds chunk `n`'s outputs. -/
theorem out_point (n : ℕ) (hn : n < cfg0.N) : (outsAt0 m c n hn).1 =
    outAt (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) n := by
  cases n with
  | zero =>
    rw [out_first m c ⟨0, hn⟩ rfl, block_u, block_w, block_qg, block_a, block_s0]
    rfl
  | succ n =>
    have h : ¬ (n + 1) % 64 = 0 := by have := lt_N ⟨n + 1, hn⟩; simp only at this; omega
    rw [out_later m c ⟨n + 1, hn⟩ h, block_u, block_w, block_qg, block_a]
    simp only [Nat.add_sub_cancel]
    rw [state_point m c n]
    rfl

/-- Row `64 n + r` of all outputs is row `r` of chunk `n`. -/
theorem outAll_row (u w qg kd el : Vec Ideal S4x4096x512 .f32) (a : Vec Ideal S4x4096x256 .f32) (s0 : Vec Ideal S4x4x128x128 .f32)
    (n : ℕ) (hn : n < 64) (g : Fin 4) (r : Fin 64) (l : Fin 512) :
    outAll u w qg kd el a s0 (ix3 g (rowOf n r) l) = outAt u w qg kd el a s0 n (ix3 g r l) := by
  have h1 : (rowOf n r).val / 64 = n := by simp only [rowOf]; omega
  have h2 : (⟨(rowOf n r).val % 64, Nat.mod_lt _ (by omega)⟩ : Fin 64) = r := Fin.ext (by simp only [rowOf]; omega)
  unfold outAll
  exact congr (congrArg (outAt u w qg kd el a s0) h1) (congrArg (fun r => ix3 g r l) h2)

/-- The run leaves all outputs in the first result. -/
theorem array_out : (Gen.dats m 0 c).arrAt 7 cfg0.N = memOut m c := by
  refine (Gen.dats m 0 c).arrAt_eq_of_cover 7 (memOut m c) (fun t _ => ?_) (fun i => ?_)
  · obtain ⟨-, -, -, -, -, -, ⟨h0, h1, h2⟩⟩ := index_chunk t
    rw [Value.flushed7]
    funext j
    rw [View.read_apply]
    refine (congrFun (out_point m c t.val t.isLt) j).trans ?_
    refine Eq.trans ?_ (congrArg (memOut m c) (chunk_index t.val (lt_N t) h0 h1 h2 j _ rfl rfl rfl)).symm
    refine Eq.trans ?_ (outAll_row _ _ _ _ _ _ _ t.val (lt_N t) (j 0) (j 1) (j 2)).symm
    exact congrArg _ (by funext b; fin_cases b <;> rfl)
  · have hi : (i 1).val < 4096 := (i 1).isLt
    let t : Fin cfg0.N := ⟨(i 1).val / 64, by show _ < 64; omega⟩
    obtain ⟨-, -, -, -, -, -, ⟨h0, h1, h2⟩⟩ := index_chunk t
    refine ⟨t, ?_, ?_⟩
    · exact (by decide +kernel : ∀ t : Fin cfg0.N, (cfg0.win 7).flush t = true) t
    · let j : S4x64x512.Idx := ix3 (i 0) ⟨(i 1).val % 64, Nat.mod_lt _ (by omega)⟩ (i 2)
      refine Finset.mem_map.mpr ⟨j, Finset.mem_univ _, ?_⟩
      refine (chunk_index t.val (lt_N t) h0 h1 h2 j _ rfl rfl rfl).trans ?_
      funext b
      refine Fin.ext ?_
      fin_cases b
      · rfl
      · show (64 * ((i 1).val / 64) + (i 1).val % 64) % 4096 = (i 1).val; omega
      · rfl

/-- The run leaves the state after the last chunk in the second result. -/
theorem array_state : (Gen.dats m 0 c).arrAt 8 cfg0.N = memState m c 64 := by
  have hf : ∀ t : Fin cfg0.N, (cfg0.win 8).flush t = true → t.val = 63 := by decide +kernel
  refine (Gen.dats m 0 c).arrAt_eq_of_cover 8 (memState m c 64) (fun t ht => ?_) (fun i => ?_)
  · obtain ⟨-, ⟨h0, h1, h2, h3⟩⟩ := index_state t
    rw [Value.flushed8]
    funext j
    rw [View.read_apply]
    refine (congrFun (state_point m c t.val t.isLt) j).trans ?_
    refine Eq.trans ?_ (congrArg (memState m c 64) (state_index h0 h1 h2 h3 j _ rfl rfl rfl rfl)).symm
    rw [hf t ht]
  · let t : Fin cfg0.N := ⟨63, by decide⟩
    obtain ⟨-, ⟨h0, h1, h2, h3⟩⟩ := index_state t
    refine ⟨t, by decide +kernel, ?_⟩
    exact Finset.mem_map.mpr ⟨i, Finset.mem_univ _, state_index h0 h1 h2 h3 i _ rfl rfl rfl rfl⟩

end Cert.ScanBlock

end
-- ==== Proof.ScanRun.lean ====
/- The run of the reference of the scan, as its step iterated from its first state. -/
module

public import proofs.«01_k».proof.Proof.Gen.ReferenceIdeal.Run
public import proofs.«01_k».proof.Proof.Gen.ReferenceIdeal.Step

@[expose] public section

noncomputable section

namespace Cert.ScanRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v15)

variable {F : FTy → Type} [FloatOps F]

/-- The loop's state as a valuation of the buffers has it. -/
def stateOf (V : Valuation τ sig (Elt F)) : State F where
  main_v13_7 := V (Proc.devRef .tc main_v13_7)
  main_v13_8 := V (Proc.devRef .tc main_v13_8)
  main_v13_0 := V (Proc.devRef .tc main_v13_0)
  main_v13_1 := V (Proc.devRef .tc main_v13_1)
  main_v13_2 := V (Proc.devRef .tc main_v13_2)
  main_v13_3 := V (Proc.devRef .tc main_v13_3)
  main_v13_4 := V (Proc.devRef .tc main_v13_4)
  main_v13_5 := V (Proc.devRef .tc main_v13_5)

/-- The trip's number as a valuation has it. -/
def Counts (V : Valuation τ sig (Elt F)) (j : ℕ) : Prop :=
  V (Proc.devRef .tc main_v13_6) = constantI S_ 32 (BitVec.ofNat 32 j)

variable {V : Valuation τ sig (Elt F)} {j : ℕ}

set_option maxRecDepth 8192 in
/-- One trip's state matrix is the step's. -/
theorem matrix_trip (h : Counts V j) : step_main_v13_7 V = (step j (stateOf V)).main_v13_7 := by
  unfold step_main_v13_7 res_main_while0b_v23
  rw [show V (Proc.devRef .tc main_v13_6) = _ from h]
  rfl

set_option maxRecDepth 8192 in
/-- One trip's collected output is the step's. -/
theorem output_trip (h : Counts V j) : step_main_v13_8 V = (step j (stateOf V)).main_v13_8 := by
  unfold step_main_v13_8 res_main_while0b_v23
  rw [show V (Proc.devRef .tc main_v13_6) = _ from h]
  rfl

/-- The first result is read off the collected outputs. -/
theorem collected_out (V : Valuation τ sig (Elt F)) : out_main_v15 V = R_main_v15 (stateOf V) := rfl

/-- One trip counts on by one. -/
theorem counts_trip (h : Counts V j) : Counts (STEP V) (j + 1) := by
  refine (STEP_main_v13_6 V).trans ?_
  unfold step_main_v13_6
  rw [show V (Proc.devRef .tc main_v13_6) = _ from h]
  funext i
  exact (BitVec.ofNat_add ..).symm

/-- One trip takes the state to the step's state. -/
theorem stateOf_trip (h : Counts V j) : stateOf (STEP V) = step j (stateOf V) := by
  unfold stateOf
  rw [STEP_main_v13_7 V, STEP_main_v13_8 V, STEP_main_v13_0 V, STEP_main_v13_1 V, STEP_main_v13_2 V, STEP_main_v13_3 V,
    STEP_main_v13_4 V, STEP_main_v13_5 V, matrix_trip h, output_trip h]
  rfl

variable (m : (ℓ : Loc nD τ sig) → Buf (Elt F) ℓ) (c : Dev nD)

/-- The first trip's state, of the memory the run starts from. -/
abbrev start : State F :=
  init (m ((c.tc : Thread nD τ).loc main_arg6)) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

set_option maxRecDepth 65536 in
set_option maxHeartbeats 1000000 in
/-- The operations before the loop leave the number zero and the first state. -/
theorem entry : Counts (entryContents preI m c) 0 ∧ stateOf (entryContents preI m c) = start m c := by
  constructor
  · unfold Counts; simp only [entryContents, afterL_cons, afterL_nil]; after_reads_simp <;> rfl
  · unfold stateOf; simp only [entryContents, afterL_cons, afterL_nil]; after_reads_simp <;> rfl

/-- The state before trip `k`: the step iterated from the first state. -/
def states : ℕ → State F
  | 0 => start m c
  | k + 1 => step k (states k)

/-- Before trip `k` the buffers count `k` and hold the `k`-th state. -/
theorem trips : ∀ k, Counts (STEP^[k] (entryContents preI m c)) k ∧ stateOf (STEP^[k] (entryContents preI m c)) = states m c k
  | 0 => entry m c
  | k + 1 => by
    obtain ⟨hc, hs⟩ := trips k
    rw [Function.iterate_succ_apply']
    exact ⟨counts_trip hc, (stateOf_trip hc).trans (by rw [hs]; rfl)⟩

/-- Every run of the reference ends with its two results read off the 64th state, and the arguments unchanged. -/
theorem run_states (ρ : Dev nD → PrngReg) :
    θ_run (defs (F := F)) (onTc (τ := τ) (main (F := F))) ⟨m, fun _ => 0, ρ⟩ fun r => ∀ c : Dev nD,
      r.2.mem ((c.tc : Thread nD τ).loc main_v15) = R_main_v15 (states m c 64)
      ∧ r.2.mem ((c.tc : Thread nD τ).loc main_v13_7) = (states m c 64).main_v13_7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    have hs := (trips m c 64).2
    ⟨(h c).1.trans ((collected_out _).trans (congrArg R_main_v15 hs)), (h c).2.1.trans (congrArg State.main_v13_7 hs), (h c).2.2⟩)
    (Value.run m ρ)

end Cert.ScanRun

end
-- ==== Proof.ScanRef.lean ====
/- The scan's reference at the extended reals: its states are the recurrence over the chunks, and its collected outputs are all outputs. -/
module

public import proofs.«01_k».proof.Proof.ScanFold
public import proofs.«01_k».proof.Proof.ScanRun
public import Idealize.ShloMosaic.Lib.DynamicIndex

@[expose] public section

set_option maxRecDepth 16384

noncomputable section

namespace Cert.ScanRef

open Idealize.ShloMosaic Idealize.ShloMosaic.TcCoe Idealize.SL.Sem Idealize.ShloMosaic.StableHlo
open Cert.ReferenceIdeal Cert.ReferenceIdeal.Step Cert.ScanBlock Cert.ScanRun
open Cert.ReferenceIdeal.Gen (h_S_)

/-! ## One chunk of a stacked array -/

/-- The indices that a trip slices at: its number, and zeros. -/
theorem start_trip (j : Fin 64) (k : Fin 5) :
    ((![(constantI S_ 32 (BitVec.ofNat 32 j.val) : (⟨S_, .i32⟩ : BufTy).Contents (Elt Ideal)), constantI S_ 32 0#32, constantI S_ 32 0#32,
      constantI S_ 32 0#32, constantI S_ 32 0#32] : Fin 5 → (⟨S_, .i32⟩ : BufTy).Contents (Elt Ideal)) k (Shape.Idx.first h_S_)).toInt
      = ((![j.val, 0, 0, 0, 0] : Fin 5 → ℕ) k : ℤ) := by
  fin_cases k
  · exact toInt_ofNat_of_lt (by have := j.isLt; omega)
  all_goals rfl

/-- A chunk's place in a stack of 64 chunks with 128 channels. -/
theorem fits_128 (j : Fin 64) : S64x4x4x64x128.Slices ![j.val, 0, 0, 0, 0] S1x4x4x64x128 := by
  refine ⟨rfl, fun a => ?_⟩
  have := j.isLt
  fin_cases a
  · show j.val + 1 ≤ 64; omega
  all_goals exact Nat.le_refl _

/-- A chunk's place in a stack of 64 chunks with 64 positions. -/
theorem fits_64 (j : Fin 64) : S64x4x4x64x64.Slices ![j.val, 0, 0, 0, 0] S1x4x4x64x64 := by
  refine ⟨rfl, fun a => ?_⟩
  have := j.isLt
  fin_cases a
  · show j.val + 1 ≤ 64; omega
  all_goals exact Nat.le_refl _

/-- The trip's chunk of a stack with 128 channels, read at an index. -/
theorem slice_128 (j : Fin 64) (X : Vec Ideal S64x4x4x64x128 .f32) (hf) (g h : Fin 4) (r : Fin 64) (v : Fin 128) :
    shapeCast S4x4x64x128 (Host.dynamicSlice S1x4x4x64x128 X (fun k => ((![(constantI S_ 32 (BitVec.ofNat 32 j.val) : (⟨S_, .i32⟩ : BufTy).Contents (Elt Ideal)),
      constantI S_ 32 0#32, constantI S_ 32 0#32, constantI S_ 32 0#32, constantI S_ 32 0#32] : Fin 5 → (⟨S_, .i32⟩ : BufTy).Contents (Elt Ideal)) k
      (Shape.Idx.first h_S_)).toInt) hf) Gen.shapeCasts_S1x4x4x64x128_S4x4x64x128 (ix4 g h r v) = X (ix5 j g h r v) := by
  rw [Host.dynamicSlice_eq_extractStridedSlice _ _ _ ![j.val, 0, 0, 0, 0] _ (fits_128 j) (start_trip j)]
  pointwise

/-- The trip's chunk of the stack with 64 positions, read at an index. -/
theorem slice_64 (j : Fin 64) (X : Vec Ideal S64x4x4x64x64 .f32) (hf) (g h : Fin 4) (r p : Fin 64) :
    shapeCast S4x4x64x64 (Host.dynamicSlice S1x4x4x64x64 X (fun k => ((![(constantI S_ 32 (BitVec.ofNat 32 j.val) : (⟨S_, .i32⟩ : BufTy).Contents (Elt Ideal)),
      constantI S_ 32 0#32, constantI S_ 32 0#32, constantI S_ 32 0#32, constantI S_ 32 0#32] : Fin 5 → (⟨S_, .i32⟩ : BufTy).Contents (Elt Ideal)) k
      (Shape.Idx.first h_S_)).toInt) hf) Gen.shapeCasts_S1x4x4x64x64_S4x4x64x64 (ix4 g h r p) = X (ix5 j g h r p) := by
  rw [Host.dynamicSlice_eq_extractStridedSlice _ _ _ ![j.val, 0, 0, 0, 0] _ (fits_64 j) (start_trip j)]
  pointwise

/-- An update at starts that leave the block inside the operand is the update at those starts. -/
theorem update_static {α : Type} {s u : Shape} (x : s.Idx → α) (y : u.Idx → α) (start : Fin s.rank → Int) (off : Fin s.rank → Nat)
    (h : s.Slices (fun _ => 0) u) (hoff : s.Slices off u) (hs : ∀ a, start a = (off a : Int)) :
    Host.dynamicUpdateSlice x y start h = updateSlice x y off hoff := by
  obtain rfl : (fun a => (min (max (start a) 0) ((s.size a - u.size (a.cast h.1.symm) : Nat) : Int)).toNat) = off :=
    funext fun a => by have := hoff.2 a; rw [hs a]; omega
  rfl

/-- Putting a chunk into the stack of outputs changes that chunk alone. -/
theorem put_chunk (j n : Fin 64) (X : Vec Ideal S64x4x4x64x128 .f32) (Y : Vec Ideal S1x4x4x64x128 .f32) (hf) (g h : Fin 4) (r : Fin 64) (v : Fin 128) :
    Host.dynamicUpdateSlice X Y (fun k => ((![(constantI S_ 32 (BitVec.ofNat 32 j.val) : (⟨S_, .i32⟩ : BufTy).Contents (Elt Ideal)),
      constantI S_ 32 0#32, constantI S_ 32 0#32, constantI S_ 32 0#32, constantI S_ 32 0#32] : Fin 5 → (⟨S_, .i32⟩ : BufTy).Contents (Elt Ideal)) k
      (Shape.Idx.first h_S_)).toInt) hf (ix5 n g h r v) = if n = j then Y (ix5 0 g h r v) else X (ix5 n g h r v) := by
  rw [update_static _ _ _ ![j.val, 0, 0, 0, 0] _ (fits_128 j) (start_trip j)]
  by_cases e : n = j
  · rw [if_pos e]
    have e' : n.val = j.val := congrArg Fin.val e
    pointwise
    rw [dif_pos (by omega)]
    exact congrArg (fun z => Y (ix5 z g h r v)) (Fin.ext (by show n.val - j.val = 0; omega))
  · rw [if_neg e]
    have e' : n.val ≠ j.val := fun q => e (Fin.ext q)
    pointwise
    exact dif_neg (by omega)

/-! ## The setup of the stacks -/

section
variable (x0 x1 x2 x3 x4 : Vec Ideal S4x4096x512 .f32) (x5 : Vec Ideal S4x4096x256 .f32) (n : Fin 64) (g h : Fin 4) (r : Fin 64)

/-- An argument's index whose row is in chunk `n` and whose lane is of head `h`. -/
theorem place_128 (v : Fin 128) (hr hl) : (ix3 g ⟨n.val * 64 + r.val, hr⟩ ⟨h.val * 128 + v.val, hl⟩ : S4x4096x512.Idx) = ix3 g (rowOf n.val r) (lane h v) := by
  have e1 : (⟨n.val * 64 + r.val, hr⟩ : Fin 4096) = rowOf n.val r := Fin.ext (by simp only [rowOf]; omega)
  have e2 : (⟨h.val * 128 + v.val, hl⟩ : Fin 512) = lane h v := Fin.ext (by simp only [lane]; omega)
  rw [e1, e2]
/-- The same of the argument with 256 lanes. -/
theorem place_64 (p : Fin 64) (hr hl) : (ix3 g ⟨n.val * 64 + r.val, hr⟩ ⟨h.val * 64 + p.val, hl⟩ : S4x4096x256.Idx) = ix3 g (rowOf n.val r) (lane' h p) := by
  have e1 : (⟨n.val * 64 + r.val, hr⟩ : Fin 4096) = rowOf n.val r := Fin.ext (by simp only [rowOf]; omega)
  have e2 : (⟨h.val * 64 + p.val, hl⟩ : Fin 256) = lane' h p := Fin.ext (by simp only [lane']; omega)
  rw [e1, e2]

theorem setup_qg (v : Fin 128) : A_main_v1 x0 x1 x2 x3 x4 x5 (ix5 n g h r v) = chunk x2 n.val (ix3 g r (lane h v)) := by
  pointwise [A_main_v1, A_main_v0, chunk]
  exact congrArg _ (place_128 n g h r v _ _)
theorem setup_kd (v : Fin 128) : A_main_v3 x0 x1 x2 x3 x4 x5 (ix5 n g h r v) = chunk x3 n.val (ix3 g r (lane h v)) := by
  pointwise [A_main_v3, A_main_v2, chunk]
  exact congrArg _ (place_128 n g h r v _ _)
theorem setup_u (v : Fin 128) : A_main_v5 x0 x1 x2 x3 x4 x5 (ix5 n g h r v) = chunk x0 n.val (ix3 g r (lane h v)) := by
  pointwise [A_main_v5, A_main_v4, chunk]
  exact congrArg _ (place_128 n g h r v _ _)
theorem setup_w (v : Fin 128) : A_main_v7 x0 x1 x2 x3 x4 x5 (ix5 n g h r v) = chunk x1 n.val (ix3 g r (lane h v)) := by
  pointwise [A_main_v7, A_main_v6, chunk]
  exact congrArg _ (place_128 n g h r v _ _)
theorem setup_el (v : Fin 128) : A_main_v9 x0 x1 x2 x3 x4 x5 (ix5 n g h r v) = chunk x4 n.val (ix3 g r (lane h v)) := by
  pointwise [A_main_v9, A_main_v8, chunk]
  exact congrArg _ (place_128 n g h r v _ _)
theorem setup_a (p : Fin 64) : A_main_v11 x0 x1 x2 x3 x4 x5 (ix5 n g h r p) = chunk' x5 n.val (ix3 g r (lane' h p)) := by
  pointwise [A_main_v11, A_main_v10, chunk']
  exact congrArg _ (place_64 n g h r p _ _)
end

/-! ## One trip -/

/-- The corrected values of a trip. -/
theorem fresh_trip (j : Fin 64) (s : State Ideal) (g h : Fin 4) (r : Fin 64) (v : Fin 128) :
    b37 j.val s (ix4 g h r v) = s.main_v13_2 (ix5 j g h r v) - ∑ k, s.main_v13_3 (ix5 j g h r k) * s.main_v13_7 (ix4 g h k v) := by
  have hu : ∀ v, b17 j.val s (ix4 g h r v) = s.main_v13_2 (ix5 j g h r v) := fun v => slice_128 j _ _ g h r v
  have hw : ∀ v, b23 j.val s (ix4 g h r v) = s.main_v13_3 (ix5 j g h r v) := fun v => slice_128 j _ _ g h r v
  pointwise [b37, b36, hu, hw]

/-- The outputs of a trip. -/
theorem out_trip (j : Fin 64) (s : State Ideal) (g h : Fin 4) (r : Fin 64) (v : Fin 128) :
    b40 j.val s (ix4 g h r v) = ∑ k, s.main_v13_0 (ix5 j g h r k) * s.main_v13_7 (ix4 g h k v)
      + ∑ p, s.main_v13_5 (ix5 j g h r p) * b37 j.val s (ix4 g h p v) := by
  have hq : ∀ v, b5 j.val s (ix4 g h r v) = s.main_v13_0 (ix5 j g h r v) := fun v => slice_128 j _ _ g h r v
  have ha : ∀ p, b35 j.val s (ix4 g h r p) = s.main_v13_5 (ix5 j g h r p) := fun p => slice_64 j _ _ g h r p
  generalize hf : b37 j.val s = f
  pointwise [b40, b39, b38, hq, ha, hf]

/-- The state after a trip. -/
theorem next_trip (j : Fin 64) (s : State Ideal) (g h : Fin 4) (k v : Fin 128) :
    b45 j.val s (ix4 g h k v) = s.main_v13_7 (ix4 g h k v) * s.main_v13_4 (ix5 j g h 0 v)
      + ∑ r, s.main_v13_1 (ix5 j g h r k) * b37 j.val s (ix4 g h r v) := by
  have hk : ∀ r v, b11 j.val s (ix4 g h r v) = s.main_v13_1 (ix5 j g h r v) := fun r v => slice_128 j _ _ g h r v
  have he : ∀ r v, b29 j.val s (ix4 g h r v) = s.main_v13_4 (ix5 j g h r v) := fun r v => slice_128 j _ _ g h r v
  generalize hf : b37 j.val s = f
  pointwise [b45, b44, b43, b42, b41, hk, he, hf]

/-- The stack of outputs after a trip. -/
theorem stack_trip (j n : Fin 64) (s : State Ideal) (g h : Fin 4) (r : Fin 64) (v : Fin 128) :
    b51 j.val s (ix5 n g h r v) = if n = j then b40 j.val s (ix4 g h r v) else s.main_v13_8 (ix5 n g h r v) := by
  refine (put_chunk j n _ _ _ g h r v).trans (if_congr Iff.rfl ?_ rfl)
  pointwise [b46]

/-! ## All trips -/

variable (m : (ℓ : Loc nD τ sig) → Buf (Elt Ideal) ℓ) (c : Dev nD)

/-- No trip changes the stacks it reads. -/
theorem states_setup : ∀ k, (states m c k).main_v13_0 = (start m c).main_v13_0 ∧ (states m c k).main_v13_1 = (start m c).main_v13_1
    ∧ (states m c k).main_v13_2 = (start m c).main_v13_2 ∧ (states m c k).main_v13_3 = (start m c).main_v13_3
    ∧ (states m c k).main_v13_4 = (start m c).main_v13_4 ∧ (states m c k).main_v13_5 = (start m c).main_v13_5
  | 0 => ⟨rfl, rfl, rfl, rfl, rfl, rfl⟩
  | k + 1 => states_setup k

/-- The arguments in memory. -/
abbrev argU : Vec Ideal S4x4096x512 .f32 := m ((c.tc : Thread nD τ).loc main_arg0)
abbrev argW : Vec Ideal S4x4096x512 .f32 := m ((c.tc : Thread nD τ).loc main_arg1)
abbrev argQ : Vec Ideal S4x4096x512 .f32 := m ((c.tc : Thread nD τ).loc main_arg2)
abbrev argK : Vec Ideal S4x4096x512 .f32 := m ((c.tc : Thread nD τ).loc main_arg3)
abbrev argE : Vec Ideal S4x4096x512 .f32 := m ((c.tc : Thread nD τ).loc main_arg4)
abbrev argA : Vec Ideal S4x4096x256 .f32 := m ((c.tc : Thread nD τ).loc main_arg5)
abbrev argS : Vec Ideal S4x4x128x128 .f32 := m ((c.tc : Thread nD τ).loc main_arg6)

/-! What the stacks that the trips read hold. -/

section
variable (n : Fin 64) (g h : Fin 4) (r : Fin 64)
theorem start_qg (v : Fin 128) : (start m c).main_v13_0 (ix5 n g h r v) = chunk (argQ m c) n.val (ix3 g r (lane h v)) :=
  setup_qg (argU m c) (argW m c) (argQ m c) (argK m c) (argE m c) (argA m c) n g h r v
theorem start_kd (v : Fin 128) : (start m c).main_v13_1 (ix5 n g h r v) = chunk (argK m c) n.val (ix3 g r (lane h v)) :=
  setup_kd (argU m c) (argW m c) (argQ m c) (argK m c) (argE m c) (argA m c) n g h r v
theorem start_u (v : Fin 128) : (start m c).main_v13_2 (ix5 n g h r v) = chunk (argU m c) n.val (ix3 g r (lane h v)) :=
  setup_u (argU m c) (argW m c) (argQ m c) (argK m c) (argE m c) (argA m c) n g h r v
theorem start_w (v : Fin 128) : (start m c).main_v13_3 (ix5 n g h r v) = chunk (argW m c) n.val (ix3 g r (lane h v)) :=
  setup_w (argU m c) (argW m c) (argQ m c) (argK m c) (argE m c) (argA m c) n g h r v
theorem start_el (v : Fin 128) : (start m c).main_v13_4 (ix5 n g h r v) = chunk (argE m c) n.val (ix3 g r (lane h v)) :=
  setup_el (argU m c) (argW m c) (argQ m c) (argK m c) (argE m c) (argA m c) n g h r v
theorem start_a (v : Fin 64) : (start m c).main_v13_5 (ix5 n g h r v) = chunk' (argA m c) n.val (ix3 g r (lane' h v)) :=
  setup_a (argU m c) (argW m c) (argQ m c) (argK m c) (argE m c) (argA m c) n g h r v
end

/-- The corrected values of trip `j`, in the words of the recurrence. -/
theorem fresh_states (j : Fin 64) (g h : Fin 4) (r : Fin 64) (v : Fin 128) :
    b37 j.val (states m c j.val) (ix4 g h r v)
      = fresh (chunk (argU m c) j.val) (chunk (argW m c) j.val) (states m c j.val).main_v13_7 g h r v := by
  obtain ⟨-, -, h2, h3, -, -⟩ := states_setup m c j.val
  rw [fresh_trip, h2, h3]
  unfold fresh
  exact congrArg₂ _ (start_u m c j g h r v) (Finset.sum_congr rfl fun k _ => congrArg (· * _) (start_w m c j g h r k))

/-- Before trip `k` the state is the recurrence's state before chunk `k`. -/
theorem states_state : ∀ k, k ≤ 64 →
    (states m c k).main_v13_7 = stateAt (argU m c) (argW m c) (argK m c) (argE m c) (argS m c) k
  | 0, _ => rfl
  | k + 1, hk => by
    have ih := states_state k (by omega)
    let j : Fin 64 := ⟨k, by omega⟩
    funext i
    obtain ⟨-, h1, -, -, h4, -⟩ := states_setup m c k
    refine Eq.trans (congrArg (b45 k (states m c k)) (show i = ix4 (i 0) (i 1) (i 2) (i 3) by funext b; fin_cases b <;> rfl)) ?_
    refine (next_trip j (states m c k) (i 0) (i 1) (i 2) (i 3)).trans ?_
    show _ = next _ _ _ _ _ (i 0) (i 1) (i 2) (i 3)
    unfold next
    rw [h1, h4, ← ih]
    exact congrArg₂ _ (congrArg (_ * ·) (start_el m c j (i 0) (i 1) 0 (i 3)))
      (Finset.sum_congr rfl fun r _ => congrArg₂ _ (start_kd m c j (i 0) (i 1) r (i 2)) (fresh_states m c j (i 0) (i 1) r (i 3)))

/-- Trip `n`'s outputs are the recurrence's outputs of chunk `n`. -/
theorem states_out (n : Fin 64) (g h : Fin 4) (r : Fin 64) (v : Fin 128) : b40 n.val (states m c n.val) (ix4 g h r v)
    = out (chunk (argU m c) n.val) (chunk (argW m c) n.val) (chunk (argQ m c) n.val) (chunk' (argA m c) n.val)
      (stateAt (argU m c) (argW m c) (argK m c) (argE m c) (argS m c) n.val) g h r v := by
  obtain ⟨h0, -, -, -, -, h5⟩ := states_setup m c n.val
  rw [out_trip, h0, h5, ← states_state m c n.val n.isLt.le]
  unfold out
  exact congrArg₂ _ (Finset.sum_congr rfl fun k _ => congrArg (· * _) (start_qg m c n g h r k))
    (Finset.sum_congr rfl fun p _ => congrArg₂ _ (start_a m c n g h r p) (fresh_states m c n g h p v))

/-- Before trip `k` the stack holds the outputs of the chunks before `k`. -/
theorem states_stack (n : Fin 64) (g h : Fin 4) (r : Fin 64) (v : Fin 128) : ∀ k, k ≤ 64 → n.val < k →
    (states m c k).main_v13_8 (ix5 n g h r v) = b40 n.val (states m c n.val) (ix4 g h r v)
  | 0, _, hn => absurd hn (Nat.not_lt_zero _)
  | k + 1, hk, hn => by
    let j : Fin 64 := ⟨k, by omega⟩
    refine (stack_trip j n (states m c k) g h r v).trans ?_
    by_cases e : n = j
    · rw [if_pos e, show j.val = n.val from congrArg Fin.val e.symm, show k = n.val from congrArg Fin.val e.symm]
    · rw [if_neg e]
      exact states_stack n g h r v k (by omega) (by have : n.val ≠ k := fun q => e (Fin.ext q); omega)

/-- The reference's first result is all outputs. -/
theorem result_out : R_main_v15 (states m c 64) = outAll (argU m c) (argW m c) (argQ m c) (argK m c) (argE m c) (argA m c) (argS m c) := by
  have hs := fun n g h r v => (states_stack m c n g h r v 64 (Nat.le_refl _) n.isLt).trans (states_out m c n g h r v)
  generalize states m c 64 = s at hs
  funext i
  have hi : (i 1).val < 4096 := (i 1).isLt
  refine Eq.trans (b := s.main_v13_8 (ix5 ⟨(i 1).val / 64, by omega⟩ (i 0) (headOf (i 2)) ⟨(i 1).val % 64, Nat.mod_lt _ (by omega)⟩ (chanOf (i 2)))) ?_ (hs _ _ _ _ _)
  clear hs
  pointwise [R_main_v15, headOf, chanOf]

/-- The reference's second result is the state after the last chunk. -/
theorem result_state : (states m c 64).main_v13_7 = stateAt (argU m c) (argW m c) (argK m c) (argE m c) (argS m c) 64 :=
  states_state m c 64 (Nat.le_refl _)

end Cert.ScanRef

end
-- ==== Proof.Norm.lean ====
/- The two normalisations of the layers, of one row, and the lanes of its heads of 128 channels. -/
module

public import Idealize.ShloMosaic.Lib.Pointwise
public import Idealize.ShloMosaic.Lib.Pointwise.IndexVar

@[expose] public section

set_option maxRecDepth 16384

noncomputable section

namespace Cert.Norm

open Idealize.ShloMosaic

/-- The small number added below the root, as the 32-bit number it is written as. -/
abbrev eps : EReal := Ideal.ofBits FTy.f32 0x358637BD#32

/-- The lane of head `h`'s channel `k`, of a row of 512 lanes. -/
def lane4 (h : Fin 4) (k : Fin 128) : Fin 512 := ⟨h.val * 128 + k.val, by omega⟩

/-- The lane of head `h`'s channel `k`, of a row of 1024 lanes. -/
def lane8 (h : Fin 8) (k : Fin 128) : Fin 1024 := ⟨h.val * 128 + k.val, by omega⟩

def head4 (l : Fin 512) : Fin 4 := ⟨l.val / 128, by omega⟩
def head8 (l : Fin 1024) : Fin 8 := ⟨l.val / 128, by omega⟩
def chan4 (l : Fin 512) : Fin 128 := ⟨l.val % 128, by omega⟩
def chan8 (l : Fin 1024) : Fin 128 := ⟨l.val % 128, by omega⟩

theorem lane4_head (l : Fin 512) : lane4 (head4 l) (chan4 l) = l := Fin.ext (by simp only [lane4, head4, chan4]; omega)
theorem lane8_head (l : Fin 1024) : lane8 (head8 l) (chan8 l) = l := Fin.ext (by simp only [lane8, head8, chan8]; omega)
theorem head4_lane (h : Fin 4) (k : Fin 128) : head4 (lane4 h k) = h := Fin.ext (by simp only [lane4, head4]; omega)
theorem chan4_lane (h : Fin 4) (k : Fin 128) : chan4 (lane4 h k) = k := Fin.ext (by simp only [lane4, chan4]; omega)
theorem head8_lane (h : Fin 8) (k : Fin 128) : head8 (lane8 h k) = h := Fin.ext (by simp only [lane8, head8]; omega)
theorem chan8_lane (h : Fin 8) (k : Fin 128) : chan8 (lane8 h k) = k := Fin.ext (by simp only [lane8, chan8]; omega)

/-- The reciprocal root of a head's mean square. -/
def rootMean (x : Fin 128 → EReal) : EReal :=
  Ideal.rsqrt (Ideal.div (∑ k : Fin 128, x k * x k) (Ideal.ofBits FTy.f32 0x43000000#32) + eps)

/-- Each of four heads divided by the root of its mean square, times the gains `g`. -/
def heads4 (x : Fin 512 → EReal) (g : Fin 128 → EReal) (l : Fin 512) : EReal :=
  x l * rootMean (fun k => x (lane4 (head4 l) k)) * g (chan4 l)

/-- Each of eight heads divided by the root of its mean square, times the gains `g`. -/
def heads8 (x : Fin 1024 → EReal) (g : Fin 128 → EReal) (l : Fin 1024) : EReal :=
  x l * rootMean (fun k => x (lane8 (head8 l) k)) * g (chan8 l)

theorem heads4_lane (x : Fin 512 → EReal) (g : Fin 128 → EReal) (h : Fin 4) (k : Fin 128) :
    heads4 x g (lane4 h k) = x (lane4 h k) * rootMean (fun k => x (lane4 h k)) * g k := by
  unfold heads4
  rw [head4_lane, chan4_lane]

theorem heads8_lane (x : Fin 1024 → EReal) (g : Fin 128 → EReal) (h : Fin 8) (k : Fin 128) :
    heads8 x g (lane8 h k) = x (lane8 h k) * rootMean (fun k => x (lane8 h k)) * g k := by
  unfold heads8
  rw [head8_lane, chan8_lane]

/-- A row of 1024 lanes divided by the root of its mean square, times the gains `g`, scaled by one plus the second third of `md`, shifted by the
    first third. -/
def modRow (x g : Fin 1024 → EReal) (md : Fin 3072 → EReal) (k : Fin 1024) : EReal :=
  x k * Ideal.rsqrt (Ideal.div (∑ k : Fin 1024, x k * x k) (Ideal.ofBits FTy.f32 0x44800000#32) + eps) * g k
    * (Ideal.ofBits FTy.f32 0x3F800000#32 + md ⟨1024 + k.val, by omega⟩) + md ⟨k.val, by omega⟩

/-- The gate `x / (1 + e⁻ˣ)`. -/
def silu (x : EReal) : EReal := x * Ideal.logistic x

/-- Four pieces of 128 lanes side by side are one array, if each piece is that array's part. -/
theorem concat4 {R : ℕ} (p0 p1 p2 p3 : Vec Ideal ⟨2, ![R, 128]⟩ .f32) (f : Fin R → Fin 512 → EReal)
    (h0 : ∀ r k, p0 (ix2 r k) = f r (lane4 0 k)) (h1 : ∀ r k, p1 (ix2 r k) = f r (lane4 1 k))
    (h2 : ∀ r k, p2 (ix2 r k) = f r (lane4 2 k)) (h3 : ∀ r k, p3 (ix2 r k) = f r (lane4 3 k)) (hc) :
    concatenate (⟨2, ![R, 512]⟩ : Shape) 1 [⟨⟨2, ![R, 128]⟩, p0⟩, ⟨⟨2, ![R, 128]⟩, p1⟩, ⟨⟨2, ![R, 128]⟩, p2⟩, ⟨⟨2, ![R, 128]⟩, p3⟩] hc
      = fun j => f (j 0) (j 1) := by
  funext j
  obtain ⟨r, l, rfl⟩ : ∃ (r : Fin R) (l : Fin 512), j = ix2 r l := ⟨j 0, j 1, eq_ix2 j⟩
  pointwise [h0, h1, h2, h3]
  split_ifs <;> exact congrArg (f r) (Fin.ext (by simp only [lane4, Fin.coe_ofNat_eq_mod]; omega))

/-- Eight pieces of 128 lanes side by side are one array, if each piece is that array's part. -/
theorem concat8 {R : ℕ} (p0 p1 p2 p3 p4 p5 p6 p7 : Vec Ideal ⟨2, ![R, 128]⟩ .f32) (f : Fin R → Fin 1024 → EReal)
    (h0 : ∀ r k, p0 (ix2 r k) = f r (lane8 0 k)) (h1 : ∀ r k, p1 (ix2 r k) = f r (lane8 1 k))
    (h2 : ∀ r k, p2 (ix2 r k) = f r (lane8 2 k)) (h3 : ∀ r k, p3 (ix2 r k) = f r (lane8 3 k))
    (h4 : ∀ r k, p4 (ix2 r k) = f r (lane8 4 k)) (h5 : ∀ r k, p5 (ix2 r k) = f r (lane8 5 k))
    (h6 : ∀ r k, p6 (ix2 r k) = f r (lane8 6 k)) (h7 : ∀ r k, p7 (ix2 r k) = f r (lane8 7 k)) (hc) :
    concatenate (⟨2, ![R, 1024]⟩ : Shape) 1 [⟨⟨2, ![R, 128]⟩, p0⟩, ⟨⟨2, ![R, 128]⟩, p1⟩, ⟨⟨2, ![R, 128]⟩, p2⟩, ⟨⟨2, ![R, 128]⟩, p3⟩,
        ⟨⟨2, ![R, 128]⟩, p4⟩, ⟨⟨2, ![R, 128]⟩, p5⟩, ⟨⟨2, ![R, 128]⟩, p6⟩, ⟨⟨2, ![R, 128]⟩, p7⟩] hc
      = fun j => f (j 0) (j 1) := by
  funext j
  obtain ⟨r, l, rfl⟩ : ∃ (r : Fin R) (l : Fin 1024), j = ix2 r l := ⟨j 0, j 1, eq_ix2 j⟩
  pointwise [h0, h1, h2, h3, h4, h5, h6, h7]
  split_ifs <;> exact congrArg (f r) (Fin.ext (by simp only [lane8, Fin.coe_ofNat_eq_mod]; omega))

end Cert.Norm

end
-- ==== Proof.AttnInMath.lean ====
/- The input projection of the attention layer: the mathematics of its results. -/
module

public import proofs.«01_k».proof.Defs
public import proofs.«01_k».proof.Proof.Norm

@[expose] public section

set_option maxRecDepth 16384

noncomputable section

namespace Cert.AttnInMath

open Idealize.ShloMosaic
open Cert.AttnInIdeal Cert.Norm

/-- The four parts of the projection's columns. -/
def colQ (l : Fin 1024) : Fin 4096 := ⟨l.val, by omega⟩
def colK (l : Fin 1024) : Fin 4096 := ⟨1024 + l.val, by omega⟩
def colV (l : Fin 1024) : Fin 4096 := ⟨2048 + l.val, by omega⟩
def colZ (l : Fin 1024) : Fin 4096 := ⟨3072 + l.val, by omega⟩

/-- One part of the projection of the modulated row `r` of sequence `n`. -/
def proj (x : Vec Ideal S4x4096x1024 .f32) (md : Vec Ideal S4x3072 .f32) (g : Vec Ideal S1024 .f32) (w : Vec Ideal S1024x4096 .f32)
    (col : Fin 1024 → Fin 4096) (n : Fin 4) (r : Fin 4096) (l : Fin 1024) : EReal :=
  ∑ k : Fin 1024, modRow (fun k => x (ix3 n r k)) (fun k => g (ix1 k)) (fun k => md (ix2 n k)) k * w (ix2 k (col l))

/-- Queries or keys: one part of the projection, normalised by heads. -/
def headsOf (x : Vec Ideal S4x4096x1024 .f32) (md : Vec Ideal S4x3072 .f32) (g : Vec Ideal S1024 .f32) (w : Vec Ideal S1024x4096 .f32)
    (col : Fin 1024 → Fin 4096) (gain : Vec Ideal S128 .f32) : Vec Ideal S4x4096x1024 .f32 :=
  fun i => heads8 (fun l => proj x md g w col (i 0) (i 1) l) (fun l => gain (ix1 l)) (i 2)

/-- Values. -/
def valuesOf (x : Vec Ideal S4x4096x1024 .f32) (md : Vec Ideal S4x3072 .f32) (g : Vec Ideal S1024 .f32) (w : Vec Ideal S1024x4096 .f32) :
    Vec Ideal S4x4096x1024 .f32 :=
  fun i => proj x md g w colV (i 0) (i 1) (i 2)

/-- The output's gate. -/
def gateOf (x : Vec Ideal S4x4096x1024 .f32) (md : Vec Ideal S4x3072 .f32) (g : Vec Ideal S1024 .f32) (w : Vec Ideal S1024x4096 .f32) :
    Vec Ideal S4x4096x1024 .f32 :=
  fun i => silu (proj x md g w colZ (i 0) (i 1) (i 2))

/-- The mean key of each block of 256 rows. -/
def meansOf (keys : Vec Ideal S4x4096x1024 .f32) : Vec Ideal S4x16x1x1024 .f32 :=
  fun i => Ideal.div (∑ r : Fin 256, keys (ix3 (i 0) ⟨(i 1).val * 256 + r.val, by have := (i 1).isLt; change (i 1).val < 16 at this; omega⟩ (i 3)))
    (Ideal.ofBits FTy.f32 0x43800000#32)

end Cert.AttnInMath

end
-- ==== Proof.AttnInRef.lean ====
/- The input projection of the attention layer: the reference's results. -/
module

public import proofs.«01_k».proof.Proof.AttnInMath
public import proofs.«01_k».proof.Proof.Gen.AttnInRefIdeal.Run

@[expose] public section

set_option maxRecDepth 16384

noncomputable section

namespace Cert.AttnInRef

open Idealize.ShloMosaic Idealize.ShloMosaic.TcCoe
open Cert.AttnInRefIdeal Cert.AttnInRefIdeal.Gen Cert.AttnInRefIdeal.Value Cert.Norm Cert.AttnInMath

/-- The reference's projection of the modulated rows. -/
def product {F : FTy → Type} [FloatOps F] (m : (ℓ : Loc nD τ sig) → Buf (Elt F) ℓ) (c : Dev nD) : FVec F S4x4096x4096 .f32 :=
  Host.dotGeneral dot_S4x4096x1024_S1024x4096_S4x4096x4096_2_0_01_1_n_n none (addf (mulf (mulf (mulf (m ((c.tc : Thread nD τ).loc main_arg0)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (m ((c.tc : Thread nD τ).loc main_arg0)) (m ((c.tc : Thread nD τ).loc main_arg0))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (m ((c.tc : Thread nD τ).loc main_arg2))))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 1024] (broadcastInDim S4x1x3072 ![0, 2] bcast_S4x3072_S4x1x3072_0_2 (m ((c.tc : Thread nD τ).loc main_arg1))) slices_S4x1x3072_S4x1x1024_0_0_1024)))) (broadcastInDim S4x4096x1024 ![0, 1, 2] bcast_S4x1x1024_S4x4096x1024_0_1_2 (extractStridedSlice S4x1x1024 ![0, 0, 0] (broadcastInDim S4x1x3072 ![0, 2] bcast_S4x3072_S4x1x3072_0_2 (m ((c.tc : Thread nD τ).loc main_arg1))) slices_S4x1x3072_S4x1x1024_0_0_0))) (m ((c.tc : Thread nD τ).loc main_arg3))

variable (m : (ℓ : Loc nD τ sig) → Buf (Elt Ideal) ℓ) (c : Dev nD)

/-- Its entries. -/
theorem product_at (n : Fin 4) (r l : Fin 4096) :
    product m c (ix3 n r l) = ∑ k : Fin 1024, modRow (fun k => m ((c.tc : Thread nD τ).loc main_arg0) (ix3 n r k)) (fun k => m ((c.tc : Thread nD τ).loc main_arg2) (ix1 k))
        (fun k => m ((c.tc : Thread nD τ).loc main_arg1) (ix2 n k)) k * m ((c.tc : Thread nD τ).loc main_arg3) (ix2 k l) := by
  pointwise [product, modRow]

/-- The mathematics' projection is the reference's. -/
theorem proj_at : proj (m ((c.tc : Thread nD τ).loc main_arg0)) (m ((c.tc : Thread nD τ).loc main_arg1)) (m ((c.tc : Thread nD τ).loc main_arg2))
      (m ((c.tc : Thread nD τ).loc main_arg3)) = fun col n r l => product m c (ix3 n r (col l)) := by
  funext col n r l
  exact (product_at m c n r (col l)).symm

abbrev refHeads (col : Fin 1024 → Fin 4096) (gain : Vec Ideal S128 .f32) : Vec Ideal S4x4096x1024 .f32 :=
  headsOf (m ((c.tc : Thread nD τ).loc main_arg0)) (m ((c.tc : Thread nD τ).loc main_arg1)) (m ((c.tc : Thread nD τ).loc main_arg2)) (m ((c.tc : Thread nD τ).loc main_arg3)) col gain

/-- The reference's queries. -/
theorem queries : res_main_v42 m c = refHeads m c colQ (m ((c.tc : Thread nD τ).loc main_arg4)) := by
  unfold res_main_v42
  generalize hd : Host.dotGeneral (F := Ideal) _ _ _ _ = d
  obtain rfl : d = product m c := hd.symm
  funext i
  idx_vars i
  unfold refHeads headsOf
  rw [proj_at]
  generalize product m c = d
  pointwise [colQ, heads8, rootMean, lane8, head8, chan8, eps]

/-- The reference's keys. -/
theorem keys : res_main_v57 m c = refHeads m c colK (m ((c.tc : Thread nD τ).loc main_arg5)) := by
  unfold res_main_v57
  generalize hd : Host.dotGeneral (F := Ideal) _ _ _ _ = d
  obtain rfl : d = product m c := hd.symm
  funext i
  idx_vars i
  unfold refHeads headsOf
  rw [proj_at]
  generalize product m c = d
  pointwise [colK, heads8, rootMean, lane8, head8, chan8, eps]

theorem keys_cast : res_main_v63 m c = refHeads m c colK (m ((c.tc : Thread nD τ).loc main_arg5)) := keys m c

/-- The reference's values. -/
theorem values : (extractStridedSlice S4x4096x1024 ![0, 0, 2048] (product m c) slices_S4x4096x4096_S4x4096x1024_0_0_2048 : Vec Ideal S4x4096x1024 .f32)
    = valuesOf (m ((c.tc : Thread nD τ).loc main_arg0)) (m ((c.tc : Thread nD τ).loc main_arg1)) (m ((c.tc : Thread nD τ).loc main_arg2)) (m ((c.tc : Thread nD τ).loc main_arg3)) := by
  funext i
  idx_vars i
  unfold valuesOf
  rw [proj_at]
  generalize product m c = d
  pointwise [colV]

/-- The reference's output gate. -/
theorem gates : mulf (extractStridedSlice S4x4096x1024 ![0, 0, 3072] (product m c) slices_S4x4096x4096_S4x4096x1024_0_0_3072)
      (Host.divf (broadcastInDim S4x4096x1024 ![] bcast_S_S4x4096x1024 (constant S_ .f32 0x3F800000#32))
        (addf (broadcastInDim S4x4096x1024 ![] bcast_S_S4x4096x1024 (constant S_ .f32 0x3F800000#32))
          (Host.exp (Host.negf (extractStridedSlice S4x4096x1024 ![0, 0, 3072] (product m c) slices_S4x4096x4096_S4x4096x1024_0_0_3072)))))
    = gateOf (m ((c.tc : Thread nD τ).loc main_arg0)) (m ((c.tc : Thread nD τ).loc main_arg1)) (m ((c.tc : Thread nD τ).loc main_arg2)) (m ((c.tc : Thread nD τ).loc main_arg3)) := by
  funext i
  idx_vars i
  unfold gateOf
  rw [proj_at]
  generalize product m c = d
  pointwise [colZ, silu, Ideal.logistic]

/-- The reference's mean keys. -/
theorem means : res_main_v62 m c = meansOf (refHeads m c colK (m ((c.tc : Thread nD τ).loc main_arg5))) := by
  unfold res_main_v62
  generalize hd : Host.dotGeneral (F := Ideal) _ _ _ _ = d
  obtain rfl : d = product m c := hd.symm
  funext i
  idx_vars i
  unfold meansOf refHeads headsOf
  rw [proj_at]
  generalize product m c = d
  pointwise [colK, heads8, rootMean, lane8, head8, chan8, eps]

end Cert.AttnInRef

end
-- ==== Proof.RowBlocks.lean ====
/- The blocks of a call on a grid of 4 sequences and 16 row tiles: where 256 rows of one sequence lie in the whole array. -/
module

public import Idealize.ShloMosaic.Lib.Pointwise
public import Idealize.ShloMosaic.Lib.Pipeline.Value

@[expose] public section

set_option maxRecDepth 16384

noncomputable section

namespace Cert.RowBlocks

open Idealize.ShloMosaic

/-- The sequence of grid point `t`. -/
def seqOf (t : ℕ) : Fin 4 := ⟨t / 16 % 4, Nat.mod_lt _ (by omega)⟩

/-- The row of the sequence that grid point `t`'s row `r` is. -/
def rowOf (t : ℕ) (r : Fin 256) : Fin 4096 := ⟨t % 16 * 256 + r.val, by omega⟩

/-- The index of the whole array that grid point `t`'s index `j` is. -/
def at3 {L : ℕ} (t : ℕ) (j : (⟨3, ![1, 256, L]⟩ : Shape).Idx) : (⟨3, ![4, 4096, L]⟩ : Shape).Idx := ix3 (seqOf t) (rowOf t (j 1)) (j 2)

/-- Grid point `t`'s block of an array. -/
def rows {L : ℕ} {e : EltTy} (X : Vec Ideal ⟨3, ![4, 4096, L]⟩ e) (t : ℕ) : Vec Ideal ⟨3, ![1, 256, L]⟩ e := fun j => X (at3 t j)

/-- Grid point `t`'s block of an array with one row for each sequence. -/
def seqRow {L : ℕ} {e : EltTy} (X : Vec Ideal ⟨3, ![4, 1, L]⟩ e) (t : ℕ) : Vec Ideal ⟨3, ![1, 1, L]⟩ e := fun j => X (ix3 (seqOf t) 0 (j 2))

/-- A block's index `j` at block index `t / 16, t % 16, 0` is the array's index `at3 t j`. -/
theorem rows_index {L : ℕ} (t : ℕ) (ht : t < 64) {p q s : ℕ} (hp : p = t / 16) (hq : q = t % 16) (hs : s = 0) (j : (⟨3, ![1, 256, L]⟩ : Shape).Idx)
    (e : (⟨3, ![4, 4096, L]⟩ : Shape).Idx) (h0 : (e 0).val = p * 1 + 1 * (j 0).val) (h1 : (e 1).val = q * 256 + 1 * (j 1).val)
    (h2 : (e 2).val = s * L + 1 * (j 2).val) : e = at3 t j := by
  subst hp hq hs
  have hj : (j 0).val < 1 := (j 0).isLt
  funext b
  refine Fin.ext ?_
  fin_cases b
  · show (e 0).val = t / 16 % 4; omega
  · show (e 1).val = t % 16 * 256 + (j 1).val; omega
  · show (e 2).val = (j 2).val; omega

/-- The same for an array with one row for each sequence. -/
theorem seqRow_index {L : ℕ} (t : ℕ) (ht : t < 64) {p q s : ℕ} (hp : p = t / 16) (hq : q = 0) (hs : s = 0) (j : (⟨3, ![1, 1, L]⟩ : Shape).Idx)
    (e : (⟨3, ![4, 1, L]⟩ : Shape).Idx) (h0 : (e 0).val = p * 1 + 1 * (j 0).val) (h1 : (e 1).val = q * 1 + 1 * (j 1).val)
    (h2 : (e 2).val = s * L + 1 * (j 2).val) : e = ix3 (seqOf t) 0 (j 2) := by
  subst hp hq hs
  have hj : (j 0).val < 1 := (j 0).isLt
  have hj' : (j 1).val < 1 := (j 1).isLt
  funext b
  refine Fin.ext ?_
  fin_cases b
  · show (e 0).val = t / 16 % 4; omega
  · show (e 1).val = 0; omega
  · show (e 2).val = (j 2).val; omega

/-- A block that is the whole array. -/
theorem whole_index {A B : ℕ} {p q : ℕ} (hp : p = 0) (hq : q = 0) (j e : (⟨2, ![A, B]⟩ : Shape).Idx) (h0 : (e 0).val = p * A + 1 * (j 0).val)
    (h1 : (e 1).val = q * B + 1 * (j 1).val) : e = j := by
  subst hp hq
  funext b
  refine Fin.ext ?_
  fin_cases b
  · show (e 0).val = (j 0).val; omega
  · show (e 1).val = (j 1).val; omega

/-- A load of a whole block is the block. -/
theorem ld_block {A B C : ℕ} {e : EltTy} (X : Vec Ideal ⟨3, ![A, B, C]⟩ e) (h) :
    View.ld X (Rect.unit (s := ⟨3, ![A, B, C]⟩) ![0, 0, 0] ![A, B, C] h) = X :=
  View.ld_unit_zero (S := ⟨3, ![A, B, C]⟩) (by funext b; fin_cases b <;> rfl) h X

/-- A load of a whole matrix is the matrix. -/
theorem ld_matrix {A B : ℕ} {e : EltTy} (X : Vec Ideal ⟨2, ![A, B]⟩ e) (h) :
    View.ld X (Rect.unit (s := ⟨2, ![A, B]⟩) ![0, 0] ![A, B] h) = X :=
  View.ld_unit_zero (S := ⟨2, ![A, B]⟩) (by funext b; fin_cases b <;> rfl) h X

/-- A block stored whole is what was stored. -/
theorem stored_block {A B C : ℕ} {e : EltTy} (w : Vec Ideal ⟨3, ![A, B, C]⟩ e) (h) :
    View.canon [(⟨Rect.unit (s := ⟨3, ![A, B, C]⟩) ![0, 0, 0] ![A, B, C] h, w⟩ : View.Piece (Elt Ideal) ⟨3, ![A, B, C]⟩ e)] = w :=
  View.canon_unit_zero (S := ⟨3, ![A, B, C]⟩) (by funext b; fin_cases b <;> rfl) h w

/-- The grid point that holds an index of the whole array, and the index in its block. -/
def tileOf {L : ℕ} (i : (⟨3, ![4, 4096, L]⟩ : Shape).Idx) : ℕ := (i 0).val * 16 + (i 1).val / 256

def inTile {L : ℕ} (i : (⟨3, ![4, 4096, L]⟩ : Shape).Idx) : (⟨3, ![1, 256, L]⟩ : Shape).Idx :=
  ix3 0 ⟨(i 1).val % 256, Nat.mod_lt _ (by omega)⟩ (i 2)

theorem tileOf_lt {L : ℕ} (i : (⟨3, ![4, 4096, L]⟩ : Shape).Idx) : tileOf i < 64 := by
  have h0 : (i 0).val < 4 := (i 0).isLt
  have h1 : (i 1).val < 4096 := (i 1).isLt
  unfold tileOf
  omega

theorem at3_tileOf {L : ℕ} (i : (⟨3, ![4, 4096, L]⟩ : Shape).Idx) : at3 (tileOf i) (inTile i) = i := by
  have h0 : (i 0).val < 4 := (i 0).isLt
  have h1 : (i 1).val < 4096 := (i 1).isLt
  funext b
  refine Fin.ext ?_
  fin_cases b
  · show ((i 0).val * 16 + (i 1).val / 256) / 16 % 4 = (i 0).val; omega
  · show ((i 0).val * 16 + (i 1).val / 256) % 16 * 256 + (i 1).val % 256 = (i 1).val; omega
  · rfl

end Cert.RowBlocks

end
-- ==== Proof.AttnInValue.lean ====
/- The input projection of the attention layer: what its kernel leaves are the reference's results. -/
module

public import proofs.«01_k».proof.Defs
public import proofs.«01_k».proof.Proof.Gen.AttnIn.Frame
public import proofs.«01_k».proof.Proof.Gen.AttnInIdeal.Value
public import proofs.«01_k».proof.Proof.AttnInMath
public import proofs.«01_k».proof.Proof.AttnInRef
public import proofs.«01_k».proof.Proof.RowBlocks
public import proofs.«01_k».proof.Proof.Norm
public import Idealize.ShloMosaic.Lib.Claim

@[expose] public section

set_option maxRecDepth 16384

noncomputable section

namespace Cert.AttnInValue

open Idealize.ShloMosaic Idealize.ShloMosaic.TcCoe Idealize.SL.Sem
open Cert.AttnInIdeal Cert.AttnInIdeal.Gen Cert.RowBlocks Cert.Norm Cert.AttnInMath

/-! ## One block -/

section Block

variable (x0 : Vec Ideal S1x256x1024 .f32) (x1 : Vec Ideal S1x1x3072 .f32) (x2 : Vec Ideal S1x1024 .f32) (x3 : Vec Ideal S1024x4096 .bf16)

/-- One part of the projection of a block's row `r`. -/
def blockProj (col : Fin 1024 → Fin 4096) (r : Fin 256) (l : Fin 1024) : EReal :=
  ∑ k : Fin 1024, modRow (fun k => x0 (ix3 0 r k)) (fun k => x2 (ix2 0 k)) (fun k => x1 (ix3 0 0 k)) k * x3 (ix2 k (col l))

/-- The body's modulated rows. -/
theorem point_hid (r : Fin 256) (k : Fin 1024) :
    k0_pay3 (F := Ideal) x0 x2 x1 (ix2 r k) = modRow (fun k => x0 (ix3 0 r k)) (fun k => x2 (ix2 0 k)) (fun k => x1 (ix3 0 0 k)) k := by
  pointwise [k0_pay3, modRow]

theorem point_projQ (r : Fin 256) (l : Fin 1024) :
    k0_pay4 (F := Ideal) x0 x2 x1 (View.ld x3 r0_3) (ix2 r l) = blockProj x0 x1 x2 x3 colQ r l := by
  pointwise [k0_pay4, point_hid, blockProj, colQ]

theorem point_projK (r : Fin 256) (l : Fin 1024) :
    k0_pay21 (F := Ideal) (k0_pay3 x0 x2 x1) (View.ld x3 r0_5) (ix2 r l) = blockProj x0 x1 x2 x3 colK r l := by
  pointwise [k0_pay21, point_hid, blockProj, colK]

theorem point_projV (j : S1x256x1024.Idx) :
    k0_pay38 (F := Ideal) (k0_pay3 x0 x2 x1) (View.ld x3 r0_6) j = blockProj x0 x1 x2 x3 colV (j 1) (j 2) := by
  idx_vars j
  pointwise [k0_pay38, k0_pay37, point_hid, blockProj, colV]

theorem point_projVb (j : S1x256x1024.Idx) :
    k0_pay39 (F := Ideal) (k0_pay3 x0 x2 x1) (View.ld x3 r0_6) j = blockProj x0 x1 x2 x3 colV (j 1) (j 2) := by
  idx_vars j
  pointwise [k0_pay39, k0_pay37, point_hid, blockProj, colV]

theorem point_gate (j : S1x256x1024.Idx) :
    k0_pay1 (F := Ideal) (k0_pay3 x0 x2 x1) (View.ld x3 r0_7) j = silu (blockProj x0 x1 x2 x3 colZ (j 1) (j 2)) := by
  idx_vars j
  pointwise [k0_pay1, point_hid, blockProj, colZ, silu]

/-- The body's queries: the projection `f` normalised by heads. -/
theorem point_headsQ (x4 : Vec Ideal S1x128 .f32) (j : S1x256x1024.Idx) :
    k0_pay20 (F := Ideal) (k0_pay4 x0 x2 x1 (View.ld x3 r0_3)) (k0_pay8 (k0_pay5 x0 x2 x1 (View.ld x3 r0_3)) (k0_pay6 x4) (k0_pay7 x0 x2 x1 (View.ld x3 r0_3)) (Scalar.ofBits .f32 0x358637BD#32))
        (k0_pay9 (k0_pay4 x0 x2 x1 (View.ld x3 r0_3)) x4) (k0_pay10 (k0_pay4 x0 x2 x1 (View.ld x3 r0_3)) x4)
        (k0_pay14 (k0_pay11 (k0_pay4 x0 x2 x1 (View.ld x3 r0_3))) (k0_pay12 x4) (k0_pay13 (k0_pay4 x0 x2 x1 (View.ld x3 r0_3))) (Scalar.ofBits .f32 0x358637BD#32))
        (k0_pay15 (k0_pay4 x0 x2 x1 (View.ld x3 r0_3)) x4) (k0_pay16 (k0_pay4 x0 x2 x1 (View.ld x3 r0_3)) x4)
        (k0_pay17 (k0_pay4 x0 x2 x1 (View.ld x3 r0_3))) (k0_pay18 x4) (k0_pay19 (k0_pay4 x0 x2 x1 (View.ld x3 r0_3))) (Scalar.ofBits .f32 0x358637BD#32) x4 j
      = heads8 (blockProj x0 x1 x2 x3 colQ (j 1)) (fun l => x4 (ix2 0 l)) (j 2) := by
  have hf := point_projQ x0 x1 x2 x3
  unfold k0_pay5 k0_pay7 k0_pay5
  generalize k0_pay4 (F := Ideal) x0 x2 x1 (View.ld x3 r0_3) = f at hf ⊢
  unfold k0_pay20
  dsimp only
  rw [concat8 _ _ _ _ _ _ _ _ (fun r l => heads8 (blockProj x0 x1 x2 x3 colQ r) (fun l => x4 (ix2 0 l)) l)]
  · idx_vars j
    pointwise
  all_goals
    intro r k
    rw [heads8_lane]
    unfold rootMean
    pointwise [k0_pay8, k0_pay6, k0_pay9, k0_pay10, k0_pay11, k0_pay12, k0_pay13, k0_pay14, k0_pay15, k0_pay16, k0_pay17, k0_pay18, k0_pay19, hf, lane8]

theorem ld_x (X : Vec Ideal S1x256x1024 .f32) : View.ld X r0_0 = X := ld_block X _
theorem ld_g (X : Vec Ideal S1x1024 .f32) : View.ld X r0_1 = X := ld_matrix X _
theorem ld_md (X : Vec Ideal S1x1x3072 .f32) : View.ld X r0_2 = X := ld_block X _
theorem ld_gain (X : Vec Ideal S1x128 .f32) : View.ld X r0_4 = X := ld_matrix X _

/-- The body's modulated rows, as its later values name them. -/
theorem hid_eq (x4 x5 : Vec Ideal S1x128 .f32) : k0_pay40 (F := Ideal) x0 x1 x2 x3 x4 x5 = k0_pay3 x0 x2 x1 := by
  unfold k0_pay40
  rw [ld_x, ld_g, ld_md]

theorem keys_eq (x4 x5 : Vec Ideal S1x128 .f32) (r : Fin 256) (l : Fin 1024) :
    k0_pay42 (F := Ideal) x0 x1 x2 x3 x4 x5 (ix2 r l) = blockProj x0 x1 x2 x3 colK r l := by
  unfold k0_pay42
  rw [hid_eq, point_projK]

/-- The body's keys. -/
theorem point_headsK (x4 x5 : Vec Ideal S1x128 .f32) (r : Fin 256) (l : Fin 1024) :
    k0_pay34 (F := Ideal) (k0_pay42 x0 x1 x2 x3 x4 x5) (k0_pay43 x0 x1 x2 x3 x4 x5) (k0_pay44 x0 x1 x2 x3 x4 x5) (k0_pay45 x0 x1 x2 x3 x4 x5)
        (k0_pay46 x0 x1 x2 x3 x4 x5) (k0_pay47 x0 x1 x2 x3 x4 x5) (k0_pay48 x0 x1 x2 x3 x4 x5) (k0_pay49 x0 x1 x2 x3 x4 x5) (k0_pay50 x0 x1 x2 x3 x4 x5) (View.ld x5 r0_4) (ix2 r l)
      = heads8 (blockProj x0 x1 x2 x3 colK r) (fun l => x5 (ix2 0 l)) l := by
  have hf := keys_eq x0 x1 x2 x3 x4 x5
  unfold k0_pay43 k0_pay44 k0_pay45 k0_pay46 k0_pay47 k0_pay48 k0_pay49 k0_pay50
  unfold k0_pay22
  rw [ld_gain, show k0_pay21 (F := Ideal) (k0_pay40 x0 x1 x2 x3 x4 x5) (View.ld x3 r0_5) = k0_pay42 x0 x1 x2 x3 x4 x5 from rfl]
  generalize k0_pay42 (F := Ideal) x0 x1 x2 x3 x4 x5 = f at hf ⊢
  unfold k0_pay34
  dsimp only
  rw [concat8 _ _ _ _ _ _ _ _ (fun r l => heads8 (blockProj x0 x1 x2 x3 colK r) (fun l => x5 (ix2 0 l)) l)]
  · rfl
  all_goals
    intro r k
    rw [heads8_lane]
    unfold rootMean
    pointwise [k0_pay23, k0_pay24, k0_pay25, k0_pay26, k0_pay27, k0_pay28, k0_pay29, k0_pay30, k0_pay31, k0_pay32, k0_pay33, hf, lane8]

/-- What the body leaves in its seven blocks. -/
theorem out_q (x4 x5 : Vec Ideal S1x128 .f32) (j : S1x256x1024.Idx) :
    out0_6 (F := Ideal) x0 x1 x2 x3 x4 x5 j = heads8 (blockProj x0 x1 x2 x3 colQ (j 1)) (fun l => x4 (ix2 0 l)) (j 2) := by
  unfold out0_6 k0_pay41
  rw [ld_x, ld_g, ld_md, ld_gain]
  exact (congrFun (stored_block _ _) j).trans (point_headsQ x0 x1 x2 x3 x4 j)

theorem out_k (x4 x5 : Vec Ideal S1x128 .f32) (j : S1x256x1024.Idx) :
    out0_7 (F := Ideal) x0 x1 x2 x3 x4 x5 j = heads8 (blockProj x0 x1 x2 x3 colK (j 1)) (fun l => x5 (ix2 0 l)) (j 2) := by
  have hk := point_headsK x0 x1 x2 x3 x4 x5
  refine (congrFun (stored_block _ _) j).trans ?_
  unfold k0_pay35
  generalize k0_pay34 (F := Ideal) _ _ _ _ _ _ _ _ _ _ = f at hk ⊢
  idx_vars j
  pointwise [hk]

theorem out_v (x4 x5 : Vec Ideal S1x128 .f32) (j : S1x256x1024.Idx) :
    out0_8 (F := Ideal) x0 x1 x2 x3 x4 x5 j = blockProj x0 x1 x2 x3 colV (j 1) (j 2) := by
  unfold out0_8
  rw [hid_eq]
  exact (congrFun (stored_block _ _) j).trans (point_projV x0 x1 x2 x3 j)

theorem out_kb (x4 x5 : Vec Ideal S1x128 .f32) (j : S1x256x1024.Idx) :
    out0_9 (F := Ideal) x0 x1 x2 x3 x4 x5 j = heads8 (blockProj x0 x1 x2 x3 colK (j 1)) (fun l => x5 (ix2 0 l)) (j 2) := by
  have hk := point_headsK x0 x1 x2 x3 x4 x5
  refine (congrFun (stored_block _ _) j).trans ?_
  unfold k0_pay36
  generalize k0_pay34 (F := Ideal) _ _ _ _ _ _ _ _ _ _ = f at hk ⊢
  idx_vars j
  pointwise [hk]

theorem out_vb (x4 x5 : Vec Ideal S1x128 .f32) (j : S1x256x1024.Idx) :
    out0_10 (F := Ideal) x0 x1 x2 x3 x4 x5 j = blockProj x0 x1 x2 x3 colV (j 1) (j 2) := by
  unfold out0_10
  rw [hid_eq]
  exact (congrFun (stored_block _ _) j).trans (point_projVb x0 x1 x2 x3 j)

theorem out_sz (x4 x5 : Vec Ideal S1x128 .f32) (j : S1x256x1024.Idx) :
    out0_11 (F := Ideal) x0 x1 x2 x3 x4 x5 j = silu (blockProj x0 x1 x2 x3 colZ (j 1) (j 2)) := by
  unfold out0_11
  rw [hid_eq]
  exact (congrFun (stored_block _ _) j).trans (point_gate x0 x1 x2 x3 j)

theorem out_means (x4 x5 : Vec Ideal S1x128 .f32) (j : S1x1x1x1024.Idx) :
    out0_12 (F := Ideal) x0 x1 x2 x3 x4 x5 j
      = Ideal.div (∑ r : Fin 256, heads8 (blockProj x0 x1 x2 x3 colK r) (fun l => x5 (ix2 0 l)) (j 3)) (Ideal.ofBits FTy.f32 0x43800000#32) := by
  have hk := point_headsK x0 x1 x2 x3 x4 x5
  refine (congrFun (View.canon_unit_zero (S := S1x1x1x1024) (by funext b; fin_cases b <;> rfl) _ _) j).trans ?_
  generalize k0_pay34 (F := Ideal) _ _ _ _ _ _ _ _ _ _ = f at hk ⊢
  idx_vars j
  pointwise [k0_pay2, hk]

end Block

/-! ## The blocks and the arrays -/

variable (m : (ℓ : Loc nD τ sig) → Buf (Elt Ideal) ℓ) (c : Dev nD)

/-- The blocks that each grid point reads and writes. -/
theorem index_maps : ∀ t : Fin cfg0.N,
    (win0_0.index t 0 = t.val / 16 ∧ win0_0.index t 1 = t.val % 16 ∧ win0_0.index t 2 = 0) ∧
    (win0_1.index t 0 = t.val / 16 ∧ win0_1.index t 1 = 0 ∧ win0_1.index t 2 = 0) ∧
    (win0_2.index t 0 = 0 ∧ win0_2.index t 1 = 0) ∧
    (win0_3.index t 0 = 0 ∧ win0_3.index t 1 = 0) ∧
    (win0_4.index t 0 = 0 ∧ win0_4.index t 1 = 0) ∧
    (win0_5.index t 0 = 0 ∧ win0_5.index t 1 = 0) ∧
    (win0_12.index t 0 = t.val / 16 ∧ win0_12.index t 1 = t.val % 16 ∧ win0_12.index t 2 = 0 ∧ win0_12.index t 3 = 0) := by
  decide +kernel

theorem lt_N (t : Fin cfg0.N) : t.val < 64 := t.isLt

/-- Where a grid point's rows lie; all the arrays of rows are cut alike. -/
theorem row_index (t : Fin cfg0.N) (j : S1x256x1024.Idx) (e : S4x4096x1024.Idx) (h0 : (e 0).val = win0_0.index t 0 * 1 + 1 * (j 0).val)
    (h1 : (e 1).val = win0_0.index t 1 * 256 + 1 * (j 1).val) (h2 : (e 2).val = win0_0.index t 2 * 1024 + 1 * (j 2).val) : e = at3 t.val j :=
  rows_index t.val (lt_N t) (index_maps t).1.1 (index_maps t).1.2.1 (index_maps t).1.2.2 j e h0 h1 h2

theorem block_x (t : Fin cfg0.N) : (iblk m c 0 t : Vec Ideal S1x256x1024 .f32) = rows (m ((c : Thread nD τ).loc main_arg0)) t.val := by
  funext j
  unfold iblk
  rw [View.read_apply]
  exact congrArg (m ((c : Thread nD τ).loc main_arg0)) (row_index t j _ rfl rfl rfl)

/-- The modulation as the kernel takes it: one row for each sequence. -/
theorem entry_md : V m c main_v0 = fun i => m ((c : Thread nD τ).loc main_arg1) (ix2 (i 0) (i 2)) := by
  entry_read
  funext i
  pointwise

/-- The rows' gains as the kernel takes them. -/
theorem entry_g : V m c main_v1 = fun i => m ((c : Thread nD τ).loc main_arg2) (ix1 (i 1)) := by
  entry_read
  funext i
  pointwise

/-- The weights as the kernel takes them. -/
theorem entry_w : V m c main_v2 = m ((c : Thread nD τ).loc main_arg3) := by
  entry_read
  funext i
  pointwise

/-- The heads' gains as the kernel takes them. -/
theorem entry_qn : V m c main_v3 = fun i => m ((c : Thread nD τ).loc main_arg4) (ix1 (i 1)) := by
  entry_read
  funext i
  pointwise

theorem entry_kn : V m c main_v4 = fun i => m ((c : Thread nD τ).loc main_arg5) (ix1 (i 1)) := by
  entry_read
  funext i
  pointwise

theorem block_md (t : Fin cfg0.N) : (iblk m c 1 t : Vec Ideal S1x1x3072 .f32) = fun i => m ((c : Thread nD τ).loc main_arg1) (ix2 (seqOf t.val) (i 2)) := by
  obtain ⟨-, ⟨h0, h1, h2⟩, -⟩ := index_maps t
  funext j
  unfold iblk
  rw [View.read_apply]
  refine (congrFun (entry_md m c) _).trans ?_
  exact congrArg (fun i : S4x1x3072.Idx => m ((c : Thread nD τ).loc main_arg1) (ix2 (i 0) (i 2))) (seqRow_index t.val (lt_N t) h0 h1 h2 j _ rfl rfl rfl)

theorem block_g (t : Fin cfg0.N) : (iblk m c 2 t : Vec Ideal S1x1024 .f32) = fun i => m ((c : Thread nD τ).loc main_arg2) (ix1 (i 1)) := by
  obtain ⟨-, -, ⟨h0, h1⟩, -⟩ := index_maps t
  funext j
  unfold iblk
  rw [View.read_apply]
  refine (congrFun (entry_g m c) _).trans ?_
  exact congrArg (fun i : S1x1024.Idx => m ((c : Thread nD τ).loc main_arg2) (ix1 (i 1))) (whole_index h0 h1 j _ rfl rfl)

theorem block_w (t : Fin cfg0.N) : (iblk m c 3 t : Vec Ideal S1024x4096 .bf16) = m ((c : Thread nD τ).loc main_arg3) := by
  obtain ⟨-, -, -, ⟨h0, h1⟩, -⟩ := index_maps t
  funext j
  unfold iblk
  rw [View.read_apply]
  refine (congrFun (entry_w m c) _).trans ?_
  exact congrArg (m ((c : Thread nD τ).loc main_arg3)) (whole_index h0 h1 j _ rfl rfl)

theorem block_qn (t : Fin cfg0.N) : (iblk m c 4 t : Vec Ideal S1x128 .f32) = fun i => m ((c : Thread nD τ).loc main_arg4) (ix1 (i 1)) := by
  obtain ⟨-, -, -, -, ⟨h0, h1⟩, -⟩ := index_maps t
  funext j
  unfold iblk
  rw [View.read_apply]
  refine (congrFun (entry_qn m c) _).trans ?_
  exact congrArg (fun i : S1x128.Idx => m ((c : Thread nD τ).loc main_arg4) (ix1 (i 1))) (whole_index h0 h1 j _ rfl rfl)

theorem block_kn (t : Fin cfg0.N) : (iblk m c 5 t : Vec Ideal S1x128 .f32) = fun i => m ((c : Thread nD τ).loc main_arg5) (ix1 (i 1)) := by
  obtain ⟨-, -, -, -, -, ⟨h0, h1⟩, -⟩ := index_maps t
  funext j
  unfold iblk
  rw [View.read_apply]
  refine (congrFun (entry_kn m c) _).trans ?_
  exact congrArg (fun i : S1x128.Idx => m ((c : Thread nD τ).loc main_arg5) (ix1 (i 1))) (whole_index h0 h1 j _ rfl rfl)

/-- The results, of the arguments in memory. -/
abbrev memHeads (col : Fin 1024 → Fin 4096) (gain : Vec Ideal S128 .f32) : Vec Ideal S4x4096x1024 .f32 :=
  headsOf (m ((c : Thread nD τ).loc main_arg0)) (m ((c : Thread nD τ).loc main_arg1)) (m ((c : Thread nD τ).loc main_arg2)) (m ((c : Thread nD τ).loc main_arg3)) col gain
abbrev memQ : Vec Ideal S4x4096x1024 .f32 := memHeads m c colQ (m ((c : Thread nD τ).loc main_arg4))
abbrev memK : Vec Ideal S4x4096x1024 .f32 := memHeads m c colK (m ((c : Thread nD τ).loc main_arg5))
abbrev memV : Vec Ideal S4x4096x1024 .f32 :=
  valuesOf (m ((c : Thread nD τ).loc main_arg0)) (m ((c : Thread nD τ).loc main_arg1)) (m ((c : Thread nD τ).loc main_arg2)) (m ((c : Thread nD τ).loc main_arg3))
abbrev memSz : Vec Ideal S4x4096x1024 .f32 :=
  gateOf (m ((c : Thread nD τ).loc main_arg0)) (m ((c : Thread nD τ).loc main_arg1)) (m ((c : Thread nD τ).loc main_arg2)) (m ((c : Thread nD τ).loc main_arg3))
abbrev memMeans : Vec Ideal S4x16x1x1024 .f32 := meansOf (memK m c)

/-- A block's part of the projection is the whole array's. -/
theorem proj_block (col : Fin 1024 → Fin 4096) (t : Fin cfg0.N) (r : Fin 256) :
    blockProj (iblk m c 0 t) (iblk m c 1 t) (iblk m c 2 t) (iblk m c 3 t) col r
      = proj (m ((c : Thread nD τ).loc main_arg0)) (m ((c : Thread nD τ).loc main_arg1)) (m ((c : Thread nD τ).loc main_arg2)) (m ((c : Thread nD τ).loc main_arg3)) col
          (seqOf t.val) (rowOf t.val r) := by
  rw [block_x, block_md, block_g, block_w]
  rfl

theorem queries_at (t : Fin cfg0.N) (r : Fin 256) (l : Fin 1024) :
    heads8 (blockProj (iblk m c 0 t) (iblk m c 1 t) (iblk m c 2 t) (iblk m c 3 t) colQ r) (fun l => (iblk m c 4 t : Vec Ideal S1x128 .f32) (ix2 0 l)) l = memQ m c (ix3 (seqOf t.val) (rowOf t.val r) l) := by
  rw [proj_block, block_qn]
  rfl

theorem keys_at (t : Fin cfg0.N) (r : Fin 256) (l : Fin 1024) :
    heads8 (blockProj (iblk m c 0 t) (iblk m c 1 t) (iblk m c 2 t) (iblk m c 3 t) colK r) (fun l => (iblk m c 5 t : Vec Ideal S1x128 .f32) (ix2 0 l)) l = memK m c (ix3 (seqOf t.val) (rowOf t.val r) l) := by
  rw [proj_block, block_kn]
  rfl

theorem array_q : (Gen.dats m 0 c).arrAt 6 cfg0.N = memQ m c := by
  refine (Gen.dats m 0 c).arrAt_eq_of_cover 6 (memQ m c) (fun t _ => ?_) (fun i => ⟨⟨tileOf i, tileOf_lt i⟩, ?_, ?_⟩)
  · rw [Value.flushed6]
    funext j
    rw [View.read_apply]
    refine ((out_q _ _ _ _ _ _ j).trans (queries_at m c t (j 1) (j 2))).trans ?_
    exact (congrArg (memQ m c) (row_index t j _ rfl rfl rfl)).symm
  · exact (by decide +kernel : ∀ t : Fin cfg0.N, (cfg0.win 6).flush t = true) _
  · exact Finset.mem_map.mpr ⟨inTile i, Finset.mem_univ _, (row_index _ (inTile i) _ rfl rfl rfl).trans (at3_tileOf i)⟩

theorem array_k : (Gen.dats m 0 c).arrAt 7 cfg0.N = memK m c := by
  refine (Gen.dats m 0 c).arrAt_eq_of_cover 7 (memK m c) (fun t _ => ?_) (fun i => ⟨⟨tileOf i, tileOf_lt i⟩, ?_, ?_⟩)
  · rw [Value.flushed7]
    funext j
    rw [View.read_apply]
    refine ((out_k _ _ _ _ _ _ j).trans (keys_at m c t (j 1) (j 2))).trans ?_
    exact (congrArg (memK m c) (row_index t j _ rfl rfl rfl)).symm
  · exact (by decide +kernel : ∀ t : Fin cfg0.N, (cfg0.win 7).flush t = true) _
  · exact Finset.mem_map.mpr ⟨inTile i, Finset.mem_univ _, (row_index _ (inTile i) _ rfl rfl rfl).trans (at3_tileOf i)⟩

theorem array_v : (Gen.dats m 0 c).arrAt 8 cfg0.N = memV m c := by
  refine (Gen.dats m 0 c).arrAt_eq_of_cover 8 (memV m c) (fun t _ => ?_) (fun i => ⟨⟨tileOf i, tileOf_lt i⟩, ?_, ?_⟩)
  · rw [Value.flushed8]
    funext j
    rw [View.read_apply]
    refine ((out_v _ _ _ _ _ _ j).trans (congrFun (proj_block m c colV t (j 1)) (j 2))).trans ?_
    exact (congrArg (memV m c) (row_index t j _ rfl rfl rfl)).symm
  · exact (by decide +kernel : ∀ t : Fin cfg0.N, (cfg0.win 8).flush t = true) _
  · exact Finset.mem_map.mpr ⟨inTile i, Finset.mem_univ _, (row_index _ (inTile i) _ rfl rfl rfl).trans (at3_tileOf i)⟩

theorem array_kb : (Gen.dats m 0 c).arrAt 9 cfg0.N = memK m c := by
  refine (Gen.dats m 0 c).arrAt_eq_of_cover 9 (memK m c) (fun t _ => ?_) (fun i => ⟨⟨tileOf i, tileOf_lt i⟩, ?_, ?_⟩)
  · rw [Value.flushed9]
    funext j
    rw [View.read_apply]
    refine ((out_kb _ _ _ _ _ _ j).trans (keys_at m c t (j 1) (j 2))).trans ?_
    exact (congrArg (memK m c) (row_index t j _ rfl rfl rfl)).symm
  · exact (by decide +kernel : ∀ t : Fin cfg0.N, (cfg0.win 9).flush t = true) _
  · exact Finset.mem_map.mpr ⟨inTile i, Finset.mem_univ _, (row_index _ (inTile i) _ rfl rfl rfl).trans (at3_tileOf i)⟩

theorem array_vb : (Gen.dats m 0 c).arrAt 10 cfg0.N = memV m c := by
  refine (Gen.dats m 0 c).arrAt_eq_of_cover 10 (memV m c) (fun t _ => ?_) (fun i => ⟨⟨tileOf i, tileOf_lt i⟩, ?_, ?_⟩)
  · rw [Value.flushed10]
    funext j
    rw [View.read_apply]
    refine ((out_vb _ _ _ _ _ _ j).trans (congrFun (proj_block m c colV t (j 1)) (j 2))).trans ?_
    exact (congrArg (memV m c) (row_index t j _ rfl rfl rfl)).symm
  · exact (by decide +kernel : ∀ t : Fin cfg0.N, (cfg0.win 10).flush t = true) _
  · exact Finset.mem_map.mpr ⟨inTile i, Finset.mem_univ _, (row_index _ (inTile i) _ rfl rfl rfl).trans (at3_tileOf i)⟩

theorem array_sz : (Gen.dats m 0 c).arrAt 11 cfg0.N = memSz m c := by
  refine (Gen.dats m 0 c).arrAt_eq_of_cover 11 (memSz m c) (fun t _ => ?_) (fun i => ⟨⟨tileOf i, tileOf_lt i⟩, ?_, ?_⟩)
  · rw [Value.flushed11]
    funext j
    rw [View.read_apply]
    refine ((out_sz _ _ _ _ _ _ j).trans (congrArg silu (congrFun (proj_block m c colZ t (j 1)) (j 2)))).trans ?_
    exact (congrArg (memSz m c) (row_index t j _ rfl rfl rfl)).symm
  · exact (by decide +kernel : ∀ t : Fin cfg0.N, (cfg0.win 11).flush t = true) _
  · exact Finset.mem_map.mpr ⟨inTile i, Finset.mem_univ _, (row_index _ (inTile i) _ rfl rfl rfl).trans (at3_tileOf i)⟩

/-- Where a grid point's mean key lies. -/
theorem mean_index (t : Fin cfg0.N) (j : S1x1x1x1024.Idx) (e : S4x16x1x1024.Idx) (h0 : (e 0).val = win0_12.index t 0 * 1 + 1 * (j 0).val)
    (h1 : (e 1).val = win0_12.index t 1 * 1 + 1 * (j 1).val) (h2 : (e 2).val = win0_12.index t 2 * 1 + 1 * (j 2).val)
    (h3 : (e 3).val = win0_12.index t 3 * 1024 + 1 * (j 3).val) : e = ix4 (seqOf t.val) (⟨t.val % 16, Nat.mod_lt _ (by omega)⟩ : Fin 16) 0 (j 3) := by
  obtain ⟨-, -, -, -, -, -, ⟨i0, i1, i2, i3⟩⟩ := index_maps t
  rw [i0] at h0
  rw [i1] at h1
  rw [i2] at h2
  rw [i3] at h3
  have ht := lt_N t
  have hj0 : (j 0).val < 1 := (j 0).isLt
  have hj1 : (j 1).val < 1 := (j 1).isLt
  have hj2 : (j 2).val < 1 := (j 2).isLt
  funext b
  refine Fin.ext ?_
  fin_cases b
  · show (e 0).val = t.val / 16 % 4; omega
  · show (e 1).val = t.val % 16; omega
  · show (e 2).val = 0; omega
  · show (e 3).val = (j 3).val; omega

theorem array_means : (Gen.dats m 0 c).arrAt 12 cfg0.N = memMeans m c := by
  refine (Gen.dats m 0 c).arrAt_eq_of_cover 12 (memMeans m c) (fun t _ => ?_) (fun i => ?_)
  · rw [Value.flushed12]
    funext j
    rw [View.read_apply]
    refine (out_means _ _ _ _ _ _ j).trans ?_
    refine Eq.trans ?_ (congrArg (memMeans m c) (mean_index t j _ rfl rfl rfl rfl)).symm
    exact congrArg (fun s => Ideal.div s (Ideal.ofBits FTy.f32 0x43800000#32)) (Finset.sum_congr rfl fun r _ => keys_at m c t r (j 3))
  · have b0 : (i 0).val < 4 := (i 0).isLt
    have b1 : (i 1).val < 16 := (i 1).isLt
    have b2 : (i 2).val < 1 := (i 2).isLt
    refine ⟨⟨(i 0).val * 16 + (i 1).val, by show _ < 64; omega⟩, ?_, ?_⟩
    · exact (by decide +kernel : ∀ t : Fin cfg0.N, (cfg0.win 12).flush t = true) _
    · refine Finset.mem_map.mpr ⟨(ix4 0 0 0 (i 3) : S1x1x1x1024.Idx), Finset.mem_univ _, ?_⟩
      refine (mean_index _ _ _ rfl rfl rfl rfl).trans ?_
      funext b
      refine Fin.ext ?_
      fin_cases b
      · show ((i 0).val * 16 + (i 1).val) / 16 % 4 = (i 0).val; omega
      · show ((i 0).val * 16 + (i 1).val) % 16 = (i 1).val; omega
      · show 0 = (i 2).val; omega
      · rfl

/-- The kernel and the reference leave the same results, of the same arguments. -/
theorem algebraic : Cert.algebraic_AttnInIdeal_AttnInRefIdeal (hAttnInIdeal := Cert.AttnInIdeal.Gen.facts)
    (hAttnInRefIdeal := Cert.AttnInRefIdeal.Gen.facts) := by
  intro m g m' g' _ hargs
  refine ⟨fun c => memQ m c, fun c => memK m c, fun c => memV m c, fun c => memK m c, fun c => memV m c, fun c => memSz m c, fun c => memMeans m c, ?_, ?_⟩
  · refine (θ_run Cert.AttnInIdeal.defs _ _).mono (fun r h c => ?_) (Cert.AttnInIdeal.Value.run_blocks m g)
    obtain ⟨h0, h1, h2, h3, h4, h5, h6, hk⟩ := h c
    exact ⟨h0.trans (array_q m c), h1.trans (array_k m c), h2.trans (array_v m c), h3.trans (array_kb m c), h4.trans (array_vb m c), h5.trans (array_sz m c),
      h6.trans (array_means m c), hk⟩
  · refine (θ_run Cert.AttnInRefIdeal.defs _ _).mono (fun r h c => ?_) (Cert.AttnInRefIdeal.Value.run m' g')
    obtain ⟨h0, h1, h2, h3, h4, h5, h6, hk⟩ := h c
    obtain ⟨e0, e1, e2, e3, e4, e5⟩ := hargs c
    have hq := AttnInRef.queries m' c
    have hkeys := AttnInRef.keys m' c
    have hv := AttnInRef.values m' c
    have hs := AttnInRef.gates m' c
    have hm := AttnInRef.means m' c
    unfold AttnInRef.refHeads at hq hkeys hm
    rw [e0, e1, e2, e3, e4] at hq
    rw [e0, e1, e2, e3, e5] at hkeys hm
    rw [e0, e1, e2, e3] at hv hs
    exact ⟨h0.trans hq, h1.trans hkeys, h2.trans hv, h3.trans hkeys, h4.trans hv, h5.trans hs, h6.trans hm, hk⟩

/-- The reference's run leaves every semaphore at zero. -/
theorem reference_frame : Cert.quiescent_AttnInRefIdeal (hAttnInRefIdeal := Cert.AttnInRefIdeal.Gen.facts) := fun m ρ _ =>
  (θ_run Cert.AttnInRefIdeal.defs _ _).mono (fun r h => ⟨fun c => (h c).2.2.2.2.2.2.2, Idealize.ShloMosaic.sem_eq_zero_of_no_sems (by decide) r.2⟩)
    (Cert.AttnInRefIdeal.Value.run (F := Ideal) m ρ)

end Cert.AttnInValue

end
-- ==== Proof.AttnOutValue.lean ====
/- The output projection of the attention layer: what its kernel leaves is the reference's result. -/
module

public import proofs.«01_k».proof.Defs
public import proofs.«01_k».proof.Proof.Gen.AttnOut.Frame
public import proofs.«01_k».proof.Proof.Gen.AttnOutIdeal.Value
public import proofs.«01_k».proof.Proof.Gen.AttnOutRefIdeal.Run
public import proofs.«01_k».proof.Proof.RowBlocks
public import Idealize.ShloMosaic.Lib.Claim

@[expose] public section

set_option maxRecDepth 16384

noncomputable section

namespace Cert.AttnOutValue

open Idealize.ShloMosaic Idealize.ShloMosaic.TcCoe Idealize.SL.Sem
open Cert.AttnOutIdeal Cert.AttnOutIdeal.Gen Cert.RowBlocks

/-- The layer's output: `x + gate · ((o · sz) w)`, the gate one row for each sequence. -/
def outY (o sz x : Vec Ideal S4x4096x1024 .f32) (gate : Vec Ideal S4x1024 .f32) (w : Vec Ideal S1024x1024 .f32) : Vec Ideal S4x4096x1024 .f32 :=
  fun i => x i + gate (ix2 (i 0) (i 2)) * ∑ k : Fin 1024, o (ix3 (i 0) (i 1) k) * sz (ix3 (i 0) (i 1) k) * w (ix2 k (i 2))

/-- What the body computes of one block is the layer's output there. -/
theorem point_y (o sz x : Vec Ideal S4x4096x1024 .f32) (gate : Vec Ideal S4x1024 .f32) (w : Vec Ideal S1024x1024 .f32) (t : ℕ) (j : S1x256x1024.Idx) :
    k0_pay1 (F := Ideal) (rows o t) (rows sz t) w (rows x t) (fun i => gate (ix2 (seqOf t) (i 2))) j = outY o sz x gate w (at3 t j) := by
  idx_vars j
  pointwise [k0_pay1, outY, rows, at3]

variable (m : (ℓ : Loc nD τ sig) → Buf (Elt Ideal) ℓ) (c : Dev nD)

/-- The blocks that each grid point reads and writes. -/
theorem index_maps : ∀ t : Fin cfg0.N,
    (win0_0.index t 0 = t.val / 16 ∧ win0_0.index t 1 = t.val % 16 ∧ win0_0.index t 2 = 0) ∧
    (win0_1.index t 0 = t.val / 16 ∧ win0_1.index t 1 = t.val % 16 ∧ win0_1.index t 2 = 0) ∧
    (win0_2.index t 0 = t.val / 16 ∧ win0_2.index t 1 = t.val % 16 ∧ win0_2.index t 2 = 0) ∧
    (win0_3.index t 0 = t.val / 16 ∧ win0_3.index t 1 = 0 ∧ win0_3.index t 2 = 0) ∧
    (win0_4.index t 0 = 0 ∧ win0_4.index t 1 = 0) ∧
    (win0_5.index t 0 = t.val / 16 ∧ win0_5.index t 1 = t.val % 16 ∧ win0_5.index t 2 = 0) := by
  decide +kernel

theorem lt_N (t : Fin cfg0.N) : t.val < 64 := t.isLt

theorem block_o (t : Fin cfg0.N) : (iblk m c 0 t : Vec Ideal S1x256x1024 .f32) = rows (m ((c : Thread nD τ).loc main_arg0)) t.val := by
  obtain ⟨⟨h0, h1, h2⟩, -⟩ := index_maps t
  funext j
  unfold iblk
  rw [View.read_apply]
  exact congrArg (m ((c : Thread nD τ).loc main_arg0)) (rows_index t.val (lt_N t) h0 h1 h2 j _ rfl rfl rfl)

theorem block_sz (t : Fin cfg0.N) : (iblk m c 1 t : Vec Ideal S1x256x1024 .f32) = rows (m ((c : Thread nD τ).loc main_arg1)) t.val := by
  obtain ⟨-, ⟨h0, h1, h2⟩, -⟩ := index_maps t
  funext j
  unfold iblk
  rw [View.read_apply]
  exact congrArg (m ((c : Thread nD τ).loc main_arg1)) (rows_index t.val (lt_N t) h0 h1 h2 j _ rfl rfl rfl)

theorem block_x (t : Fin cfg0.N) : (iblk m c 2 t : Vec Ideal S1x256x1024 .f32) = rows (m ((c : Thread nD τ).loc main_arg2)) t.val := by
  obtain ⟨-, -, ⟨h0, h1, h2⟩, -⟩ := index_maps t
  funext j
  unfold iblk
  rw [View.read_apply]
  exact congrArg (m ((c : Thread nD τ).loc main_arg2)) (rows_index t.val (lt_N t) h0 h1 h2 j _ rfl rfl rfl)

/-- The gate as the kernel takes it: one row for each sequence. -/
theorem entry_gate : V m c main_v0 = fun i => m ((c : Thread nD τ).loc main_arg3) (ix2 (i 0) (i 2)) := by
  entry_read
  funext i
  pointwise

/-- The weights as the kernel takes them. -/
theorem entry_w : V m c main_v1 = m ((c : Thread nD τ).loc main_arg4) := by
  entry_read
  funext i
  pointwise

theorem block_gate (t : Fin cfg0.N) : (iblk m c 3 t : Vec Ideal S1x1x1024 .f32) = fun i => m ((c : Thread nD τ).loc main_arg3) (ix2 (seqOf t.val) (i 2)) := by
  obtain ⟨-, -, -, ⟨h0, h1, h2⟩, -⟩ := index_maps t
  funext j
  unfold iblk
  rw [View.read_apply]
  refine (congrFun (entry_gate m c) _).trans ?_
  exact congrArg (fun i : S4x1x1024.Idx => m ((c : Thread nD τ).loc main_arg3) (ix2 (i 0) (i 2))) (seqRow_index t.val (lt_N t) h0 h1 h2 j _ rfl rfl rfl)

theorem block_w (t : Fin cfg0.N) : (iblk m c 4 t : Vec Ideal S1024x1024 .bf16) = m ((c : Thread nD τ).loc main_arg4) := by
  obtain ⟨-, -, -, -, ⟨h0, h1⟩, -⟩ := index_maps t
  funext j
  unfold iblk
  rw [View.read_apply]
  refine (congrFun (entry_w m c) _).trans ?_
  exact congrArg (m ((c : Thread nD τ).loc main_arg4)) (whole_index h0 h1 j _ rfl rfl)

/-- The layer's output, of the arguments in memory. -/
abbrev memY : Vec Ideal S4x4096x1024 .f32 :=
  outY (m ((c : Thread nD τ).loc main_arg0)) (m ((c : Thread nD τ).loc main_arg1)) (m ((c : Thread nD τ).loc main_arg2)) (m ((c : Thread nD τ).loc main_arg3))
    (m ((c : Thread nD τ).loc main_arg4))

theorem ld_rows (X : Vec Ideal S1x256x1024 .f32) : View.ld X r0_0 = X := View.ld_unit_zero (S := S1x256x1024) (by funext b; fin_cases b <;> rfl) _ X
theorem ld_w (X : Vec Ideal S1024x1024 .bf16) : View.ld X r0_1 = X := View.ld_unit_zero (S := S1024x1024) (by funext b; fin_cases b <;> rfl) _ X
theorem ld_gate (X : Vec Ideal S1x1x1024 .f32) : View.ld X r0_2 = X := View.ld_unit_zero (S := S1x1x1024) (by funext b; fin_cases b <;> rfl) _ X

/-- What a grid point leaves in its block. -/
theorem point_out (t : Fin cfg0.N) (j : S1x256x1024.Idx) :
    out0_5 (F := Ideal) (iblk m c 0 t) (iblk m c 1 t) (iblk m c 2 t) (iblk m c 3 t) (iblk m c 4 t) j = memY m c (at3 t.val j) := by
  unfold out0_5
  rw [ld_rows, ld_rows, ld_rows, ld_w, ld_gate, block_o, block_sz, block_x, block_gate, block_w]
  refine (congrFun (View.canon_unit_zero (S := S1x256x1024) (by funext b; fin_cases b <;> rfl) _ _) j).trans ?_
  exact point_y _ _ _ _ _ _ _

/-- The run leaves the layer's output. -/
theorem array_y : (Gen.dats m 0 c).arrAt 5 cfg0.N = memY m c := by
  refine (Gen.dats m 0 c).arrAt_eq_of_cover 5 (memY m c) (fun t _ => ?_) (fun i => ?_)
  · obtain ⟨-, -, -, -, -, ⟨h0, h1, h2⟩⟩ := index_maps t
    rw [Value.flushed5]
    funext j
    rw [View.read_apply]
    refine (point_out m c t j).trans ?_
    exact (congrArg (memY m c) (rows_index t.val (lt_N t) h0 h1 h2 j _ rfl rfl rfl)).symm
  · let t : Fin cfg0.N := ⟨tileOf i, tileOf_lt i⟩
    obtain ⟨-, -, -, -, -, ⟨h0, h1, h2⟩⟩ := index_maps t
    refine ⟨t, ?_, ?_⟩
    · exact (by decide +kernel : ∀ t : Fin cfg0.N, (cfg0.win 5).flush t = true) t
    · refine Finset.mem_map.mpr ⟨inTile i, Finset.mem_univ _, ?_⟩
      exact (rows_index t.val (lt_N t) h0 h1 h2 (inTile i) _ rfl rfl rfl).trans (at3_tileOf i)

/-- The kernel and the reference leave the same output, of the same arguments. -/
theorem algebraic : Cert.algebraic_AttnOutIdeal_AttnOutRefIdeal (hAttnOutIdeal := Cert.AttnOutIdeal.Gen.facts)
    (hAttnOutRefIdeal := Cert.AttnOutRefIdeal.Gen.facts) := by
  intro m g m' g' _ hargs
  refine ⟨fun c => memY m c, ?_, ?_⟩
  · exact (θ_run Cert.AttnOutIdeal.defs _ _).mono (fun r h c => ⟨(h c).1.trans (array_y m c), (h c).2⟩) (Cert.AttnOutIdeal.Value.run_blocks m g)
  · refine (θ_run Cert.AttnOutRefIdeal.defs _ _).mono (fun r h c => ⟨(h c).1.trans ?_, (h c).2⟩) (Cert.AttnOutRefIdeal.Value.run m' g')
    obtain ⟨e0, e1, e2, e3, e4⟩ := hargs c
    rw [e0, e1, e2, e3, e4]
    funext i
    idx_vars i
    pointwise [outY]

/-- The reference's run leaves its arguments unchanged, and it has no semaphores. -/
theorem reference_frame : Cert.quiescent_AttnOutRefIdeal (hAttnOutRefIdeal := Cert.AttnOutRefIdeal.Gen.facts) := fun m ρ _ =>
  (θ_run Cert.AttnOutRefIdeal.defs _ _).mono (fun r h => ⟨fun c => (h c).2, Idealize.ShloMosaic.sem_eq_zero_of_no_sems (by decide) r.2⟩)
    (Cert.AttnOutRefIdeal.Value.run (F := Ideal) m ρ)

end Cert.AttnOutValue

end
-- ==== Proof.DnOutValue.lean ====
/- The output projection of the delta-rule layer: what its kernel leaves is the reference's result. -/
module

public import proofs.«01_k».proof.Defs
public import proofs.«01_k».proof.Proof.Gen.DnOut.Frame
public import proofs.«01_k».proof.Proof.Gen.DnOutIdeal.Value
public import proofs.«01_k».proof.Proof.Gen.DnOutRefIdeal.Run
public import proofs.«01_k».proof.Proof.RowBlocks
public import proofs.«01_k».proof.Proof.Norm
public import Idealize.ShloMosaic.Lib.Claim

@[expose] public section

set_option maxRecDepth 16384

noncomputable section

namespace Cert.DnOutValue

open Idealize.ShloMosaic Idealize.ShloMosaic.TcCoe Idealize.SL.Sem
open Cert.DnOutIdeal Cert.DnOutIdeal.Gen Cert.RowBlocks Cert.Norm

/-- The layer's output: the delta rule's outputs `o` normalised by heads and gated by `sza`, beside the convolution's outputs `yb`, times the
    weights, times the gate, added to `x`. -/
def outY (o sza yb : Vec Ideal S4x4096x512 .f32) (x : Vec Ideal S4x4096x1024 .f32) (gate : Vec Ideal S4x1024 .f32) (g : Vec Ideal S128 .f32)
    (w : Vec Ideal S1024x1024 .f32) : Vec Ideal S4x4096x1024 .f32 :=
  fun i => x i + gate (ix2 (i 0) (i 2)) *
    (∑ k : Fin 512, heads4 (fun l => o (ix3 (i 0) (i 1) l)) (fun l => g (ix1 l)) k * sza (ix3 (i 0) (i 1) k) * w (ix2 ⟨k.val, by omega⟩ (i 2))
      + ∑ k : Fin 512, yb (ix3 (i 0) (i 1) k) * w (ix2 ⟨512 + k.val, by omega⟩ (i 2)))

/-- The body's product of a block. -/
theorem point_dot (x0 x1 x2 : Vec Ideal S1x256x512 .f32) (x5 : Vec Ideal S1x128 .f32) (x6 : Vec Ideal S1024x1024 .bf16) (r : Fin 256) (l : Fin 1024) :
    k0_pay8 (F := Ideal) (k0_pay2 x0) (k0_pay3 x0 x5) (k0_pay4 x0 x5) (k0_pay5 x0) (k0_pay6 x5) (k0_pay7 x0) (Scalar.ofBits .f32 0x358637BD#32) x5 x1
        (View.ld x6 r0_2) x2 (View.ld x6 r0_3) (ix2 r l)
      = ∑ k : Fin 512, heads4 (fun l => x0 (ix3 0 r l)) (fun l => x5 (ix2 0 l)) k * x1 (ix3 0 r k) * x6 (ix2 ⟨k.val, by omega⟩ l)
        + ∑ k : Fin 512, x2 (ix3 0 r k) * x6 (ix2 ⟨512 + k.val, by omega⟩ l) := by
  unfold k0_pay8
  dsimp only
  rw [concat4 _ _ _ _ (fun r l => heads4 (fun l => x0 (ix3 0 r l)) (fun l => x5 (ix2 0 l)) l)]
  · pointwise
  all_goals
    intro r k
    rw [heads4_lane]
    unfold rootMean
    pointwise [k0_pay3, k0_pay4, k0_pay5, k0_pay6, k0_pay7, k0_pay2, lane4]

/-- What the body computes of one block is the layer's output there. -/
theorem point_y (o sza yb : Vec Ideal S4x4096x512 .f32) (x : Vec Ideal S4x4096x1024 .f32) (gate : Vec Ideal S4x1024 .f32) (g : Vec Ideal S128 .f32)
    (w : Vec Ideal S1024x1024 .f32) (v76 : FVec Ideal S256x1024 .f32) (t : ℕ) (j : S1x256x1024.Idx)
    (hv : ∀ r l, v76 (ix2 r l) = ∑ k : Fin 512, heads4 (fun l => rows o t (ix3 0 r l)) (fun l => g (ix1 l)) k * rows sza t (ix3 0 r k) * w (ix2 ⟨k.val, by omega⟩ l)
        + ∑ k : Fin 512, rows yb t (ix3 0 r k) * w (ix2 ⟨512 + k.val, by omega⟩ l)) :
    k0_pay1 (F := Ideal) v76 (k0_pay9 (rows x t)) (fun i => gate (ix2 (seqOf t) (i 2))) j = outY o sza yb x gate g w (at3 t j) := by
  idx_vars j
  pointwise [k0_pay1, k0_pay9, outY, hv, rows, at3]

variable (m : (ℓ : Loc nD τ sig) → Buf (Elt Ideal) ℓ) (c : Dev nD)

/-- The blocks that each grid point reads and writes. -/
theorem index_maps : ∀ t : Fin cfg0.N,
    (win0_0.index t 0 = t.val / 16 ∧ win0_0.index t 1 = t.val % 16 ∧ win0_0.index t 2 = 0) ∧
    (win0_1.index t 0 = t.val / 16 ∧ win0_1.index t 1 = t.val % 16 ∧ win0_1.index t 2 = 0) ∧
    (win0_2.index t 0 = t.val / 16 ∧ win0_2.index t 1 = t.val % 16 ∧ win0_2.index t 2 = 0) ∧
    (win0_3.index t 0 = t.val / 16 ∧ win0_3.index t 1 = t.val % 16 ∧ win0_3.index t 2 = 0) ∧
    (win0_4.index t 0 = t.val / 16 ∧ win0_4.index t 1 = 0 ∧ win0_4.index t 2 = 0) ∧
    (win0_5.index t 0 = 0 ∧ win0_5.index t 1 = 0) ∧
    (win0_6.index t 0 = 0 ∧ win0_6.index t 1 = 0) ∧
    (win0_7.index t 0 = t.val / 16 ∧ win0_7.index t 1 = t.val % 16 ∧ win0_7.index t 2 = 0) := by
  decide +kernel

theorem lt_N (t : Fin cfg0.N) : t.val < 64 := t.isLt

theorem block_o (t : Fin cfg0.N) : (iblk m c 0 t : Vec Ideal S1x256x512 .f32) = rows (m ((c : Thread nD τ).loc main_arg0)) t.val := by
  obtain ⟨⟨h0, h1, h2⟩, -⟩ := index_maps t
  funext j
  unfold iblk
  rw [View.read_apply]
  exact congrArg (m ((c : Thread nD τ).loc main_arg0)) (rows_index t.val (lt_N t) h0 h1 h2 j _ rfl rfl rfl)

theorem block_sza (t : Fin cfg0.N) : (iblk m c 1 t : Vec Ideal S1x256x512 .f32) = rows (m ((c : Thread nD τ).loc main_arg1)) t.val := by
  obtain ⟨-, ⟨h0, h1, h2⟩, -⟩ := index_maps t
  funext j
  unfold iblk
  rw [View.read_apply]
  exact congrArg (m ((c : Thread nD τ).loc main_arg1)) (rows_index t.val (lt_N t) h0 h1 h2 j _ rfl rfl rfl)

theorem block_yb (t : Fin cfg0.N) : (iblk m c 2 t : Vec Ideal S1x256x512 .f32) = rows (m ((c : Thread nD τ).loc main_arg2)) t.val := by
  obtain ⟨-, -, ⟨h0, h1, h2⟩, -⟩ := index_maps t
  funext j
  unfold iblk
  rw [View.read_apply]
  exact congrArg (m ((c : Thread nD τ).loc main_arg2)) (rows_index t.val (lt_N t) h0 h1 h2 j _ rfl rfl rfl)

theorem block_x (t : Fin cfg0.N) : (iblk m c 3 t : Vec Ideal S1x256x1024 .f32) = rows (m ((c : Thread nD τ).loc main_arg3)) t.val := by
  obtain ⟨-, -, -, ⟨h0, h1, h2⟩, -⟩ := index_maps t
  funext j
  unfold iblk
  rw [View.read_apply]
  exact congrArg (m ((c : Thread nD τ).loc main_arg3)) (rows_index t.val (lt_N t) h0 h1 h2 j _ rfl rfl rfl)

/-- The gate as the kernel takes it: one row for each sequence. -/
theorem entry_gate : V m c main_v0 = fun i => m ((c : Thread nD τ).loc main_arg4) (ix2 (i 0) (i 2)) := by
  entry_read
  funext i
  pointwise

/-- The gains as the kernel takes them. -/
theorem entry_g : V m c main_v1 = fun i => m ((c : Thread nD τ).loc main_arg5) (ix1 (i 1)) := by
  entry_read
  funext i
  pointwise

/-- The weights as the kernel takes them. -/
theorem entry_w : V m c main_v2 = m ((c : Thread nD τ).loc main_arg6) := by
  entry_read
  funext i
  pointwise

theorem block_gate (t : Fin cfg0.N) : (iblk m c 4 t : Vec Ideal S1x1x1024 .f32) = fun i => m ((c : Thread nD τ).loc main_arg4) (ix2 (seqOf t.val) (i 2)) := by
  obtain ⟨-, -, -, -, ⟨h0, h1, h2⟩, -⟩ := index_maps t
  funext j
  unfold iblk
  rw [View.read_apply]
  refine (congrFun (entry_gate m c) _).trans ?_
  exact congrArg (fun i : S4x1x1024.Idx => m ((c : Thread nD τ).loc main_arg4) (ix2 (i 0) (i 2))) (seqRow_index t.val (lt_N t) h0 h1 h2 j _ rfl rfl rfl)

theorem block_g (t : Fin cfg0.N) : (iblk m c 5 t : Vec Ideal S1x128 .f32) = fun i => m ((c : Thread nD τ).loc main_arg5) (ix1 (i 1)) := by
  obtain ⟨-, -, -, -, -, ⟨h0, h1⟩, -⟩ := index_maps t
  funext j
  unfold iblk
  rw [View.read_apply]
  refine (congrFun (entry_g m c) _).trans ?_
  exact congrArg (fun i : S1x128.Idx => m ((c : Thread nD τ).loc main_arg5) (ix1 (i 1))) (whole_index h0 h1 j _ rfl rfl)

theorem block_w (t : Fin cfg0.N) : (iblk m c 6 t : Vec Ideal S1024x1024 .bf16) = m ((c : Thread nD τ).loc main_arg6) := by
  obtain ⟨-, -, -, -, -, -, ⟨h0, h1⟩, -⟩ := index_maps t
  funext j
  unfold iblk
  rw [View.read_apply]
  refine (congrFun (entry_w m c) _).trans ?_
  exact congrArg (m ((c : Thread nD τ).loc main_arg6)) (whole_index h0 h1 j _ rfl rfl)

/-- The layer's output, of the arguments in memory. -/
abbrev memY : Vec Ideal S4x4096x1024 .f32 :=
  outY (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem ld_half (X : Vec Ideal S1x256x512 .f32) : View.ld X r0_0 = X := ld_block X _
theorem ld_g (X : Vec Ideal S1x128 .f32) : View.ld X r0_1 = X := ld_matrix X _
theorem ld_rows (X : Vec Ideal S1x256x1024 .f32) : View.ld X r0_4 = X := ld_block X _
theorem ld_gate (X : Vec Ideal S1x1x1024 .f32) : View.ld X r0_5 = X := ld_block X _

/-- What a grid point leaves in its block. -/
theorem point_out (t : Fin cfg0.N) (j : S1x256x1024.Idx) :
    out0_7 (F := Ideal) (iblk m c 0 t) (iblk m c 1 t) (iblk m c 2 t) (iblk m c 3 t) (iblk m c 4 t) (iblk m c 5 t) (iblk m c 6 t) j
      = memY m c (at3 t.val j) := by
  unfold out0_7
  rw [ld_half, ld_half, ld_half, ld_g, ld_rows, ld_gate, block_o, block_sza, block_yb, block_x, block_gate, block_g, block_w]
  refine (congrFun (stored_block _ _) j).trans ?_
  exact point_y _ _ _ _ _ _ _ _ _ _ (fun r l => point_dot _ _ _ _ _ r l)

/-- The run leaves the layer's output. -/
theorem array_y : (Gen.dats m 0 c).arrAt 7 cfg0.N = memY m c := by
  refine (Gen.dats m 0 c).arrAt_eq_of_cover 7 (memY m c) (fun t _ => ?_) (fun i => ?_)
  · obtain ⟨-, -, -, -, -, -, -, ⟨h0, h1, h2⟩⟩ := index_maps t
    rw [Value.flushed7]
    funext j
    rw [View.read_apply]
    refine (point_out m c t j).trans ?_
    exact (congrArg (memY m c) (rows_index t.val (lt_N t) h0 h1 h2 j _ rfl rfl rfl)).symm
  · let t : Fin cfg0.N := ⟨tileOf i, tileOf_lt i⟩
    obtain ⟨-, -, -, -, -, -, -, ⟨h0, h1, h2⟩⟩ := index_maps t
    refine ⟨t, ?_, ?_⟩
    · exact (by decide +kernel : ∀ t : Fin cfg0.N, (cfg0.win 7).flush t = true) t
    · refine Finset.mem_map.mpr ⟨inTile i, Finset.mem_univ _, ?_⟩
      exact (rows_index t.val (lt_N t) h0 h1 h2 (inTile i) _ rfl rfl rfl).trans (at3_tileOf i)

/-- The kernel and the reference leave the same output, of the same arguments. -/
theorem algebraic : Cert.algebraic_DnOutIdeal_DnOutRefIdeal (hDnOutIdeal := Cert.DnOutIdeal.Gen.facts)
    (hDnOutRefIdeal := Cert.DnOutRefIdeal.Gen.facts) := by
  intro m g m' g' _ hargs
  refine ⟨fun c => memY m c, ?_, ?_⟩
  · exact (θ_run Cert.DnOutIdeal.defs _ _).mono (fun r h c => ⟨(h c).1.trans (array_y m c), (h c).2⟩) (Cert.DnOutIdeal.Value.run_blocks m g)
  · refine (θ_run Cert.DnOutRefIdeal.defs _ _).mono (fun r h c => ⟨(h c).1.trans ?_, (h c).2⟩) (Cert.DnOutRefIdeal.Value.run m' g')
    obtain ⟨e0, e1, e2, e3, e4, e5, e6⟩ := hargs c
    rw [e0, e1, e2, e3, e4, e5, e6]
    funext i
    idx_vars i
    pointwise [outY, heads4, rootMean, lane4, head4, chan4, eps]
    simp only [Nat.div_add_mod', Fin.eta]

/-- The reference's run leaves its arguments unchanged, and it has no semaphores. -/
theorem reference_frame : Cert.quiescent_DnOutRefIdeal (hDnOutRefIdeal := Cert.DnOutRefIdeal.Gen.facts) := fun m ρ _ =>
  (θ_run Cert.DnOutRefIdeal.defs _ _).mono (fun r h => ⟨fun c => (h c).2, Idealize.ShloMosaic.sem_eq_zero_of_no_sems (by decide) r.2⟩)
    (Cert.DnOutRefIdeal.Value.run (F := Ideal) m ρ)

end Cert.DnOutValue

end
-- ==== Proof.DnInPoint.lean ====
/- One grid point of the delta layer's input kernel: what its body leaves in its blocks, over the rows carried from the point before. -/
module

public import proofs.«01_k».proof.Proof.Gen.DnInIdeal.Value
public import proofs.«01_k».proof.Proof.RowBlocks
public import Idealize.ShloMosaic.Lib.Pipeline.ReadBack

@[expose] public section

set_option maxRecDepth 16384

noncomputable section

namespace Cert.DnInPoint

open Idealize.ShloMosaic Idealize.ShloMosaic.TcCoe Idealize.SL.Sem
open Cert.DnInIdeal Cert.DnInIdeal.Gen Cert.RowBlocks

section Block

variable (x0 : Vec Ideal S1x256x1024 .f32) (x1 : Vec Ideal S1x1x3072 .f32) (x2 : Vec Ideal S1x1024 .f32) (x3 : Vec Ideal S1024x4224 .bf16)
  (x4 : Vec Ideal S4x1536 .f32) (x5 x6 : Vec Ideal S1x128 .f32) (x7 : Vec Ideal S3x512 .f32)

/-- The modulated rows. -/
def hid : FVec Ideal S256x1024 .bf16 := k0_pay6 x0 x2 x1

/-- The projections to queries, keys and values before the convolution, to the decay and the write strength, and to the short convolution. -/
def raw : FVec Ideal S256x1536 .f32 := k0_pay7 x0 x2 x1 (View.ld x3 (Rect.unit ![0, 0] ![1024, 1536] inb_S1024x4224_S1024x1536_0_0))
def rates : FVec Ideal S256x128 .f32 := k0_pay9 (hid x0 x1 x2) (View.ld x3 (Rect.unit ![0, 2048] ![1024, 128] inb_S1024x4224_S1024x128_0_2048))
def four : FVec Ideal S256x2048 .f32 := k0_pay34 (hid x0 x1 x2) (View.ld x3 (Rect.unit ![0, 2176] ![1024, 2048] inb_S1024x4224_S1024x2048_0_2176))
def inner : FVec Ideal S256x512 .f32 := k0_pay35 (hid x0 x1 x2) (View.ld x3 (Rect.unit ![0, 2176] ![1024, 2048] inb_S1024x4224_S1024x2048_0_2176))

/-- The results' blocks, of the projections and the carried rows. -/
def outQ (f : FVec Ideal S256x1536 .f32) (p : Vec Ideal S8x1536 .f32) : FVec Ideal S1x256x512 .f32 :=
  k0_pay27 (k0_pay14 f p x4 (k0_pay8 x4)) (k0_pay17 (k0_pay12 f p x4 (k0_pay8 x4))) (k0_pay19 (k0_pay12 f p x4 (k0_pay8 x4)))
    (k0_pay21 (k0_pay12 f p x4 (k0_pay8 x4))) (k0_pay23 (k0_pay12 f p x4 (k0_pay8 x4)))
def outK (f : FVec Ideal S256x1536 .f32) (p : Vec Ideal S8x1536 .f32) : FVec Ideal S1x256x512 .f32 :=
  k0_pay28 (k0_pay24 (k0_pay16 (k0_pay13 f p x4 (k0_pay8 x4)) (k0_pay15 f p x4 (k0_pay8 x4))) (k0_pay18 (k0_pay12 f p x4 (k0_pay8 x4)))
    (k0_pay20 (k0_pay12 f p x4 (k0_pay8 x4))) (k0_pay22 (k0_pay12 f p x4 (k0_pay8 x4))))
def outV (f : FVec Ideal S256x1536 .f32) (p : Vec Ideal S8x1536 .f32) : FVec Ideal S1x256x512 .f32 :=
  k0_pay29 (k0_pay25 (k0_pay12 f p x4 (k0_pay8 x4)))
def outG (f : FVec Ideal S256x128 .f32) : FVec Ideal S1x256x128 .f32 := k0_pay30 (k0_pay26 f (k0_pay10 x5) (k0_pay11 x6))
def outZ : FVec Ideal S1x256x512 .f32 :=
  k0_pay33 (hid x0 x1 x2) (View.ld x3 (Rect.unit ![0, 1536] ![1024, 512] inb_S1024x4224_S1024x512_0_1536))
def outY (g : FVec Ideal S256x2048 .f32) (f : FVec Ideal S256x512 .f32) (p : Vec Ideal S8x512 .f32) : FVec Ideal S1x256x512 .f32 := k0_pay1 g f p x7

end Block

variable (m : (ℓ : Loc nD τ sig) → Buf (Elt Ideal) ℓ) (c : Dev nD) (t : Fin cfg0.N)

/-- The projections of a grid point's blocks. -/
abbrev rawAt : FVec Ideal S256x1536 .f32 := raw (iblk m c 0 t) (iblk m c 1 t) (iblk m c 2 t) (iblk m c 3 t)
abbrev ratesAt : FVec Ideal S256x128 .f32 := rates (iblk m c 0 t) (iblk m c 1 t) (iblk m c 2 t) (iblk m c 3 t)
abbrev fourAt : FVec Ideal S256x2048 .f32 := four (iblk m c 0 t) (iblk m c 1 t) (iblk m c 2 t) (iblk m c 3 t)
abbrev innerAt : FVec Ideal S256x512 .f32 := inner (iblk m c 0 t) (iblk m c 1 t) (iblk m c 2 t) (iblk m c 3 t)

/-- What a grid point leaves in its ten blocks, the last two the rows carried to the next point, over the rows `p`, `p'` carried to it. -/
def point (p : Vec Ideal S8x1536 .f32) (p' : Vec Ideal S8x512 .f32) : Vec Ideal S1x256x512 .f32 × Vec Ideal S1x256x512 .f32 × Vec Ideal S1x256x512 .f32
    × Vec Ideal S1x256x128 .f32 × Vec Ideal S1x256x512 .f32 × Vec Ideal S1x256x512 .f32 × Vec Ideal S1x8x1536 .f32 × Vec Ideal S1x8x512 .f32
    × Vec Ideal S8x1536 .f32 × Vec Ideal S8x512 .f32 :=
  (outQ (iblk m c 4 t) (rawAt m c t) p, outK (iblk m c 4 t) (rawAt m c t) p, outV (iblk m c 4 t) (rawAt m c t) p,
    outG (iblk m c 5 t) (iblk m c 6 t) (ratesAt m c t), outZ (iblk m c 0 t) (iblk m c 1 t) (iblk m c 2 t) (iblk m c 3 t),
    outY (iblk m c 7 t) (fourAt m c t) (innerAt m c t) p', k0_pay32 (rawAt m c t), k0_pay3 (innerAt m c t), k0_pay31 (rawAt m c t), k0_pay2 (innerAt m c t))

/-- A matrix stored whole, whatever was stored before, is what was stored. -/
theorem stored_matrix {A B : ℕ} {e : EltTy} (w : Vec Ideal ⟨2, ![A, B]⟩ e) (h) (L : List (View.Piece (Elt Ideal) ⟨2, ![A, B]⟩ e)) :
    View.canon ((⟨Rect.unit (s := ⟨2, ![A, B]⟩) ![0, 0] ![A, B] h, w⟩ : View.Piece (Elt Ideal) ⟨2, ![A, B]⟩ e) :: L) = w :=
  View.canon_cons_unit_zero (S := ⟨2, ![A, B]⟩) (by funext b; fin_cases b <;> rfl) h w L

/-- At a sequence's first point the carried rows are zeros. -/
theorem outs_first (h0 : t.val % 16 = 0) : outsAt0 m c t.val t.isLt = point m c t (k0_pay4 (F := Ideal)) (k0_pay5 (F := Ideal)) := by
  rw [outsAt0_A m c t h0]
  unfold point
  refine congrArg₂ Prod.mk ?_ (congrArg₂ Prod.mk ?_ (congrArg₂ Prod.mk ?_ (congrArg₂ Prod.mk ?_ (congrArg₂ Prod.mk ?_ (congrArg₂ Prod.mk ?_
    (congrArg₂ Prod.mk ?_ (congrArg₂ Prod.mk ?_ (congrArg₂ Prod.mk ?_ ?_))))))))
  on_goal 1 => unfold out0_A_8; rw [View.read_writes_eq_canon _ _ _ (by apply cover0_A_8)]
  on_goal 2 => unfold out0_A_9; rw [View.read_writes_eq_canon _ _ _ (by apply cover0_A_9)]
  on_goal 3 => unfold out0_A_10; rw [View.read_writes_eq_canon _ _ _ (by apply cover0_A_10)]
  on_goal 4 => unfold out0_A_11; rw [View.read_writes_eq_canon _ _ _ (by apply cover0_A_11)]
  on_goal 5 => unfold out0_A_12; rw [View.read_writes_eq_canon _ _ _ (by apply cover0_A_12)]
  on_goal 6 => unfold out0_A_13; rw [View.read_writes_eq_canon _ _ _ (by apply cover0_A_13)]
  on_goal 7 => unfold out0_A_14; rw [View.read_writes_eq_canon _ _ _ (by apply cover0_A_14)]
  on_goal 8 => unfold out0_A_15; rw [View.read_writes_eq_canon _ _ _ (by apply cover0_A_15)]
  on_goal 9 => unfold sout0_A_0; rw [View.read_writes_eq_canon _ _ _ (by apply scover0_A_0)]
  on_goal 10 => unfold sout0_A_1; rw [View.read_writes_eq_canon _ _ _ (by apply scover0_A_1)]
  all_goals
    unfold kernelRun0_A
    dsimp only
    sl_unfold_words
    try simp (disch := decide) only [↓View.readCov_skip, ↓View.readCov_fill]
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, ld_block, ld_matrix]
    first
      | exact stored_block _ _
      | exact stored_matrix _ _ _

/-- At a later point the carried rows are those that the point before left. -/
theorem outs_later (h0 : ¬ t.val % 16 = 0) : outsAt0 m c t.val t.isLt
    = point m c t (outsAt0 m c (t.val - 1) (Nat.lt_of_le_of_lt (Nat.sub_le _ _) t.isLt)).2.2.2.2.2.2.2.2.1
        (outsAt0 m c (t.val - 1) (Nat.lt_of_le_of_lt (Nat.sub_le _ _) t.isLt)).2.2.2.2.2.2.2.2.2 := by
  rw [outsAt0_B m c t h0]
  generalize (outsAt0 m c (t.val - 1) (Nat.lt_of_le_of_lt (Nat.sub_le _ _) t.isLt)).2.2.2.2.2.2.2.2.1 = p
  generalize (outsAt0 m c (t.val - 1) (Nat.lt_of_le_of_lt (Nat.sub_le _ _) t.isLt)).2.2.2.2.2.2.2.2.2 = p'
  unfold point
  refine congrArg₂ Prod.mk ?_ (congrArg₂ Prod.mk ?_ (congrArg₂ Prod.mk ?_ (congrArg₂ Prod.mk ?_ (congrArg₂ Prod.mk ?_ (congrArg₂ Prod.mk ?_
    (congrArg₂ Prod.mk ?_ (congrArg₂ Prod.mk ?_ (congrArg₂ Prod.mk ?_ ?_))))))))
  on_goal 1 => unfold out0_B_8; rw [View.read_writes_eq_canon _ _ _ (by apply cover0_B_8)]
  on_goal 2 => unfold out0_B_9; rw [View.read_writes_eq_canon _ _ _ (by apply cover0_B_9)]
  on_goal 3 => unfold out0_B_10; rw [View.read_writes_eq_canon _ _ _ (by apply cover0_B_10)]
  on_goal 4 => unfold out0_B_11; rw [View.read_writes_eq_canon _ _ _ (by apply cover0_B_11)]
  on_goal 5 => unfold out0_B_12; rw [View.read_writes_eq_canon _ _ _ (by apply cover0_B_12)]
  on_goal 6 => unfold out0_B_13; rw [View.read_writes_eq_canon _ _ _ (by apply cover0_B_13)]
  on_goal 7 => unfold out0_B_14; rw [View.read_writes_eq_canon _ _ _ (by apply cover0_B_14)]
  on_goal 8 => unfold out0_B_15; rw [View.read_writes_eq_canon _ _ _ (by apply cover0_B_15)]
  on_goal 9 => unfold sout0_B_0; rw [View.read_writes_eq_canon _ _ _ (by apply scover0_B_0)]
  on_goal 10 => unfold sout0_B_1; rw [View.read_writes_eq_canon _ _ _ (by apply scover0_B_1)]
  all_goals
    unfold kernelRun0_B
    dsimp only
    sl_unfold_words
    simp only [View.readAt_eq_ld, (hs0_0 t).read_unread, (hs0_1 t).read_unread, (hs0_2 t).read_unread, (hs0_3 t).read_unread,
      (hs0_4 t).read_unread, (hs0_5 t).read_unread, (hs0_6 t).read_unread, (hs0_7 t).read_unread, (Memref.isWhole_whole cc0_scratch0).read_unread, (Memref.isWhole_whole cc0_scratch1).read_unread, ld_block, ld_matrix]
    first
      | exact stored_block _ _
      | exact stored_matrix _ _ _

end Cert.DnInPoint

end
-- ==== Proof.DnInMath.lean ====
/- The input side of the delta layer: the mathematics of its results. -/
module

public import proofs.«01_k».proof.Defs
public import proofs.«01_k».proof.Proof.Norm

@[expose] public section

set_option maxRecDepth 16384

noncomputable section

namespace Cert.DnInMath

open Idealize.ShloMosaic
open Cert.DnInIdeal Cert.Norm

/-! ## One column over the rows of a sequence -/

/-- The column `s` rows earlier, zero before the first row. -/
def back (f : Fin 4096 → EReal) (s : ℕ) (r : Fin 4096) : EReal := if s ≤ r.val then f ⟨r.val - s, by omega⟩ else 0

theorem back_zero (f : Fin 4096 → EReal) (r : Fin 4096) : back f 0 r = f r := rfl

/-- The causal convolution with four taps, the last of them the row's own. -/
def conv4 (f : Fin 4096 → EReal) (w : Fin 4 → EReal) (r : Fin 4096) : EReal :=
  f r * w 3 + back f 1 r * w 2 + back f 2 r * w 1 + back f 3 r * w 0

/-- The causal convolution with three taps. -/
def conv3 (f : Fin 4096 → EReal) (w : Fin 3 → EReal) (r : Fin 4096) : EReal :=
  f r * w 2 + back f 1 r * w 1 + back f 2 r * w 0

/-- The reciprocal root of a head's sum of squares. -/
def rootSum (x : Fin 128 → EReal) : EReal := Ideal.rsqrt (∑ k : Fin 128, x k * x k + eps)

/-- Each of four heads divided by the root of its sum of squares. -/
def unit4 (x : Fin 512 → EReal) (l : Fin 512) : EReal := x l * rootSum (fun k => x (lane4 (head4 l) k))

theorem unit4_lane (x : Fin 512 → EReal) (h : Fin 4) (k : Fin 128) : unit4 x (lane4 h k) = x (lane4 h k) * rootSum (fun k => x (lane4 h k)) := by
  unfold unit4
  rw [head4_lane]

/-- `log (1 + eˣ)`, as `max x 0 + log (1 + e^(-|x|))`. -/
def softplus (x : EReal) : EReal := max x 0 + Ideal.log1p (Ideal.exp (-(max x (-x))))

/-! ## The columns of the projection -/

def colRaw (l : Fin 1536) : Fin 4104 := ⟨l.val, by omega⟩
def colGate (l : Fin 512) : Fin 4104 := ⟨1536 + l.val, by omega⟩
def colRate (l : Fin 8) : Fin 4104 := ⟨2048 + l.val, by omega⟩
def colShort (l : Fin 2048) : Fin 4104 := ⟨2056 + l.val, by omega⟩

/-- The three parts of the convolved channels and the four of the short convolution's. -/
def partQ (l : Fin 512) : Fin 1536 := ⟨l.val, by omega⟩
def partK (l : Fin 512) : Fin 1536 := ⟨512 + l.val, by omega⟩
def partV (l : Fin 512) : Fin 1536 := ⟨1024 + l.val, by omega⟩
def partB (l : Fin 512) : Fin 2048 := ⟨l.val, by omega⟩
def partC (l : Fin 512) : Fin 2048 := ⟨512 + l.val, by omega⟩
def partX (l : Fin 512) : Fin 2048 := ⟨1024 + l.val, by omega⟩
def partZ (l : Fin 512) : Fin 2048 := ⟨1536 + l.val, by omega⟩

/-- The projection of the modulated row `r` of sequence `n`. -/
def proj (x : Vec Ideal S4x4096x1024 .f32) (md : Vec Ideal S4x3072 .f32) (g : Vec Ideal S1024 .f32) (w : Vec Ideal S1024x4104 .f32)
    (n : Fin 4) (r : Fin 4096) (l : Fin 4104) : EReal :=
  ∑ k : Fin 1024, modRow (fun k => x (ix3 n r k)) (fun k => g (ix1 k)) (fun k => md (ix2 n k)) k * w (ix2 k l)

section Results

variable (p : Fin 4 → Fin 4096 → Fin 4104 → EReal) (cw : Vec Ideal S4x1536 .f32) (al dt : Vec Ideal S4 .f32) (sw : Vec Ideal S3x512 .f32)

/-- The convolved channels, gated by themselves. -/
def act (n : Fin 4) (r : Fin 4096) (l : Fin 1536) : EReal := silu (conv4 (fun r => p n r (colRaw l)) (fun s => cw (ix2 s l)) r)

def queriesOf : Vec Ideal S4x4096x512 .f32 :=
  fun i => unit4 (fun l => act p cw (i 0) (i 1) (partQ l)) (i 2) * Ideal.ofBits FTy.f32 0x3DB504F3#32
def keysOf : Vec Ideal S4x4096x512 .f32 := fun i => unit4 (fun l => act p cw (i 0) (i 1) (partK l)) (i 2)
def valuesOf : Vec Ideal S4x4096x512 .f32 := fun i => act p cw (i 0) (i 1) (partV (i 2))

/-- Lane `l` of a row of rates: the logarithm of the decay of head `l`, then the write strengths, then zeros. -/
def rate (f : Fin 8 → EReal) (a d : Fin 4 → EReal) (l : Fin 128) : EReal :=
  if h : l.val < 4 then -(Ideal.exp (a ⟨l.val, h⟩)) * softplus (f ⟨l.val, by omega⟩ + d ⟨l.val, h⟩)
  else if h : l.val < 8 then Ideal.logistic (f ⟨l.val, h⟩) else 0

def ratesOf : Vec Ideal S4x4096x128 .f32 :=
  fun i => rate (fun l => p (i 0) (i 1) (colRate l)) (fun l => al (ix1 l)) (fun l => dt (ix1 l)) (i 2)

/-- The gate of the delta rule's output. -/
def gateOf : Vec Ideal S4x4096x512 .f32 := fun i => silu (p (i 0) (i 1) (colGate (i 2)))

/-- What the short convolution is taken of. -/
def shortIn (n : Fin 4) (r : Fin 4096) (l : Fin 512) : EReal := p n r (colShort (partC l)) * p n r (colShort (partX l))

/-- The gated short convolution. -/
def shortOf : Vec Ideal S4x4096x512 .f32 := fun i =>
  p (i 0) (i 1) (colShort (partB (i 2))) * conv3 (fun r => shortIn p (i 0) r (i 2)) (fun s => sw (ix2 s (i 2))) (i 1) * silu (p (i 0) (i 1) (colShort (partZ (i 2))))

/-- The last eight rows before each convolution. -/
def lastRow (s : Fin 8) : Fin 4096 := ⟨4088 + s.val, by omega⟩
def rawTail : Vec Ideal S4x8x1536 .f32 := fun i => p (i 0) (lastRow (i 1)) (colRaw (i 2))
def innerTail : Vec Ideal S4x8x512 .f32 := fun i => shortIn p (i 0) (lastRow (i 1)) (i 2)

end Results

end Cert.DnInMath

end
-- ==== Proof.DnInBlock.lean ====
/- One grid point of the delta layer's input kernel: the entries of what it leaves, of its rows' projection. -/
module

public import proofs.«01_k».proof.Proof.DnInPoint
public import proofs.«01_k».proof.Proof.DnInMath

@[expose] public section

set_option maxRecDepth 16384

noncomputable section

namespace Cert.DnInBlock

open Idealize.ShloMosaic
open Cert.DnInIdeal Cert.DnInIdeal.Gen Cert.RowBlocks Cert.Norm Cert.DnInMath Cert.DnInPoint

/-! ## The projections of a block -/

section Projections

variable (x0 : Vec Ideal S1x256x1024 .f32) (x1 : Vec Ideal S1x1x3072 .f32) (x2 : Vec Ideal S1x1024 .f32) (x3 : Vec Ideal S1024x4224 .bf16)

/-- The projection of a block's row `r`, in the kernel's order of columns. -/
def blockProj (r : Fin 256) (l : Fin 4224) : EReal :=
  ∑ k : Fin 1024, modRow (fun k => x0 (ix3 0 r k)) (fun k => x2 (ix2 0 k)) (fun k => x1 (ix3 0 0 k)) k * x3 (ix2 k l)

theorem hid_at (r : Fin 256) (k : Fin 1024) :
    hid x0 x1 x2 (ix2 r k) = modRow (fun k => x0 (ix3 0 r k)) (fun k => x2 (ix2 0 k)) (fun k => x1 (ix3 0 0 k)) k := by
  pointwise [hid, k0_pay6, modRow]

theorem raw_at (r : Fin 256) (l : Fin 1536) : raw x0 x1 x2 x3 (ix2 r l) = blockProj x0 x1 x2 x3 r ⟨l.val, by omega⟩ := by
  have h := hid_at x0 x1 x2
  unfold hid at h
  pointwise [raw, k0_pay7, h, blockProj]

theorem rates_at (r : Fin 256) (l : Fin 128) : rates x0 x1 x2 x3 (ix2 r l) = blockProj x0 x1 x2 x3 r ⟨2048 + l.val, by omega⟩ := by
  pointwise [rates, k0_pay9, hid_at, blockProj]

theorem four_at (r : Fin 256) (l : Fin 2048) : four x0 x1 x2 x3 (ix2 r l) = blockProj x0 x1 x2 x3 r ⟨2176 + l.val, by omega⟩ := by
  pointwise [four, k0_pay34, hid_at, blockProj]

theorem inner_at (r : Fin 256) (l : Fin 512) : DnInPoint.inner x0 x1 x2 x3 (ix2 r l) = four x0 x1 x2 x3 (ix2 r (partC l)) * four x0 x1 x2 x3 (ix2 r (partX l)) := by
  unfold DnInPoint.inner k0_pay35 four
  generalize k0_pay34 (F := Ideal) _ _ = f
  pointwise [partC, partX]

theorem outZ_at (j : S1x256x512.Idx) : outZ x0 x1 x2 x3 j = silu (blockProj x0 x1 x2 x3 (j 1) ⟨1536 + (j 2).val, by have := (j 2).isLt; change (j 2).val < 512 at this; omega⟩) := by
  idx_vars j
  pointwise [outZ, k0_pay33, hid_at, blockProj, silu]

end Projections

/-! ## The convolutions over the rows of a sequence, across its blocks -/

/-- The `s`-th of the eight rows before grid point `t`'s. -/
def prevRow (t : ℕ) (s : Fin 8) : Fin 4096 := ⟨(t % 16 * 256 + 4088 + s.val) % 4096, Nat.mod_lt _ (by omega)⟩

/-- A block's column below the eight carried rows, read at row `i`, is the sequence's column some rows earlier. -/
theorem carried (X : Fin 4096 → EReal) (t : ℕ) (f : Fin 256 → EReal) (p : Fin 8 → EReal) (hf : ∀ r, f r = X (rowOf t r))
    (hp : ∀ s, p s = if t % 16 = 0 then 0 else X (prevRow t s)) (i s : ℕ) (r : Fin 256) (hs : 0 < s) (hs' : s ≤ 8) (hi : i + s = 8 + r.val) :
    (if h : i < 8 then p ⟨i, h⟩ else f ⟨i - 8, by omega⟩) = back X s (rowOf t r) := by
  unfold back
  have hv : (rowOf t r).val = t % 16 * 256 + r.val := rfl
  split_ifs with h1 h2 h2
  · rw [hp, if_neg (by omega)]
    exact congrArg X (Fin.ext (by show (t % 16 * 256 + 4088 + i) % 4096 = (rowOf t r).val - s; omega))
  · rw [hp, if_pos (by omega)]
  · rw [hf]
    exact congrArg X (Fin.ext (by show t % 16 * 256 + (i - 8) = (rowOf t r).val - s; omega))
  · omega

/-- The convolved channels of a block. -/
theorem act_at (X : Fin 4096 → Fin 1536 → EReal) (t : ℕ) (f : FVec Ideal S256x1536 .f32) (p : Vec Ideal S8x1536 .f32) (x4 : Vec Ideal S4x1536 .f32)
    (hf : ∀ r l, f (ix2 r l) = X (rowOf t r) l) (hp : ∀ s l, p (ix2 s l) = if t % 16 = 0 then 0 else X (prevRow t s) l) (r : Fin 256) (l : Fin 1536) :
    k0_pay12 (F := Ideal) f p x4 (k0_pay8 x4) (ix2 r l) = silu (conv4 (fun r => X r l) (fun s => x4 (ix2 s l)) (rowOf t r)) := by
  have hc := carried (fun r => X r l) t (fun r => f (ix2 r l)) (fun s => p (ix2 s l)) (fun r => hf r l) (fun s => hp s l)
  pointwise [k0_pay12, k0_pay8]
  refine congrArg silu (congrArg₂ HAdd.hAdd (congrArg₂ HAdd.hAdd (congrArg₂ HAdd.hAdd (congrArg (· * x4 (ix2 3 l)) (hf r l)) (congrArg (· * x4 (ix2 2 l)) (hc (7 + r.val) 1 r (by omega) (by omega) (by omega))))
    (congrArg (· * x4 (ix2 1 l)) (hc (6 + r.val) 2 r (by omega) (by omega) (by omega)))) (congrArg (· * x4 (ix2 0 l)) (hc (5 + r.val) 3 r (by omega) (by omega) (by omega))))

/-- The gated short convolution of a block. -/
theorem outY_at (X : Fin 4096 → Fin 512 → EReal) (t : ℕ) (x7 : Vec Ideal S3x512 .f32) (g : FVec Ideal S256x2048 .f32) (f : FVec Ideal S256x512 .f32) (p : Vec Ideal S8x512 .f32)
    (hf : ∀ r l, f (ix2 r l) = X (rowOf t r) l) (hp : ∀ s l, p (ix2 s l) = if t % 16 = 0 then 0 else X (prevRow t s) l) (j : S1x256x512.Idx) :
    outY x7 g f p j = g (ix2 (j 1) (partB (j 2))) * conv3 (fun r => X r (j 2)) (fun s => x7 (ix2 s (j 2))) (rowOf t (j 1)) * silu (g (ix2 (j 1) (partZ (j 2)))) := by
  obtain ⟨a, r, l, rfl⟩ : ∃ (a : Fin 1) (r : Fin 256) (l : Fin 512), j = ix3 a r l := ⟨j 0, j 1, j 2, eq_ix3 j⟩
  have hc := carried (fun r => X r l) t (fun r => f (ix2 r l)) (fun s => p (ix2 s l)) (fun r => hf r l) (fun s => hp s l)
  pointwise [outY, k0_pay1, partB, partZ, silu]
  refine congrArg (fun a => _ * a * _) ?_
  exact congrArg₂ HAdd.hAdd (congrArg₂ HAdd.hAdd (congrArg (· * x7 (ix2 2 l)) (hf r l)) (congrArg (· * x7 (ix2 1 l)) (hc (7 + r.val) 1 r (by omega) (by omega) (by omega))))
    (congrArg (· * x7 (ix2 0 l)) (hc (6 + r.val) 2 r (by omega) (by omega) (by omega)))

/-! ## Queries, keys, values and rates, of the convolved channels -/

section Heads

variable (A : Fin 256 → Fin 1536 → EReal) (f : FVec Ideal S256x1536 .f32) (p : Vec Ideal S8x1536 .f32) (x4 : Vec Ideal S4x1536 .f32)
  (hA : ∀ r l, k0_pay12 (F := Ideal) f p x4 (k0_pay8 x4) (ix2 r l) = A r l) (j : S1x256x512.Idx)

include hA

theorem outQ_at : outQ x4 f p j = unit4 (fun l => A (j 1) (partQ l)) (j 2) * Ideal.ofBits FTy.f32 0x3DB504F3#32 := by
  unfold outQ k0_pay14
  generalize k0_pay12 (F := Ideal) f p x4 (k0_pay8 x4) = a at hA ⊢
  unfold k0_pay27
  dsimp only
  rw [concat4 _ _ _ _ (fun r l => unit4 (fun l => A r (partQ l)) l * Ideal.ofBits FTy.f32 0x3DB504F3#32)]
  · idx_vars j
    pointwise
  all_goals
    intro r k
    rw [unit4_lane]
    unfold rootSum
    pointwise [k0_pay17, k0_pay19, k0_pay21, k0_pay23, hA, lane4, partQ]

theorem outK_at : outK x4 f p j = unit4 (fun l => A (j 1) (partK l)) (j 2) := by
  unfold outK k0_pay15 k0_pay13
  generalize k0_pay12 (F := Ideal) f p x4 (k0_pay8 x4) = a at hA ⊢
  unfold k0_pay28 k0_pay24
  dsimp only
  rw [concat4 _ _ _ _ (fun r l => unit4 (fun l => A r (partK l)) l)]
  · idx_vars j
    pointwise
  all_goals
    intro r k
    rw [unit4_lane]
    unfold rootSum
    pointwise [k0_pay16, k0_pay18, k0_pay20, k0_pay22, hA, lane4, partK]
  all_goals simp only [← Nat.add_assoc, Nat.reduceAdd, eps]

theorem outV_at : outV x4 f p j = A (j 1) (partV (j 2)) := by
  unfold outV
  generalize k0_pay12 (F := Ideal) f p x4 (k0_pay8 x4) = a at hA ⊢
  idx_vars j
  pointwise [k0_pay29, k0_pay25, hA, partV]

end Heads

/-- A choice on the lane's number. -/
theorem below_four (l : Fin 128) (a b : EReal) : Scalar.select (IntOp.cmpi .slt (BitVec.ofNat 32 l.val) 4#32) a b = if l.val < 4 then a else b := by
  rw [(by decide : ∀ l : Fin 128, IntOp.cmpi .slt (BitVec.ofNat 32 l.val) 4#32 = if l.val < 4 then 1#1 else 0#1) l]
  split_ifs <;> rfl

theorem below_eight (l : Fin 128) (a b : EReal) : Scalar.select (IntOp.cmpi .slt (BitVec.ofNat 32 l.val) 8#32) a b = if l.val < 8 then a else b := by
  rw [(by decide : ∀ l : Fin 128, IntOp.cmpi .slt (BitVec.ofNat 32 l.val) 8#32 = if l.val < 8 then 1#1 else 0#1) l]
  split_ifs <;> rfl

/-- The rates of a block: its first eight lanes hold the decays' logarithms and the write strengths. -/
theorem outG_at (f : FVec Ideal S256x128 .f32) (x5 x6 : Vec Ideal S1x128 .f32) (p : Fin 256 → Fin 8 → EReal) (al dt : Fin 4 → EReal)
    (hf : ∀ r (l : Fin 8), f (ix2 r ⟨l.val, by omega⟩) = p r l) (h5 : ∀ l : Fin 4, x5 (ix2 0 ⟨l.val, by omega⟩) = al l)
    (h6 : ∀ l : Fin 4, x6 (ix2 0 ⟨l.val, by omega⟩) = dt l) (j : S1x256x128.Idx) :
    outG x5 x6 f j = rate (p (j 1)) al dt (j 2) := by
  obtain ⟨a, r, l, rfl⟩ : ∃ (a : Fin 1) (r : Fin 256) (l : Fin 128), j = ix3 a r l := ⟨j 0, j 1, j 2, eq_ix3 j⟩
  pointwise [outG, k0_pay30, k0_pay26, k0_pay10, k0_pay11]
  rw [below_four, below_eight]
  unfold rate softplus
  split_ifs with h4 h8
  · rw [← h5 ⟨l.val, h4⟩, ← h6 ⟨l.val, h4⟩, ← hf r ⟨l.val, by omega⟩]
    simp only [zero_sub]
    rfl
  · rw [← hf r ⟨l.val, h8⟩]
  · rfl

end Cert.DnInBlock

end
-- ==== Proof.DnInRef.lean ====
/- The input side of the delta layer: the reference's results. -/
module

public import proofs.«01_k».proof.Proof.DnInMath
public import proofs.«01_k».proof.Proof.Gen.DnInRefIdeal.Run
public import Idealize.ShloMosaic.Lib.KernelVsHost

@[expose] public section

set_option maxRecDepth 16384

noncomputable section

namespace Cert.DnInRef

open Idealize.ShloMosaic Idealize.ShloMosaic.TcCoe
open Cert.DnInRefIdeal Cert.DnInRefIdeal.Gen Cert.DnInRefIdeal.Value Cert.Norm Cert.DnInMath

section Terms

variable {F : FTy → Type} [FloatOps F]

/-- The reference's projection of the modulated rows. -/
def product (m : (ℓ : Loc nD τ sig) → Buf (Elt F) ℓ) (c : Dev nD) : FVec F S4x4096x4104 .f32 :=
  Host.dotGeneral dot_S4x4096x1024_S1024x4104_S4x4096x4104_2_0_01_1_n_n none (addf (mulf (mulf (mulf (m ((c.tc : Thread nD τ).loc main_arg0)) (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf (m ((c.tc : Thread nD τ).loc main_arg0)) (m ((c.tc : Thread nD τ).loc main_arg0))) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 (m ((c.tc : Thread nD τ).loc main_arg2))))) (broadcastInDim S4x4096x1024 ![0, 1, 2] bcast_S4x1x1024_S4x4096x1024_0_1_2 (addf (broadcastInDim S4x1x1024 ![] bcast_S_S4x1x1024 (constant S_ .f32 0x3F800000#32)) (extractStridedSlice S4x1x1024 ![0, 0, 1024] (broadcastInDim S4x1x3072 ![0, 2] bcast_S4x3072_S4x1x3072_0_2 (m ((c.tc : Thread nD τ).loc main_arg1))) slices_S4x1x3072_S4x1x1024_0_0_1024)))) (broadcastInDim S4x4096x1024 ![0, 1, 2] bcast_S4x1x1024_S4x4096x1024_0_1_2 (extractStridedSlice S4x1x1024 ![0, 0, 0] (broadcastInDim S4x1x3072 ![0, 2] bcast_S4x3072_S4x1x3072_0_2 (m ((c.tc : Thread nD τ).loc main_arg1))) slices_S4x1x3072_S4x1x1024_0_0_0))) (m ((c.tc : Thread nD τ).loc main_arg3))

/-- Its convolution over the rows. -/
def convolved (f : FVec F S4x4096x1536 .f32) (w : FVec F S4x1536 .f32) : FVec F S4x4096x1536 .f32 :=
  addf (addf (addf (addf (broadcastInDim S4x4096x1536 ![] bcast_S_S4x4096x1536 (constant S_ .f32 0x00000000#32)) (mulf (extractStridedSlice S4x4096x1536 ![0, 0, 0] (pad S4x4099x1536 ![0, 3, 0] ![0, 0, 0] ![0, 0, 0] f (sitofp .f32 (constantI S_ 32 0#32)) pads_S4x4096x1536_S4x4099x1536_000_300_000 h_S_) slices_S4x4099x1536_S4x4096x1536_0_0_0) (broadcastInDim S4x4096x1536 ![0, 1, 2] bcast_S1x1x1536_S4x4096x1536_0_1_2 (broadcastInDim S1x1x1536 ![2] bcast_S1536_S1x1x1536_2 (shapeCast _ (extractStridedSlice S1x1536 ![0, 0] w slices_S4x1536_S1x1536_0_0) shapeCasts_S1x1536_S1536))))) (mulf (extractStridedSlice S4x4096x1536 ![0, 1, 0] (pad S4x4099x1536 ![0, 3, 0] ![0, 0, 0] ![0, 0, 0] f (sitofp .f32 (constantI S_ 32 0#32)) pads_S4x4096x1536_S4x4099x1536_000_300_000 h_S_) slices_S4x4099x1536_S4x4096x1536_0_1_0) (broadcastInDim S4x4096x1536 ![0, 1, 2] bcast_S1x1x1536_S4x4096x1536_0_1_2 (broadcastInDim S1x1x1536 ![2] bcast_S1536_S1x1x1536_2 (shapeCast _ (extractStridedSlice S1x1536 ![1, 0] w slices_S4x1536_S1x1536_1_0) shapeCasts_S1x1536_S1536))))) (mulf (extractStridedSlice S4x4096x1536 ![0, 2, 0] (pad S4x4099x1536 ![0, 3, 0] ![0, 0, 0] ![0, 0, 0] f (sitofp .f32 (constantI S_ 32 0#32)) pads_S4x4096x1536_S4x4099x1536_000_300_000 h_S_) slices_S4x4099x1536_S4x4096x1536_0_2_0) (broadcastInDim S4x4096x1536 ![0, 1, 2] bcast_S1x1x1536_S4x4096x1536_0_1_2 (broadcastInDim S1x1x1536 ![2] bcast_S1536_S1x1x1536_2 (shapeCast _ (extractStridedSlice S1x1536 ![2, 0] w slices_S4x1536_S1x1536_2_0) shapeCasts_S1x1536_S1536))))) (mulf (extractStridedSlice S4x4096x1536 ![0, 3, 0] (pad S4x4099x1536 ![0, 3, 0] ![0, 0, 0] ![0, 0, 0] f (sitofp .f32 (constantI S_ 32 0#32)) pads_S4x4096x1536_S4x4099x1536_000_300_000 h_S_) slices_S4x4099x1536_S4x4096x1536_0_3_0) (broadcastInDim S4x4096x1536 ![0, 1, 2] bcast_S1x1x1536_S4x4096x1536_0_1_2 (broadcastInDim S1x1x1536 ![2] bcast_S1536_S1x1x1536_2 (shapeCast _ (extractStridedSlice S1x1536 ![3, 0] w slices_S4x1536_S1x1536_3_0) shapeCasts_S1x1536_S1536))))

/-- An array times its logistic function. -/
def gated (f : FVec F S4x4096x1536 .f32) : FVec F S4x4096x1536 .f32 :=
  mulf f (Host.divf (broadcastInDim S4x4096x1536 ![] bcast_S_S4x4096x1536 (constant S_ .f32 0x3F800000#32)) (addf (broadcastInDim S4x4096x1536 ![] bcast_S_S4x4096x1536 (constant S_ .f32 0x3F800000#32)) (Host.exp (Host.negf f))))

/-- The channels before the convolution. -/
def channels (f : FVec F S4x4096x4104 .f32) : FVec F S4x4096x1536 .f32 := extractStridedSlice S4x4096x1536 ![0, 0, 0] f slices_S4x4096x4104_S4x4096x1536_0_0_0

/-- The queries, of the convolved channels. -/
def queries (f : FVec F S4x4096x1536 .f32) : FVec F S4x4096x512 .f32 :=
  shapeCast S4x4096x512 (mulf (mulf (shapeCast S4x4096x4x128 (extractStridedSlice S4x4096x512 ![0, 0, 0] f slices_S4x4096x1536_S4x4096x512_0_0_0) shapeCasts_S4x4096x512_S4x4096x4x128) (broadcastInDim S4x4096x4x128 ![0, 1, 2, 3] bcast_S4x4096x4x1_S4x4096x4x128_0_1_2_3 (Host.rsqrt (addf (broadcastInDim S4x4096x4x1 ![0, 1, 2] bcast_S4x4096x4_S4x4096x4x1_0_1_2 (Host.reduceAdd (mulf (shapeCast S4x4096x4x128 (extractStridedSlice S4x4096x512 ![0, 0, 0] f slices_S4x4096x1536_S4x4096x512_0_0_0) shapeCasts_S4x4096x512_S4x4096x4x128) (shapeCast S4x4096x4x128 (extractStridedSlice S4x4096x512 ![0, 0, 0] f slices_S4x4096x1536_S4x4096x512_0_0_0) shapeCasts_S4x4096x512_S4x4096x4x128)) (constant S_ .f32 0x00000000#32) reducesTo_S4x4096x4x128_S4x4096x4_d3 h_S_)) (broadcastInDim S4x4096x4x1 ![] bcast_S_S4x4096x4x1 (constant S_ .f32 0x358637BD#32)))))) (broadcastInDim S4x4096x4x128 ![] bcast_S_S4x4096x4x128 (constant S_ .f32 0x3DB504F3#32))) shapeCasts_S4x4096x4x128_S4x4096x512

/-- The keys. -/
def keys (f : FVec F S4x4096x1536 .f32) : FVec F S4x4096x512 .f32 :=
  shapeCast S4x4096x512 (mulf (shapeCast S4x4096x4x128 (extractStridedSlice S4x4096x512 ![0, 0, 512] f slices_S4x4096x1536_S4x4096x512_0_0_512) shapeCasts_S4x4096x512_S4x4096x4x128) (broadcastInDim S4x4096x4x128 ![0, 1, 2, 3] bcast_S4x4096x4x1_S4x4096x4x128_0_1_2_3 (Host.rsqrt (addf (broadcastInDim S4x4096x4x1 ![0, 1, 2] bcast_S4x4096x4_S4x4096x4x1_0_1_2 (Host.reduceAdd (mulf (shapeCast S4x4096x4x128 (extractStridedSlice S4x4096x512 ![0, 0, 512] f slices_S4x4096x1536_S4x4096x512_0_0_512) shapeCasts_S4x4096x512_S4x4096x4x128) (shapeCast S4x4096x4x128 (extractStridedSlice S4x4096x512 ![0, 0, 512] f slices_S4x4096x1536_S4x4096x512_0_0_512) shapeCasts_S4x4096x512_S4x4096x4x128)) (constant S_ .f32 0x00000000#32) reducesTo_S4x4096x4x128_S4x4096x4_d3 h_S_)) (broadcastInDim S4x4096x4x1 ![] bcast_S_S4x4096x4x1 (constant S_ .f32 0x358637BD#32)))))) shapeCasts_S4x4096x4x128_S4x4096x512

/-- The rates, of the projection. -/
def rates (f : FVec F S4x4096x4104 .f32) (al dt : FVec F S4 .f32) : FVec F S4x4096x128 .f32 :=
  pad S4x4096x128 ![0, 0, 0] ![0, 0, 120] ![0, 0, 0] (concatenate S4x4096x8 2 [⟨S4x4096x4, (mulf (broadcastInDim S4x4096x4 ![0, 1, 2] bcast_S1x1x4_S4x4096x4_0_1_2 (broadcastInDim S1x1x4 ![2] bcast_S4_S1x1x4_2 (Host.negf (Host.exp al)))) (select (cmpf .une (subf (addf (extractStridedSlice S4x4096x4 ![0, 0, 2048] f slices_S4x4096x4104_S4x4096x4_0_0_2048) (broadcastInDim S4x4096x4 ![0, 1, 2] bcast_S1x1x4_S4x4096x4_0_1_2 (broadcastInDim S1x1x4 ![2] bcast_S4_S1x1x4_2 dt))) (broadcastInDim S4x4096x4 ![] bcast_S_S4x4096x4 (constant S_ .f32 0x00000000#32))) (subf (addf (extractStridedSlice S4x4096x4 ![0, 0, 2048] f slices_S4x4096x4104_S4x4096x4_0_0_2048) (broadcastInDim S4x4096x4 ![0, 1, 2] bcast_S1x1x4_S4x4096x4_0_1_2 (broadcastInDim S1x1x4 ![2] bcast_S4_S1x1x4_2 dt))) (broadcastInDim S4x4096x4 ![] bcast_S_S4x4096x4 (constant S_ .f32 0x00000000#32)))) (addf (addf (extractStridedSlice S4x4096x4 ![0, 0, 2048] f slices_S4x4096x4104_S4x4096x4_0_0_2048) (broadcastInDim S4x4096x4 ![0, 1, 2] bcast_S1x1x4_S4x4096x4_0_1_2 (broadcastInDim S1x1x4 ![2] bcast_S4_S1x1x4_2 dt))) (broadcastInDim S4x4096x4 ![] bcast_S_S4x4096x4 (constant S_ .f32 0x00000000#32))) (addf (maximumf (addf (extractStridedSlice S4x4096x4 ![0, 0, 2048] f slices_S4x4096x4104_S4x4096x4_0_0_2048) (broadcastInDim S4x4096x4 ![0, 1, 2] bcast_S1x1x4_S4x4096x4_0_1_2 (broadcastInDim S1x1x4 ![2] bcast_S4_S1x1x4_2 dt))) (broadcastInDim S4x4096x4 ![] bcast_S_S4x4096x4 (constant S_ .f32 0x00000000#32))) (Host.log1p (Host.exp (Host.negf (Host.absf (subf (addf (extractStridedSlice S4x4096x4 ![0, 0, 2048] f slices_S4x4096x4104_S4x4096x4_0_0_2048) (broadcastInDim S4x4096x4 ![0, 1, 2] bcast_S1x1x4_S4x4096x4_0_1_2 (broadcastInDim S1x1x4 ![2] bcast_S4_S1x1x4_2 dt))) (broadcastInDim S4x4096x4 ![] bcast_S_S4x4096x4 (constant S_ .f32 0x00000000#32))))))))))⟩, ⟨S4x4096x4, (Host.divf (broadcastInDim S4x4096x4 ![] bcast_S_S4x4096x4 (constant S_ .f32 0x3F800000#32)) (addf (broadcastInDim S4x4096x4 ![] bcast_S_S4x4096x4 (constant S_ .f32 0x3F800000#32)) (Host.exp (Host.negf (extractStridedSlice S4x4096x4 ![0, 0, 2052] f slices_S4x4096x4104_S4x4096x4_0_0_2052)))))⟩] concatenates_S4x4096x4_S4x4096x4_S4x4096x8_d2) (sitofp .f32 (constantI S_ 32 0#32)) pads_S4x4096x8_S4x4096x128_000_000_01200 h_S_

/-- The gate. -/
def gates (f : FVec F S4x4096x4104 .f32) : FVec F S4x4096x512 .f32 :=
  mulf (extractStridedSlice S4x4096x512 ![0, 0, 1536] f slices_S4x4096x4104_S4x4096x512_0_0_1536) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (extractStridedSlice S4x4096x512 ![0, 0, 1536] f slices_S4x4096x4104_S4x4096x512_0_0_1536)))))

/-- The gated short convolution. -/
def short (f : FVec F S4x4096x4104 .f32) (w : FVec F S3x512 .f32) : FVec F S4x4096x512 .f32 :=
  mulf (mulf (extractStridedSlice S4x4096x512 ![0, 0, 2056] f slices_S4x4096x4104_S4x4096x512_0_0_2056) (addf (addf (addf (broadcastInDim S4x4096x512 ![] bcast_S_S4x4096x512 (constant S_ .f32 0x00000000#32)) (mulf (extractStridedSlice S4x4096x512 ![0, 0, 0] (pad S4x4098x512 ![0, 2, 0] ![0, 0, 0] ![0, 0, 0] (mulf (extractStridedSlice S4x4096x512 ![0, 0, 2568] f slices_S4x4096x4104_S4x4096x512_0_0_2568) (extractStridedSlice S4x4096x512 ![0, 0, 3080] f slices_S4x4096x4104_S4x4096x512_0_0_3080)) (sitofp .f32 (constantI S_ 32 0#32)) pads_S4x4096x512_S4x4098x512_000_200_000 h_S_) slices_S4x4098x512_S4x4096x512_0_0_0) (broadcastInDim S4x4096x512 ![0, 1, 2] bcast_S1x1x512_S4x4096x512_0_1_2 (broadcastInDim S1x1x512 ![2] bcast_S512_S1x1x512_2 (shapeCast _ (extractStridedSlice S1x512 ![0, 0] w slices_S3x512_S1x512_0_0) shapeCasts_S1x512_S512))))) (mulf (extractStridedSlice S4x4096x512 ![0, 1, 0] (pad S4x4098x512 ![0, 2, 0] ![0, 0, 0] ![0, 0, 0] (mulf (extractStridedSlice S4x4096x512 ![0, 0, 2568] f slices_S4x4096x4104_S4x4096x512_0_0_2568) (extractStridedSlice S4x4096x512 ![0, 0, 3080] f slices_S4x4096x4104_S4x4096x512_0_0_3080)) (sitofp .f32 (constantI S_ 32 0#32)) pads_S4x4096x512_S4x4098x512_000_200_000 h_S_) slices_S4x4098x512_S4x4096x512_0_1_0) (broadcastInDim S4x4096x512 ![0, 1, 2] bcast_S1x1x512_S4x4096x512_0_1_2 (broadcastInDim S1x1x512 ![2] bcast_S512_S1x1x512_2 (shapeCast _ (extractStridedSlice S1x512 ![1, 0] w slices_S3x512_S1x512_1_0) shapeCasts_S1x512_S512))))) (mulf (extractStridedSlice S4x4096x512 ![0, 2, 0] (pad S4x4098x512 ![0, 2, 0] ![0, 0, 0] ![0, 0, 0] (mulf (extractStridedSlice S4x4096x512 ![0, 0, 2568] f slices_S4x4096x4104_S4x4096x512_0_0_2568) (extractStridedSlice S4x4096x512 ![0, 0, 3080] f slices_S4x4096x4104_S4x4096x512_0_0_3080)) (sitofp .f32 (constantI S_ 32 0#32)) pads_S4x4096x512_S4x4098x512_000_200_000 h_S_) slices_S4x4098x512_S4x4096x512_0_2_0) (broadcastInDim S4x4096x512 ![0, 1, 2] bcast_S1x1x512_S4x4096x512_0_1_2 (broadcastInDim S1x1x512 ![2] bcast_S512_S1x1x512_2 (shapeCast _ (extractStridedSlice S1x512 ![2, 0] w slices_S3x512_S1x512_2_0) shapeCasts_S1x512_S512)))))) (mulf (extractStridedSlice S4x4096x512 ![0, 0, 3592] f slices_S4x4096x4104_S4x4096x512_0_0_3592) (Host.divf (broadcastInDim S4x4096x512 ![] bcast_S_S4x4096x512 (constant S_ .f32 0x3F800000#32)) (addf (broadcastInDim S4x4096x512 ![] bcast_S_S4x4096x512 (constant S_ .f32 0x3F800000#32)) (Host.exp (Host.negf (extractStridedSlice S4x4096x512 ![0, 0, 3592] f slices_S4x4096x4104_S4x4096x512_0_0_3592))))))

/-- What the short convolution is taken of. -/
def innerRows (f : FVec F S4x4096x4104 .f32) : FVec F S4x4096x512 .f32 :=
  mulf (extractStridedSlice S4x4096x512 ![0, 0, 2568] f slices_S4x4096x4104_S4x4096x512_0_0_2568) (extractStridedSlice S4x4096x512 ![0, 0, 3080] f slices_S4x4096x4104_S4x4096x512_0_0_3080)

end Terms

/-! ## Their entries -/

/-- The padding's zero. -/
theorem zero_eq : (FloatOps.sitofp (F := Ideal) FTy.f32 0#32 : EReal) = 0 := sitofp_zero

/-- A column with zero rows before it, read at row `i`, is the column some rows earlier. -/
theorem padded (g : Fin 4096 → EReal) (w s i : ℕ) (r : Fin 4096) (hi : i + s = w + r.val) :
    (if h : w ≤ i ∧ i - w < 4096 then g ⟨i - w, h.2⟩ else (FloatOps.sitofp (F := Ideal) FTy.f32 0#32 : EReal)) = back g s r := by
  rw [zero_eq]
  unfold back
  have hr := r.isLt
  split_ifs with h1 h2 h2
  · exact congrArg g (Fin.ext (by show i - w = r.val - s; omega))
  · omega
  · omega
  · rfl

theorem convolved_at (f : FVec Ideal S4x4096x1536 .f32) (w : FVec Ideal S4x1536 .f32) (n : Fin 4) (r : Fin 4096) (l : Fin 1536) :
    convolved f w (ix3 n r l) = conv4 (fun r => f (ix3 n r l)) (fun s => w (ix2 s l)) r := by
  pointwise [convolved]
  refine (congrArg₂ HAdd.hAdd (congrArg₂ HAdd.hAdd (congrArg₂ HAdd.hAdd (congrArg (· * w (ix2 0 l)) (padded (fun r => f (ix3 n r l)) 3 3 r.val r (by omega)))
    (congrArg (· * w (ix2 1 l)) (padded (fun r => f (ix3 n r l)) 3 2 (1 + r.val) r (by omega))))
    (congrArg (· * w (ix2 2 l)) (padded (fun r => f (ix3 n r l)) 3 1 (2 + r.val) r (by omega)))) rfl).trans ?_
  unfold conv4
  abel

theorem gated_at (f : FVec Ideal S4x4096x1536 .f32) (n : Fin 4) (r : Fin 4096) (l : Fin 1536) : gated f (ix3 n r l) = silu (f (ix3 n r l)) := by
  pointwise [gated, silu, Ideal.logistic]

theorem queries_at (f : FVec Ideal S4x4096x1536 .f32) (n : Fin 4) (r : Fin 4096) (l : Fin 512) :
    queries f (ix3 n r l) = unit4 (fun l => f (ix3 n r (partQ l))) l * Ideal.ofBits FTy.f32 0x3DB504F3#32 := by
  pointwise [queries, unit4, rootSum, eps, partQ, lane4, head4]

theorem keys_at (f : FVec Ideal S4x4096x1536 .f32) (n : Fin 4) (r : Fin 4096) (l : Fin 512) :
    keys f (ix3 n r l) = unit4 (fun l => f (ix3 n r (partK l))) l := by
  pointwise [keys, unit4, rootSum, eps, partK, lane4, head4]

theorem rates_at (f : FVec Ideal S4x4096x4104 .f32) (al dt : FVec Ideal S4 .f32) (n : Fin 4) (r : Fin 4096) (l : Fin 128) :
    rates f al dt (ix3 n r l) = rate (fun l => f (ix3 n r (colRate l))) (fun l => al (ix1 l)) (fun l => dt (ix1 l)) l := by
  pointwise [rates, rate, softplus, colRate, Ideal.logistic]
  split_ifs with h8 h4 hne h4 h4
  · exact absurd rfl hne
  · rfl
  · exact congrArg (fun a => Ideal.div 1 (1 + Ideal.exp (-f (ix3 n r a)))) (Fin.ext (by show 2052 + (l.val - 4) = 2048 + l.val; omega))
  · omega
  · omega
  · exact zero_eq

theorem gates_at (f : FVec Ideal S4x4096x4104 .f32) (n : Fin 4) (r : Fin 4096) (l : Fin 512) :
    gates f (ix3 n r l) = silu (f (ix3 n r (colGate l))) := by
  pointwise [gates, silu, colGate, Ideal.logistic]

theorem innerRows_at (f : FVec Ideal S4x4096x4104 .f32) (n : Fin 4) (r : Fin 4096) (l : Fin 512) :
    innerRows f (ix3 n r l) = shortIn (fun n r l => f (ix3 n r l)) n r l := by
  unfold shortIn
  rw [show colShort (partC l) = ⟨2568 + l.val, by omega⟩ from Fin.ext (by show 2056 + (512 + l.val) = 2568 + l.val; omega),
    show colShort (partX l) = ⟨3080 + l.val, by omega⟩ from Fin.ext (by show 2056 + (1024 + l.val) = 3080 + l.val; omega)]
  pointwise [innerRows]

theorem short_at (f : FVec Ideal S4x4096x4104 .f32) (w : FVec Ideal S3x512 .f32) (n : Fin 4) (r : Fin 4096) (l : Fin 512) :
    short f w (ix3 n r l) = shortOf (fun n r l => f (ix3 n r l)) w (ix3 n r l) := by
  have hi := fun r => innerRows_at f n r l
  unfold short
  change mulf (mulf _ (addf (addf (addf _ (mulf (extractStridedSlice S4x4096x512 ![0, 0, 0] (pad S4x4098x512 ![0, 2, 0] ![0, 0, 0] ![0, 0, 0] (innerRows f) _ _ _) _) _))
    (mulf (extractStridedSlice S4x4096x512 ![0, 1, 0] (pad S4x4098x512 ![0, 2, 0] ![0, 0, 0] ![0, 0, 0] (innerRows f) _ _ _) _) _))
    (mulf (extractStridedSlice S4x4096x512 ![0, 2, 0] (pad S4x4098x512 ![0, 2, 0] ![0, 0, 0] ![0, 0, 0] (innerRows f) _ _ _) _) _))) _ _ = _
  generalize innerRows f = g at hi ⊢
  have hz : colShort (partZ l) = ⟨3592 + l.val, by omega⟩ := Fin.ext (by show 2056 + (1536 + l.val) = 3592 + l.val; omega)
  have hs : shortOf (fun n r l => f (ix3 n r l)) w (ix3 n r l) = f (ix3 n r ⟨2056 + l.val, by omega⟩) * conv3 (fun r => g (ix3 n r l)) (fun s => w (ix2 s l)) r
      * silu (f (ix3 n r ⟨3592 + l.val, by omega⟩)) := by
    rw [← hz]
    simp only [hi]
    rfl
  rw [hs]
  pointwise [silu, Ideal.logistic]
  refine congrArg (fun a => _ * a * _) ?_
  refine (congrArg₂ HAdd.hAdd (congrArg₂ HAdd.hAdd (congrArg (· * w (ix2 0 l)) (padded (fun r => g (ix3 n r l)) 2 2 r.val r (by omega)))
    (congrArg (· * w (ix2 1 l)) (padded (fun r => g (ix3 n r l)) 2 1 (1 + r.val) r (by omega)))) rfl).trans ?_
  unfold conv3
  abel

/-! ## The results -/

variable (m : (ℓ : Loc nD τ sig) → Buf (Elt Ideal) ℓ) (c : Dev nD)

/-- The mathematics' projection, of the arguments in memory. -/
abbrev refProj : Fin 4 → Fin 4096 → Fin 4104 → EReal :=
  proj (m ((c.tc : Thread nD τ).loc main_arg0)) (m ((c.tc : Thread nD τ).loc main_arg1)) (m ((c.tc : Thread nD τ).loc main_arg2)) (m ((c.tc : Thread nD τ).loc main_arg3))

theorem product_at (n : Fin 4) (r : Fin 4096) (l : Fin 4104) : product m c (ix3 n r l) = refProj m c n r l := by
  unfold refProj
  pointwise [product, proj, modRow]

theorem proj_eq : refProj m c = fun n r l => product m c (ix3 n r l) := by
  funext n r l
  exact (product_at m c n r l).symm

theorem channels_at (n : Fin 4) (r : Fin 4096) (l : Fin 1536) : channels (product m c) (ix3 n r l) = refProj m c n r (colRaw l) := by
  rw [← product_at]
  generalize product m c = d
  pointwise [channels, colRaw]

/-- The convolved and gated channels. -/
abbrev acted : FVec Ideal S4x4096x1536 .f32 := gated (convolved (channels (product m c)) (m ((c.tc : Thread nD τ).loc main_arg4)))

theorem acted_at (n : Fin 4) (r : Fin 4096) (l : Fin 1536) : acted m c (ix3 n r l) = act (refProj m c) (m ((c.tc : Thread nD τ).loc main_arg4)) n r l := by
  unfold acted
  rw [gated_at, convolved_at]
  simp only [channels_at]
  rfl

theorem queries_eq : queries (acted m c) = queriesOf (refProj m c) (m ((c.tc : Thread nD τ).loc main_arg4)) := by
  funext i
  idx_vars i
  rw [queries_at]
  simp only [acted_at]
  rfl

theorem keys_eq : keys (acted m c) = keysOf (refProj m c) (m ((c.tc : Thread nD τ).loc main_arg4)) := by
  funext i
  idx_vars i
  rw [keys_at]
  simp only [acted_at]
  rfl

theorem values_eq : extractStridedSlice S4x4096x512 ![0, 0, 1024] (acted m c) slices_S4x4096x1536_S4x4096x512_0_0_1024
    = valuesOf (refProj m c) (m ((c.tc : Thread nD τ).loc main_arg4)) := by
  have h := acted_at m c
  generalize acted m c = f at h ⊢
  funext i
  idx_vars i
  unfold valuesOf
  pointwise [h, partV]

theorem rates_eq : rates (product m c) (m ((c.tc : Thread nD τ).loc main_arg5)) (m ((c.tc : Thread nD τ).loc main_arg6))
    = ratesOf (refProj m c) (m ((c.tc : Thread nD τ).loc main_arg5)) (m ((c.tc : Thread nD τ).loc main_arg6)) := by
  funext i
  idx_vars i
  rw [rates_at]
  simp only [product_at]
  rfl

theorem gates_eq : gates (product m c) = gateOf (refProj m c) := by
  funext i
  idx_vars i
  rw [gates_at, product_at]
  rfl

theorem short_eq : short (product m c) (m ((c.tc : Thread nD τ).loc main_arg7)) = shortOf (refProj m c) (m ((c.tc : Thread nD τ).loc main_arg7)) := by
  funext i
  idx_vars i
  rw [short_at, proj_eq]

theorem rawTail_eq : extractStridedSlice S4x8x1536 ![0, 4088, 0] (channels (product m c)) slices_S4x4096x1536_S4x8x1536_0_4088_0 = rawTail (refProj m c) := by
  have h := channels_at m c
  generalize channels (product m c) = f at h ⊢
  funext i
  idx_vars i
  unfold rawTail
  pointwise [h, lastRow]

theorem innerTail_eq : extractStridedSlice S4x8x512 ![0, 4088, 0] (innerRows (product m c)) slices_S4x4096x512_S4x8x512_0_4088_0 = innerTail (refProj m c) := by
  have h := fun n r l => (innerRows_at (product m c) n r l).trans (congrArg (fun p => shortIn p n r l) (proj_eq m c)).symm
  generalize innerRows (product m c) = f at h ⊢
  funext i
  idx_vars i
  unfold innerTail
  pointwise [h, lastRow]

end Cert.DnInRef

end
-- ==== Proof.DnInValue.lean ====
/- The input side of the delta layer: what its kernel leaves are the reference's results. -/
module

public import proofs.«01_k».proof.Defs
public import proofs.«01_k».proof.Proof.Gen.DnIn.Frame
public import proofs.«01_k».proof.Proof.Gen.DnInIdeal.Value
public import proofs.«01_k».proof.Proof.DnInBlock
public import proofs.«01_k».proof.Proof.DnInRef
public import Idealize.ShloMosaic.Lib.Claim
public import Idealize.ShloMosaic.Lib.KernelVsHost
public import Idealize.ShloMosaic.Lib.StableHlo.ReadAt

@[expose] public section

set_option maxRecDepth 16384

noncomputable section

namespace Cert.DnInValue

open Idealize.ShloMosaic Idealize.ShloMosaic.TcCoe Idealize.SL.Sem
open Cert.DnInIdeal Cert.DnInIdeal.Gen Cert.RowBlocks Cert.Norm Cert.DnInMath Cert.DnInPoint Cert.DnInBlock

variable (m : (ℓ : Loc nD τ sig) → Buf (Elt Ideal) ℓ) (c : Dev nD)

/-! ## The blocks that the grid points read -/

/-- The blocks that each grid point reads and writes. -/
theorem index_maps : ∀ t : Fin cfg0.N,
    (win0_0.index t 0 = t.val / 16 ∧ win0_0.index t 1 = t.val % 16 ∧ win0_0.index t 2 = 0) ∧
    (win0_1.index t 0 = t.val / 16 ∧ win0_1.index t 1 = 0 ∧ win0_1.index t 2 = 0) ∧
    (win0_2.index t 0 = 0 ∧ win0_2.index t 1 = 0) ∧
    (win0_3.index t 0 = 0 ∧ win0_3.index t 1 = 0) ∧
    (win0_4.index t 0 = 0 ∧ win0_4.index t 1 = 0) ∧
    (win0_5.index t 0 = 0 ∧ win0_5.index t 1 = 0) ∧
    (win0_6.index t 0 = 0 ∧ win0_6.index t 1 = 0) ∧
    (win0_7.index t 0 = 0 ∧ win0_7.index t 1 = 0) ∧
    (win0_14.index t 0 = t.val / 16 ∧ win0_14.index t 1 = 0 ∧ win0_14.index t 2 = 0) := by
  decide +kernel

theorem lt_N (t : Fin cfg0.N) : t.val < 64 := t.isLt

/-- Where a grid point's rows lie; all the arrays of rows are cut alike. -/
theorem row_index {L : ℕ} (t : Fin cfg0.N) (j : (⟨3, ![1, 256, L]⟩ : Shape).Idx) (e : (⟨3, ![4, 4096, L]⟩ : Shape).Idx) (h0 : (e 0).val = win0_0.index t 0 * 1 + 1 * (j 0).val)
    (h1 : (e 1).val = win0_0.index t 1 * 256 + 1 * (j 1).val) (h2 : (e 2).val = win0_0.index t 2 * L + 1 * (j 2).val) : e = at3 t.val j :=
  rows_index t.val (lt_N t) (index_maps t).1.1 (index_maps t).1.2.1 (index_maps t).1.2.2 j e h0 h1 h2

/-- The kernel's order of the weights' columns: 120 columns of zeros stand after the rates. -/
def wide (w : Vec Ideal S1024x4104 .f32) : Vec Ideal S1024x4224 .f32 := fun i =>
  if h : (i 1).val < 2056 then w (ix2 (i 0) ⟨(i 1).val, by omega⟩)
  else if (i 1).val < 2176 then 0 else w (ix2 (i 0) ⟨(i 1).val - 120, by have := (i 1).isLt; change (i 1).val < 4224 at this; omega⟩)

/-- The weights as the kernel takes them. -/
theorem entry_w : V m c main_v5 = wide (m ((c : Thread nD τ).loc main_arg3)) := by
  funext i
  idx_vars i
  unfold V
  simp only [hostOps0, hostOps0_1, hostOps0_2, hostOps0_3, hostOps0_4, hostOps0_5, hostOps0_6, List.flatten_cons, List.flatten_nil, List.cons_append,
    List.nil_append, List.append_nil]
  after_reads_at
  simp only [StableHlo.upto, List.take]
  after_reads_at
  pointwise [wide]
  repeat' split
  all_goals first
    | (exfalso; omega)
    | exact sitofp_zero (φ := .f32)
    | exact congrArg (fun k : Fin 4104 => m ((c : Thread nD τ).loc main_arg3) (ix2 i0 k)) (Fin.ext (by first | rfl | (dsimp only; omega)))

theorem entry_md : V m c main_v10 = fun i => m ((c : Thread nD τ).loc main_arg1) (ix2 (i 0) (i 2)) := by
  funext i
  unfold V
  simp only [hostOps0, hostOps0_1, hostOps0_2, hostOps0_3, hostOps0_4, hostOps0_5, hostOps0_6, List.flatten_cons, List.flatten_nil, List.cons_append,
    List.nil_append, List.append_nil]
  after_reads_at

theorem entry_g : V m c main_v11 = fun i => m ((c : Thread nD τ).loc main_arg2) (ix1 (i 1)) := by
  funext i
  unfold V
  simp only [hostOps0, hostOps0_1, hostOps0_2, hostOps0_3, hostOps0_4, hostOps0_5, hostOps0_6, List.flatten_cons, List.flatten_nil, List.cons_append,
    List.nil_append, List.append_nil]
  after_reads_at

/-- Four numbers followed by zeros. -/
def padLanes (a : Vec Ideal S4 .f32) : Vec Ideal S1x128 .f32 := fun i => if h : (i 1).val < 4 then a (ix1 ⟨(i 1).val, h⟩) else 0

theorem entry_al : V m c main_v7 = padLanes (m ((c : Thread nD τ).loc main_arg5)) := by
  funext i
  idx_vars i
  unfold V
  simp only [hostOps0, hostOps0_1, hostOps0_2, hostOps0_3, hostOps0_4, hostOps0_5, hostOps0_6, List.flatten_cons, List.flatten_nil, List.cons_append,
    List.nil_append, List.append_nil]
  after_reads_at
  pointwise [padLanes]
  split_ifs
  · rfl
  · exact sitofp_zero (φ := .f32)

theorem entry_dt : V m c main_v9 = padLanes (m ((c : Thread nD τ).loc main_arg6)) := by
  funext i
  idx_vars i
  unfold V
  simp only [hostOps0, hostOps0_1, hostOps0_2, hostOps0_3, hostOps0_4, hostOps0_5, hostOps0_6, List.flatten_cons, List.flatten_nil, List.cons_append,
    List.nil_append, List.append_nil]
  after_reads_at
  pointwise [padLanes]
  split_ifs
  · rfl
  · exact sitofp_zero (φ := .f32)

theorem block_x (t : Fin cfg0.N) : (iblk m c 0 t : Vec Ideal S1x256x1024 .f32) = rows (m ((c : Thread nD τ).loc main_arg0)) t.val := by
  funext j
  unfold iblk
  rw [View.read_apply]
  exact congrArg (m ((c : Thread nD τ).loc main_arg0)) (row_index t j _ rfl rfl rfl)

theorem block_md (t : Fin cfg0.N) : (iblk m c 1 t : Vec Ideal S1x1x3072 .f32) = fun i => m ((c : Thread nD τ).loc main_arg1) (ix2 (seqOf t.val) (i 2)) := by
  obtain ⟨-, ⟨h0, h1, h2⟩, -⟩ := index_maps t
  funext j
  unfold iblk
  rw [View.read_apply]
  refine (congrFun (entry_md m c) _).trans ?_
  exact congrArg (fun i : S4x1x3072.Idx => m ((c : Thread nD τ).loc main_arg1) (ix2 (i 0) (i 2))) (seqRow_index t.val (lt_N t) h0 h1 h2 j _ rfl rfl rfl)

theorem block_g (t : Fin cfg0.N) : (iblk m c 2 t : Vec Ideal S1x1024 .f32) = fun i => m ((c : Thread nD τ).loc main_arg2) (ix1 (i 1)) := by
  obtain ⟨-, -, ⟨h0, h1⟩, -⟩ := index_maps t
  funext j
  unfold iblk
  rw [View.read_apply]
  refine (congrFun (entry_g m c) _).trans ?_
  exact congrArg (fun i : S1x1024.Idx => m ((c : Thread nD τ).loc main_arg2) (ix1 (i 1))) (whole_index h0 h1 j _ rfl rfl)

theorem block_w (t : Fin cfg0.N) : (iblk m c 3 t : Vec Ideal S1024x4224 .bf16) = wide (m ((c : Thread nD τ).loc main_arg3)) := by
  obtain ⟨-, -, -, ⟨h0, h1⟩, -⟩ := index_maps t
  funext j
  unfold iblk
  rw [View.read_apply]
  refine (congrFun (entry_w m c) _).trans ?_
  exact congrArg (wide (m ((c : Thread nD τ).loc main_arg3))) (whole_index h0 h1 j _ rfl rfl)

theorem block_cw (t : Fin cfg0.N) : (iblk m c 4 t : Vec Ideal S4x1536 .f32) = m ((c : Thread nD τ).loc main_arg4) := by
  obtain ⟨-, -, -, -, ⟨h0, h1⟩, -⟩ := index_maps t
  funext j
  unfold iblk
  rw [View.read_apply]
  exact congrArg (m ((c : Thread nD τ).loc main_arg4)) (whole_index h0 h1 j _ rfl rfl)

theorem block_al (t : Fin cfg0.N) : (iblk m c 5 t : Vec Ideal S1x128 .f32) = padLanes (m ((c : Thread nD τ).loc main_arg5)) := by
  obtain ⟨-, -, -, -, -, ⟨h0, h1⟩, -⟩ := index_maps t
  funext j
  unfold iblk
  rw [View.read_apply]
  refine (congrFun (entry_al m c) _).trans ?_
  exact congrArg (padLanes (m ((c : Thread nD τ).loc main_arg5))) (whole_index h0 h1 j _ rfl rfl)

theorem block_dt (t : Fin cfg0.N) : (iblk m c 6 t : Vec Ideal S1x128 .f32) = padLanes (m ((c : Thread nD τ).loc main_arg6)) := by
  obtain ⟨-, -, -, -, -, -, ⟨h0, h1⟩, -⟩ := index_maps t
  funext j
  unfold iblk
  rw [View.read_apply]
  refine (congrFun (entry_dt m c) _).trans ?_
  exact congrArg (padLanes (m ((c : Thread nD τ).loc main_arg6))) (whole_index h0 h1 j _ rfl rfl)

theorem block_sw (t : Fin cfg0.N) : (iblk m c 7 t : Vec Ideal S3x512 .f32) = m ((c : Thread nD τ).loc main_arg7) := by
  obtain ⟨-, -, -, -, -, -, -, ⟨h0, h1⟩, -⟩ := index_maps t
  funext j
  unfold iblk
  rw [View.read_apply]
  exact congrArg (m ((c : Thread nD τ).loc main_arg7)) (whole_index h0 h1 j _ rfl rfl)

/-! ## The results, of the arguments in memory -/

abbrev memProj : Fin 4 → Fin 4096 → Fin 4104 → EReal :=
  proj (m ((c : Thread nD τ).loc main_arg0)) (m ((c : Thread nD τ).loc main_arg1)) (m ((c : Thread nD τ).loc main_arg2)) (m ((c : Thread nD τ).loc main_arg3))

/-- A block's part of the projection is the whole array's. -/
theorem proj_block (t : Fin cfg0.N) (r : Fin 256) (l : Fin 4104) (l' : Fin 4224) (hl : l'.val = if l.val < 2056 then l.val else l.val + 120) :
    blockProj (iblk m c 0 t) (iblk m c 1 t) (iblk m c 2 t) (iblk m c 3 t) r l' = memProj m c (seqOf t.val) (rowOf t.val r) l := by
  rw [block_x, block_md, block_g, block_w]
  have hw : ∀ k, wide (m ((c : Thread nD τ).loc main_arg3)) (ix2 k l') = m ((c : Thread nD τ).loc main_arg3) (ix2 k l) := by
    intro k
    show (if h : l'.val < 2056 then _ else if l'.val < 2176 then _ else _) = _
    split_ifs at hl with h
    · rw [dif_pos (by omega)]
      exact congrArg (fun l => m ((c : Thread nD τ).loc main_arg3) (ix2 k l)) (Fin.ext hl)
    · rw [dif_neg (by omega), if_neg (by omega)]
      exact congrArg (fun l => m ((c : Thread nD τ).loc main_arg3) (ix2 k l)) (Fin.ext (by show l'.val - 120 = l.val; omega))
  unfold blockProj
  simp only [hw]
  rfl

theorem rawAt_at (t : Fin cfg0.N) (r : Fin 256) (l : Fin 1536) : rawAt m c t (ix2 r l) = memProj m c (seqOf t.val) (rowOf t.val r) (colRaw l) :=
  (raw_at _ _ _ _ r l).trans (proj_block m c t r (colRaw l) _ (by have := l.isLt; show l.val = if l.val < 2056 then l.val else _; rw [if_pos (by omega)]))

theorem ratesAt_at (t : Fin cfg0.N) (r : Fin 256) (l : Fin 8) : ratesAt m c t (ix2 r ⟨l.val, by omega⟩) = memProj m c (seqOf t.val) (rowOf t.val r) (colRate l) :=
  (DnInBlock.rates_at _ _ _ _ r _).trans (proj_block m c t r (colRate l) _ (by have := l.isLt; show 2048 + l.val = if 2048 + l.val < 2056 then 2048 + l.val else _; rw [if_pos (by omega)]))

theorem fourAt_at (t : Fin cfg0.N) (r : Fin 256) (l : Fin 2048) : fourAt m c t (ix2 r l) = memProj m c (seqOf t.val) (rowOf t.val r) (colShort l) :=
  (four_at _ _ _ _ r l).trans (proj_block m c t r (colShort l) _ (by show 2176 + l.val = if 2056 + l.val < 2056 then _ else 2056 + l.val + 120; rw [if_neg (by omega)]; omega))

theorem innerAt_at (t : Fin cfg0.N) (r : Fin 256) (l : Fin 512) : innerAt m c t (ix2 r l) = shortIn (memProj m c) (seqOf t.val) (rowOf t.val r) l :=
  (inner_at _ _ _ _ r l).trans (congrArg₂ HMul.hMul (fourAt_at m c t r (partC l)) (fourAt_at m c t r (partX l)))

/-! ## The rows carried along the grid -/

/-- What a grid point leaves for the next one: the last rows of its own projection … -/
theorem point_raw (t : Fin cfg0.N) (p : Vec Ideal S8x1536 .f32) (p' : Vec Ideal S8x512 .f32) :
    (point m c t p p').2.2.2.2.2.2.2.2.1 = k0_pay31 (rawAt m c t) := rfl

/-- … and of the short convolution's input. -/
theorem point_inner (t : Fin cfg0.N) (p : Vec Ideal S8x1536 .f32) (p' : Vec Ideal S8x512 .f32) :
    (point m c t p p').2.2.2.2.2.2.2.2.2 = k0_pay2 (innerAt m c t) := rfl

/-- The projection's rows that a point leaves do not depend on those that it found. -/
theorem left_raw (u : Fin cfg0.N) : (outsAt0 m c u.val u.isLt).2.2.2.2.2.2.2.2.1 = k0_pay31 (rawAt m c u) := by
  by_cases h1 : u.val % 16 = 0
  · exact (congrArg (fun o => o.2.2.2.2.2.2.2.2.1) (outs_first m c u h1)).trans (point_raw m c u _ _)
  · exact (congrArg (fun o => o.2.2.2.2.2.2.2.2.1) (outs_later m c u h1)).trans (point_raw m c u _ _)

/-- Nor do the short convolution's. -/
theorem left_inner (u : Fin cfg0.N) : (outsAt0 m c u.val u.isLt).2.2.2.2.2.2.2.2.2 = k0_pay2 (innerAt m c u) := by
  by_cases h1 : u.val % 16 = 0
  · exact (congrArg (fun o => o.2.2.2.2.2.2.2.2.2) (outs_first m c u h1)).trans (point_inner m c u _ _)
  · exact (congrArg (fun o => o.2.2.2.2.2.2.2.2.2) (outs_later m c u h1)).trans (point_inner m c u _ _)

/-- The point before `t`. -/
def before (t : Fin cfg0.N) : Fin cfg0.N := ⟨t.val - 1, Nat.lt_of_le_of_lt (Nat.sub_le _ _) t.isLt⟩

theorem seqOf_before (t : Fin cfg0.N) (h0 : ¬ t.val % 16 = 0) : seqOf (before t).val = seqOf t.val :=
  Fin.ext (by show (t.val - 1) / 16 % 4 = t.val / 16 % 4; omega)

theorem rowOf_before (t : Fin cfg0.N) (h0 : ¬ t.val % 16 = 0) (s : Fin 8) : rowOf (before t).val ⟨248 + s.val, by omega⟩ = prevRow t.val s :=
  Fin.ext (by have := lt_N t; show (t.val - 1) % 16 * 256 + (248 + s.val) = (t.val % 16 * 256 + 4088 + s.val) % 4096; omega)

/-- The rows left by the point before, for the projection. -/
theorem carried_raw (t : Fin cfg0.N) (h0 : ¬ t.val % 16 = 0) (s : Fin 8) (l : Fin 1536) :
    k0_pay31 (rawAt m c (before t)) (ix2 s l) = memProj m c (seqOf t.val) (prevRow t.val s) (colRaw l) := by
  have h := rawAt_at m c (before t)
  generalize rawAt m c (before t) = f at h ⊢
  rw [← seqOf_before t h0, ← rowOf_before t h0]
  pointwise [k0_pay31, h]

/-- The rows left by the point before, for the short convolution's input. -/
theorem carried_inner (t : Fin cfg0.N) (h0 : ¬ t.val % 16 = 0) (s : Fin 8) (l : Fin 512) :
    k0_pay2 (innerAt m c (before t)) (ix2 s l) = shortIn (memProj m c) (seqOf t.val) (prevRow t.val s) l := by
  have h := innerAt_at m c (before t)
  generalize innerAt m c (before t) = f at h ⊢
  rw [← seqOf_before t h0, ← rowOf_before t h0]
  pointwise [k0_pay2, h]

theorem zeros_raw (s : Fin 8) (l : Fin 1536) : k0_pay4 (F := Ideal) (ix2 s l) = 0 := by
  pointwise [k0_pay4]

theorem zeros_inner (s : Fin 8) (l : Fin 512) : k0_pay5 (F := Ideal) (ix2 s l) = 0 := by
  pointwise [k0_pay5]

theorem outs_later' (t : Fin cfg0.N) (h0 : ¬ t.val % 16 = 0) :
    outsAt0 m c t.val t.isLt = point m c t (k0_pay31 (rawAt m c (before t))) (k0_pay2 (innerAt m c (before t))) :=
  (outs_later m c t h0).trans (congrArg₂ (point m c t) (left_raw m c (before t)) (left_inner m c (before t)))

/-- What a grid point leaves, over the last eight rows before its own; zeros at a sequence's first point. -/
theorem outs_point (t : Fin cfg0.N) : ∃ (p : Vec Ideal S8x1536 .f32) (p' : Vec Ideal S8x512 .f32), outsAt0 m c t.val t.isLt = point m c t p p'
    ∧ (∀ s l, p (ix2 s l) = if t.val % 16 = 0 then 0 else memProj m c (seqOf t.val) (prevRow t.val s) (colRaw l))
    ∧ (∀ s l, p' (ix2 s l) = if t.val % 16 = 0 then 0 else shortIn (memProj m c) (seqOf t.val) (prevRow t.val s) l) := by
  by_cases h0 : t.val % 16 = 0
  · exact ⟨k0_pay4 (F := Ideal), k0_pay5 (F := Ideal), outs_first m c t h0, fun s l => (zeros_raw s l).trans (if_pos h0).symm,
      fun s l => (zeros_inner s l).trans (if_pos h0).symm⟩
  · exact ⟨_, _, outs_later' m c t h0, fun s l => (carried_raw m c t h0 s l).trans (if_neg h0).symm,
      fun s l => (carried_inner m c t h0 s l).trans (if_neg h0).symm⟩

/-! ## The arrays -/

abbrev memQ : Vec Ideal S4x4096x512 .f32 := queriesOf (memProj m c) (m ((c : Thread nD τ).loc main_arg4))
abbrev memK : Vec Ideal S4x4096x512 .f32 := keysOf (memProj m c) (m ((c : Thread nD τ).loc main_arg4))
abbrev memV : Vec Ideal S4x4096x512 .f32 := valuesOf (memProj m c) (m ((c : Thread nD τ).loc main_arg4))
abbrev memG : Vec Ideal S4x4096x128 .f32 := ratesOf (memProj m c) (m ((c : Thread nD τ).loc main_arg5)) (m ((c : Thread nD τ).loc main_arg6))
abbrev memZ : Vec Ideal S4x4096x512 .f32 := gateOf (memProj m c)
abbrev memY : Vec Ideal S4x4096x512 .f32 := shortOf (memProj m c) (m ((c : Thread nD τ).loc main_arg7))

/-- The convolved channels of a grid point's rows. -/
theorem act_point (t : Fin cfg0.N) (p : Vec Ideal S8x1536 .f32)
    (hp : ∀ s l, p (ix2 s l) = if t.val % 16 = 0 then 0 else memProj m c (seqOf t.val) (prevRow t.val s) (colRaw l)) (r : Fin 256) (l : Fin 1536) :
    k0_pay12 (F := Ideal) (rawAt m c t) p (iblk m c 4 t) (k0_pay8 (iblk m c 4 t)) (ix2 r l)
      = act (memProj m c) (m ((c : Thread nD τ).loc main_arg4)) (seqOf t.val) (rowOf t.val r) l := by
  rw [block_cw]
  exact act_at (fun r l => memProj m c (seqOf t.val) r (colRaw l)) t.val _ p _ (rawAt_at m c t) hp r l

theorem q_point (t : Fin cfg0.N) (j : S1x256x512.Idx) : (outsAt0 m c t.val t.isLt).1 j = memQ m c (at3 t.val j) := by
  obtain ⟨p, p', h, hp, hp'⟩ := outs_point m c t
  exact (congrFun (congrArg (fun o => o.1) h) j).trans (outQ_at _ _ _ _ (act_point m c t p hp) j)

theorem k_point (t : Fin cfg0.N) (j : S1x256x512.Idx) : (outsAt0 m c t.val t.isLt).2.1 j = memK m c (at3 t.val j) := by
  obtain ⟨p, p', h, hp, hp'⟩ := outs_point m c t
  exact (congrFun (congrArg (fun o => o.2.1) h) j).trans (outK_at _ _ _ _ (act_point m c t p hp) j)

theorem v_point (t : Fin cfg0.N) (j : S1x256x512.Idx) : (outsAt0 m c t.val t.isLt).2.2.1 j = memV m c (at3 t.val j) := by
  obtain ⟨p, p', h, hp, hp'⟩ := outs_point m c t
  exact (congrFun (congrArg (fun o => o.2.2.1) h) j).trans (outV_at _ _ _ _ (act_point m c t p hp) j)

theorem g_point (t : Fin cfg0.N) (j : S1x256x128.Idx) : (outsAt0 m c t.val t.isLt).2.2.2.1 j = memG m c (at3 t.val j) := by
  obtain ⟨p, p', h, hp, hp'⟩ := outs_point m c t
  refine (congrFun (congrArg (fun o => o.2.2.2.1) h) j).trans ?_
  refine outG_at (ratesAt m c t) _ _ (fun r l => memProj m c (seqOf t.val) (rowOf t.val r) (colRate l)) (fun l => m ((c : Thread nD τ).loc main_arg5) (ix1 l)) (fun l => m ((c : Thread nD τ).loc main_arg6) (ix1 l))
    (ratesAt_at m c t) ?_ ?_ j
  · intro l
    rw [block_al]
    exact dif_pos l.isLt
  · intro l
    rw [block_dt]
    exact dif_pos l.isLt

theorem z_point (t : Fin cfg0.N) (j : S1x256x512.Idx) : (outsAt0 m c t.val t.isLt).2.2.2.2.1 j = memZ m c (at3 t.val j) := by
  obtain ⟨p, p', h, hp, hp'⟩ := outs_point m c t
  refine (congrFun (congrArg (fun o => o.2.2.2.2.1) h) j).trans ((outZ_at _ _ _ _ j).trans ?_)
  have hj : (j 2).val < 512 := (j 2).isLt
  exact congrArg silu (proj_block m c t (j 1) (colGate (j 2)) _ (by show 1536 + (j 2).val = if 1536 + (j 2).val < 2056 then 1536 + (j 2).val else _; rw [if_pos (by omega)]))

theorem y_point (t : Fin cfg0.N) (j : S1x256x512.Idx) : (outsAt0 m c t.val t.isLt).2.2.2.2.2.1 j = memY m c (at3 t.val j) := by
  obtain ⟨p, p', h, hp, hp'⟩ := outs_point m c t
  refine (congrFun (congrArg (fun o => o.2.2.2.2.2.1) h) j).trans ?_
  refine (outY_at (shortIn (memProj m c) (seqOf t.val)) t.val _ (fourAt m c t) (innerAt m c t) p' (innerAt_at m c t) hp' j).trans ?_
  rw [block_sw]
  exact congrArg₂ HMul.hMul (congrArg₂ HMul.hMul (fourAt_at m c t (j 1) (partB (j 2))) rfl) (congrArg silu (fourAt_at m c t (j 1) (partZ (j 2))))

theorem rawTail_point (t : Fin cfg0.N) (h15 : t.val % 16 = 15) (j : S1x8x1536.Idx) :
    (outsAt0 m c t.val t.isLt).2.2.2.2.2.2.1 j = rawTail (memProj m c) (ix3 (seqOf t.val) (j 1) (j 2)) := by
  obtain ⟨p, p', h, hp, hp'⟩ := outs_point m c t
  refine (congrFun (congrArg (fun o => o.2.2.2.2.2.2.1) h) j).trans ?_
  have hr := rawAt_at m c t
  show k0_pay32 (rawAt m c t) j = _
  generalize rawAt m c t = f at hr ⊢
  obtain ⟨a, s, l, rfl⟩ : ∃ (a : Fin 1) (s : Fin 8) (l : Fin 1536), j = ix3 a s l := ⟨j 0, j 1, j 2, eq_ix3 j⟩
  have hl : rowOf t.val ⟨248 + s.val, by omega⟩ = lastRow s := Fin.ext (by show t.val % 16 * 256 + (248 + s.val) = 4088 + s.val; omega)
  have hm : rawTail (memProj m c) (ix3 (seqOf t.val) s l) = memProj m c (seqOf t.val) (rowOf t.val ⟨248 + s.val, by omega⟩) (colRaw l) :=
    congrArg (fun r => memProj m c (seqOf t.val) r (colRaw l)) hl.symm
  refine Eq.trans ?_ hm.symm
  pointwise [k0_pay32, hr]

theorem innerTail_point (t : Fin cfg0.N) (h15 : t.val % 16 = 15) (j : S1x8x512.Idx) :
    (outsAt0 m c t.val t.isLt).2.2.2.2.2.2.2.1 j = innerTail (memProj m c) (ix3 (seqOf t.val) (j 1) (j 2)) := by
  obtain ⟨p, p', h, hp, hp'⟩ := outs_point m c t
  refine (congrFun (congrArg (fun o => o.2.2.2.2.2.2.2.1) h) j).trans ?_
  have hr := innerAt_at m c t
  show k0_pay3 (innerAt m c t) j = _
  generalize innerAt m c t = f at hr ⊢
  obtain ⟨a, s, l, rfl⟩ : ∃ (a : Fin 1) (s : Fin 8) (l : Fin 512), j = ix3 a s l := ⟨j 0, j 1, j 2, eq_ix3 j⟩
  have hl : rowOf t.val ⟨248 + s.val, by omega⟩ = lastRow s := Fin.ext (by show t.val % 16 * 256 + (248 + s.val) = 4088 + s.val; omega)
  have hm : innerTail (memProj m c) (ix3 (seqOf t.val) s l) = shortIn (memProj m c) (seqOf t.val) (rowOf t.val ⟨248 + s.val, by omega⟩) l :=
    congrArg (fun r => shortIn (memProj m c) (seqOf t.val) r l) hl.symm
  refine Eq.trans ?_ hm.symm
  pointwise [k0_pay3, hr]

theorem array_q : (Gen.dats m 0 c).arrAt 8 cfg0.N = memQ m c := by
  refine (Gen.dats m 0 c).arrAt_eq_of_cover 8 (memQ m c) (fun t _ => ?_) (fun i => ⟨⟨tileOf i, tileOf_lt i⟩, ?_, ?_⟩)
  · rw [Value.flushed8]
    funext j
    rw [View.read_apply]
    exact (q_point m c t j).trans (congrArg (memQ m c) (row_index t j _ rfl rfl rfl)).symm
  · exact (by decide +kernel : ∀ t : Fin cfg0.N, (cfg0.win 8).flush t = true) _
  · exact Finset.mem_map.mpr ⟨inTile i, Finset.mem_univ _, (row_index _ (inTile i) _ rfl rfl rfl).trans (at3_tileOf i)⟩

theorem array_k : (Gen.dats m 0 c).arrAt 9 cfg0.N = memK m c := by
  refine (Gen.dats m 0 c).arrAt_eq_of_cover 9 (memK m c) (fun t _ => ?_) (fun i => ⟨⟨tileOf i, tileOf_lt i⟩, ?_, ?_⟩)
  · rw [Value.flushed9]
    funext j
    rw [View.read_apply]
    exact (k_point m c t j).trans (congrArg (memK m c) (row_index t j _ rfl rfl rfl)).symm
  · exact (by decide +kernel : ∀ t : Fin cfg0.N, (cfg0.win 9).flush t = true) _
  · exact Finset.mem_map.mpr ⟨inTile i, Finset.mem_univ _, (row_index _ (inTile i) _ rfl rfl rfl).trans (at3_tileOf i)⟩

theorem array_v : (Gen.dats m 0 c).arrAt 10 cfg0.N = memV m c := by
  refine (Gen.dats m 0 c).arrAt_eq_of_cover 10 (memV m c) (fun t _ => ?_) (fun i => ⟨⟨tileOf i, tileOf_lt i⟩, ?_, ?_⟩)
  · rw [Value.flushed10]
    funext j
    rw [View.read_apply]
    exact (v_point m c t j).trans (congrArg (memV m c) (row_index t j _ rfl rfl rfl)).symm
  · exact (by decide +kernel : ∀ t : Fin cfg0.N, (cfg0.win 10).flush t = true) _
  · exact Finset.mem_map.mpr ⟨inTile i, Finset.mem_univ _, (row_index _ (inTile i) _ rfl rfl rfl).trans (at3_tileOf i)⟩

theorem array_g : (Gen.dats m 0 c).arrAt 11 cfg0.N = memG m c := by
  refine (Gen.dats m 0 c).arrAt_eq_of_cover 11 (memG m c) (fun t _ => ?_) (fun i => ⟨⟨tileOf i, tileOf_lt i⟩, ?_, ?_⟩)
  · rw [Value.flushed11]
    funext j
    rw [View.read_apply]
    exact (g_point m c t j).trans (congrArg (memG m c) (row_index t j _ rfl rfl rfl)).symm
  · exact (by decide +kernel : ∀ t : Fin cfg0.N, (cfg0.win 11).flush t = true) _
  · exact Finset.mem_map.mpr ⟨inTile i, Finset.mem_univ _, (row_index _ (inTile i) _ rfl rfl rfl).trans (at3_tileOf i)⟩

theorem array_z : (Gen.dats m 0 c).arrAt 12 cfg0.N = memZ m c := by
  refine (Gen.dats m 0 c).arrAt_eq_of_cover 12 (memZ m c) (fun t _ => ?_) (fun i => ⟨⟨tileOf i, tileOf_lt i⟩, ?_, ?_⟩)
  · rw [Value.flushed12]
    funext j
    rw [View.read_apply]
    exact (z_point m c t j).trans (congrArg (memZ m c) (row_index t j _ rfl rfl rfl)).symm
  · exact (by decide +kernel : ∀ t : Fin cfg0.N, (cfg0.win 12).flush t = true) _
  · exact Finset.mem_map.mpr ⟨inTile i, Finset.mem_univ _, (row_index _ (inTile i) _ rfl rfl rfl).trans (at3_tileOf i)⟩

theorem array_y : (Gen.dats m 0 c).arrAt 13 cfg0.N = memY m c := by
  refine (Gen.dats m 0 c).arrAt_eq_of_cover 13 (memY m c) (fun t _ => ?_) (fun i => ⟨⟨tileOf i, tileOf_lt i⟩, ?_, ?_⟩)
  · rw [Value.flushed13]
    funext j
    rw [View.read_apply]
    exact (y_point m c t j).trans (congrArg (memY m c) (row_index t j _ rfl rfl rfl)).symm
  · exact (by decide +kernel : ∀ t : Fin cfg0.N, (cfg0.win 13).flush t = true) _
  · exact Finset.mem_map.mpr ⟨inTile i, Finset.mem_univ _, (row_index _ (inTile i) _ rfl rfl rfl).trans (at3_tileOf i)⟩

/-- Where the last rows of a sequence lie, eight to a sequence. -/
theorem tail_index {L : ℕ} (t : Fin cfg0.N) (j : (⟨3, ![1, 8, L]⟩ : Shape).Idx) (e : (⟨3, ![4, 8, L]⟩ : Shape).Idx) (h0 : (e 0).val = win0_14.index t 0 * 1 + 1 * (j 0).val)
    (h1 : (e 1).val = win0_14.index t 1 * 8 + 1 * (j 1).val) (h2 : (e 2).val = win0_14.index t 2 * L + 1 * (j 2).val) : e = ix3 (seqOf t.val) (j 1) (j 2) := by
  obtain ⟨-, -, -, -, -, -, -, -, ⟨i0, i1, i2⟩⟩ := index_maps t
  rw [i0] at h0
  rw [i1] at h1
  rw [i2] at h2
  have ht := lt_N t
  have hj0 : (j 0).val < 1 := (j 0).isLt
  funext b
  refine Fin.ext ?_
  fin_cases b
  · show (e 0).val = t.val / 16 % 4; omega
  · show (e 1).val = (j 1).val; omega
  · show (e 2).val = (j 2).val; omega

/-- The last grid point of sequence `n`. -/
def lastOf (n : Fin 4) : Fin cfg0.N := ⟨n.val * 16 + 15, by show _ < 64; omega⟩

theorem seqOf_lastOf (n : Fin 4) : seqOf (lastOf n).val = n := Fin.ext (by show (n.val * 16 + 15) / 16 % 4 = n.val; omega)

theorem array_rawTail : (Gen.dats m 0 c).arrAt 14 cfg0.N = rawTail (memProj m c) := by
  have hf : ∀ t : Fin cfg0.N, (cfg0.win 14).flush t = true → t.val % 16 = 15 := by decide +kernel
  refine (Gen.dats m 0 c).arrAt_eq_of_cover 14 (rawTail (memProj m c)) (fun t ht => ?_) (fun i => ⟨lastOf (i 0), ?_, ?_⟩)
  · rw [Value.flushed14]
    funext j
    rw [View.read_apply]
    exact (rawTail_point m c t (hf t ht) j).trans (congrArg (rawTail (memProj m c)) (tail_index t j _ rfl rfl rfl)).symm
  · exact (by decide +kernel : ∀ n : Fin 4, (cfg0.win 14).flush (lastOf n) = true) _
  · refine Finset.mem_map.mpr ⟨(ix3 0 (i 1) (i 2) : S1x8x1536.Idx), Finset.mem_univ _, (tail_index _ (ix3 0 (i 1) (i 2)) _ rfl rfl rfl).trans ?_⟩
    exact (congrArg (fun n : Fin 4 => (ix3 n (i 1) (i 2) : S4x8x1536.Idx)) (seqOf_lastOf (i 0))).trans (eq_ix3 i).symm

theorem array_innerTail : (Gen.dats m 0 c).arrAt 15 cfg0.N = innerTail (memProj m c) := by
  have hf : ∀ t : Fin cfg0.N, (cfg0.win 15).flush t = true → t.val % 16 = 15 := by decide +kernel
  refine (Gen.dats m 0 c).arrAt_eq_of_cover 15 (innerTail (memProj m c)) (fun t ht => ?_) (fun i => ⟨lastOf (i 0), ?_, ?_⟩)
  · rw [Value.flushed15]
    funext j
    rw [View.read_apply]
    exact (innerTail_point m c t (hf t ht) j).trans (congrArg (innerTail (memProj m c)) (tail_index t j _ rfl rfl rfl)).symm
  · exact (by decide +kernel : ∀ n : Fin 4, (cfg0.win 15).flush (lastOf n) = true) _
  · refine Finset.mem_map.mpr ⟨(ix3 0 (i 1) (i 2) : S1x8x512.Idx), Finset.mem_univ _, (tail_index _ (ix3 0 (i 1) (i 2)) _ rfl rfl rfl).trans ?_⟩
    exact (congrArg (fun n : Fin 4 => (ix3 n (i 1) (i 2) : S4x8x512.Idx)) (seqOf_lastOf (i 0))).trans (eq_ix3 i).symm

/-- The kernel and the reference leave the same results, of the same arguments. -/
theorem algebraic : Cert.algebraic_DnInIdeal_DnInRefIdeal (hDnInIdeal := Cert.DnInIdeal.Gen.facts)
    (hDnInRefIdeal := Cert.DnInRefIdeal.Gen.facts) := by
  intro m g m' g' _ hargs
  refine ⟨fun c => memQ m c, fun c => memK m c, fun c => memV m c, fun c => memG m c, fun c => memZ m c, fun c => memY m c, fun c => rawTail (memProj m c),
    fun c => innerTail (memProj m c), ?_, ?_⟩
  · refine (θ_run Cert.DnInIdeal.defs _ _).mono (fun r h c => ?_) (Cert.DnInIdeal.Value.run_blocks m g)
    obtain ⟨h0, h1, h2, h3, h4, h5, h6, h7, hk⟩ := h c
    exact ⟨h0.trans (array_q m c), h1.trans (array_k m c), h2.trans (array_v m c), h3.trans (array_g m c), h4.trans (array_z m c), h5.trans (array_y m c),
      h6.trans (array_rawTail m c), h7.trans (array_innerTail m c), hk⟩
  · refine (θ_run Cert.DnInRefIdeal.defs _ _).mono (fun r h c => ?_) (Cert.DnInRefIdeal.Value.run m' g')
    obtain ⟨h0, h1, h2, h3, h4, h5, h6, h7, hk⟩ := h c
    obtain ⟨e0, e1, e2, e3, e4, e5, e6, e7⟩ := hargs c
    have hq := DnInRef.queries_eq m' c
    have hkeys := DnInRef.keys_eq m' c
    have hv := DnInRef.values_eq m' c
    have hg := DnInRef.rates_eq m' c
    have hz := DnInRef.gates_eq m' c
    have hy := DnInRef.short_eq m' c
    have ht := DnInRef.rawTail_eq m' c
    have hi := DnInRef.innerTail_eq m' c
    have hp : DnInRef.refProj m' c = memProj m c := by
      unfold DnInRef.refProj
      rw [e0, e1, e2, e3]
    rw [hp] at hq hkeys hv hg hz hy ht hi
    exact ⟨h0.trans (hq.trans (congrArg (queriesOf (memProj m c)) e4)), h1.trans (hkeys.trans (congrArg (keysOf (memProj m c)) e4)),
      h2.trans (hv.trans (congrArg (valuesOf (memProj m c)) e4)), h3.trans (hg.trans (congrArg₂ (ratesOf (memProj m c)) e5 e6)), h4.trans hz,
      h5.trans (hy.trans (congrArg (shortOf (memProj m c)) e7)), h6.trans ht, h7.trans hi, hk⟩

/-- The reference's run leaves every semaphore at zero. -/
theorem reference_frame : Cert.quiescent_DnInRefIdeal (hDnInRefIdeal := Cert.DnInRefIdeal.Gen.facts) := fun m ρ _ =>
  (θ_run Cert.DnInRefIdeal.defs _ _).mono (fun r h => ⟨fun c => (h c).2.2.2.2.2.2.2.2, Idealize.ShloMosaic.sem_eq_zero_of_no_sems (by decide) r.2⟩)
    (Cert.DnInRefIdeal.Value.run (F := Ideal) m ρ)

end Cert.DnInValue

end
-- ==== Proof.FlatRows.lean ====
/- The calls on the short sequences' rows laid end to end: one block holds the whole array. -/
module

public import Idealize.ShloMosaic.Lib.Pointwise
public import Idealize.ShloMosaic.Lib.Pipeline.Value

@[expose] public section

set_option maxRecDepth 16384

noncomputable section

namespace Cert.FlatRows

open Idealize.ShloMosaic

/-- The sequence that row `r` of the rows laid end to end belongs to. -/
def seqAt (r : Fin 512) : Fin 128 := ⟨r.val / 4, by omega⟩

/-- Its place in that sequence. -/
def posAt (r : Fin 512) : Fin 4 := ⟨r.val % 4, by omega⟩

/-- The sequences' rows laid end to end. -/
def flat {L : ℕ} {e : EltTy} (X : Vec Ideal ⟨3, ![128, 4, L]⟩ e) : Vec Ideal ⟨3, ![1, 512, L]⟩ e := fun i => X (ix3 (seqAt (i 1)) (posAt (i 1)) (i 2))

/-- A block that is the whole array. -/
theorem whole_index3 {A B C : ℕ} {p q s : ℕ} (hp : p = 0) (hq : q = 0) (hs : s = 0) (j e : (⟨3, ![A, B, C]⟩ : Shape).Idx)
    (h0 : (e 0).val = p * A + 1 * (j 0).val) (h1 : (e 1).val = q * B + 1 * (j 1).val) (h2 : (e 2).val = s * C + 1 * (j 2).val) : e = j := by
  subst hp hq hs
  funext b
  refine Fin.ext ?_
  fin_cases b
  · show (e 0).val = (j 0).val; omega
  · show (e 1).val = (j 1).val; omega
  · show (e 2).val = (j 2).val; omega

end Cert.FlatRows

end
-- ==== Proof.AttnOutSValue.lean ====
/- The output projection of the attention layer at the sample batch: what its kernel leaves is the reference's result. -/
module

public import proofs.«01_k».proof.Defs
public import proofs.«01_k».proof.Proof.Gen.AttnOutS.Frame
public import proofs.«01_k».proof.Proof.Gen.AttnOutSIdeal.Value
public import proofs.«01_k».proof.Proof.Gen.AttnOutSRefIdeal.Run
public import proofs.«01_k».proof.Proof.RowBlocks
public import proofs.«01_k».proof.Proof.FlatRows
public import Idealize.ShloMosaic.Lib.Claim

@[expose] public section

set_option maxRecDepth 16384

noncomputable section

namespace Cert.AttnOutSValue

open Idealize.ShloMosaic Idealize.ShloMosaic.TcCoe Idealize.SL.Sem
open Cert.AttnOutSIdeal Cert.AttnOutSIdeal.Gen Cert.RowBlocks Cert.FlatRows

/-- The layer's output: `x + gate · ((o · sz) w)`, the gate one row for each sequence. -/
def outY (o sz x : Vec Ideal S128x4x1024 .f32) (gate : Vec Ideal S128x1024 .f32) (w : Vec Ideal S1024x1024 .f32) : Vec Ideal S128x4x1024 .f32 :=
  fun i => x i + gate (ix2 (i 0) (i 2)) * ∑ k : Fin 1024, o (ix3 (i 0) (i 1) k) * sz (ix3 (i 0) (i 1) k) * w (ix2 k (i 2))

/-- What the body computes is the layer's output, its rows laid end to end. -/
theorem point_y (o sz x : Vec Ideal S128x4x1024 .f32) (gate : Vec Ideal S128x1024 .f32) (w : Vec Ideal S1024x1024 .f32) :
    k0_pay1 (F := Ideal) (flat o) (flat sz) w (flat x) (fun i => gate (ix2 (seqAt (i 1)) (i 2))) = flat (outY o sz x gate w) := by
  funext j
  idx_vars j
  pointwise [k0_pay1, outY, flat]

variable (m : (ℓ : Loc nD τ sig) → Buf (Elt Ideal) ℓ) (c : Dev nD)

/-- The only block of each array. -/
theorem index_maps : ∀ t : Fin cfg0.N,
    (win0_0.index t 0 = 0 ∧ win0_0.index t 1 = 0 ∧ win0_0.index t 2 = 0) ∧
    (win0_1.index t 0 = 0 ∧ win0_1.index t 1 = 0 ∧ win0_1.index t 2 = 0) ∧
    (win0_2.index t 0 = 0 ∧ win0_2.index t 1 = 0 ∧ win0_2.index t 2 = 0) ∧
    (win0_3.index t 0 = 0 ∧ win0_3.index t 1 = 0 ∧ win0_3.index t 2 = 0) ∧
    (win0_4.index t 0 = 0 ∧ win0_4.index t 1 = 0) ∧
    (win0_5.index t 0 = 0 ∧ win0_5.index t 1 = 0 ∧ win0_5.index t 2 = 0) := by
  decide +kernel

/-- The arguments as the kernel takes them. -/
theorem entry_o : V m c main_v0 = flat (m ((c : Thread nD τ).loc main_arg0)) := by
  entry_read
  funext i
  idx_vars i
  pointwise [flat, seqAt, posAt]

theorem entry_sz : V m c main_v1 = flat (m ((c : Thread nD τ).loc main_arg1)) := by
  entry_read
  funext i
  idx_vars i
  pointwise [flat, seqAt, posAt]

theorem entry_x : V m c main_v2 = flat (m ((c : Thread nD τ).loc main_arg2)) := by
  entry_read
  funext i
  idx_vars i
  pointwise [flat, seqAt, posAt]

theorem entry_gate : V m c main_v5 = fun i => m ((c : Thread nD τ).loc main_arg3) (ix2 (seqAt (i 1)) (i 2)) := by
  entry_read
  funext i
  idx_vars i
  pointwise [seqAt]

theorem entry_w : V m c main_v6 = m ((c : Thread nD τ).loc main_arg4) := by
  entry_read
  funext i
  pointwise

theorem block_o (t : Fin cfg0.N) : (iblk m c 0 t : Vec Ideal S1x512x1024 .f32) = flat (m ((c : Thread nD τ).loc main_arg0)) := by
  obtain ⟨⟨h0, h1, h2⟩, -⟩ := index_maps t
  funext j
  unfold iblk
  rw [View.read_apply]
  exact (congrFun (entry_o m c) _).trans (congrArg (flat (m ((c : Thread nD τ).loc main_arg0))) (whole_index3 h0 h1 h2 j _ rfl rfl rfl))

theorem block_sz (t : Fin cfg0.N) : (iblk m c 1 t : Vec Ideal S1x512x1024 .f32) = flat (m ((c : Thread nD τ).loc main_arg1)) := by
  obtain ⟨-, ⟨h0, h1, h2⟩, -⟩ := index_maps t
  funext j
  unfold iblk
  rw [View.read_apply]
  exact (congrFun (entry_sz m c) _).trans (congrArg (flat (m ((c : Thread nD τ).loc main_arg1))) (whole_index3 h0 h1 h2 j _ rfl rfl rfl))

theorem block_x (t : Fin cfg0.N) : (iblk m c 2 t : Vec Ideal S1x512x1024 .f32) = flat (m ((c : Thread nD τ).loc main_arg2)) := by
  obtain ⟨-, -, ⟨h0, h1, h2⟩, -⟩ := index_maps t
  funext j
  unfold iblk
  rw [View.read_apply]
  exact (congrFun (entry_x m c) _).trans (congrArg (flat (m ((c : Thread nD τ).loc main_arg2))) (whole_index3 h0 h1 h2 j _ rfl rfl rfl))

theorem block_gate (t : Fin cfg0.N) : (iblk m c 3 t : Vec Ideal S1x512x1024 .f32) = fun i => m ((c : Thread nD τ).loc main_arg3) (ix2 (seqAt (i 1)) (i 2)) := by
  obtain ⟨-, -, -, ⟨h0, h1, h2⟩, -⟩ := index_maps t
  funext j
  unfold iblk
  rw [View.read_apply]
  refine (congrFun (entry_gate m c) _).trans ?_
  exact congrArg (fun i : S1x512x1024.Idx => m ((c : Thread nD τ).loc main_arg3) (ix2 (seqAt (i 1)) (i 2))) (whole_index3 h0 h1 h2 j _ rfl rfl rfl)

theorem block_w (t : Fin cfg0.N) : (iblk m c 4 t : Vec Ideal S1024x1024 .bf16) = m ((c : Thread nD τ).loc main_arg4) := by
  obtain ⟨-, -, -, -, ⟨h0, h1⟩, -⟩ := index_maps t
  funext j
  unfold iblk
  rw [View.read_apply]
  exact (congrFun (entry_w m c) _).trans (congrArg (m ((c : Thread nD τ).loc main_arg4)) (whole_index h0 h1 j _ rfl rfl))

/-- The layer's output, of the arguments in memory. -/
abbrev memY : Vec Ideal S1x512x1024 .f32 :=
  flat (outY (m ((c : Thread nD τ).loc main_arg0)) (m ((c : Thread nD τ).loc main_arg1)) (m ((c : Thread nD τ).loc main_arg2)) (m ((c : Thread nD τ).loc main_arg3))
    (m ((c : Thread nD τ).loc main_arg4)))

theorem ld_rows (X : Vec Ideal S1x512x1024 .f32) : View.ld X r0_0 = X := ld_block X _
theorem ld_w (X : Vec Ideal S1024x1024 .bf16) : View.ld X r0_1 = X := ld_matrix X _

/-- What the grid's point leaves in its block. -/
theorem point_out (t : Fin cfg0.N) : out0_5 (F := Ideal) (iblk m c 0 t) (iblk m c 1 t) (iblk m c 2 t) (iblk m c 3 t) (iblk m c 4 t) = memY m c := by
  unfold out0_5
  rw [ld_rows, ld_rows, ld_rows, ld_rows, ld_w, block_o, block_sz, block_x, block_gate, block_w]
  exact (stored_block _ _).trans (point_y _ _ _ _ _)

/-- The run leaves the layer's output. -/
theorem array_y : (Gen.dats m 0 c).arrAt 5 cfg0.N = memY m c := by
  have hw : ∀ (t : Fin cfg0.N) (j e : S1x512x1024.Idx), (e 0).val = win0_5.index t 0 * 1 + 1 * (j 0).val → (e 1).val = win0_5.index t 1 * 512 + 1 * (j 1).val →
      (e 2).val = win0_5.index t 2 * 1024 + 1 * (j 2).val → e = j := fun t j e =>
    whole_index3 (index_maps t).2.2.2.2.2.1 (index_maps t).2.2.2.2.2.2.1 (index_maps t).2.2.2.2.2.2.2 j e
  refine (Gen.dats m 0 c).arrAt_eq_of_cover 5 (memY m c) (fun t _ => ?_) (fun i => ⟨⟨0, by decide⟩, by decide +kernel, ?_⟩)
  · rw [Value.flushed5]
    funext j
    rw [View.read_apply]
    exact (congrFun (point_out m c t) j).trans (congrArg (memY m c) (hw t j _ rfl rfl rfl)).symm
  · exact Finset.mem_map.mpr ⟨i, Finset.mem_univ _, hw _ i _ rfl rfl rfl⟩

/-- The reference's result, of arrays. -/
theorem reference_y (o sz x : FVec Ideal S128x4x1024 .f32) (gate : FVec Ideal S128x1024 .f32) (w : FVec Ideal S1024x1024 .f32) :
    (shapeCast S1x512x1024 (addf x (mulf (broadcastInDim S128x4x1024 ![0, 1, 2] Cert.AttnOutSRefIdeal.Gen.bcast_S128x1x1024_S128x4x1024_0_1_2
        (broadcastInDim Cert.AttnOutSRefIdeal.S128x1x1024 ![0, 2] Cert.AttnOutSRefIdeal.Gen.bcast_S128x1024_S128x1x1024_0_2 gate))
      (Host.dotGeneral Cert.AttnOutSRefIdeal.dot_S128x4x1024_S1024x1024_S128x4x1024_2_0_01_1_n_n none (mulf o sz) w)))
      Cert.AttnOutSRefIdeal.Gen.shapeCasts_S128x4x1024_S1x512x1024 : FVec Ideal S1x512x1024 .f32) = flat (outY o sz x gate w) := by
  funext i
  idx_vars i
  pointwise [outY, flat, seqAt, posAt]

/-- The kernel and the reference leave the same output, of the same arguments. -/
theorem algebraic : Cert.algebraic_AttnOutSIdeal_AttnOutSRefIdeal (hAttnOutSIdeal := Cert.AttnOutSIdeal.Gen.facts)
    (hAttnOutSRefIdeal := Cert.AttnOutSRefIdeal.Gen.facts) := by
  intro m g m' g' _ hargs
  refine ⟨fun c => memY m c, ?_, ?_⟩
  · exact (θ_run Cert.AttnOutSIdeal.defs _ _).mono (fun r h c => ⟨(h c).1.trans (array_y m c), (h c).2⟩) (Cert.AttnOutSIdeal.Value.run_blocks m g)
  · refine (θ_run Cert.AttnOutSRefIdeal.defs _ _).mono (fun r h c => ⟨(h c).1.trans ?_, (h c).2⟩) (Cert.AttnOutSRefIdeal.Value.run m' g')
    obtain ⟨e0, e1, e2, e3, e4⟩ := hargs c
    rw [e0, e1, e2, e3, e4]
    exact reference_y _ _ _ _ _

/-- The reference's run leaves its arguments unchanged, and it has no semaphores. -/
theorem reference_frame : Cert.quiescent_AttnOutSRefIdeal (hAttnOutSRefIdeal := Cert.AttnOutSRefIdeal.Gen.facts) := fun m ρ _ =>
  (θ_run Cert.AttnOutSRefIdeal.defs _ _).mono (fun r h => ⟨fun c => (h c).2, Idealize.ShloMosaic.sem_eq_zero_of_no_sems (by decide) r.2⟩)
    (Cert.AttnOutSRefIdeal.Value.run (F := Ideal) m ρ)

end Cert.AttnOutSValue

end
-- ==== Proof.AttnInSMath.lean ====
/- The input projection of the attention layer at the sample batch: the mathematics of its results. -/
module

public import proofs.«01_k».proof.Defs
public import proofs.«01_k».proof.Proof.Norm
public import proofs.«01_k».proof.Proof.AttnInMath

@[expose] public section

set_option maxRecDepth 16384

noncomputable section

namespace Cert.AttnInSMath

open Idealize.ShloMosaic
open Cert.AttnInSIdeal Cert.Norm
open Cert.AttnInMath (colQ colK colV colZ)

/-- One part of the projection of the modulated row `r` of sequence `n`. -/
def proj (x : Vec Ideal S128x4x1024 .f32) (md : Vec Ideal S128x3072 .f32) (g : Vec Ideal S1024 .f32) (w : Vec Ideal S1024x4096 .f32)
    (col : Fin 1024 → Fin 4096) (n : Fin 128) (r : Fin 4) (l : Fin 1024) : EReal :=
  ∑ k : Fin 1024, modRow (fun k => x (ix3 n r k)) (fun k => g (ix1 k)) (fun k => md (ix2 n k)) k * w (ix2 k (col l))

/-- Queries or keys: one part of the projection, normalised by heads. -/
def headsOf (x : Vec Ideal S128x4x1024 .f32) (md : Vec Ideal S128x3072 .f32) (g : Vec Ideal S1024 .f32) (w : Vec Ideal S1024x4096 .f32)
    (col : Fin 1024 → Fin 4096) (gain : Vec Ideal S128 .f32) : Vec Ideal S128x4x1024 .f32 :=
  fun i => heads8 (fun l => proj x md g w col (i 0) (i 1) l) (fun l => gain (ix1 l)) (i 2)

/-- Values. -/
def valuesOf (x : Vec Ideal S128x4x1024 .f32) (md : Vec Ideal S128x3072 .f32) (g : Vec Ideal S1024 .f32) (w : Vec Ideal S1024x4096 .f32) :
    Vec Ideal S128x4x1024 .f32 :=
  fun i => proj x md g w colV (i 0) (i 1) (i 2)

/-- The output's gate. -/
def gateOf (x : Vec Ideal S128x4x1024 .f32) (md : Vec Ideal S128x3072 .f32) (g : Vec Ideal S1024 .f32) (w : Vec Ideal S1024x4096 .f32) :
    Vec Ideal S128x4x1024 .f32 :=
  fun i => silu (proj x md g w colZ (i 0) (i 1) (i 2))

end Cert.AttnInSMath

end
-- ==== Proof.AttnInSRef.lean ====
/- The input projection of the attention layer at the sample batch: the reference's results. -/
module

public import proofs.«01_k».proof.Proof.AttnInSMath
public import proofs.«01_k».proof.Proof.FlatRows
public import proofs.«01_k».proof.Proof.Gen.AttnInSRefIdeal.Run

@[expose] public section

set_option maxRecDepth 16384

noncomputable section

namespace Cert.AttnInSRef

open Idealize.ShloMosaic Idealize.ShloMosaic.TcCoe
open Cert.AttnInMath (colQ colK colV colZ)
open Cert.AttnInSRefIdeal Cert.AttnInSRefIdeal.Gen Cert.AttnInSRefIdeal.Value Cert.Norm Cert.AttnInSMath Cert.FlatRows

/-- The reference's projection of the modulated rows. -/
def product {F : FTy → Type} [FloatOps F] (m : (ℓ : Loc nD τ sig) → Buf (Elt F) ℓ) (c : Dev nD) : FVec F S128x4x4096 .f32 :=
  Host.dotGeneral dot_S128x4x1024_S1024x4096_S128x4x4096_2_0_01_1_n_n none (addf (mulf (mulf (mulf (m ((c.tc : Thread nD τ).loc main_arg0)) (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf (m ((c.tc : Thread nD τ).loc main_arg0)) (m ((c.tc : Thread nD τ).loc main_arg0))) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 (m ((c.tc : Thread nD τ).loc main_arg2))))) (broadcastInDim S128x4x1024 ![0, 1, 2] bcast_S128x1x1024_S128x4x1024_0_1_2 (addf (broadcastInDim S128x1x1024 ![] bcast_S_S128x1x1024 (constant S_ .f32 0x3F800000#32)) (extractStridedSlice S128x1x1024 ![0, 0, 1024] (broadcastInDim S128x1x3072 ![0, 2] bcast_S128x3072_S128x1x3072_0_2 (m ((c.tc : Thread nD τ).loc main_arg1))) slices_S128x1x3072_S128x1x1024_0_0_1024)))) (broadcastInDim S128x4x1024 ![0, 1, 2] bcast_S128x1x1024_S128x4x1024_0_1_2 (extractStridedSlice S128x1x1024 ![0, 0, 0] (broadcastInDim S128x1x3072 ![0, 2] bcast_S128x3072_S128x1x3072_0_2 (m ((c.tc : Thread nD τ).loc main_arg1))) slices_S128x1x3072_S128x1x1024_0_0_0))) (m ((c.tc : Thread nD τ).loc main_arg3))

variable (m : (ℓ : Loc nD τ sig) → Buf (Elt Ideal) ℓ) (c : Dev nD)

/-- Its entries. -/
theorem product_at (n : Fin 128) (r : Fin 4) (l : Fin 4096) :
    product m c (ix3 n r l) = ∑ k : Fin 1024, modRow (fun k => m ((c.tc : Thread nD τ).loc main_arg0) (ix3 n r k)) (fun k => m ((c.tc : Thread nD τ).loc main_arg2) (ix1 k))
        (fun k => m ((c.tc : Thread nD τ).loc main_arg1) (ix2 n k)) k * m ((c.tc : Thread nD τ).loc main_arg3) (ix2 k l) := by
  pointwise [product, modRow]

/-- The mathematics' projection is the reference's. -/
theorem proj_at : proj (m ((c.tc : Thread nD τ).loc main_arg0)) (m ((c.tc : Thread nD τ).loc main_arg1)) (m ((c.tc : Thread nD τ).loc main_arg2))
      (m ((c.tc : Thread nD τ).loc main_arg3)) = fun col n r l => product m c (ix3 n r (col l)) := by
  funext col n r l
  exact (product_at m c n r (col l)).symm

abbrev refHeads (col : Fin 1024 → Fin 4096) (gain : Vec Ideal S128 .f32) : Vec Ideal S128x4x1024 .f32 :=
  headsOf (m ((c.tc : Thread nD τ).loc main_arg0)) (m ((c.tc : Thread nD τ).loc main_arg1)) (m ((c.tc : Thread nD τ).loc main_arg2)) (m ((c.tc : Thread nD τ).loc main_arg3)) col gain

/-- The reference's queries. -/
theorem queries : (res_main_v57 m c : Vec Ideal S1x512x1024 .f32) = flat (L := 1024) (e := .f32) (refHeads m c colQ (m ((c.tc : Thread nD τ).loc main_arg4))) := by
  unfold res_main_v57
  generalize hd : Host.dotGeneral (F := Ideal) _ _ _ _ = d
  obtain rfl : d = product m c := hd.symm
  funext i
  idx_vars i
  unfold refHeads headsOf
  rw [proj_at]
  generalize product m c = d
  pointwise [colQ, heads8, rootMean, lane8, head8, chan8, eps, flat, seqAt, posAt]

/-- The reference's keys. -/
theorem keys : (res_main_v58 m c : Vec Ideal S1x512x1024 .f32) = flat (L := 1024) (e := .f32) (refHeads m c colK (m ((c.tc : Thread nD τ).loc main_arg5))) := by
  unfold res_main_v58
  generalize hd : Host.dotGeneral (F := Ideal) _ _ _ _ = d
  obtain rfl : d = product m c := hd.symm
  funext i
  idx_vars i
  unfold refHeads headsOf
  rw [proj_at]
  generalize product m c = d
  pointwise [colK, heads8, rootMean, lane8, head8, chan8, eps, flat, seqAt, posAt]

theorem keys_cast : (res_main_v61 m c : Vec Ideal S1x512x1024 .bf16) = flat (L := 1024) (e := .f32) (refHeads m c colK (m ((c.tc : Thread nD τ).loc main_arg5))) := keys m c

/-- The reference's values. -/
theorem values : (shapeCast S1x512x1024 (extractStridedSlice S128x4x1024 ![0, 0, 2048] (product m c) slices_S128x4x4096_S128x4x1024_0_0_2048) shapeCasts_S128x4x1024_S1x512x1024 : Vec Ideal S1x512x1024 .f32)
    = flat (L := 1024) (e := .f32) (valuesOf (m ((c.tc : Thread nD τ).loc main_arg0)) (m ((c.tc : Thread nD τ).loc main_arg1)) (m ((c.tc : Thread nD τ).loc main_arg2)) (m ((c.tc : Thread nD τ).loc main_arg3))) := by
  funext i
  idx_vars i
  unfold valuesOf
  rw [proj_at]
  generalize product m c = d
  pointwise [colV, flat, seqAt, posAt]

/-- The reference's output gate. -/
theorem gates : (shapeCast S1x512x1024 (mulf (extractStridedSlice S128x4x1024 ![0, 0, 3072] (product m c) slices_S128x4x4096_S128x4x1024_0_0_3072)
      (Host.divf (broadcastInDim S128x4x1024 ![] bcast_S_S128x4x1024 (constant S_ .f32 0x3F800000#32))
        (addf (broadcastInDim S128x4x1024 ![] bcast_S_S128x4x1024 (constant S_ .f32 0x3F800000#32))
          (Host.exp (Host.negf (extractStridedSlice S128x4x1024 ![0, 0, 3072] (product m c) slices_S128x4x4096_S128x4x1024_0_0_3072)))))) shapeCasts_S128x4x1024_S1x512x1024 : Vec Ideal S1x512x1024 .f32)
    = flat (L := 1024) (e := .f32) (gateOf (m ((c.tc : Thread nD τ).loc main_arg0)) (m ((c.tc : Thread nD τ).loc main_arg1)) (m ((c.tc : Thread nD τ).loc main_arg2)) (m ((c.tc : Thread nD τ).loc main_arg3))) := by
  funext i
  idx_vars i
  unfold gateOf
  rw [proj_at]
  generalize product m c = d
  pointwise [colZ, silu, Ideal.logistic, flat, seqAt, posAt]

end Cert.AttnInSRef

end
-- ==== Proof.AttnInSValue.lean ====
/- The input projection of the attention layer at the sample batch: what its kernel leaves are the reference's results. -/
module

public import proofs.«01_k».proof.Defs
public import proofs.«01_k».proof.Proof.Gen.AttnInS.Frame
public import proofs.«01_k».proof.Proof.Gen.AttnInSIdeal.Value
public import proofs.«01_k».proof.Proof.AttnInSMath
public import proofs.«01_k».proof.Proof.AttnInSRef
public import proofs.«01_k».proof.Proof.RowBlocks
public import proofs.«01_k».proof.Proof.Norm
public import proofs.«01_k».proof.Proof.FlatRows
public import Idealize.ShloMosaic.Lib.Claim

@[expose] public section

set_option maxRecDepth 16384

noncomputable section

namespace Cert.AttnInSValue

open Idealize.ShloMosaic Idealize.ShloMosaic.TcCoe Idealize.SL.Sem
open Cert.AttnInSIdeal Cert.AttnInSIdeal.Gen Cert.RowBlocks Cert.Norm Cert.AttnInSMath Cert.FlatRows
open Cert.AttnInMath (colQ colK colV colZ)

/-! ## One block -/

section Block

variable (x0 : Vec Ideal S1x512x1024 .f32) (x1 : Vec Ideal S1x512x3072 .f32) (x2 : Vec Ideal S1x1024 .f32) (x3 : Vec Ideal S1024x4096 .bf16)

/-- One part of the projection of a block's row `r`. -/
def blockProj (col : Fin 1024 → Fin 4096) (r : Fin 512) (l : Fin 1024) : EReal :=
  ∑ k : Fin 1024, modRow (fun k => x0 (ix3 0 r k)) (fun k => x2 (ix2 0 k)) (fun k => x1 (ix3 0 r k)) k * x3 (ix2 k (col l))

/-- The body's modulated rows. -/
theorem point_hid (r : Fin 512) (k : Fin 1024) :
    k0_pay2 (F := Ideal) x0 x2 x1 (ix2 r k) = modRow (fun k => x0 (ix3 0 r k)) (fun k => x2 (ix2 0 k)) (fun k => x1 (ix3 0 r k)) k := by
  pointwise [k0_pay2, modRow]

theorem point_projQ (r : Fin 512) (l : Fin 1024) :
    k0_pay3 (F := Ideal) x0 x2 x1 (View.ld x3 r0_3) (ix2 r l) = blockProj x0 x1 x2 x3 colQ r l := by
  pointwise [k0_pay3, point_hid, blockProj, colQ]

theorem point_projK (r : Fin 512) (l : Fin 1024) :
    k0_pay20 (F := Ideal) (k0_pay2 x0 x2 x1) (View.ld x3 r0_5) (ix2 r l) = blockProj x0 x1 x2 x3 colK r l := by
  pointwise [k0_pay20, point_hid, blockProj, colK]

theorem point_projV (j : S1x512x1024.Idx) :
    k0_pay35 (F := Ideal) (k0_pay2 x0 x2 x1) (View.ld x3 r0_6) j = blockProj x0 x1 x2 x3 colV (j 1) (j 2) := by
  idx_vars j
  pointwise [k0_pay35, k0_pay34, point_hid, blockProj, colV]

theorem point_projVb (j : S1x512x1024.Idx) :
    k0_pay36 (F := Ideal) (k0_pay2 x0 x2 x1) (View.ld x3 r0_6) j = blockProj x0 x1 x2 x3 colV (j 1) (j 2) := by
  idx_vars j
  pointwise [k0_pay36, k0_pay34, point_hid, blockProj, colV]

theorem point_gate (j : S1x512x1024.Idx) :
    k0_pay1 (F := Ideal) (k0_pay2 x0 x2 x1) (k0_pay37 (View.ld x3 r0_7)) j = silu (blockProj x0 x1 x2 x3 colZ (j 1) (j 2)) := by
  idx_vars j
  pointwise [k0_pay1, k0_pay37, point_hid, blockProj, colZ, silu]

/-- The body's queries: the projection `f` normalised by heads. -/
theorem point_headsQ (x4 : Vec Ideal S1x128 .f32) (j : S1x512x1024.Idx) :
    k0_pay19 (F := Ideal) (k0_pay3 x0 x2 x1 (View.ld x3 r0_3)) (k0_pay7 (k0_pay4 x0 x2 x1 (View.ld x3 r0_3)) (k0_pay5 x4) (k0_pay6 x0 x2 x1 (View.ld x3 r0_3)))
        (k0_pay8 (k0_pay3 x0 x2 x1 (View.ld x3 r0_3)) x4) (k0_pay9 (k0_pay3 x0 x2 x1 (View.ld x3 r0_3)) x4)
        (k0_pay13 (k0_pay10 (k0_pay3 x0 x2 x1 (View.ld x3 r0_3))) (k0_pay11 x4) (k0_pay12 (k0_pay3 x0 x2 x1 (View.ld x3 r0_3))))
        (k0_pay14 (k0_pay3 x0 x2 x1 (View.ld x3 r0_3)) x4) (k0_pay15 (k0_pay3 x0 x2 x1 (View.ld x3 r0_3)) x4)
        (k0_pay16 (k0_pay3 x0 x2 x1 (View.ld x3 r0_3))) (k0_pay17 x4) (k0_pay18 (k0_pay3 x0 x2 x1 (View.ld x3 r0_3))) x4 j
      = heads8 (blockProj x0 x1 x2 x3 colQ (j 1)) (fun l => x4 (ix2 0 l)) (j 2) := by
  have hf := point_projQ x0 x1 x2 x3
  unfold k0_pay4 k0_pay6 k0_pay4
  generalize k0_pay3 (F := Ideal) x0 x2 x1 (View.ld x3 r0_3) = f at hf ⊢
  unfold k0_pay19
  dsimp only
  rw [concat8 _ _ _ _ _ _ _ _ (fun r l => heads8 (blockProj x0 x1 x2 x3 colQ r) (fun l => x4 (ix2 0 l)) l)]
  · idx_vars j
    pointwise
  all_goals
    intro r k
    rw [heads8_lane]
    unfold rootMean
    pointwise [k0_pay7, k0_pay5, k0_pay8, k0_pay9, k0_pay10, k0_pay11, k0_pay12, k0_pay13, k0_pay14, k0_pay15, k0_pay16, k0_pay17, k0_pay18, hf, lane8]

theorem ld_x (X : Vec Ideal S1x512x1024 .f32) : View.ld X r0_0 = X := ld_block X _
theorem ld_g (X : Vec Ideal S1x1024 .f32) : View.ld X r0_1 = X := ld_matrix X _
theorem ld_md (X : Vec Ideal S1x512x3072 .f32) : View.ld X r0_2 = X := ld_block X _
theorem ld_gain (X : Vec Ideal S1x128 .f32) : View.ld X r0_4 = X := ld_matrix X _

/-- The body's modulated rows, as its later values name them. -/
theorem hid_eq (x4 x5 : Vec Ideal S1x128 .f32) : k0_pay38 (F := Ideal) x0 x1 x2 x3 x4 x5 = k0_pay2 x0 x2 x1 := by
  unfold k0_pay38
  rw [ld_x, ld_g, ld_md]

theorem keys_eq (x4 x5 : Vec Ideal S1x128 .f32) (r : Fin 512) (l : Fin 1024) :
    k0_pay40 (F := Ideal) x0 x1 x2 x3 x4 x5 (ix2 r l) = blockProj x0 x1 x2 x3 colK r l := by
  unfold k0_pay40
  rw [hid_eq, point_projK]

/-- The body's keys. -/
theorem point_headsK (x4 x5 : Vec Ideal S1x128 .f32) (r : Fin 512) (l : Fin 1024) :
    k0_pay31 (F := Ideal) (k0_pay41 x0 x1 x2 x3 x4 x5) (k0_pay42 x0 x1 x2 x3 x4 x5) (k0_pay43 x0 x1 x2 x3 x4 x5) (k0_pay44 x0 x1 x2 x3 x4 x5)
        (k0_pay45 x0 x1 x2 x3 x4 x5) (k0_pay46 x0 x1 x2 x3 x4 x5) (k0_pay47 x0 x1 x2 x3 x4 x5) (k0_pay48 x0 x1 x2 x3 x4 x5) (View.ld x5 r0_4) (ix2 r l)
      = heads8 (blockProj x0 x1 x2 x3 colK r) (fun l => x5 (ix2 0 l)) l := by
  have hf := keys_eq x0 x1 x2 x3 x4 x5
  unfold k0_pay41 k0_pay42 k0_pay43 k0_pay44 k0_pay45 k0_pay46 k0_pay47 k0_pay48
  unfold k0_pay21 k0_pay22
  rw [ld_gain, show k0_pay20 (F := Ideal) (k0_pay38 x0 x1 x2 x3 x4 x5) (View.ld x3 r0_5) = k0_pay40 x0 x1 x2 x3 x4 x5 from rfl]
  generalize k0_pay40 (F := Ideal) x0 x1 x2 x3 x4 x5 = f at hf ⊢
  unfold k0_pay31
  dsimp only
  rw [concat8 _ _ _ _ _ _ _ _ (fun r l => heads8 (blockProj x0 x1 x2 x3 colK r) (fun l => x5 (ix2 0 l)) l)]
  · rfl
  all_goals
    intro r k
    rw [heads8_lane]
    unfold rootMean
    pointwise [k0_pay23, k0_pay24, k0_pay25, k0_pay26, k0_pay27, k0_pay28, k0_pay29, k0_pay30, hf, lane8]

/-- What the body leaves in its six blocks. -/
theorem out_q (x4 x5 : Vec Ideal S1x128 .f32) (j : S1x512x1024.Idx) :
    out0_6 (F := Ideal) x0 x1 x2 x3 x4 x5 j = heads8 (blockProj x0 x1 x2 x3 colQ (j 1)) (fun l => x4 (ix2 0 l)) (j 2) := by
  unfold out0_6 k0_pay39
  rw [ld_x, ld_g, ld_md, ld_gain]
  exact (congrFun (stored_block _ _) j).trans (point_headsQ x0 x1 x2 x3 x4 j)

theorem out_k (x4 x5 : Vec Ideal S1x128 .f32) (j : S1x512x1024.Idx) :
    out0_7 (F := Ideal) x0 x1 x2 x3 x4 x5 j = heads8 (blockProj x0 x1 x2 x3 colK (j 1)) (fun l => x5 (ix2 0 l)) (j 2) := by
  have hk := point_headsK x0 x1 x2 x3 x4 x5
  refine (congrFun (stored_block _ _) j).trans ?_
  unfold k0_pay32
  generalize k0_pay31 (F := Ideal) _ _ _ _ _ _ _ _ _ = f at hk ⊢
  idx_vars j
  pointwise [hk]

theorem out_v (x4 x5 : Vec Ideal S1x128 .f32) (j : S1x512x1024.Idx) :
    out0_8 (F := Ideal) x0 x1 x2 x3 x4 x5 j = blockProj x0 x1 x2 x3 colV (j 1) (j 2) := by
  unfold out0_8
  rw [hid_eq]
  exact (congrFun (stored_block _ _) j).trans (point_projV x0 x1 x2 x3 j)

theorem out_kb (x4 x5 : Vec Ideal S1x128 .f32) (j : S1x512x1024.Idx) :
    out0_9 (F := Ideal) x0 x1 x2 x3 x4 x5 j = heads8 (blockProj x0 x1 x2 x3 colK (j 1)) (fun l => x5 (ix2 0 l)) (j 2) := by
  have hk := point_headsK x0 x1 x2 x3 x4 x5
  refine (congrFun (stored_block _ _) j).trans ?_
  unfold k0_pay33
  generalize k0_pay31 (F := Ideal) _ _ _ _ _ _ _ _ _ = f at hk ⊢
  idx_vars j
  pointwise [hk]

theorem out_vb (x4 x5 : Vec Ideal S1x128 .f32) (j : S1x512x1024.Idx) :
    out0_10 (F := Ideal) x0 x1 x2 x3 x4 x5 j = blockProj x0 x1 x2 x3 colV (j 1) (j 2) := by
  unfold out0_10
  rw [hid_eq]
  exact (congrFun (stored_block _ _) j).trans (point_projVb x0 x1 x2 x3 j)

theorem out_sz (x4 x5 : Vec Ideal S1x128 .f32) (j : S1x512x1024.Idx) :
    out0_11 (F := Ideal) x0 x1 x2 x3 x4 x5 j = silu (blockProj x0 x1 x2 x3 colZ (j 1) (j 2)) := by
  unfold out0_11
  rw [hid_eq]
  exact (congrFun (stored_block _ _) j).trans (point_gate x0 x1 x2 x3 j)

end Block

/-! ## The blocks and the arrays -/

variable (m : (ℓ : Loc nD τ sig) → Buf (Elt Ideal) ℓ) (c : Dev nD)

/-- The only block of each array. -/
theorem index_maps : ∀ t : Fin cfg0.N,
    (win0_0.index t 0 = 0 ∧ win0_0.index t 1 = 0 ∧ win0_0.index t 2 = 0) ∧
    (win0_1.index t 0 = 0 ∧ win0_1.index t 1 = 0 ∧ win0_1.index t 2 = 0) ∧
    (win0_2.index t 0 = 0 ∧ win0_2.index t 1 = 0) ∧
    (win0_3.index t 0 = 0 ∧ win0_3.index t 1 = 0) ∧
    (win0_4.index t 0 = 0 ∧ win0_4.index t 1 = 0) ∧
    (win0_5.index t 0 = 0 ∧ win0_5.index t 1 = 0) := by
  decide +kernel

/-- Where a block's element lies; all the arrays of rows are one block. -/
theorem row_index (t : Fin cfg0.N) (j e : S1x512x1024.Idx) (h0 : (e 0).val = win0_0.index t 0 * 1 + 1 * (j 0).val)
    (h1 : (e 1).val = win0_0.index t 1 * 512 + 1 * (j 1).val) (h2 : (e 2).val = win0_0.index t 2 * 1024 + 1 * (j 2).val) : e = j :=
  whole_index3 (index_maps t).1.1 (index_maps t).1.2.1 (index_maps t).1.2.2 j e h0 h1 h2

/-- The arguments as the kernel takes them. -/
theorem entry_x : V m c main_v0 = flat (m ((c : Thread nD τ).loc main_arg0)) := by
  entry_read
  funext i
  idx_vars i
  pointwise [flat, seqAt, posAt]

theorem entry_md : V m c main_v3 = fun i => m ((c : Thread nD τ).loc main_arg1) (ix2 (seqAt (i 1)) (i 2)) := by
  entry_read
  funext i
  idx_vars i
  pointwise [seqAt]

/-- The rows' gains as the kernel takes them. -/
theorem entry_g : V m c main_v4 = fun i => m ((c : Thread nD τ).loc main_arg2) (ix1 (i 1)) := by
  entry_read
  funext i
  pointwise

/-- The weights as the kernel takes them. -/
theorem entry_w : V m c main_v5 = m ((c : Thread nD τ).loc main_arg3) := by
  entry_read
  funext i
  pointwise

/-- The heads' gains as the kernel takes them. -/
theorem entry_qn : V m c main_v6 = fun i => m ((c : Thread nD τ).loc main_arg4) (ix1 (i 1)) := by
  entry_read
  funext i
  pointwise

theorem entry_kn : V m c main_v7 = fun i => m ((c : Thread nD τ).loc main_arg5) (ix1 (i 1)) := by
  entry_read
  funext i
  pointwise

theorem block_x (t : Fin cfg0.N) : (iblk m c 0 t : Vec Ideal S1x512x1024 .f32) = flat (m ((c : Thread nD τ).loc main_arg0)) := by
  funext j
  unfold iblk
  rw [View.read_apply]
  exact (congrFun (entry_x m c) _).trans (congrArg (flat (m ((c : Thread nD τ).loc main_arg0))) (row_index t j _ rfl rfl rfl))

theorem block_md (t : Fin cfg0.N) : (iblk m c 1 t : Vec Ideal S1x512x3072 .f32) = fun i => m ((c : Thread nD τ).loc main_arg1) (ix2 (seqAt (i 1)) (i 2)) := by
  obtain ⟨-, ⟨h0, h1, h2⟩, -⟩ := index_maps t
  funext j
  unfold iblk
  rw [View.read_apply]
  refine (congrFun (entry_md m c) _).trans ?_
  exact congrArg (fun i : S1x512x3072.Idx => m ((c : Thread nD τ).loc main_arg1) (ix2 (seqAt (i 1)) (i 2))) (whole_index3 h0 h1 h2 j _ rfl rfl rfl)

theorem block_g (t : Fin cfg0.N) : (iblk m c 2 t : Vec Ideal S1x1024 .f32) = fun i => m ((c : Thread nD τ).loc main_arg2) (ix1 (i 1)) := by
  obtain ⟨-, -, ⟨h0, h1⟩, -⟩ := index_maps t
  funext j
  unfold iblk
  rw [View.read_apply]
  refine (congrFun (entry_g m c) _).trans ?_
  exact congrArg (fun i : S1x1024.Idx => m ((c : Thread nD τ).loc main_arg2) (ix1 (i 1))) (whole_index h0 h1 j _ rfl rfl)

theorem block_w (t : Fin cfg0.N) : (iblk m c 3 t : Vec Ideal S1024x4096 .bf16) = m ((c : Thread nD τ).loc main_arg3) := by
  obtain ⟨-, -, -, ⟨h0, h1⟩, -⟩ := index_maps t
  funext j
  unfold iblk
  rw [View.read_apply]
  refine (congrFun (entry_w m c) _).trans ?_
  exact congrArg (m ((c : Thread nD τ).loc main_arg3)) (whole_index h0 h1 j _ rfl rfl)

theorem block_qn (t : Fin cfg0.N) : (iblk m c 4 t : Vec Ideal S1x128 .f32) = fun i => m ((c : Thread nD τ).loc main_arg4) (ix1 (i 1)) := by
  obtain ⟨-, -, -, -, ⟨h0, h1⟩, -⟩ := index_maps t
  funext j
  unfold iblk
  rw [View.read_apply]
  refine (congrFun (entry_qn m c) _).trans ?_
  exact congrArg (fun i : S1x128.Idx => m ((c : Thread nD τ).loc main_arg4) (ix1 (i 1))) (whole_index h0 h1 j _ rfl rfl)

theorem block_kn (t : Fin cfg0.N) : (iblk m c 5 t : Vec Ideal S1x128 .f32) = fun i => m ((c : Thread nD τ).loc main_arg5) (ix1 (i 1)) := by
  obtain ⟨-, -, -, -, -, ⟨h0, h1⟩⟩ := index_maps t
  funext j
  unfold iblk
  rw [View.read_apply]
  refine (congrFun (entry_kn m c) _).trans ?_
  exact congrArg (fun i : S1x128.Idx => m ((c : Thread nD τ).loc main_arg5) (ix1 (i 1))) (whole_index h0 h1 j _ rfl rfl)

theorem first_index (j : S1x512x1024.Idx) : (ix3 0 (j 1) (j 2) : S1x512x1024.Idx) = j := by
  have hj0 : (j 0).val < 1 := (j 0).isLt
  funext b
  refine Fin.ext ?_
  fin_cases b
  · show 0 = (j 0).val; omega
  · rfl
  · rfl

/-- The results, of the arguments in memory. -/
abbrev memHeads (col : Fin 1024 → Fin 4096) (gain : Vec Ideal S128 .f32) : Vec Ideal S1x512x1024 .f32 :=
  flat (L := 1024) (e := .f32) <| headsOf (m ((c : Thread nD τ).loc main_arg0)) (m ((c : Thread nD τ).loc main_arg1)) (m ((c : Thread nD τ).loc main_arg2)) (m ((c : Thread nD τ).loc main_arg3)) col gain
abbrev memQ : Vec Ideal S1x512x1024 .f32 := memHeads m c colQ (m ((c : Thread nD τ).loc main_arg4))
abbrev memK : Vec Ideal S1x512x1024 .f32 := memHeads m c colK (m ((c : Thread nD τ).loc main_arg5))
abbrev memV : Vec Ideal S1x512x1024 .f32 :=
  flat (L := 1024) (e := .f32) <| valuesOf (m ((c : Thread nD τ).loc main_arg0)) (m ((c : Thread nD τ).loc main_arg1)) (m ((c : Thread nD τ).loc main_arg2)) (m ((c : Thread nD τ).loc main_arg3))
abbrev memSz : Vec Ideal S1x512x1024 .f32 :=
  flat (L := 1024) (e := .f32) <| gateOf (m ((c : Thread nD τ).loc main_arg0)) (m ((c : Thread nD τ).loc main_arg1)) (m ((c : Thread nD τ).loc main_arg2)) (m ((c : Thread nD τ).loc main_arg3))

/-- A block's part of the projection is the whole array's. -/
theorem proj_block (col : Fin 1024 → Fin 4096) (t : Fin cfg0.N) (r : Fin 512) :
    blockProj (iblk m c 0 t) (iblk m c 1 t) (iblk m c 2 t) (iblk m c 3 t) col r
      = proj (m ((c : Thread nD τ).loc main_arg0)) (m ((c : Thread nD τ).loc main_arg1)) (m ((c : Thread nD τ).loc main_arg2)) (m ((c : Thread nD τ).loc main_arg3)) col
          (seqAt r) (posAt r) := by
  rw [block_x, block_md, block_g, block_w]
  rfl

theorem queries_at (t : Fin cfg0.N) (r : Fin 512) (l : Fin 1024) :
    heads8 (blockProj (iblk m c 0 t) (iblk m c 1 t) (iblk m c 2 t) (iblk m c 3 t) colQ r) (fun l => (iblk m c 4 t : Vec Ideal S1x128 .f32) (ix2 0 l)) l = memQ m c (ix3 0 r l) := by
  rw [proj_block, block_qn]
  rfl

theorem keys_at (t : Fin cfg0.N) (r : Fin 512) (l : Fin 1024) :
    heads8 (blockProj (iblk m c 0 t) (iblk m c 1 t) (iblk m c 2 t) (iblk m c 3 t) colK r) (fun l => (iblk m c 5 t : Vec Ideal S1x128 .f32) (ix2 0 l)) l = memK m c (ix3 0 r l) := by
  rw [proj_block, block_kn]
  rfl

theorem array_q : (Gen.dats m 0 c).arrAt 6 cfg0.N = memQ m c := by
  refine (Gen.dats m 0 c).arrAt_eq_of_cover 6 (memQ m c) (fun t _ => ?_) (fun i => ⟨⟨0, by decide⟩, by decide +kernel, ?_⟩)
  · rw [Value.flushed6]
    funext j
    rw [View.read_apply]
    have hj : (ix3 0 (j 1) (j 2) : S1x512x1024.Idx) = j := first_index j
    refine ((out_q _ _ _ _ _ _ j).trans ((queries_at m c t (j 1) (j 2)).trans (congrArg (memQ m c) hj))).trans ?_
    exact (congrArg (memQ m c) (row_index t j _ rfl rfl rfl)).symm
  · exact Finset.mem_map.mpr ⟨i, Finset.mem_univ _, row_index _ i _ rfl rfl rfl⟩

theorem array_k : (Gen.dats m 0 c).arrAt 7 cfg0.N = memK m c := by
  refine (Gen.dats m 0 c).arrAt_eq_of_cover 7 (memK m c) (fun t _ => ?_) (fun i => ⟨⟨0, by decide⟩, by decide +kernel, ?_⟩)
  · rw [Value.flushed7]
    funext j
    rw [View.read_apply]
    have hj : (ix3 0 (j 1) (j 2) : S1x512x1024.Idx) = j := first_index j
    refine ((out_k _ _ _ _ _ _ j).trans ((keys_at m c t (j 1) (j 2)).trans (congrArg (memK m c) hj))).trans ?_
    exact (congrArg (memK m c) (row_index t j _ rfl rfl rfl)).symm
  · exact Finset.mem_map.mpr ⟨i, Finset.mem_univ _, row_index _ i _ rfl rfl rfl⟩

theorem array_v : (Gen.dats m 0 c).arrAt 8 cfg0.N = memV m c := by
  refine (Gen.dats m 0 c).arrAt_eq_of_cover 8 (memV m c) (fun t _ => ?_) (fun i => ⟨⟨0, by decide⟩, by decide +kernel, ?_⟩)
  · rw [Value.flushed8]
    funext j
    rw [View.read_apply]
    refine ((out_v _ _ _ _ _ _ j).trans (congrFun (proj_block m c colV t (j 1)) (j 2))).trans ?_
    exact (congrArg (memV m c) (row_index t j _ rfl rfl rfl)).symm
  · exact Finset.mem_map.mpr ⟨i, Finset.mem_univ _, row_index _ i _ rfl rfl rfl⟩

theorem array_kb : (Gen.dats m 0 c).arrAt 9 cfg0.N = memK m c := by
  refine (Gen.dats m 0 c).arrAt_eq_of_cover 9 (memK m c) (fun t _ => ?_) (fun i => ⟨⟨0, by decide⟩, by decide +kernel, ?_⟩)
  · rw [Value.flushed9]
    funext j
    rw [View.read_apply]
    have hj : (ix3 0 (j 1) (j 2) : S1x512x1024.Idx) = j := first_index j
    refine ((out_kb _ _ _ _ _ _ j).trans ((keys_at m c t (j 1) (j 2)).trans (congrArg (memK m c) hj))).trans ?_
    exact (congrArg (memK m c) (row_index t j _ rfl rfl rfl)).symm
  · exact Finset.mem_map.mpr ⟨i, Finset.mem_univ _, row_index _ i _ rfl rfl rfl⟩

theorem array_vb : (Gen.dats m 0 c).arrAt 10 cfg0.N = memV m c := by
  refine (Gen.dats m 0 c).arrAt_eq_of_cover 10 (memV m c) (fun t _ => ?_) (fun i => ⟨⟨0, by decide⟩, by decide +kernel, ?_⟩)
  · rw [Value.flushed10]
    funext j
    rw [View.read_apply]
    refine ((out_vb _ _ _ _ _ _ j).trans (congrFun (proj_block m c colV t (j 1)) (j 2))).trans ?_
    exact (congrArg (memV m c) (row_index t j _ rfl rfl rfl)).symm
  · exact Finset.mem_map.mpr ⟨i, Finset.mem_univ _, row_index _ i _ rfl rfl rfl⟩

theorem array_sz : (Gen.dats m 0 c).arrAt 11 cfg0.N = memSz m c := by
  refine (Gen.dats m 0 c).arrAt_eq_of_cover 11 (memSz m c) (fun t _ => ?_) (fun i => ⟨⟨0, by decide⟩, by decide +kernel, ?_⟩)
  · rw [Value.flushed11]
    funext j
    rw [View.read_apply]
    refine ((out_sz _ _ _ _ _ _ j).trans (congrArg silu (congrFun (proj_block m c colZ t (j 1)) (j 2)))).trans ?_
    exact (congrArg (memSz m c) (row_index t j _ rfl rfl rfl)).symm
  · exact Finset.mem_map.mpr ⟨i, Finset.mem_univ _, row_index _ i _ rfl rfl rfl⟩

/-- The kernel and the reference leave the same results, of the same arguments. -/
theorem algebraic : Cert.algebraic_AttnInSIdeal_AttnInSRefIdeal (hAttnInSIdeal := Cert.AttnInSIdeal.Gen.facts)
    (hAttnInSRefIdeal := Cert.AttnInSRefIdeal.Gen.facts) := by
  intro m g m' g' _ hargs
  refine ⟨fun c => memQ m c, fun c => memK m c, fun c => memV m c, fun c => memK m c, fun c => memV m c, fun c => memSz m c, ?_, ?_⟩
  · refine (θ_run Cert.AttnInSIdeal.defs _ _).mono (fun r h c => ?_) (Cert.AttnInSIdeal.Value.run_blocks m g)
    obtain ⟨h0, h1, h2, h3, h4, h5, hk⟩ := h c
    exact ⟨h0.trans (array_q m c), h1.trans (array_k m c), h2.trans (array_v m c), h3.trans (array_kb m c), h4.trans (array_vb m c), h5.trans (array_sz m c), hk⟩
  · refine (θ_run Cert.AttnInSRefIdeal.defs _ _).mono (fun r h c => ?_) (Cert.AttnInSRefIdeal.Value.run m' g')
    obtain ⟨h0, h1, h2, h3, h4, h5, hk⟩ := h c
    obtain ⟨e0, e1, e2, e3, e4, e5⟩ := hargs c
    have hq := AttnInSRef.queries m' c
    have hkeys := AttnInSRef.keys m' c
    have hv := AttnInSRef.values m' c
    have hs := AttnInSRef.gates m' c
    unfold AttnInSRef.refHeads at hq hkeys
    rw [e0, e1, e2, e3, e4] at hq
    rw [e0, e1, e2, e3, e5] at hkeys
    rw [e0, e1, e2, e3] at hv hs
    exact ⟨h0.trans hq, h1.trans hkeys, h2.trans hv, h3.trans hkeys, h4.trans hv, h5.trans hs, hk⟩

/-- The reference's run leaves every semaphore at zero. -/
theorem reference_frame : Cert.quiescent_AttnInSRefIdeal (hAttnInSRefIdeal := Cert.AttnInSRefIdeal.Gen.facts) := fun m ρ _ =>
  (θ_run Cert.AttnInSRefIdeal.defs _ _).mono (fun r h => ⟨fun c => (h c).2.2.2.2.2.2, Idealize.ShloMosaic.sem_eq_zero_of_no_sems (by decide) r.2⟩)
    (Cert.AttnInSRefIdeal.Value.run (F := Ideal) m ρ)

end Cert.AttnInSValue

end
-- ==== Proof.ScanSValue.lean ====
/- The delta rule's step at the sample batch: what its kernel leaves is the reference's outputs and states. -/
module

public import proofs.«01_k».proof.Defs
public import proofs.«01_k».proof.Proof.Gen.ScanS.Frame
public import proofs.«01_k».proof.Proof.Gen.ScanSIdeal.Value
public import proofs.«01_k».proof.Proof.Gen.ScanSRefIdeal.Run
public import Idealize.ShloMosaic.Lib.Pointwise
public import Idealize.ShloMosaic.Lib.Pointwise.IndexVar
public import Idealize.ShloMosaic.Lib.Pipeline.ReadBack
public import Idealize.ShloMosaic.Lib.Claim

@[expose] public section

set_option maxRecDepth 16384

noncomputable section

namespace Cert.ScanSValue

open Idealize.ShloMosaic Idealize.ShloMosaic.TcCoe Idealize.SL.Sem
open Cert.ScanSIdeal Cert.ScanSIdeal.Gen

/-! ## The step, of any number of sequences -/

/-- The lane of head `h`'s channel `k` among the 512 lanes. -/
def lane (h : Fin 4) (k : Fin 128) : Fin 512 := ⟨128 * h.val + k.val, by omega⟩

/-- The lane of head `h`'s chunk position `k` among the 64 lanes. -/
def lane' (h : Fin 4) (k : Fin 16) : Fin 64 := ⟨16 * h.val + k.val, by omega⟩

/-- The head and the channel of a lane. -/
def headOf (l : Fin 512) : Fin 4 := ⟨l.val / 128, by omega⟩
def chanOf (l : Fin 512) : Fin 128 := ⟨l.val % 128, by omega⟩

theorem headOf_lane (h : Fin 4) (k : Fin 128) : headOf (lane h k) = h := Fin.ext (by simp only [headOf, lane]; omega)
theorem chanOf_lane (h : Fin 4) (k : Fin 128) : chanOf (lane h k) = k := Fin.ext (by simp only [chanOf, lane]; omega)

section Step

variable {N : ℕ} (u w qg kd el : Vec Ideal ⟨3, ![N, 16, 512]⟩ .f32) (a : Vec Ideal ⟨3, ![N, 16, 64]⟩ .f32) (S : Vec Ideal ⟨4, ![N, 4, 128, 128]⟩ .f32)

/-- The corrected values: `u − w · S`. -/
def fresh (g : Fin N) (h : Fin 4) (r : Fin 16) (v : Fin 128) : EReal :=
  u (ix3 g r (lane h v)) - ∑ k : Fin 128, w (ix3 g r (lane h k)) * S (ix4 g h k v)

/-- The outputs: `qg · S + a · (u − w · S)`. -/
def out (g : Fin N) (h : Fin 4) (r : Fin 16) (v : Fin 128) : EReal :=
  ∑ k : Fin 128, qg (ix3 g r (lane h k)) * S (ix4 g h k v) + ∑ j : Fin 16, a (ix3 g r (lane' h j)) * fresh u w S g h j v

/-- The state after the step: `el · S + kdᵀ · (u − w · S)`. -/
def next (g : Fin N) (h : Fin 4) (k v : Fin 128) : EReal :=
  S (ix4 g h k v) * el (ix3 g 0 (lane h v)) + ∑ r : Fin 16, kd (ix3 g r (lane h k)) * fresh u w S g h r v

/-- The states and the outputs as arrays. -/
def nextV : Vec Ideal ⟨4, ![N, 4, 128, 128]⟩ .f32 := fun i => next u w kd el S (i 0) (i 1) (i 2) (i 3)
def outV : Vec Ideal ⟨3, ![N, 16, 512]⟩ .f32 := fun i => out u w qg a S (i 0) (headOf (i 2)) (i 1) (chanOf (i 2))

end Step

/-! ## One program's eight sequences -/

section Block

variable (u w qg kd el : Vec Ideal S8x16x512 .f32) (a : Vec Ideal S8x16x64 .f32) (S : Vec Ideal S8x4x128x128 .f32)

/-- The index that the state's part `g, h` puts its index `x` at. -/
theorem state_emb (g : Fin 8) (h : Fin 4) (hS) (x : (⟨4, ![1, 1, 128, 128]⟩ : Shape).Idx) :
    (Rect.unit (s := S8x4x128x128) ![g.val, h.val, 0, 0] ![1, 1, 128, 128] hS).emb x = ix4 g h (x 2) (x 3) := by
  have h0 : (x 0).val < 1 := (x 0).isLt
  have h1 : (x 1).val < 1 := (x 1).isLt
  funext b
  refine Fin.ext ?_
  fin_cases b
  · show g.val + 1 * (x 0).val = g.val; omega
  · show h.val + 1 * (x 1).val = h.val; omega
  · show 0 + 1 * (x 2).val = (x 2).val; omega
  · show 0 + 1 * (x 3).val = (x 3).val; omega

/-- What the body stores in the state's part `g, h` is the new state there. -/
theorem state_piece (g : Fin 8) (h : Fin 4) (hS hU hE) (x : (⟨4, ![1, 1, 128, 128]⟩ : Shape).Idx) :
    k0_pay6 (F := Ideal)
      (k0_pay3 (View.ld S (Rect.unit ![g.val, h.val, 0, 0] ![1, 1, 128, 128] hS))
        (View.ld u (Rect.unit ![g.val, 0, 128 * h.val] ![1, 16, 128] hU)) (View.ld w (Rect.unit ![g.val, 0, 128 * h.val] ![1, 16, 128] hU)))
      (k0_pay5 (View.ld S (Rect.unit ![g.val, h.val, 0, 0] ![1, 1, 128, 128] hS)) (View.ld el (Rect.unit ![g.val, 0, 128 * h.val] ![1, 1, 128] hE)))
      (View.ld kd (Rect.unit ![g.val, 0, 128 * h.val] ![1, 16, 128] hU)) x
    = nextV u w kd el S ((Rect.unit (s := S8x4x128x128) ![g.val, h.val, 0, 0] ![1, 1, 128, 128] hS).emb x) := by
  rw [state_emb]
  pointwise [k0_pay6, k0_pay3, k0_pay5, k0_pay2, nextV, next, fresh, lane]

/-- The index that the outputs' part `g, h` puts its index `x` at. -/
theorem out_emb (g : Fin 8) (h : Fin 4) (hU) (x : (⟨3, ![1, 16, 128]⟩ : Shape).Idx) :
    (Rect.unit (s := S8x16x512) ![g.val, 0, 128 * h.val] ![1, 16, 128] hU).emb x = ix3 g (x 1) (lane h (x 2)) := by
  have h0 : (x 0).val < 1 := (x 0).isLt
  funext b
  refine Fin.ext ?_
  fin_cases b
  · show g.val + 1 * (x 0).val = g.val; omega
  · show 0 + 1 * (x 1).val = (x 1).val; omega
  · show 128 * h.val + 1 * (x 2).val = 128 * h.val + (x 2).val; omega

/-- What the body stores in the outputs' part `g, h` is the outputs there. -/
theorem out_piece (g : Fin 8) (h : Fin 4) (hS hU hA) (x : (⟨3, ![1, 16, 128]⟩ : Shape).Idx) :
    k0_pay4 (F := Ideal) (View.ld S (Rect.unit ![g.val, h.val, 0, 0] ![1, 1, 128, 128] hS))
      (View.ld u (Rect.unit ![g.val, 0, 128 * h.val] ![1, 16, 128] hU)) (View.ld w (Rect.unit ![g.val, 0, 128 * h.val] ![1, 16, 128] hU))
      (View.ld qg (Rect.unit ![g.val, 0, 128 * h.val] ![1, 16, 128] hU)) (View.ld a (Rect.unit ![g.val, 0, 16 * h.val] ![1, 16, 16] hA)) x
    = outV u w qg a S ((Rect.unit (s := S8x16x512) ![g.val, 0, 128 * h.val] ![1, 16, 128] hU).emb x) := by
  rw [out_emb]
  refine Eq.trans ?_ (show out u w qg a S g h (x 1) (x 2) = outV u w qg a S (ix3 g (x 1) (lane h (x 2))) from ?_)
  swap
  · unfold outV
    exact congr (congrFun (congrArg (out u w qg a S g) (headOf_lane h (x 2)).symm) (x 1)) (chanOf_lane h (x 2)).symm
  pointwise [k0_pay4, k0_pay3, k0_pay2, out, fresh, lane, lane']

/-- A load of the whole block of states is the block. -/
theorem ld_whole (X : Vec Ideal S8x4x128x128 .f32) (hX) :
    View.ld X (Rect.unit (s := S8x4x128x128) ![0, 0, 0, 0] ![8, 4, 128, 128] hX) = X :=
  View.ld_unit_zero (S := S8x4x128x128) (by funext b; fin_cases b <;> rfl) hX X

end Block

variable (m : (ℓ : Loc nD τ sig) → Buf (Elt Ideal) ℓ) (c : Dev nD)

/-- What a program leaves in its block of outputs. -/
theorem out_point (t : Fin cfg0.N) :
    (outsAt0 m c t).1 = outV (iblk m c 0 t) (iblk m c 1 t) (iblk m c 2 t) (iblk m c 5 t) (iblk m c 6 t) := by
  unfold outsAt0
  dsimp only
  funext y
  unfold out0_A_7
  rw [View.read_writes_apply_eq_canon _ _ _ _ (by apply cover0_A_7)]
  refine View.canon_apply_of_pieces _ _ (View.PiecesOf.mem ?_) y (by apply cover0_A_7)
  unfold kernelRun0_A
  dsimp only
  sl_unfold_words
  simp (disch := decide) only [↓View.readCov_skip, ↓View.readCov_fill]
  simp only [View.readAt_eq_ld, (hs0_0 t).read_unread, (hs0_1 t).read_unread, (hs0_2 t).read_unread, (hs0_3 t).read_unread,
    (hs0_4 t).read_unread, (hs0_5 t).read_unread, (hs0_6 t).read_unread, ld_whole]
  exact ⟨out_piece _ _ _ _ _ 7 3 _ _ _, out_piece _ _ _ _ _ 7 2 _ _ _, out_piece _ _ _ _ _ 7 1 _ _ _, out_piece _ _ _ _ _ 7 0 _ _ _,
    out_piece _ _ _ _ _ 6 3 _ _ _, out_piece _ _ _ _ _ 6 2 _ _ _, out_piece _ _ _ _ _ 6 1 _ _ _, out_piece _ _ _ _ _ 6 0 _ _ _,
    out_piece _ _ _ _ _ 5 3 _ _ _, out_piece _ _ _ _ _ 5 2 _ _ _, out_piece _ _ _ _ _ 5 1 _ _ _, out_piece _ _ _ _ _ 5 0 _ _ _,
    out_piece _ _ _ _ _ 4 3 _ _ _, out_piece _ _ _ _ _ 4 2 _ _ _, out_piece _ _ _ _ _ 4 1 _ _ _, out_piece _ _ _ _ _ 4 0 _ _ _,
    out_piece _ _ _ _ _ 3 3 _ _ _, out_piece _ _ _ _ _ 3 2 _ _ _, out_piece _ _ _ _ _ 3 1 _ _ _, out_piece _ _ _ _ _ 3 0 _ _ _,
    out_piece _ _ _ _ _ 2 3 _ _ _, out_piece _ _ _ _ _ 2 2 _ _ _, out_piece _ _ _ _ _ 2 1 _ _ _, out_piece _ _ _ _ _ 2 0 _ _ _,
    out_piece _ _ _ _ _ 1 3 _ _ _, out_piece _ _ _ _ _ 1 2 _ _ _, out_piece _ _ _ _ _ 1 1 _ _ _, out_piece _ _ _ _ _ 1 0 _ _ _,
    out_piece _ _ _ _ _ 0 3 _ _ _, out_piece _ _ _ _ _ 0 2 _ _ _, out_piece _ _ _ _ _ 0 1 _ _ _, out_piece _ _ _ _ _ 0 0 _ _ _, trivial⟩

/-- What a program leaves in its block of states. -/
theorem state_point (t : Fin cfg0.N) :
    (outsAt0 m c t).2 = nextV (iblk m c 0 t) (iblk m c 1 t) (iblk m c 3 t) (iblk m c 4 t) (iblk m c 6 t) := by
  unfold outsAt0
  dsimp only
  funext y
  unfold out0_A_8
  rw [View.read_writes_apply_eq_canon _ _ _ _ (by apply cover0_A_8)]
  unfold kernelRun0_A
  dsimp only
  sl_unfold_words
  simp (disch := decide) only [↓View.readCov_skip, ↓View.readCov_fill]
  simp only [View.readAt_eq_ld, (hs0_0 t).read_unread, (hs0_1 t).read_unread, (hs0_2 t).read_unread, (hs0_3 t).read_unread,
    (hs0_4 t).read_unread, (hs0_5 t).read_unread, (hs0_6 t).read_unread, ld_whole]
  refine View.canon_append_of_piecesOf _ [_] [_, _, _, _, _, _, _, _, _, _, _, _, _, _, _, _, _, _, _, _, _, _, _, _, _, _, _, _, _, _, _, _] ⟨state_piece _ _ _ _ _ 7 3 _ _ _, state_piece _ _ _ _ _ 7 2 _ _ _, state_piece _ _ _ _ _ 7 1 _ _ _, state_piece _ _ _ _ _ 7 0 _ _ _,
    state_piece _ _ _ _ _ 6 3 _ _ _, state_piece _ _ _ _ _ 6 2 _ _ _, state_piece _ _ _ _ _ 6 1 _ _ _, state_piece _ _ _ _ _ 6 0 _ _ _,
    state_piece _ _ _ _ _ 5 3 _ _ _, state_piece _ _ _ _ _ 5 2 _ _ _, state_piece _ _ _ _ _ 5 1 _ _ _, state_piece _ _ _ _ _ 5 0 _ _ _,
    state_piece _ _ _ _ _ 4 3 _ _ _, state_piece _ _ _ _ _ 4 2 _ _ _, state_piece _ _ _ _ _ 4 1 _ _ _, state_piece _ _ _ _ _ 4 0 _ _ _,
    state_piece _ _ _ _ _ 3 3 _ _ _, state_piece _ _ _ _ _ 3 2 _ _ _, state_piece _ _ _ _ _ 3 1 _ _ _, state_piece _ _ _ _ _ 3 0 _ _ _,
    state_piece _ _ _ _ _ 2 3 _ _ _, state_piece _ _ _ _ _ 2 2 _ _ _, state_piece _ _ _ _ _ 2 1 _ _ _, state_piece _ _ _ _ _ 2 0 _ _ _,
    state_piece _ _ _ _ _ 1 3 _ _ _, state_piece _ _ _ _ _ 1 2 _ _ _, state_piece _ _ _ _ _ 1 1 _ _ _, state_piece _ _ _ _ _ 1 0 _ _ _,
    state_piece _ _ _ _ _ 0 3 _ _ _, state_piece _ _ _ _ _ 0 2 _ _ _, state_piece _ _ _ _ _ 0 1 _ _ _, state_piece _ _ _ _ _ 0 0 _ _ _, trivial⟩ y
    (View.cover_of_tiledBy _ ![1, 1, 128, 128] (by sl_kernel_rfl) y)

/-! ## The arrays -/

/-- The block of each window that a program reads or writes: the `t`-th eight sequences. -/
theorem index_rows : ∀ t : Fin cfg0.N,
    (win0_0.index t 0 = t.val ∧ win0_0.index t 1 = 0 ∧ win0_0.index t 2 = 0) ∧
    (win0_1.index t 0 = t.val ∧ win0_1.index t 1 = 0 ∧ win0_1.index t 2 = 0) ∧
    (win0_2.index t 0 = t.val ∧ win0_2.index t 1 = 0 ∧ win0_2.index t 2 = 0) ∧
    (win0_3.index t 0 = t.val ∧ win0_3.index t 1 = 0 ∧ win0_3.index t 2 = 0) ∧
    (win0_4.index t 0 = t.val ∧ win0_4.index t 1 = 0 ∧ win0_4.index t 2 = 0) ∧
    (win0_5.index t 0 = t.val ∧ win0_5.index t 1 = 0 ∧ win0_5.index t 2 = 0) ∧
    (win0_7.index t 0 = t.val ∧ win0_7.index t 1 = 0 ∧ win0_7.index t 2 = 0) := by
  decide +kernel

theorem index_states : ∀ t : Fin cfg0.N,
    (win0_6.index t 0 = t.val ∧ win0_6.index t 1 = 0 ∧ win0_6.index t 2 = 0 ∧ win0_6.index t 3 = 0) ∧
    (win0_8.index t 0 = t.val ∧ win0_8.index t 1 = 0 ∧ win0_8.index t 2 = 0 ∧ win0_8.index t 3 = 0) := by
  decide +kernel

theorem lt_N (t : Fin cfg0.N) : t.val < 16 := t.isLt

/-- Sequence `g` of a program's eight. -/
def seqOf (t : ℕ) (g : Fin 8) : Fin 128 := ⟨(8 * t + g.val) % 128, Nat.mod_lt _ (by omega)⟩

theorem rows_index {L : ℕ} (t : ℕ) (ht : t < 16) {p q s : ℕ} (hp : p = t) (hq : q = 0) (hs : s = 0) (j : (⟨3, ![8, 16, L]⟩ : Shape).Idx)
    (e : (⟨3, ![128, 16, L]⟩ : Shape).Idx) (h0 : (e 0).val = p * 8 + 1 * (j 0).val) (h1 : (e 1).val = q * 16 + 1 * (j 1).val)
    (h2 : (e 2).val = s * L + 1 * (j 2).val) : e = ix3 (seqOf t (j 0)) (j 1) (j 2) := by
  subst hp hq hs
  have hj : (j 0).val < 8 := (j 0).isLt
  funext b
  refine Fin.ext ?_
  fin_cases b
  · show (e 0).val = (8 * p + (j 0).val) % 128; omega
  · show (e 1).val = (j 1).val; omega
  · show (e 2).val = (j 2).val; omega

theorem states_index (t : ℕ) (ht : t < 16) {p q s v : ℕ} (hp : p = t) (hq : q = 0) (hs : s = 0) (hv : v = 0) (j : S8x4x128x128.Idx)
    (e : S128x4x128x128.Idx) (h0 : (e 0).val = p * 8 + 1 * (j 0).val) (h1 : (e 1).val = q * 4 + 1 * (j 1).val)
    (h2 : (e 2).val = s * 128 + 1 * (j 2).val) (h3 : (e 3).val = v * 128 + 1 * (j 3).val) : e = ix4 (seqOf t (j 0)) (j 1) (j 2) (j 3) := by
  subst hp hq hs hv
  have hj : (j 0).val < 8 := (j 0).isLt
  funext b
  refine Fin.ext ?_
  fin_cases b
  · show (e 0).val = (8 * p + (j 0).val) % 128; omega
  · show (e 1).val = (j 1).val; omega
  · show (e 2).val = (j 2).val; omega
  · show (e 3).val = (j 3).val; omega

/-- A program's eight sequences of an array of rows. -/
def part {L : ℕ} (X : Vec Ideal ⟨3, ![128, 16, L]⟩ .f32) (t : ℕ) : Vec Ideal ⟨3, ![8, 16, L]⟩ .f32 := fun i => X (ix3 (seqOf t (i 0)) (i 1) (i 2))

theorem block_u (t : Fin cfg0.N) : (iblk m c 0 t : Vec Ideal S8x16x512 .f32) = part (m ((c : Thread nD τ).loc main_arg0)) t.val := by
  obtain ⟨⟨h0, h1, h2⟩, -⟩ := index_rows t
  funext j
  unfold iblk
  rw [View.read_apply]
  exact congrArg (m ((c : Thread nD τ).loc main_arg0)) (rows_index t.val (lt_N t) h0 h1 h2 j _ rfl rfl rfl)

theorem block_w (t : Fin cfg0.N) : (iblk m c 1 t : Vec Ideal S8x16x512 .f32) = part (m ((c : Thread nD τ).loc main_arg1)) t.val := by
  obtain ⟨-, ⟨h0, h1, h2⟩, -⟩ := index_rows t
  funext j
  unfold iblk
  rw [View.read_apply]
  exact congrArg (m ((c : Thread nD τ).loc main_arg1)) (rows_index t.val (lt_N t) h0 h1 h2 j _ rfl rfl rfl)

theorem block_qg (t : Fin cfg0.N) : (iblk m c 2 t : Vec Ideal S8x16x512 .f32) = part (m ((c : Thread nD τ).loc main_arg2)) t.val := by
  obtain ⟨-, -, ⟨h0, h1, h2⟩, -⟩ := index_rows t
  funext j
  unfold iblk
  rw [View.read_apply]
  exact congrArg (m ((c : Thread nD τ).loc main_arg2)) (rows_index t.val (lt_N t) h0 h1 h2 j _ rfl rfl rfl)

theorem block_kd (t : Fin cfg0.N) : (iblk m c 3 t : Vec Ideal S8x16x512 .f32) = part (m ((c : Thread nD τ).loc main_arg3)) t.val := by
  obtain ⟨-, -, -, ⟨h0, h1, h2⟩, -⟩ := index_rows t
  funext j
  unfold iblk
  rw [View.read_apply]
  exact congrArg (m ((c : Thread nD τ).loc main_arg3)) (rows_index t.val (lt_N t) h0 h1 h2 j _ rfl rfl rfl)

theorem block_el (t : Fin cfg0.N) : (iblk m c 4 t : Vec Ideal S8x16x512 .f32) = part (m ((c : Thread nD τ).loc main_arg4)) t.val := by
  obtain ⟨-, -, -, -, ⟨h0, h1, h2⟩, -⟩ := index_rows t
  funext j
  unfold iblk
  rw [View.read_apply]
  exact congrArg (m ((c : Thread nD τ).loc main_arg4)) (rows_index t.val (lt_N t) h0 h1 h2 j _ rfl rfl rfl)

theorem block_a (t : Fin cfg0.N) : (iblk m c 5 t : Vec Ideal S8x16x64 .f32) = part (m ((c : Thread nD τ).loc main_arg5)) t.val := by
  obtain ⟨-, -, -, -, -, ⟨h0, h1, h2⟩, -⟩ := index_rows t
  funext j
  unfold iblk
  rw [View.read_apply]
  exact congrArg (m ((c : Thread nD τ).loc main_arg5)) (rows_index t.val (lt_N t) h0 h1 h2 j _ rfl rfl rfl)

theorem block_s0 (t : Fin cfg0.N) : (iblk m c 6 t : Vec Ideal S8x4x128x128 .f32)
    = fun i => m ((c : Thread nD τ).loc main_arg6) (ix4 (seqOf t.val (i 0)) (i 1) (i 2) (i 3)) := by
  obtain ⟨⟨h0, h1, h2, h3⟩, -⟩ := index_states t
  funext j
  unfold iblk
  rw [View.read_apply]
  exact congrArg (m ((c : Thread nD τ).loc main_arg6)) (states_index t.val (lt_N t) h0 h1 h2 h3 j _ rfl rfl rfl rfl)

/-- The outputs and the states, of the arguments in memory. -/
abbrev memOut : Vec Ideal S128x16x512 .f32 :=
  outV (m ((c : Thread nD τ).loc main_arg0)) (m ((c : Thread nD τ).loc main_arg1)) (m ((c : Thread nD τ).loc main_arg2))
    (m ((c : Thread nD τ).loc main_arg5)) (m ((c : Thread nD τ).loc main_arg6))
abbrev memState : Vec Ideal S128x4x128x128 .f32 :=
  nextV (m ((c : Thread nD τ).loc main_arg0)) (m ((c : Thread nD τ).loc main_arg1)) (m ((c : Thread nD τ).loc main_arg3))
    (m ((c : Thread nD τ).loc main_arg4)) (m ((c : Thread nD τ).loc main_arg6))

/-- A program's outputs are all outputs' part. -/
theorem out_at (t : Fin cfg0.N) (j : S8x16x512.Idx) : (outsAt0 m c t).1 j = memOut m c (ix3 (seqOf t.val (j 0)) (j 1) (j 2)) := by
  rw [out_point, block_u, block_w, block_qg, block_a, block_s0]
  rfl

theorem state_at (t : Fin cfg0.N) (j : S8x4x128x128.Idx) : (outsAt0 m c t).2 j = memState m c (ix4 (seqOf t.val (j 0)) (j 1) (j 2) (j 3)) := by
  rw [state_point, block_u, block_w, block_kd, block_el, block_s0]
  rfl

/-- The run leaves all outputs in the first result. -/
theorem array_out : (Gen.dats m 0 c).arrAt 7 cfg0.N = memOut m c := by
  refine (Gen.dats m 0 c).arrAt_eq_of_cover 7 (memOut m c) (fun t _ => ?_) (fun i => ?_)
  · obtain ⟨-, -, -, -, -, -, ⟨h0, h1, h2⟩⟩ := index_rows t
    rw [Value.flushed7]
    funext j
    rw [View.read_apply]
    exact (out_at m c t j).trans (congrArg (memOut m c) (rows_index t.val (lt_N t) h0 h1 h2 j _ rfl rfl rfl)).symm
  · have hi : (i 0).val < 128 := (i 0).isLt
    let t : Fin cfg0.N := ⟨(i 0).val / 8, by show _ < 16; omega⟩
    obtain ⟨-, -, -, -, -, -, ⟨h0, h1, h2⟩⟩ := index_rows t
    refine ⟨t, (by decide +kernel : ∀ t : Fin cfg0.N, (cfg0.win 7).flush t = true) t, ?_⟩
    let j : S8x16x512.Idx := ix3 ⟨(i 0).val % 8, Nat.mod_lt _ (by omega)⟩ (i 1) (i 2)
    refine Finset.mem_map.mpr ⟨j, Finset.mem_univ _, ?_⟩
    refine (rows_index t.val (lt_N t) h0 h1 h2 j _ rfl rfl rfl).trans ?_
    funext b
    refine Fin.ext ?_
    fin_cases b
    · show (8 * ((i 0).val / 8) + (i 0).val % 8) % 128 = (i 0).val; omega
    · rfl
    · rfl

/-- The run leaves the states in the second result. -/
theorem array_state : (Gen.dats m 0 c).arrAt 8 cfg0.N = memState m c := by
  refine (Gen.dats m 0 c).arrAt_eq_of_cover 8 (memState m c) (fun t _ => ?_) (fun i => ?_)
  · obtain ⟨-, ⟨h0, h1, h2, h3⟩⟩ := index_states t
    rw [Value.flushed8]
    funext j
    rw [View.read_apply]
    exact (state_at m c t j).trans (congrArg (memState m c) (states_index t.val (lt_N t) h0 h1 h2 h3 j _ rfl rfl rfl rfl)).symm
  · have hi : (i 0).val < 128 := (i 0).isLt
    let t : Fin cfg0.N := ⟨(i 0).val / 8, by show _ < 16; omega⟩
    obtain ⟨-, ⟨h0, h1, h2, h3⟩⟩ := index_states t
    refine ⟨t, (by decide +kernel : ∀ t : Fin cfg0.N, (cfg0.win 8).flush t = true) t, ?_⟩
    let j : S8x4x128x128.Idx := ix4 ⟨(i 0).val % 8, Nat.mod_lt _ (by omega)⟩ (i 1) (i 2) (i 3)
    refine Finset.mem_map.mpr ⟨j, Finset.mem_univ _, ?_⟩
    refine (states_index t.val (lt_N t) h0 h1 h2 h3 j _ rfl rfl rfl rfl).trans ?_
    funext b
    refine Fin.ext ?_
    fin_cases b
    · show (8 * ((i 0).val / 8) + (i 0).val % 8) % 128 = (i 0).val; omega
    · rfl
    · rfl
    · rfl

/-! ## The reference -/

section Reference

open Cert.ScanSRefIdeal hiding S128x16x512 S128x16x64 S128x4x128x128
open Cert.ScanSRefIdeal.Gen

variable (u w qg kd el : FVec Ideal S128x16x512 .f32) (a : FVec Ideal S128x16x64 .f32) (s0 : FVec Ideal S128x4x128x128 .f32)

/-- The reference's arrays by heads. -/
abbrev byHeads (X : FVec Ideal S128x16x512 .f32) : FVec Ideal S128x4x16x128 .f32 :=
  transpose S128x4x16x128 [0, 2, 1, 3] (shapeCast _ X shapeCasts_S128x16x512_S128x16x4x128) transposes_S128x16x4x128_S128x4x16x128_0_2_1_3

/-- The reference's corrected values. -/
abbrev refFresh : FVec Ideal S128x4x16x128 .f32 :=
  subf (byHeads u) (Host.dotGeneral dot_S128x4x16x128_S128x4x128x128_S128x4x16x128_3_2_2_3_01_01 none (byHeads w) s0)

theorem fresh_at (g : Fin 128) (h : Fin 4) (r : Fin 16) (v : Fin 128) : refFresh u w s0 (ix4 g h r v) = fresh u w s0 g h r v := by
  pointwise [fresh, lane]
  simp only [Nat.mul_comm 128]

/-- The reference's outputs. -/
theorem reference_out :
    (shapeCast S128x16x512 (transpose S128x16x4x128 [0, 2, 1, 3] (addf
        (Host.dotGeneral dot_S128x4x16x128_S128x4x128x128_S128x4x16x128_3_2_2_3_01_01 none (byHeads qg) s0)
        (Host.dotGeneral dot_S128x4x16x16_S128x4x16x128_S128x4x16x128_3_2_2_3_01_01 none
          (transpose S128x4x16x16 [0, 2, 1, 3] (shapeCast _ a shapeCasts_S128x16x64_S128x16x4x16) transposes_S128x16x4x16_S128x4x16x16_0_2_1_3)
          (refFresh u w s0))) transposes_S128x4x16x128_S128x16x4x128_0_2_1_3) shapeCasts_S128x16x4x128_S128x16x512 : FVec Ideal S128x16x512 .f32)
      = outV u w qg a s0 := by
  have hf := fresh_at u w s0
  generalize refFresh u w s0 = f at hf ⊢
  funext i
  idx_vars i
  pointwise [hf, outV, out, headOf, chanOf, lane, lane']
  simp only [Nat.mul_comm 128, Nat.mul_comm 16]

/-- The reference's states. -/
theorem reference_state :
    (addf (mulf s0 (broadcastInDim S128x4x128x128 ![0, 1, 2, 3] bcast_S128x4x1x128_S128x4x128x128_0_1_2_3
        (extractStridedSlice S128x4x1x128 ![0, 0, 0, 0] (byHeads el) slices_S128x4x16x128_S128x4x1x128_0_0_0_0)))
      (Host.dotGeneral dot_S128x4x16x128_S128x4x16x128_S128x4x128x128_2_2_3_3_01_01 none (byHeads kd) (refFresh u w s0)) : FVec Ideal S128x4x128x128 .f32)
      = nextV u w kd el s0 := by
  have hf := fresh_at u w s0
  generalize refFresh u w s0 = f at hf ⊢
  funext i
  idx_vars i
  pointwise [hf, nextV, next, lane]
  simp only [Nat.mul_comm 128]

end Reference

/-- The kernel and the reference leave the same outputs and states, of the same arguments. -/
theorem algebraic : Cert.algebraic_ScanSIdeal_ScanSRefIdeal (hScanSIdeal := Cert.ScanSIdeal.Gen.facts)
    (hScanSRefIdeal := Cert.ScanSRefIdeal.Gen.facts) := by
  intro m g m' g' _ hargs
  refine ⟨fun c => memOut m c, fun c => memState m c, ?_, ?_⟩
  · exact (θ_run Cert.ScanSIdeal.defs _ _).mono (fun r h c => ⟨(h c).1.trans (array_out m c), (h c).2.1.trans (array_state m c), (h c).2.2⟩)
      (Cert.ScanSIdeal.Value.run_blocks m g)
  · refine (θ_run Cert.ScanSRefIdeal.defs _ _).mono (fun r h c => ⟨(h c).1.trans ?_, (h c).2.1.trans ?_, (h c).2.2⟩) (Cert.ScanSRefIdeal.Value.run m' g')
    · obtain ⟨e0, e1, e2, e3, e4, e5, e6⟩ := hargs c
      rw [e0, e1, e2, e5, e6]
      exact reference_out _ _ _ _ _
    · obtain ⟨e0, e1, e2, e3, e4, e5, e6⟩ := hargs c
      rw [e0, e1, e3, e4, e6]
      exact reference_state _ _ _ _ _

/-- The reference's run leaves its arguments unchanged, and it has no semaphores. -/
theorem reference_frame : Cert.quiescent_ScanSRefIdeal (hScanSRefIdeal := Cert.ScanSRefIdeal.Gen.facts) := fun m ρ _ =>
  (θ_run Cert.ScanSRefIdeal.defs _ _).mono (fun r h => ⟨fun c => (h c).2.2, Idealize.ShloMosaic.sem_eq_zero_of_no_sems (by decide) r.2⟩)
    (Cert.ScanSRefIdeal.Value.run (F := Ideal) m ρ)

end Cert.ScanSValue

end
-- ==== Proof.DnInSMath.lean ====
/- The input side of the delta layer at the sample batch: the mathematics of its results, the token before the sequence as in the results. -/
module

public import proofs.«01_k».proof.Proof.DnInMath

@[expose] public section

set_option maxRecDepth 16384

noncomputable section

namespace Cert.DnInSMath

open Idealize.ShloMosaic
open Cert.DnInSIdeal Cert.Norm Cert.DnInMath

/-! ## One column over a sequence's four tokens -/

/-- Row `i` of a column: the `a` rows of the state come first, the four tokens' rows after them. -/
def past {a : ℕ} (s : Fin a → EReal) (f : Fin 4 → EReal) (i : Fin (a + 4)) : EReal :=
  if h : i.val < a then s ⟨i.val, h⟩ else f ⟨i.val - a, by omega⟩

/-- The causal convolution with four taps at token `t`, the last of them the token's own. -/
def taps4 (x : Fin 7 → EReal) (w : Fin 4 → EReal) (t : Fin 4) : EReal :=
  x ⟨t.val, by omega⟩ * w 0 + x ⟨1 + t.val, by omega⟩ * w 1 + x ⟨2 + t.val, by omega⟩ * w 2 + x ⟨3 + t.val, by omega⟩ * w 3

/-- The causal convolution with three taps. -/
def taps3 (x : Fin 6 → EReal) (w : Fin 3 → EReal) (t : Fin 4) : EReal :=
  x ⟨t.val, by omega⟩ * w 0 + x ⟨1 + t.val, by omega⟩ * w 1 + x ⟨2 + t.val, by omega⟩ * w 2

/-- The projection of the modulated token `t` of sequence `n`. -/
def proj (x : Vec Ideal S128x4x1024 .f32) (md : Vec Ideal S128x3072 .f32) (g : Vec Ideal S1024 .f32) (w : Vec Ideal S1024x4104 .f32)
    (n : Fin 128) (t : Fin 4) (l : Fin 4104) : EReal :=
  ∑ k : Fin 1024, modRow (fun k => x (ix3 n t k)) (fun k => g (ix1 k)) (fun k => md (ix2 n k)) k * w (ix2 k l)

section Results

variable (p : Fin 128 → Fin 4 → Fin 4104 → EReal) (sq : Vec Ideal S128x3x1536 .f32) (ss : Vec Ideal S128x2x512 .f32)
  (cw : Vec Ideal S4x1536 .f32) (al dt : Vec Ideal S4 .f32) (sw : Vec Ideal S3x512 .f32)

/-- A channel's rows, the state's first. -/
def rawRows (n : Fin 128) (l : Fin 1536) (i : Fin 7) : EReal := past (fun s => sq (ix3 n s l)) (fun t => p n t (colRaw l)) i

/-- The convolved channels, gated by themselves. -/
def act (n : Fin 128) (t : Fin 4) (l : Fin 1536) : EReal := silu (taps4 (rawRows p sq n l) (fun s => cw (ix2 s l)) t)

def queriesOf : Vec Ideal S4x128x512 .f32 :=
  fun i => unit4 (fun l => act p sq cw (i 1) (i 0) (partQ l)) (i 2) * Ideal.ofBits FTy.f32 0x3DB504F3#32
def keysOf : Vec Ideal S4x128x512 .f32 := fun i => unit4 (fun l => act p sq cw (i 1) (i 0) (partK l)) (i 2)
def valuesOf : Vec Ideal S4x128x512 .f32 := fun i => act p sq cw (i 1) (i 0) (partV (i 2))

def ratesOf : Vec Ideal S4x128x128 .f32 :=
  fun i => rate (fun l => p (i 1) (i 0) (colRate l)) (fun l => al (ix1 l)) (fun l => dt (ix1 l)) (i 2)

/-- The gate of the delta rule's output. -/
def gateOf : Vec Ideal S4x128x512 .f32 := fun i => silu (p (i 1) (i 0) (colGate (i 2)))

/-- What the short convolution is taken of, and its rows, the state's first. -/
def shortIn (n : Fin 128) (t : Fin 4) (l : Fin 512) : EReal := p n t (colShort (partC l)) * p n t (colShort (partX l))
def shortRows (n : Fin 128) (l : Fin 512) (i : Fin 6) : EReal := past (fun s => ss (ix3 n s l)) (fun t => shortIn p n t l) i

/-- The gated short convolution. -/
def shortOf : Vec Ideal S4x128x512 .f32 := fun i =>
  p (i 1) (i 0) (colShort (partB (i 2))) * taps3 (shortRows p ss (i 1) (i 2)) (fun s => sw (ix2 s (i 2))) (i 0)
    * silu (p (i 1) (i 0) (colShort (partZ (i 2))))

/-- The states after the four tokens: the last rows of each column. -/
def rawTail : Vec Ideal S3x128x1536 .f32 := fun i => rawRows p sq (i 1) (i 2) ⟨4 + (i 0).val, Nat.add_lt_add_left (i 0).isLt 4⟩
def innerTail : Vec Ideal S2x128x512 .f32 := fun i => shortRows p ss (i 1) (i 2) ⟨4 + (i 0).val, Nat.add_lt_add_left (i 0).isLt 4⟩

end Results

end Cert.DnInSMath

end
-- ==== Proof.DnInSBlock.lean ====
/- The delta layer's input kernel at the sample batch: the entries of one token's parts, of the blocks' projection. -/
module

public import proofs.«01_k».proof.Proof.Gen.DnInSIdeal.Value
public import proofs.«01_k».proof.Proof.RowBlocks
public import proofs.«01_k».proof.Proof.DnInSMath
public import proofs.«01_k».proof.Proof.DnInBlock
public import Idealize.ShloMosaic.Lib.Pipeline.ReadBack

@[expose] public section

set_option maxRecDepth 16384

noncomputable section

namespace Cert.DnInSBlock

open Idealize.ShloMosaic
open Cert.DnInSIdeal Cert.DnInSIdeal.Gen Cert.RowBlocks Cert.Norm Cert.DnInMath Cert.DnInSMath

/-! ## The parts of a block, one for each token -/

/-- The index that token `t`'s part puts its index `x` at. -/
theorem token_emb {T N L : ℕ} (t : Fin T) (h) (x : (⟨3, ![1, N, L]⟩ : Shape).Idx) :
    (Rect.unit (s := ⟨3, ![T, N, L]⟩) ![t.val, 0, 0] ![1, N, L] h).emb x = ix3 t (x 1) (x 2) := by
  have h0 : (x 0).val < 1 := (x 0).isLt
  funext b
  refine Fin.ext ?_
  fin_cases b
  · show t.val + 1 * (x 0).val = t.val; omega
  · show 0 + 1 * (x 1).val = (x 1).val; omega
  · show 0 + 1 * (x 2).val = (x 2).val; omega

theorem ld_token {T N L : ℕ} {e : EltTy} (X : Vec Ideal ⟨3, ![T, N, L]⟩ e) (t : Fin T) (h) (x : (⟨3, ![1, N, L]⟩ : Shape).Idx) :
    View.ld X (Rect.unit (s := ⟨3, ![T, N, L]⟩) ![t.val, 0, 0] ![1, N, L] h) x = X (ix3 t (x 1) (x 2)) :=
  congrArg X (token_emb t h x)

/-! ## One token's operations -/

section Token

variable (xr : Vec Ideal S1x128x1024 .f32) (g : Vec Ideal S1x1024 .f32) (md : Vec Ideal S128x3072 .f32)

/-- A token's modulated rows. -/
def modded (n : Fin 128) (k : Fin 1024) : EReal := modRow (fun k => xr (ix3 0 n k)) (fun k => g (ix2 0 k)) (fun k => md (ix2 n k)) k

theorem hid_at (n : Fin 128) (k : Fin 1024) : k0_pay23 (F := Ideal) xr g md (ix2 n k) = modded xr g md n k := by
  pointwise [k0_pay23, modded, modRow]

theorem raw_of (w : Vec Ideal S1024x1536 .bf16) (n : Fin 128) (l : Fin 1536) :
    k0_pay24 (F := Ideal) xr g md w (ix2 n l) = ∑ k : Fin 1024, modded xr g md n k * w (ix2 k l) := by
  pointwise [k0_pay24, hid_at]

theorem four_of (w : Vec Ideal S1024x2048 .bf16) (n : Fin 128) (l : Fin 2048) :
    k0_pay25 (F := Ideal) xr g md w (ix2 n l) = ∑ k : Fin 1024, modded xr g md n k * w (ix2 k l) := by
  pointwise [k0_pay25, hid_at]

theorem inner_of (w : Vec Ideal S1024x2048 .bf16) (n : Fin 128) (l : Fin 512) :
    k0_pay26 (F := Ideal) xr g md w (ix2 n l) = k0_pay25 (F := Ideal) xr g md w (ix2 n (partC l)) * k0_pay25 (F := Ideal) xr g md w (ix2 n (partX l)) := by
  unfold k0_pay26
  generalize k0_pay25 (F := Ideal) xr g md w = f
  pointwise [partC, partX]

theorem rates_of (w : Vec Ideal S1024x128 .bf16) (n : Fin 128) (l : Fin 128) :
    k0_pay98 (F := Ideal) (k0_pay23 xr g md) w (ix2 n l) = ∑ k : Fin 1024, modded xr g md n k * w (ix2 k l) := by
  pointwise [k0_pay98, hid_at]

theorem gate_of (w : Vec Ideal S1024x512 .bf16) (x : S1x128x512.Idx) :
    k0_pay114 (F := Ideal) (k0_pay23 xr g md) w x = silu (∑ k : Fin 1024, modded xr g md (x 1) k * w (ix2 k (x 2))) := by
  idx_vars x
  pointwise [k0_pay114, hid_at, silu]

end Token

/-- The convolved channels at token `t`, of seven rows. -/
theorem act_at (cw : Vec Ideal S4x1536 .f32) (r : Fin 7 → FVec Ideal S128x1536 .f32) (X : Fin 128 → Fin 1536 → Fin 7 → EReal)
    (h : ∀ i n l, r i (ix2 n l) = X n l i) (t : Fin 4) (n : Fin 128) (l : Fin 1536) :
    k0_pay101 (F := Ideal) (k0_pay96 cw (r ⟨t.val, by omega⟩) (r ⟨1 + t.val, by omega⟩) (r ⟨2 + t.val, by omega⟩)) (k0_pay97 cw (r ⟨3 + t.val, by omega⟩)) (ix2 n l)
      = silu (taps4 (X n l) (fun s => cw (ix2 s l)) t) := by
  pointwise [k0_pay101, k0_pay96, k0_pay97, h, silu, taps4]

/-- The gated short convolution at token `t`, of six rows. -/
theorem short_at (sw : Vec Ideal S3x512 .f32) (r : Fin 6 → FVec Ideal S128x512 .f32) (X : Fin 128 → Fin 512 → Fin 6 → EReal)
    (h : ∀ i n l, r i (ix2 n l) = X n l i) (f : FVec Ideal S128x2048 .f32) (t : Fin 4) (x : S1x128x512.Idx) :
    k0_pay115 (F := Ideal) sw (r ⟨t.val, by omega⟩) (r ⟨1 + t.val, by omega⟩) f (r ⟨2 + t.val, by omega⟩) x
      = f (ix2 (x 1) (partB (x 2))) * taps3 (X (x 1) (x 2)) (fun s => sw (ix2 s (x 2))) t * silu (f (ix2 (x 1) (partZ (x 2)))) := by
  obtain ⟨a, n, l, rfl⟩ : ∃ (a : Fin 1) (n : Fin 128) (l : Fin 512), x = ix3 a n l := ⟨x 0, x 1, x 2, eq_ix3 x⟩
  pointwise [k0_pay115, h, silu, taps3, partB, partZ]

section Heads

variable (A : Fin 128 → Fin 1536 → EReal) (s e : FVec Ideal S128x1536 .f32) (hA : ∀ n l, k0_pay101 (F := Ideal) s e (ix2 n l) = A n l) (x : S1x128x512.Idx)

include hA

theorem queries_at : k0_pay110 (F := Ideal) (k0_pay107 (k0_pay101 s e) (k0_pay102 s e) (k0_pay105 s e)) x
    = unit4 (fun l => A (x 1) (partQ l)) (x 2) * Ideal.ofBits FTy.f32 0x3DB504F3#32 := by
  unfold k0_pay102 k0_pay105
  generalize k0_pay101 (F := Ideal) s e = a at hA ⊢
  unfold k0_pay107
  dsimp only
  rw [concat4 _ _ _ _ (fun n l => unit4 (fun l => A n (partQ l)) l * Ideal.ofBits FTy.f32 0x3DB504F3#32)]
  · idx_vars x
    pointwise [k0_pay110]
  all_goals
    intro n k
    rw [unit4_lane]
    unfold rootSum
    pointwise [hA, lane4, partQ]

theorem keys_at : k0_pay111 (F := Ideal) (k0_pay108 (k0_pay101 s e) (k0_pay103 s e) (k0_pay104 s e) (k0_pay106 s e)) x
    = unit4 (fun l => A (x 1) (partK l)) (x 2) := by
  unfold k0_pay103 k0_pay106 k0_pay104
  generalize k0_pay101 (F := Ideal) s e = a at hA ⊢
  unfold k0_pay108
  dsimp only
  rw [concat4 _ _ _ _ (fun n l => unit4 (fun l => A n (partK l)) l)]
  · idx_vars x
    pointwise [k0_pay111]
  all_goals
    intro n k
    rw [unit4_lane]
    unfold rootSum
    pointwise [hA, lane4, partK]
  all_goals simp only [← Nat.add_assoc, Nat.reduceAdd, eps]

theorem values_at : k0_pay112 (F := Ideal) (k0_pay109 (k0_pay101 s e)) x = A (x 1) (partV (x 2)) := by
  generalize k0_pay101 (F := Ideal) s e = a at hA ⊢
  idx_vars x
  pointwise [k0_pay112, k0_pay109, hA, partV]

end Heads

/-- A token's rates: the first eight lanes hold the decays' logarithms and the write strengths. -/
theorem rates_at (f : FVec Ideal S128x128 .f32) (x7 x8 : Vec Ideal S1x128 .f32) (p : Fin 128 → Fin 8 → EReal) (al dt : Fin 4 → EReal)
    (hf : ∀ n (l : Fin 8), f (ix2 n ⟨l.val, by omega⟩) = p n l) (h7 : ∀ l : Fin 4, x7 (ix2 0 ⟨l.val, by omega⟩) = al l)
    (h8 : ∀ l : Fin 4, x8 (ix2 0 ⟨l.val, by omega⟩) = dt l) (x : S1x128x128.Idx) :
    k0_pay113 (F := Ideal) f (k0_pay99 x7) (k0_pay100 x8) x = rate (p (x 1)) al dt (x 2) := by
  obtain ⟨a, n, l, rfl⟩ : ∃ (a : Fin 1) (n : Fin 128) (l : Fin 128), x = ix3 a n l := ⟨x 0, x 1, x 2, eq_ix3 x⟩
  pointwise [k0_pay113, k0_pay99, k0_pay100]
  rw [DnInBlock.below_four, DnInBlock.below_eight]
  unfold rate softplus
  split_ifs with h4 h8'
  · rw [← h7 ⟨l.val, h4⟩, ← h8 ⟨l.val, h4⟩, ← hf n ⟨l.val, by omega⟩]
    simp only [zero_sub]
    rfl
  · rw [← hf n ⟨l.val, h8'⟩]
  · rfl

/-! ## The blocks -/

section Block

variable (x0 : Vec Ideal S4x128x1024 .f32) (x1 : Vec Ideal S128x3072 .f32) (x2 : Vec Ideal S1x1024 .f32) (x3 : Vec Ideal S1024x4224 .bf16)
  (x4 : Vec Ideal S3x128x1536 .f32) (x5 : Vec Ideal S2x128x512 .f32) (x6 : Vec Ideal S4x1536 .f32) (x7 x8 : Vec Ideal S1x128 .f32) (x9 : Vec Ideal S3x512 .f32)

/-- The projection of token `t` of sequence `n`, in the kernel's order of columns. -/
def blockProj (n : Fin 128) (t : Fin 4) (l : Fin 4224) : EReal :=
  ∑ k : Fin 1024, modRow (fun k => x0 (ix3 t n k)) (fun k => x2 (ix2 0 k)) (fun k => x1 (ix2 n k)) k * x3 (ix2 k l)

/-- Token `t`'s rows. -/
def tok : Fin 4 → Vec Ideal S1x128x1024 .f32 := ![View.ld x0 r0_7, View.ld x0 r0_12, View.ld x0 r0_13, View.ld x0 r0_14]

theorem tok_at (t : Fin 4) (n : Fin 128) (k : Fin 1024) : tok x0 t (ix3 0 n k) = x0 (ix3 t n k) := by
  fin_cases t
  exacts [ld_token x0 0 _ (ix3 0 n k), ld_token x0 1 _ (ix3 0 n k), ld_token x0 2 _ (ix3 0 n k), ld_token x0 3 _ (ix3 0 n k)]

theorem modded_tok (t : Fin 4) (n : Fin 128) (k : Fin 1024) : modded (tok x0 t) (View.ld x2 r0_8) (View.ld x1 r0_9) n k
    = modRow (fun k => x0 (ix3 t n k)) (fun k => x2 (ix2 0 k)) (fun k => x1 (ix2 n k)) k := by
  rw [show View.ld x2 r0_8 = x2 from ld_matrix x2 _, show View.ld x1 r0_9 = x1 from ld_matrix x1 _]
  unfold modded
  simp only [tok_at]

/-- Token `t`'s projection to the channels before the convolution … -/
def raw (t : Fin 4) : FVec Ideal S128x1536 .f32 := k0_pay24 (tok x0 t) (View.ld x2 r0_8) (View.ld x1 r0_9) (View.ld x3 r0_10)

/-- … and to the short convolution, and what it is taken of. -/
def four (t : Fin 4) : FVec Ideal S128x2048 .f32 := k0_pay25 (tok x0 t) (View.ld x2 r0_8) (View.ld x1 r0_9) (View.ld x3 r0_11)
def inner (t : Fin 4) : FVec Ideal S128x512 .f32 := k0_pay26 (tok x0 t) (View.ld x2 r0_8) (View.ld x1 r0_9) (View.ld x3 r0_11)

theorem raw_at (t : Fin 4) (n : Fin 128) (l : Fin 1536) : raw x0 x1 x2 x3 t (ix2 n l) = blockProj x0 x1 x2 x3 n t ⟨l.val, by omega⟩ := by
  refine (raw_of _ _ _ _ n l).trans ?_
  simp only [modded_tok]
  pointwise [blockProj]

theorem four_at (t : Fin 4) (n : Fin 128) (l : Fin 2048) : four x0 x1 x2 x3 t (ix2 n l) = blockProj x0 x1 x2 x3 n t ⟨2176 + l.val, by omega⟩ := by
  refine (four_of _ _ _ _ n l).trans ?_
  simp only [modded_tok]
  pointwise [blockProj]

theorem inner_at (t : Fin 4) (n : Fin 128) (l : Fin 512) :
    inner x0 x1 x2 x3 t (ix2 n l) = four x0 x1 x2 x3 t (ix2 n (partC l)) * four x0 x1 x2 x3 t (ix2 n (partX l)) := inner_of _ _ _ _ n l

theorem ratesIn_at (t : Fin 4) (n : Fin 128) (l : Fin 128) :
    k0_pay98 (F := Ideal) (k0_pay23 (tok x0 t) (View.ld x2 r0_8) (View.ld x1 r0_9)) (View.ld x3 r0_15) (ix2 n l) = blockProj x0 x1 x2 x3 n t ⟨2048 + l.val, by omega⟩ := by
  refine (rates_of _ _ _ _ n l).trans ?_
  simp only [modded_tok]
  pointwise [blockProj]

theorem gate_at (t : Fin 4) (x : S1x128x512.Idx) :
    k0_pay114 (F := Ideal) (k0_pay23 (tok x0 t) (View.ld x2 r0_8) (View.ld x1 r0_9)) (View.ld x3 r0_19) x
      = silu (blockProj x0 x1 x2 x3 (x 1) t ⟨1536 + (x 2).val, by have := (x 2).isLt; change (x 2).val < 512 at this; omega⟩) := by
  refine (gate_of _ _ _ _ x).trans (congrArg silu ?_)
  obtain ⟨a, n, l, rfl⟩ : ∃ (a : Fin 1) (n : Fin 128) (l : Fin 512), x = ix3 a n l := ⟨x 0, x 1, x 2, eq_ix3 x⟩
  pointwise [blockProj]
  simp only [modded_tok]

/-- The channels' rows, the state's first. -/
def rows7 : Fin 7 → FVec Ideal S128x1536 .f32 :=
  ![k0_pay3 (View.ld x4 r0_2), k0_pay4 (View.ld x4 r0_3), k0_pay5 (View.ld x4 r0_4), raw x0 x1 x2 x3 0, raw x0 x1 x2 x3 1, raw x0 x1 x2 x3 2, raw x0 x1 x2 x3 3]

/-- The rows of what the short convolution is taken of, the state's first. -/
def rows6 : Fin 6 → FVec Ideal S128x512 .f32 :=
  ![k0_pay6 (View.ld x5 r0_5), k0_pay7 (View.ld x5 r0_6), inner x0 x1 x2 x3 0, inner x0 x1 x2 x3 1, inner x0 x1 x2 x3 2, inner x0 x1 x2 x3 3]

theorem row_state (a : Vec Ideal S1x128x1536 .f32) (n : Fin 128) (l : Fin 1536) : k0_pay3 (F := Ideal) a (ix2 n l) = a (ix3 0 n l) := by
  pointwise [k0_pay3]

theorem row_short (a : Vec Ideal S1x128x512 .f32) (n : Fin 128) (l : Fin 512) : k0_pay6 (F := Ideal) a (ix2 n l) = a (ix3 0 n l) := by
  pointwise [k0_pay6]

theorem rows7_at (i : Fin 7) (n : Fin 128) (l : Fin 1536) :
    rows7 x0 x1 x2 x3 x4 i (ix2 n l) = past (fun s => x4 (ix3 s n l)) (fun t => raw x0 x1 x2 x3 t (ix2 n l)) i := by
  fin_cases i
  exacts [(row_state _ n l).trans (ld_token x4 0 _ (ix3 0 n l)), (row_state _ n l).trans (ld_token x4 1 _ (ix3 0 n l)),
    (row_state _ n l).trans (ld_token x4 2 _ (ix3 0 n l)), rfl, rfl, rfl, rfl]

theorem rows6_at (i : Fin 6) (n : Fin 128) (l : Fin 512) :
    rows6 x0 x1 x2 x3 x5 i (ix2 n l) = past (fun s => x5 (ix3 s n l)) (fun t => inner x0 x1 x2 x3 t (ix2 n l)) i := by
  fin_cases i
  exacts [(row_short _ n l).trans (ld_token x5 0 _ (ix3 0 n l)), (row_short _ n l).trans (ld_token x5 1 _ (ix3 0 n l)), rfl, rfl, rfl, rfl]

end Block

end Cert.DnInSBlock

end
-- ==== Proof.DnInSPoint.lean ====
/- The delta layer's input kernel at the sample batch: what its body leaves in its result blocks, of the projection. -/
module

public import proofs.«01_k».proof.Proof.DnInSBlock

@[expose] public section

set_option maxRecDepth 16384

noncomputable section

namespace Cert.DnInSPoint

open Idealize.ShloMosaic
open Cert.DnInSIdeal Cert.DnInSIdeal.Gen Cert.RowBlocks Cert.Norm
open Cert.DnInMath hiding proj act queriesOf keysOf valuesOf ratesOf gateOf shortIn shortOf rawTail innerTail
open Cert.DnInSMath Cert.DnInSBlock

variable (x0 : Vec Ideal S4x128x1024 .f32) (x1 : Vec Ideal S128x3072 .f32) (x2 : Vec Ideal S1x1024 .f32) (x3 : Vec Ideal S1024x4224 .bf16)
  (x4 : Vec Ideal S3x128x1536 .f32) (x5 : Vec Ideal S2x128x512 .f32) (x6 : Vec Ideal S4x1536 .f32) (x7 x8 : Vec Ideal S1x128 .f32) (x9 : Vec Ideal S3x512 .f32)
  (p : Fin 128 → Fin 4 → Fin 4104 → EReal) (sq : Vec Ideal S128x3x1536 .f32) (ss : Vec Ideal S128x2x512 .f32) (al dt : Vec Ideal S4 .f32)

/-- The blocks' projection is `p`, up to the kernel's order of the columns. -/
def Projects : Prop := ∀ n t (l : Fin 4104) (l' : Fin 4224), l'.val = (if l.val < 2056 then l.val else l.val + 120) → blockProj x0 x1 x2 x3 n t l' = p n t l

section Rows

variable {x0 x1 x2 x3 x4 x5 p sq ss}

theorem raw_proj (hp : Projects x0 x1 x2 x3 p) (t : Fin 4) (n : Fin 128) (l : Fin 1536) : raw x0 x1 x2 x3 t (ix2 n l) = p n t (colRaw l) :=
  (raw_at _ _ _ _ t n l).trans (hp n t (colRaw l) _ (by have := l.isLt; show l.val = if l.val < 2056 then l.val else _; rw [if_pos (by omega)]))

theorem four_proj (hp : Projects x0 x1 x2 x3 p) (t : Fin 4) (n : Fin 128) (l : Fin 2048) : four x0 x1 x2 x3 t (ix2 n l) = p n t (colShort l) :=
  (four_at _ _ _ _ t n l).trans (hp n t (colShort l) _ (by show 2176 + l.val = if 2056 + l.val < 2056 then _ else 2056 + l.val + 120; rw [if_neg (by omega)]; omega))

theorem inner_proj (hp : Projects x0 x1 x2 x3 p) (t : Fin 4) (n : Fin 128) (l : Fin 512) : inner x0 x1 x2 x3 t (ix2 n l) = shortIn p n t l :=
  (inner_at _ _ _ _ t n l).trans (congrArg₂ HMul.hMul (four_proj hp t n (partC l)) (four_proj hp t n (partX l)))

theorem rows7_proj (hp : Projects x0 x1 x2 x3 p) (h4 : ∀ s n l, x4 (ix3 s n l) = sq (ix3 n s l)) (i : Fin 7) (n : Fin 128) (l : Fin 1536) :
    rows7 x0 x1 x2 x3 x4 i (ix2 n l) = rawRows p sq n l i := by
  rw [rows7_at]
  simp only [h4, raw_proj hp]
  rfl

theorem rows6_proj (hp : Projects x0 x1 x2 x3 p) (h5 : ∀ s n l, x5 (ix3 s n l) = ss (ix3 n s l)) (i : Fin 6) (n : Fin 128) (l : Fin 512) :
    rows6 x0 x1 x2 x3 x5 i (ix2 n l) = shortRows p ss n l i := by
  rw [rows6_at]
  simp only [h5, inner_proj hp]
  rfl

end Rows

/-! ## One token's part of each result -/

/-- Token `t`'s sum of the first three taps, and its last tap. -/
abbrev sum3 (t : Fin 4) : FVec Ideal S128x1536 .f32 :=
  k0_pay96 (View.ld x6 r0_0) (rows7 x0 x1 x2 x3 x4 ⟨t.val, by omega⟩) (rows7 x0 x1 x2 x3 x4 ⟨1 + t.val, by omega⟩) (rows7 x0 x1 x2 x3 x4 ⟨2 + t.val, by omega⟩)
abbrev last (t : Fin 4) : FVec Ideal S128x1536 .f32 := k0_pay97 (View.ld x6 r0_0) (rows7 x0 x1 x2 x3 x4 ⟨3 + t.val, by omega⟩)

section Pieces

variable {x0 x1 x2 x3 x4 x5 p sq ss} (hp : Projects x0 x1 x2 x3 p) (h4 : ∀ s n l, x4 (ix3 s n l) = sq (ix3 n s l)) (h5 : ∀ s n l, x5 (ix3 s n l) = ss (ix3 n s l))

include hp

section Channels

include h4

theorem act_token (t : Fin 4) (n : Fin 128) (l : Fin 1536) :
    k0_pay101 (F := Ideal) (sum3 x0 x1 x2 x3 x4 x6 t) (last x0 x1 x2 x3 x4 x6 t) (ix2 n l) = act p sq x6 n t l := by
  unfold sum3 last
  rw [show View.ld x6 r0_0 = x6 from ld_matrix x6 _]
  exact act_at x6 _ _ (rows7_proj hp h4) t n l

theorem q_piece (t : Fin 4) (h) (x : S1x128x512.Idx) :
    k0_pay110 (F := Ideal) (k0_pay107 (k0_pay101 (sum3 x0 x1 x2 x3 x4 x6 t) (last x0 x1 x2 x3 x4 x6 t)) (k0_pay102 (sum3 x0 x1 x2 x3 x4 x6 t) (last x0 x1 x2 x3 x4 x6 t))
      (k0_pay105 (sum3 x0 x1 x2 x3 x4 x6 t) (last x0 x1 x2 x3 x4 x6 t))) x
      = queriesOf p sq x6 ((Rect.unit (s := S4x128x512) ![t.val, 0, 0] ![1, 128, 512] h).emb x) :=
  (queries_at (fun n l => act p sq x6 n t l) _ _ (act_token x6 hp h4 t) x).trans (congrArg (queriesOf p sq x6) (token_emb t h x)).symm

theorem k_piece (t : Fin 4) (h) (x : S1x128x512.Idx) :
    k0_pay111 (F := Ideal) (k0_pay108 (k0_pay101 (sum3 x0 x1 x2 x3 x4 x6 t) (last x0 x1 x2 x3 x4 x6 t)) (k0_pay103 (sum3 x0 x1 x2 x3 x4 x6 t) (last x0 x1 x2 x3 x4 x6 t))
      (k0_pay104 (sum3 x0 x1 x2 x3 x4 x6 t) (last x0 x1 x2 x3 x4 x6 t)) (k0_pay106 (sum3 x0 x1 x2 x3 x4 x6 t) (last x0 x1 x2 x3 x4 x6 t))) x
      = keysOf p sq x6 ((Rect.unit (s := S4x128x512) ![t.val, 0, 0] ![1, 128, 512] h).emb x) :=
  (keys_at (fun n l => act p sq x6 n t l) _ _ (act_token x6 hp h4 t) x).trans (congrArg (keysOf p sq x6) (token_emb t h x)).symm

theorem v_piece (t : Fin 4) (h) (x : S1x128x512.Idx) :
    k0_pay112 (F := Ideal) (k0_pay109 (k0_pay101 (sum3 x0 x1 x2 x3 x4 x6 t) (last x0 x1 x2 x3 x4 x6 t))) x
      = valuesOf p sq x6 ((Rect.unit (s := S4x128x512) ![t.val, 0, 0] ![1, 128, 512] h).emb x) :=
  (values_at (fun n l => act p sq x6 n t l) _ _ (act_token x6 hp h4 t) x).trans (congrArg (valuesOf p sq x6) (token_emb t h x)).symm

/-- The state's row `s` after the four tokens is that of token `1 + s`. -/
theorem rawTail_piece (s : Fin 3) (h) (x : S1x128x1536.Idx) :
    k0_pay118 (F := Ideal) (rows7 x0 x1 x2 x3 x4 ⟨4 + s.val, by omega⟩) x = rawTail p sq ((Rect.unit (s := S3x128x1536) ![s.val, 0, 0] ![1, 128, 1536] h).emb x) := by
  have hr := rows7_proj hp h4 ⟨4 + s.val, by omega⟩
  rw [token_emb]
  generalize rows7 x0 x1 x2 x3 x4 ⟨4 + s.val, by omega⟩ = f at hr ⊢
  obtain ⟨a, n, l, rfl⟩ : ∃ (a : Fin 1) (n : Fin 128) (l : Fin 1536), x = ix3 a n l := ⟨x 0, x 1, x 2, eq_ix3 x⟩
  refine Eq.trans ?_ (hr n l)
  pointwise [k0_pay118]

theorem out_q : out0_10 x0 x1 x2 x3 x4 x5 x6 x7 x8 x9 = queriesOf p sq x6 := by
  funext y
  unfold out0_10
  refine View.canon_apply_of_pieces _ _ (View.PiecesOf.mem ?_) y (by apply cover0_10)
  exact ⟨q_piece x6 hp h4 3 inb_S4x128x512_S1x128x512_3_0_0, q_piece x6 hp h4 2 inb_S4x128x512_S1x128x512_2_0_0, q_piece x6 hp h4 1 inb_S4x128x512_S1x128x512_1_0_0, q_piece x6 hp h4 0 inb_S4x128x512_S1x128x512_0_0_0, trivial⟩

theorem out_k : out0_11 x0 x1 x2 x3 x4 x5 x6 x7 x8 x9 = keysOf p sq x6 := by
  funext y
  unfold out0_11
  refine View.canon_apply_of_pieces _ _ (View.PiecesOf.mem ?_) y (by apply cover0_11)
  exact ⟨k_piece x6 hp h4 3 inb_S4x128x512_S1x128x512_3_0_0, k_piece x6 hp h4 2 inb_S4x128x512_S1x128x512_2_0_0, k_piece x6 hp h4 1 inb_S4x128x512_S1x128x512_1_0_0, k_piece x6 hp h4 0 inb_S4x128x512_S1x128x512_0_0_0, trivial⟩

theorem out_v : out0_12 x0 x1 x2 x3 x4 x5 x6 x7 x8 x9 = valuesOf p sq x6 := by
  funext y
  unfold out0_12
  refine View.canon_apply_of_pieces _ _ (View.PiecesOf.mem ?_) y (by apply cover0_12)
  exact ⟨v_piece x6 hp h4 3 inb_S4x128x512_S1x128x512_3_0_0, v_piece x6 hp h4 2 inb_S4x128x512_S1x128x512_2_0_0, v_piece x6 hp h4 1 inb_S4x128x512_S1x128x512_1_0_0, v_piece x6 hp h4 0 inb_S4x128x512_S1x128x512_0_0_0, trivial⟩

theorem out_rawTail : out0_16 x0 x1 x2 x3 x4 x5 x6 x7 x8 x9 = rawTail p sq := by
  funext y
  unfold out0_16
  refine View.canon_apply_of_pieces _ _ (View.PiecesOf.mem ?_) y (by apply cover0_16)
  exact ⟨rawTail_piece hp h4 2 inb_S3x128x1536_S1x128x1536_2_0_0, rawTail_piece hp h4 1 inb_S3x128x1536_S1x128x1536_1_0_0, rawTail_piece hp h4 0 inb_S3x128x1536_S1x128x1536_0_0_0, trivial⟩

end Channels

theorem g_piece (h7 : ∀ l : Fin 4, x7 (ix2 0 ⟨l.val, by omega⟩) = al (ix1 l)) (h8 : ∀ l : Fin 4, x8 (ix2 0 ⟨l.val, by omega⟩) = dt (ix1 l))
    (t : Fin 4) (h) (x : S1x128x128.Idx) :
    k0_pay113 (F := Ideal) (k0_pay98 (k0_pay23 (tok x0 t) (View.ld x2 r0_8) (View.ld x1 r0_9)) (View.ld x3 r0_15)) (k0_pay99 (View.ld x7 r0_16)) (k0_pay100 (View.ld x8 r0_16)) x
      = ratesOf p al dt ((Rect.unit (s := S4x128x128) ![t.val, 0, 0] ![1, 128, 128] h).emb x) := by
  rw [show View.ld x7 r0_16 = x7 from ld_matrix x7 _, show View.ld x8 r0_16 = x8 from ld_matrix x8 _]
  refine (rates_at _ x7 x8 (fun n l => p n t (colRate l)) (fun l => al (ix1 l)) (fun l => dt (ix1 l)) (fun n l => ?_) h7 h8 x).trans
    (congrArg (ratesOf p al dt) (token_emb t h x)).symm
  exact (ratesIn_at _ _ _ _ t n _).trans (hp n t (colRate l) _ (by have := l.isLt; show 2048 + l.val = if 2048 + l.val < 2056 then 2048 + l.val else _; rw [if_pos (by omega)]))

theorem out_g (h7 : ∀ l : Fin 4, x7 (ix2 0 ⟨l.val, by omega⟩) = al (ix1 l)) (h8 : ∀ l : Fin 4, x8 (ix2 0 ⟨l.val, by omega⟩) = dt (ix1 l)) :
    out0_13 x0 x1 x2 x3 x4 x5 x6 x7 x8 x9 = ratesOf p al dt := by
  funext y
  unfold out0_13
  refine View.canon_apply_of_pieces _ _ (View.PiecesOf.mem ?_) y (by apply cover0_13)
  exact ⟨g_piece x7 x8 al dt hp h7 h8 3 inb_S4x128x128_S1x128x128_3_0_0, g_piece x7 x8 al dt hp h7 h8 2 inb_S4x128x128_S1x128x128_2_0_0, g_piece x7 x8 al dt hp h7 h8 1 inb_S4x128x128_S1x128x128_1_0_0, g_piece x7 x8 al dt hp h7 h8 0 inb_S4x128x128_S1x128x128_0_0_0, trivial⟩

theorem z_piece (t : Fin 4) (h) (x : S1x128x512.Idx) :
    k0_pay114 (F := Ideal) (k0_pay23 (tok x0 t) (View.ld x2 r0_8) (View.ld x1 r0_9)) (View.ld x3 r0_19) x
      = gateOf p ((Rect.unit (s := S4x128x512) ![t.val, 0, 0] ![1, 128, 512] h).emb x) := by
  have hx : (x 2).val < 512 := (x 2).isLt
  refine (gate_at _ _ _ _ t x).trans (Eq.trans (congrArg silu ?_) (congrArg (gateOf p) (token_emb t h x)).symm)
  exact hp (x 1) t (colGate (x 2)) _ (by show 1536 + (x 2).val = if 1536 + (x 2).val < 2056 then 1536 + (x 2).val else _; rw [if_pos (by omega)])

theorem out_z : out0_14 x0 x1 x2 x3 x4 x5 x6 x7 x8 x9 = gateOf p := by
  funext y
  unfold out0_14
  refine View.canon_apply_of_pieces _ _ (View.PiecesOf.mem ?_) y (by apply cover0_14)
  exact ⟨z_piece hp 3 inb_S4x128x512_S1x128x512_3_0_0, z_piece hp 2 inb_S4x128x512_S1x128x512_2_0_0, z_piece hp 1 inb_S4x128x512_S1x128x512_1_0_0, z_piece hp 0 inb_S4x128x512_S1x128x512_0_0_0, trivial⟩

section Short

include h5

theorem y_piece (t : Fin 4) (h) (x : S1x128x512.Idx) :
    k0_pay115 (F := Ideal) (View.ld x9 r0_1) (rows6 x0 x1 x2 x3 x5 ⟨t.val, by omega⟩) (rows6 x0 x1 x2 x3 x5 ⟨1 + t.val, by omega⟩) (four x0 x1 x2 x3 t)
        (rows6 x0 x1 x2 x3 x5 ⟨2 + t.val, by omega⟩) x
      = shortOf p ss x9 ((Rect.unit (s := S4x128x512) ![t.val, 0, 0] ![1, 128, 512] h).emb x) := by
  rw [show View.ld x9 r0_1 = x9 from ld_matrix x9 _]
  refine (short_at x9 _ _ (rows6_proj hp h5) _ t x).trans (Eq.trans ?_ (congrArg (shortOf p ss x9) (token_emb t h x)).symm)
  exact congrArg₂ HMul.hMul (congrArg₂ HMul.hMul (four_proj hp t (x 1) (partB (x 2))) rfl) (congrArg silu (four_proj hp t (x 1) (partZ (x 2))))

theorem innerTail_piece (s : Fin 2) (h) (x : S1x128x512.Idx) :
    k0_pay2 (F := Ideal) (rows6 x0 x1 x2 x3 x5 ⟨4 + s.val, by omega⟩) x = innerTail p ss ((Rect.unit (s := S2x128x512) ![s.val, 0, 0] ![1, 128, 512] h).emb x) := by
  have hr := rows6_proj hp h5 ⟨4 + s.val, by omega⟩
  rw [token_emb]
  generalize rows6 x0 x1 x2 x3 x5 ⟨4 + s.val, by omega⟩ = f at hr ⊢
  obtain ⟨a, n, l, rfl⟩ : ∃ (a : Fin 1) (n : Fin 128) (l : Fin 512), x = ix3 a n l := ⟨x 0, x 1, x 2, eq_ix3 x⟩
  refine Eq.trans ?_ (hr n l)
  pointwise [k0_pay2]

theorem out_y : out0_15 x0 x1 x2 x3 x4 x5 x6 x7 x8 x9 = shortOf p ss x9 := by
  funext y
  unfold out0_15
  refine View.canon_apply_of_pieces _ _ (View.PiecesOf.mem ?_) y (by apply cover0_15)
  exact ⟨y_piece x9 hp h5 3 inb_S4x128x512_S1x128x512_3_0_0, y_piece x9 hp h5 2 inb_S4x128x512_S1x128x512_2_0_0, y_piece x9 hp h5 1 inb_S4x128x512_S1x128x512_1_0_0, y_piece x9 hp h5 0 inb_S4x128x512_S1x128x512_0_0_0, trivial⟩

theorem out_innerTail : out0_17 x0 x1 x2 x3 x4 x5 x6 x7 x8 x9 = innerTail p ss := by
  funext y
  unfold out0_17
  refine View.canon_apply_of_pieces _ _ (View.PiecesOf.mem ?_) y (by apply cover0_17)
  exact ⟨innerTail_piece hp h5 1 inb_S2x128x512_S1x128x512_1_0_0, innerTail_piece hp h5 0 inb_S2x128x512_S1x128x512_0_0_0, trivial⟩

end Short

end Pieces

end Cert.DnInSPoint

end
-- ==== Proof.DnInSRef.lean ====
/- The input side of the delta layer at the sample batch: the reference's results. -/
module

public import proofs.«01_k».proof.Proof.DnInSMath
public import proofs.«01_k».proof.Proof.Gen.DnInSRefIdeal.Run
public import Idealize.ShloMosaic.Lib.KernelVsHost

@[expose] public section

set_option maxRecDepth 16384

noncomputable section

namespace Cert.DnInSRef

open Idealize.ShloMosaic Idealize.ShloMosaic.TcCoe Idealize.ShloMosaic.StableHlo
open Cert.DnInSRefIdeal Cert.DnInSRefIdeal.Gen Cert.DnInSRefIdeal.Value Cert.Norm
open Cert.DnInMath hiding proj act queriesOf keysOf valuesOf ratesOf gateOf shortIn shortOf rawTail innerTail
open Cert.DnInSMath

section Terms

variable {F : FTy → Type} [FloatOps F]

/-- The channels' rows, the state's first. -/
def rows7 (s : FVec F S128x3x1536 .f32) (f : FVec F S128x4x4104 .f32) : FVec F S128x7x1536 .f32 :=
  concatenate S128x7x1536 1 [⟨S128x3x1536, s⟩, ⟨S128x4x1536, (extractStridedSlice S128x4x1536 ![0, 0, 0] f slices_S128x4x4104_S128x4x1536_0_0_0)⟩] concatenates_S128x3x1536_S128x4x1536_S128x7x1536_d1

/-- Their convolution. -/
def convolved (f : FVec F S128x7x1536 .f32) (w : FVec F S4x1536 .f32) : FVec F S128x4x1536 .f32 :=
  addf (addf (addf (addf (broadcastInDim S128x4x1536 ![] bcast_S_S128x4x1536 (constant S_ .f32 0x00000000#32)) (mulf (extractStridedSlice S128x4x1536 ![0, 0, 0] f slices_S128x7x1536_S128x4x1536_0_0_0) (broadcastInDim S128x4x1536 ![0, 1, 2] bcast_S1x1x1536_S128x4x1536_0_1_2 (broadcastInDim S1x1x1536 ![2] bcast_S1536_S1x1x1536_2 (shapeCast _ (extractStridedSlice S1x1536 ![0, 0] w slices_S4x1536_S1x1536_0_0) shapeCasts_S1x1536_S1536))))) (mulf (extractStridedSlice S128x4x1536 ![0, 1, 0] f slices_S128x7x1536_S128x4x1536_0_1_0) (broadcastInDim S128x4x1536 ![0, 1, 2] bcast_S1x1x1536_S128x4x1536_0_1_2 (broadcastInDim S1x1x1536 ![2] bcast_S1536_S1x1x1536_2 (shapeCast _ (extractStridedSlice S1x1536 ![1, 0] w slices_S4x1536_S1x1536_1_0) shapeCasts_S1x1536_S1536))))) (mulf (extractStridedSlice S128x4x1536 ![0, 2, 0] f slices_S128x7x1536_S128x4x1536_0_2_0) (broadcastInDim S128x4x1536 ![0, 1, 2] bcast_S1x1x1536_S128x4x1536_0_1_2 (broadcastInDim S1x1x1536 ![2] bcast_S1536_S1x1x1536_2 (shapeCast _ (extractStridedSlice S1x1536 ![2, 0] w slices_S4x1536_S1x1536_2_0) shapeCasts_S1x1536_S1536))))) (mulf (extractStridedSlice S128x4x1536 ![0, 3, 0] f slices_S128x7x1536_S128x4x1536_0_3_0) (broadcastInDim S128x4x1536 ![0, 1, 2] bcast_S1x1x1536_S128x4x1536_0_1_2 (broadcastInDim S1x1x1536 ![2] bcast_S1536_S1x1x1536_2 (shapeCast _ (extractStridedSlice S1x1536 ![3, 0] w slices_S4x1536_S1x1536_3_0) shapeCasts_S1x1536_S1536))))

/-- An array times its logistic function. -/
def gated (f : FVec F S128x4x1536 .f32) : FVec F S128x4x1536 .f32 :=
  mulf f (Host.divf (broadcastInDim S128x4x1536 ![] bcast_S_S128x4x1536 (constant S_ .f32 0x3F800000#32)) (addf (broadcastInDim S128x4x1536 ![] bcast_S_S128x4x1536 (constant S_ .f32 0x3F800000#32)) (Host.exp (Host.negf f))))

/-- Four heads, each divided by the root of its sum of squares. -/
def units (f : FVec F S128x4x4x128 .f32) : FVec F S128x4x4x128 .f32 :=
  mulf f (broadcastInDim S128x4x4x128 ![0, 1, 2, 3] bcast_S128x4x4x1_S128x4x4x128_0_1_2_3 (Host.rsqrt (addf (broadcastInDim S128x4x4x1 ![0, 1, 2] bcast_S128x4x4_S128x4x4x1_0_1_2 (Host.reduceAdd (mulf f f) (constant S_ .f32 0x00000000#32) reducesTo_S128x4x4x128_S128x4x4_d3 h_S_)) (broadcastInDim S128x4x4x1 ![] bcast_S_S128x4x4x1 (constant S_ .f32 0x358637BD#32)))))

/-- The queries, of the convolved channels. -/
def queries (f : FVec F S128x4x1536 .f32) : FVec F S128x4x512 .f32 :=
  shapeCast S128x4x512 (mulf (units (shapeCast S128x4x4x128 (extractStridedSlice S128x4x512 ![0, 0, 0] f slices_S128x4x1536_S128x4x512_0_0_0) shapeCasts_S128x4x512_S128x4x4x128)) (broadcastInDim S128x4x4x128 ![] bcast_S_S128x4x4x128 (constant S_ .f32 0x3DB504F3#32))) shapeCasts_S128x4x4x128_S128x4x512

/-- The keys. -/
def keys (f : FVec F S128x4x1536 .f32) : FVec F S128x4x512 .f32 :=
  shapeCast S128x4x512 (units (shapeCast S128x4x4x128 (extractStridedSlice S128x4x512 ![0, 0, 512] f slices_S128x4x1536_S128x4x512_0_0_512) shapeCasts_S128x4x512_S128x4x4x128)) shapeCasts_S128x4x4x128_S128x4x512

/-- `log (1 + eˣ)` of an array. -/
def softpluses (f : FVec F S128x4x4 .f32) : FVec F S128x4x4 .f32 :=
  select (cmpf .une (subf f (broadcastInDim S128x4x4 ![] bcast_S_S128x4x4 (constant S_ .f32 0x00000000#32))) (subf f (broadcastInDim S128x4x4 ![] bcast_S_S128x4x4 (constant S_ .f32 0x00000000#32)))) (addf f (broadcastInDim S128x4x4 ![] bcast_S_S128x4x4 (constant S_ .f32 0x00000000#32))) (addf (maximumf f (broadcastInDim S128x4x4 ![] bcast_S_S128x4x4 (constant S_ .f32 0x00000000#32))) (Host.log1p (Host.exp (Host.negf (Host.absf (subf f (broadcastInDim S128x4x4 ![] bcast_S_S128x4x4 (constant S_ .f32 0x00000000#32))))))))

/-- The rates, of the projection. -/
def rates (f : FVec F S128x4x4104 .f32) (al dt : FVec F S4 .f32) : FVec F S128x4x128 .f32 :=
  pad S128x4x128 ![0, 0, 0] ![0, 0, 120] ![0, 0, 0] (concatenate S128x4x8 2 [⟨S128x4x4, (mulf (broadcastInDim S128x4x4 ![0, 1, 2] bcast_S1x1x4_S128x4x4_0_1_2 (broadcastInDim S1x1x4 ![2] bcast_S4_S1x1x4_2 (Host.negf (Host.exp al)))) (softpluses (addf (extractStridedSlice S128x4x4 ![0, 0, 2048] f slices_S128x4x4104_S128x4x4_0_0_2048) (broadcastInDim S128x4x4 ![0, 1, 2] bcast_S1x1x4_S128x4x4_0_1_2 (broadcastInDim S1x1x4 ![2] bcast_S4_S1x1x4_2 dt)))))⟩, ⟨S128x4x4, (Host.divf (broadcastInDim S128x4x4 ![] bcast_S_S128x4x4 (constant S_ .f32 0x3F800000#32)) (addf (broadcastInDim S128x4x4 ![] bcast_S_S128x4x4 (constant S_ .f32 0x3F800000#32)) (Host.exp (Host.negf (extractStridedSlice S128x4x4 ![0, 0, 2052] f slices_S128x4x4104_S128x4x4_0_0_2052)))))⟩] concatenates_S128x4x4_S128x4x4_S128x4x8_d2) (sitofp .f32 (constantI S_ 32 0#32)) pads_S128x4x8_S128x4x128_000_000_01200 h_S_

/-- An array of 512 lanes times its logistic function. -/
def gatedLanes (f : FVec F S128x4x512 .f32) : FVec F S128x4x512 .f32 :=
  mulf f (Host.divf (broadcastInDim S128x4x512 ![] bcast_S_S128x4x512 (constant S_ .f32 0x3F800000#32)) (addf (broadcastInDim S128x4x512 ![] bcast_S_S128x4x512 (constant S_ .f32 0x3F800000#32)) (Host.exp (Host.negf f))))

/-- What the short convolution is taken of, and its rows, the state's first. -/
def innerRows (f : FVec F S128x4x4104 .f32) : FVec F S128x4x512 .f32 :=
  mulf (extractStridedSlice S128x4x512 ![0, 0, 2568] f slices_S128x4x4104_S128x4x512_0_0_2568) (extractStridedSlice S128x4x512 ![0, 0, 3080] f slices_S128x4x4104_S128x4x512_0_0_3080)
def rows6 (s : FVec F S128x2x512 .f32) (f : FVec F S128x4x512 .f32) : FVec F S128x6x512 .f32 :=
  concatenate S128x6x512 1 [⟨S128x2x512, s⟩, ⟨S128x4x512, f⟩] concatenates_S128x2x512_S128x4x512_S128x6x512_d1

/-- The short convolution. -/
def convolved3 (f : FVec F S128x6x512 .f32) (w : FVec F S3x512 .f32) : FVec F S128x4x512 .f32 :=
  addf (addf (addf (broadcastInDim S128x4x512 ![] bcast_S_S128x4x512 (constant S_ .f32 0x00000000#32)) (mulf (extractStridedSlice S128x4x512 ![0, 0, 0] f slices_S128x6x512_S128x4x512_0_0_0) (broadcastInDim S128x4x512 ![0, 1, 2] bcast_S1x1x512_S128x4x512_0_1_2 (broadcastInDim S1x1x512 ![2] bcast_S512_S1x1x512_2 (shapeCast _ (extractStridedSlice S1x512 ![0, 0] w slices_S3x512_S1x512_0_0) shapeCasts_S1x512_S512))))) (mulf (extractStridedSlice S128x4x512 ![0, 1, 0] f slices_S128x6x512_S128x4x512_0_1_0) (broadcastInDim S128x4x512 ![0, 1, 2] bcast_S1x1x512_S128x4x512_0_1_2 (broadcastInDim S1x1x512 ![2] bcast_S512_S1x1x512_2 (shapeCast _ (extractStridedSlice S1x512 ![1, 0] w slices_S3x512_S1x512_1_0) shapeCasts_S1x512_S512))))) (mulf (extractStridedSlice S128x4x512 ![0, 2, 0] f slices_S128x6x512_S128x4x512_0_2_0) (broadcastInDim S128x4x512 ![0, 1, 2] bcast_S1x1x512_S128x4x512_0_1_2 (broadcastInDim S1x1x512 ![2] bcast_S512_S1x1x512_2 (shapeCast _ (extractStridedSlice S1x512 ![2, 0] w slices_S3x512_S1x512_2_0) shapeCasts_S1x512_S512))))

/-- The gated short convolution, of the projection. -/
def short (f : FVec F S128x4x4104 .f32) (x : FVec F S128x6x512 .f32) (w : FVec F S3x512 .f32) : FVec F S128x4x512 .f32 :=
  mulf (mulf (extractStridedSlice S128x4x512 ![0, 0, 2056] f slices_S128x4x4104_S128x4x512_0_0_2056) (convolved3 x w)) (gatedLanes (extractStridedSlice S128x4x512 ![0, 0, 3592] f slices_S128x4x4104_S128x4x512_0_0_3592))

end Terms

/-! ## Their entries -/

theorem rows7_at (s : FVec Ideal S128x3x1536 .f32) (f : FVec Ideal S128x4x4104 .f32) (n : Fin 128) (i : Fin 7) (l : Fin 1536) :
    rows7 s f (ix3 n i l) = past (fun i => s (ix3 n i l)) (fun t => f (ix3 n t (colRaw l))) i := by
  pointwise [rows7, past, colRaw]

theorem rows6_at (s : FVec Ideal S128x2x512 .f32) (f : FVec Ideal S128x4x512 .f32) (n : Fin 128) (i : Fin 6) (l : Fin 512) :
    rows6 s f (ix3 n i l) = past (fun i => s (ix3 n i l)) (fun t => f (ix3 n t l)) i := by
  pointwise [rows6, past]

theorem convolved_at (f : FVec Ideal S128x7x1536 .f32) (w : FVec Ideal S4x1536 .f32) (n : Fin 128) (t : Fin 4) (l : Fin 1536) :
    convolved f w (ix3 n t l) = taps4 (fun i => f (ix3 n i l)) (fun s => w (ix2 s l)) t := by
  pointwise [convolved, taps4]

theorem convolved3_at (f : FVec Ideal S128x6x512 .f32) (w : FVec Ideal S3x512 .f32) (n : Fin 128) (t : Fin 4) (l : Fin 512) :
    convolved3 f w (ix3 n t l) = taps3 (fun i => f (ix3 n i l)) (fun s => w (ix2 s l)) t := by
  pointwise [convolved3, taps3]

theorem gated_at (f : FVec Ideal S128x4x1536 .f32) (n : Fin 128) (t : Fin 4) (l : Fin 1536) : gated f (ix3 n t l) = silu (f (ix3 n t l)) := by
  pointwise [gated, silu, Ideal.logistic]

theorem gatedLanes_at (f : FVec Ideal S128x4x512 .f32) (n : Fin 128) (t : Fin 4) (l : Fin 512) : gatedLanes f (ix3 n t l) = silu (f (ix3 n t l)) := by
  pointwise [gatedLanes, silu, Ideal.logistic]

theorem queries_at (f : FVec Ideal S128x4x1536 .f32) (n : Fin 128) (t : Fin 4) (l : Fin 512) :
    queries f (ix3 n t l) = unit4 (fun l => f (ix3 n t (partQ l))) l * Ideal.ofBits FTy.f32 0x3DB504F3#32 := by
  pointwise [queries, units, unit4, rootSum, eps, partQ, lane4, head4]

theorem keys_at (f : FVec Ideal S128x4x1536 .f32) (n : Fin 128) (t : Fin 4) (l : Fin 512) :
    keys f (ix3 n t l) = unit4 (fun l => f (ix3 n t (partK l))) l := by
  pointwise [keys, units, unit4, rootSum, eps, partK, lane4, head4]

theorem rates_at (f : FVec Ideal S128x4x4104 .f32) (al dt : FVec Ideal S4 .f32) (n : Fin 128) (t : Fin 4) (l : Fin 128) :
    rates f al dt (ix3 n t l) = rate (fun l => f (ix3 n t (colRate l))) (fun l => al (ix1 l)) (fun l => dt (ix1 l)) l := by
  pointwise [rates, softpluses, rate, softplus, colRate, Ideal.logistic]
  split_ifs with h8 h4 hne h4 h4
  · exact absurd rfl hne
  · rfl
  · exact congrArg (fun a => Ideal.div 1 (1 + Ideal.exp (-f (ix3 n t a)))) (Fin.ext (by show 2052 + (l.val - 4) = 2048 + l.val; omega))
  · omega
  · omega
  · exact sitofp_zero (φ := .f32)

theorem innerRows_at (f : FVec Ideal S128x4x4104 .f32) (n : Fin 128) (t : Fin 4) (l : Fin 512) :
    innerRows f (ix3 n t l) = shortIn (fun n t l => f (ix3 n t l)) n t l := by
  unfold shortIn
  rw [show colShort (partC l) = ⟨2568 + l.val, by omega⟩ from Fin.ext (by show 2056 + (512 + l.val) = 2568 + l.val; omega),
    show colShort (partX l) = ⟨3080 + l.val, by omega⟩ from Fin.ext (by show 2056 + (1024 + l.val) = 3080 + l.val; omega)]
  pointwise [innerRows]

theorem short_of (f : FVec Ideal S128x4x4104 .f32) (x : FVec Ideal S128x6x512 .f32) (w : FVec Ideal S3x512 .f32) (n : Fin 128) (t : Fin 4) (l : Fin 512) :
    short f x w (ix3 n t l) = f (ix3 n t (colShort (partB l))) * taps3 (fun i => x (ix3 n i l)) (fun s => w (ix2 s l)) t * silu (f (ix3 n t (colShort (partZ l)))) := by
  rw [show colShort (partZ l) = ⟨3592 + l.val, by omega⟩ from Fin.ext (by show 2056 + (1536 + l.val) = 3592 + l.val; omega)]
  pointwise [short, convolved3_at, gatedLanes_at, colShort, partB]

/-- The swap of tokens and sequences. -/
theorem swap_at {T L : ℕ} (f : Vec Ideal ⟨3, ![128, T, L]⟩ .f32) (h) (t : Fin T) (n : Fin 128) (l : Fin L) :
    transpose (⟨3, ![T, 128, L]⟩ : Shape) [1, 0, 2] f h (ix3 t n l) = f (ix3 n t l) := by
  pointwise

/-! ## The results -/

variable (m : (ℓ : Loc nD τ sig) → Buf (Elt Ideal) ℓ) (c : Dev nD)

/-- The reference's projection of the modulated rows. -/
abbrev product : FVec Ideal S128x4x4104 .f32 := res_main_v23 (launchContents m c)

/-- The mathematics' projection, of the arguments in memory. -/
abbrev refProj : Fin 128 → Fin 4 → Fin 4104 → EReal :=
  proj (m ((c.tc : Thread nD τ).loc main_arg0)) (m ((c.tc : Thread nD τ).loc main_arg1)) (m ((c.tc : Thread nD τ).loc main_arg2)) (m ((c.tc : Thread nD τ).loc main_arg3))

theorem product_of (x : FVec Ideal S128x4x1024 .f32) (md : FVec Ideal S128x3072 .f32) (g : FVec Ideal S1024 .f32) (w : FVec Ideal S1024x4104 .f32)
    (n : Fin 128) (t : Fin 4) (l : Fin 4104) :
    Host.dotGeneral dot_S128x4x1024_S1024x4104_S128x4x4104_2_0_01_1_n_n none (addf (mulf (mulf (mulf x (broadcastInDim S128x4x1024 ![0, 1, 2] bcast_S128x4x1_S128x4x1024_0_1_2 (Host.rsqrt (addf (Host.divf (broadcastInDim S128x4x1 ![0, 1] bcast_S128x4_S128x4x1_0_1 (Host.reduceAdd (mulf x x) (constant S_ .f32 0x00000000#32) reducesTo_S128x4x1024_S128x4_d2 h_S_)) (broadcastInDim S128x4x1 ![] bcast_S_S128x4x1 (constant S_ .f32 0x44800000#32))) (broadcastInDim S128x4x1 ![] bcast_S_S128x4x1 (constant S_ .f32 0x358637BD#32)))))) (broadcastInDim S128x4x1024 ![0, 1, 2] bcast_S1x1x1024_S128x4x1024_0_1_2 (broadcastInDim S1x1x1024 ![2] bcast_S1024_S1x1x1024_2 g))) (broadcastInDim S128x4x1024 ![0, 1, 2] bcast_S128x1x1024_S128x4x1024_0_1_2 (addf (broadcastInDim S128x1x1024 ![] bcast_S_S128x1x1024 (constant S_ .f32 0x3F800000#32)) (extractStridedSlice S128x1x1024 ![0, 0, 1024] (broadcastInDim S128x1x3072 ![0, 2] bcast_S128x3072_S128x1x3072_0_2 md) slices_S128x1x3072_S128x1x1024_0_0_1024)))) (broadcastInDim S128x4x1024 ![0, 1, 2] bcast_S128x1x1024_S128x4x1024_0_1_2 (extractStridedSlice S128x1x1024 ![0, 0, 0] (broadcastInDim S128x1x3072 ![0, 2] bcast_S128x3072_S128x1x3072_0_2 md) slices_S128x1x3072_S128x1x1024_0_0_0))) w (ix3 n t l)
      = proj x md g w n t l := by
  pointwise [proj, modRow]

theorem product_at (n : Fin 128) (t : Fin 4) (l : Fin 4104) : product m c (ix3 n t l) = refProj m c n t l := product_of _ _ _ _ n t l

theorem proj_eq : refProj m c = fun n t l => product m c (ix3 n t l) := by
  funext n t l
  exact (product_at m c n t l).symm

/-- The states before the first token. -/
abbrev stateQ : FVec Ideal S128x3x1536 .f32 := m ((c.tc : Thread nD τ).loc main_arg4)
abbrev stateS : FVec Ideal S128x2x512 .f32 := m ((c.tc : Thread nD τ).loc main_arg5)

theorem rowsQ_at (n : Fin 128) (i : Fin 7) (l : Fin 1536) : rows7 (stateQ m c) (product m c) (ix3 n i l) = rawRows (refProj m c) (stateQ m c) n l i := by
  rw [proj_eq, rows7_at]
  rfl

theorem rowsS_at (n : Fin 128) (i : Fin 6) (l : Fin 512) : rows6 (stateS m c) (innerRows (product m c)) (ix3 n i l) = shortRows (refProj m c) (stateS m c) n l i := by
  rw [proj_eq, rows6_at]
  simp only [innerRows_at]
  rfl

/-- The convolved and gated channels. -/
abbrev acted : FVec Ideal S128x4x1536 .f32 := gated (convolved (rows7 (stateQ m c) (product m c)) (m ((c.tc : Thread nD τ).loc main_arg6)))

theorem acted_at (n : Fin 128) (t : Fin 4) (l : Fin 1536) :
    acted m c (ix3 n t l) = act (refProj m c) (stateQ m c) (m ((c.tc : Thread nD τ).loc main_arg6)) n t l := by
  unfold acted
  rw [gated_at, convolved_at]
  simp only [rowsQ_at]
  rfl

theorem queries_eq : transpose S4x128x512 [1, 0, 2] (queries (acted m c)) transposes_S128x4x512_S4x128x512_1_0_2
    = queriesOf (refProj m c) (stateQ m c) (m ((c.tc : Thread nD τ).loc main_arg6)) := by
  funext i
  idx_vars i
  rw [swap_at, queries_at]
  simp only [acted_at]
  rfl

theorem keys_eq : transpose S4x128x512 [1, 0, 2] (keys (acted m c)) transposes_S128x4x512_S4x128x512_1_0_2
    = keysOf (refProj m c) (stateQ m c) (m ((c.tc : Thread nD τ).loc main_arg6)) := by
  funext i
  idx_vars i
  rw [swap_at, keys_at]
  simp only [acted_at]
  rfl

theorem values_eq : transpose S4x128x512 [1, 0, 2] (extractStridedSlice S128x4x512 ![0, 0, 1024] (acted m c) slices_S128x4x1536_S128x4x512_0_0_1024) transposes_S128x4x512_S4x128x512_1_0_2
    = valuesOf (refProj m c) (stateQ m c) (m ((c.tc : Thread nD τ).loc main_arg6)) := by
  have h := acted_at m c
  generalize acted m c = f at h ⊢
  funext i
  idx_vars i
  unfold valuesOf
  pointwise [h, partV]

theorem rates_eq : transpose S4x128x128 [1, 0, 2] (rates (product m c) (m ((c.tc : Thread nD τ).loc main_arg7)) (m ((c.tc : Thread nD τ).loc main_arg8))) transposes_S128x4x128_S4x128x128_1_0_2
    = ratesOf (refProj m c) (m ((c.tc : Thread nD τ).loc main_arg7)) (m ((c.tc : Thread nD τ).loc main_arg8)) := by
  funext i
  idx_vars i
  rw [swap_at, rates_at]
  simp only [product_at]
  rfl

theorem gates_eq : transpose S4x128x512 [1, 0, 2] (gatedLanes (extractStridedSlice S128x4x512 ![0, 0, 1536] (product m c) slices_S128x4x4104_S128x4x512_0_0_1536)) transposes_S128x4x512_S4x128x512_1_0_2
    = gateOf (refProj m c) := by
  have h := product_at m c
  generalize product m c = f at h ⊢
  funext i
  idx_vars i
  rw [swap_at, gatedLanes_at]
  refine congrArg silu ?_
  pointwise [h, colGate]

theorem short_eq : transpose S4x128x512 [1, 0, 2] (short (product m c) (rows6 (stateS m c) (innerRows (product m c))) (m ((c.tc : Thread nD τ).loc main_arg9))) transposes_S128x4x512_S4x128x512_1_0_2
    = shortOf (refProj m c) (stateS m c) (m ((c.tc : Thread nD τ).loc main_arg9)) := by
  funext i
  idx_vars i
  rw [swap_at, short_of]
  simp only [rowsS_at, product_at]
  rfl

theorem rawTail_eq : transpose S3x128x1536 [1, 0, 2] (extractStridedSlice S128x3x1536 ![0, 4, 0] (rows7 (stateQ m c) (product m c)) slices_S128x7x1536_S128x3x1536_0_4_0) transposes_S128x3x1536_S3x128x1536_1_0_2
    = rawTail (refProj m c) (stateQ m c) := by
  have h := rowsQ_at m c
  generalize rows7 (stateQ m c) (product m c) = f at h ⊢
  funext i
  idx_vars i
  unfold rawTail
  pointwise [h]

theorem innerTail_eq : transpose S2x128x512 [1, 0, 2] (extractStridedSlice S128x2x512 ![0, 4, 0] (rows6 (stateS m c) (innerRows (product m c))) slices_S128x6x512_S128x2x512_0_4_0) transposes_S128x2x512_S2x128x512_1_0_2
    = innerTail (refProj m c) (stateS m c) := by
  have h := rowsS_at m c
  generalize rows6 (stateS m c) (innerRows (product m c)) = f at h ⊢
  funext i
  idx_vars i
  unfold innerTail
  pointwise [h]

end Cert.DnInSRef

end
-- ==== Proof.DnInSValue.lean ====
/- The input side of the delta layer at the sample batch: what its kernel leaves are the reference's results. -/
module

public import proofs.«01_k».proof.Defs
public import proofs.«01_k».proof.Proof.Gen.DnInS.Frame
public import proofs.«01_k».proof.Proof.Gen.DnInSIdeal.Value
public import proofs.«01_k».proof.Proof.DnInSPoint
public import proofs.«01_k».proof.Proof.DnInSRef
public import proofs.«01_k».proof.Proof.FlatRows
public import Idealize.ShloMosaic.Lib.Claim
public import Idealize.ShloMosaic.Lib.KernelVsHost
public import Idealize.ShloMosaic.Lib.StableHlo.ReadAt

@[expose] public section

set_option maxRecDepth 16384

noncomputable section

namespace Cert.DnInSValue

open Idealize.ShloMosaic Idealize.ShloMosaic.TcCoe Idealize.SL.Sem
open Cert.DnInSIdeal Cert.DnInSIdeal.Gen Cert.RowBlocks Cert.FlatRows Cert.Norm
open Cert.DnInMath hiding proj act queriesOf keysOf valuesOf ratesOf gateOf shortIn shortOf rawTail innerTail
open Cert.DnInSMath Cert.DnInSBlock Cert.DnInSPoint

variable (m : (ℓ : Loc nD τ sig) → Buf (Elt Ideal) ℓ) (c : Dev nD)

/-! ## The blocks that the only grid point reads -/

/-- The only block of each array. -/
theorem index_maps : ∀ t : Fin cfg0.N,
    (win0_0.index t 0 = 0 ∧ win0_0.index t 1 = 0 ∧ win0_0.index t 2 = 0) ∧
    (win0_1.index t 0 = 0 ∧ win0_1.index t 1 = 0) ∧
    (win0_2.index t 0 = 0 ∧ win0_2.index t 1 = 0) ∧
    (win0_3.index t 0 = 0 ∧ win0_3.index t 1 = 0) ∧
    (win0_4.index t 0 = 0 ∧ win0_4.index t 1 = 0 ∧ win0_4.index t 2 = 0) ∧
    (win0_5.index t 0 = 0 ∧ win0_5.index t 1 = 0 ∧ win0_5.index t 2 = 0) ∧
    (win0_6.index t 0 = 0 ∧ win0_6.index t 1 = 0) ∧
    (win0_7.index t 0 = 0 ∧ win0_7.index t 1 = 0) ∧
    (win0_8.index t 0 = 0 ∧ win0_8.index t 1 = 0) ∧
    (win0_9.index t 0 = 0 ∧ win0_9.index t 1 = 0) ∧
    (win0_10.index t 0 = 0 ∧ win0_10.index t 1 = 0 ∧ win0_10.index t 2 = 0) := by
  decide +kernel

/-- The kernel's order of the weights' columns: 120 columns of zeros stand after the rates. -/
def wide (w : Vec Ideal S1024x4104 .f32) : Vec Ideal S1024x4224 .f32 := fun i =>
  if h : (i 1).val < 2056 then w (ix2 (i 0) ⟨(i 1).val, by omega⟩)
  else if (i 1).val < 2176 then 0 else w (ix2 (i 0) ⟨(i 1).val - 120, by have := (i 1).isLt; change (i 1).val < 4224 at this; omega⟩)

/-- The weights as the kernel takes them. -/
theorem entry_w : V m c main_v5 = wide (m ((c : Thread nD τ).loc main_arg3)) := by
  funext i
  idx_vars i
  unfold V
  simp only [hostOps0, hostOps0_1, hostOps0_2, hostOps0_3, hostOps0_4, hostOps0_5, hostOps0_6, List.flatten_cons, List.flatten_nil, List.cons_append,
    List.nil_append, List.append_nil]
  after_reads_at
  simp only [StableHlo.upto, List.take]
  after_reads_at
  pointwise [wide]
  repeat' split
  all_goals first
    | (exfalso; omega)
    | exact sitofp_zero (φ := .f32)
    | exact congrArg (fun k : Fin 4104 => m ((c : Thread nD τ).loc main_arg3) (ix2 i0 k)) (Fin.ext (by first | rfl | (dsimp only; omega)))

theorem entry_x : V m c main_v10 = fun i => m ((c : Thread nD τ).loc main_arg0) (ix3 (i 1) (i 0) (i 2)) := by
  funext i
  idx_vars i
  unfold V
  simp only [hostOps0, hostOps0_1, hostOps0_2, hostOps0_3, hostOps0_4, hostOps0_5, hostOps0_6, List.flatten_cons, List.flatten_nil, List.cons_append,
    List.nil_append, List.append_nil]
  after_reads_at

theorem entry_g : V m c main_v11 = fun i => m ((c : Thread nD τ).loc main_arg2) (ix1 (i 1)) := by
  funext i
  unfold V
  simp only [hostOps0, hostOps0_1, hostOps0_2, hostOps0_3, hostOps0_4, hostOps0_5, hostOps0_6, List.flatten_cons, List.flatten_nil, List.cons_append,
    List.nil_append, List.append_nil]
  after_reads_at

theorem entry_sq : V m c main_v12 = fun i => m ((c : Thread nD τ).loc main_arg4) (ix3 (i 1) (i 0) (i 2)) := by
  funext i
  idx_vars i
  unfold V
  simp only [hostOps0, hostOps0_1, hostOps0_2, hostOps0_3, hostOps0_4, hostOps0_5, hostOps0_6, List.flatten_cons, List.flatten_nil, List.cons_append,
    List.nil_append, List.append_nil]
  after_reads_at

theorem entry_ss : V m c main_v13 = fun i => m ((c : Thread nD τ).loc main_arg5) (ix3 (i 1) (i 0) (i 2)) := by
  funext i
  idx_vars i
  unfold V
  simp only [hostOps0, hostOps0_1, hostOps0_2, hostOps0_3, hostOps0_4, hostOps0_5, hostOps0_6, List.flatten_cons, List.flatten_nil, List.cons_append,
    List.nil_append, List.append_nil]
  after_reads_at

/-- Four numbers followed by zeros. -/
def padLanes (a : Vec Ideal S4 .f32) : Vec Ideal S1x128 .f32 := fun i => if h : (i 1).val < 4 then a (ix1 ⟨(i 1).val, h⟩) else 0

theorem entry_al : V m c main_v7 = padLanes (m ((c : Thread nD τ).loc main_arg7)) := by
  funext i
  idx_vars i
  unfold V
  simp only [hostOps0, hostOps0_1, hostOps0_2, hostOps0_3, hostOps0_4, hostOps0_5, hostOps0_6, List.flatten_cons, List.flatten_nil, List.cons_append,
    List.nil_append, List.append_nil]
  after_reads_at
  pointwise [padLanes]
  split_ifs
  · rfl
  · exact sitofp_zero (φ := .f32)

theorem entry_dt : V m c main_v9 = padLanes (m ((c : Thread nD τ).loc main_arg8)) := by
  funext i
  idx_vars i
  unfold V
  simp only [hostOps0, hostOps0_1, hostOps0_2, hostOps0_3, hostOps0_4, hostOps0_5, hostOps0_6, List.flatten_cons, List.flatten_nil, List.cons_append,
    List.nil_append, List.append_nil]
  after_reads_at
  pointwise [padLanes]
  split_ifs
  · rfl
  · exact sitofp_zero (φ := .f32)

theorem block_x (t : Fin cfg0.N) : (iblk m c 0 t : Vec Ideal S4x128x1024 .f32) = fun i : S4x128x1024.Idx => m ((c : Thread nD τ).loc main_arg0) (ix3 (i 1) (i 0) (i 2)) := by
  obtain ⟨⟨h0, h1, h2⟩, -⟩ := index_maps t
  funext j
  unfold iblk
  rw [View.read_apply]
  exact (congrFun (entry_x m c) _).trans (congrArg (fun i : S4x128x1024.Idx => m ((c : Thread nD τ).loc main_arg0) (ix3 (i 1) (i 0) (i 2))) (whole_index3 h0 h1 h2 j _ rfl rfl rfl))

theorem block_md (t : Fin cfg0.N) : (iblk m c 1 t : Vec Ideal S128x3072 .f32) = m ((c : Thread nD τ).loc main_arg1) := by
  obtain ⟨-, ⟨h0, h1⟩, -⟩ := index_maps t
  funext j
  unfold iblk
  rw [View.read_apply]
  exact (congrArg (m ((c : Thread nD τ).loc main_arg1)) (whole_index h0 h1 j _ rfl rfl))

theorem block_g (t : Fin cfg0.N) : (iblk m c 2 t : Vec Ideal S1x1024 .f32) = fun i : S1x1024.Idx => m ((c : Thread nD τ).loc main_arg2) (ix1 (i 1)) := by
  obtain ⟨-, -, ⟨h0, h1⟩, -⟩ := index_maps t
  funext j
  unfold iblk
  rw [View.read_apply]
  exact (congrFun (entry_g m c) _).trans (congrArg (fun i : S1x1024.Idx => m ((c : Thread nD τ).loc main_arg2) (ix1 (i 1))) (whole_index h0 h1 j _ rfl rfl))

theorem block_w (t : Fin cfg0.N) : (iblk m c 3 t : Vec Ideal S1024x4224 .bf16) = wide (m ((c : Thread nD τ).loc main_arg3)) := by
  obtain ⟨-, -, -, ⟨h0, h1⟩, -⟩ := index_maps t
  funext j
  unfold iblk
  rw [View.read_apply]
  exact (congrFun (entry_w m c) _).trans (congrArg (wide (m ((c : Thread nD τ).loc main_arg3))) (whole_index h0 h1 j _ rfl rfl))

theorem block_sq (t : Fin cfg0.N) : (iblk m c 4 t : Vec Ideal S3x128x1536 .f32) = fun i : S3x128x1536.Idx => m ((c : Thread nD τ).loc main_arg4) (ix3 (i 1) (i 0) (i 2)) := by
  obtain ⟨-, -, -, -, ⟨h0, h1, h2⟩, -⟩ := index_maps t
  funext j
  unfold iblk
  rw [View.read_apply]
  exact (congrFun (entry_sq m c) _).trans (congrArg (fun i : S3x128x1536.Idx => m ((c : Thread nD τ).loc main_arg4) (ix3 (i 1) (i 0) (i 2))) (whole_index3 h0 h1 h2 j _ rfl rfl rfl))

theorem block_ss (t : Fin cfg0.N) : (iblk m c 5 t : Vec Ideal S2x128x512 .f32) = fun i : S2x128x512.Idx => m ((c : Thread nD τ).loc main_arg5) (ix3 (i 1) (i 0) (i 2)) := by
  obtain ⟨-, -, -, -, -, ⟨h0, h1, h2⟩, -⟩ := index_maps t
  funext j
  unfold iblk
  rw [View.read_apply]
  exact (congrFun (entry_ss m c) _).trans (congrArg (fun i : S2x128x512.Idx => m ((c : Thread nD τ).loc main_arg5) (ix3 (i 1) (i 0) (i 2))) (whole_index3 h0 h1 h2 j _ rfl rfl rfl))

theorem block_cw (t : Fin cfg0.N) : (iblk m c 6 t : Vec Ideal S4x1536 .f32) = m ((c : Thread nD τ).loc main_arg6) := by
  obtain ⟨-, -, -, -, -, -, ⟨h0, h1⟩, -⟩ := index_maps t
  funext j
  unfold iblk
  rw [View.read_apply]
  exact (congrArg (m ((c : Thread nD τ).loc main_arg6)) (whole_index h0 h1 j _ rfl rfl))

theorem block_al (t : Fin cfg0.N) : (iblk m c 7 t : Vec Ideal S1x128 .f32) = padLanes (m ((c : Thread nD τ).loc main_arg7)) := by
  obtain ⟨-, -, -, -, -, -, -, ⟨h0, h1⟩, -⟩ := index_maps t
  funext j
  unfold iblk
  rw [View.read_apply]
  exact (congrFun (entry_al m c) _).trans (congrArg (padLanes (m ((c : Thread nD τ).loc main_arg7))) (whole_index h0 h1 j _ rfl rfl))

theorem block_dt (t : Fin cfg0.N) : (iblk m c 8 t : Vec Ideal S1x128 .f32) = padLanes (m ((c : Thread nD τ).loc main_arg8)) := by
  obtain ⟨-, -, -, -, -, -, -, -, ⟨h0, h1⟩, -⟩ := index_maps t
  funext j
  unfold iblk
  rw [View.read_apply]
  exact (congrFun (entry_dt m c) _).trans (congrArg (padLanes (m ((c : Thread nD τ).loc main_arg8))) (whole_index h0 h1 j _ rfl rfl))

theorem block_sw (t : Fin cfg0.N) : (iblk m c 9 t : Vec Ideal S3x512 .f32) = m ((c : Thread nD τ).loc main_arg9) := by
  obtain ⟨-, -, -, -, -, -, -, -, -, ⟨h0, h1⟩, -⟩ := index_maps t
  funext j
  unfold iblk
  rw [View.read_apply]
  exact (congrArg (m ((c : Thread nD τ).loc main_arg9)) (whole_index h0 h1 j _ rfl rfl))

/-! ## The results, of the arguments in memory -/

abbrev memProj : Fin 128 → Fin 4 → Fin 4104 → EReal :=
  proj (m ((c : Thread nD τ).loc main_arg0)) (m ((c : Thread nD τ).loc main_arg1)) (m ((c : Thread nD τ).loc main_arg2)) (m ((c : Thread nD τ).loc main_arg3))

/-- The blocks' projection is the arguments'. -/
theorem projects (t : Fin cfg0.N) : Projects (iblk m c 0 t) (iblk m c 1 t) (iblk m c 2 t) (iblk m c 3 t) (memProj m c) := by
  intro n s l l' hl
  rw [block_x, block_md, block_g, block_w]
  have hw : ∀ k, wide (m ((c : Thread nD τ).loc main_arg3)) (ix2 k l') = m ((c : Thread nD τ).loc main_arg3) (ix2 k l) := by
    intro k
    show (if h : l'.val < 2056 then _ else if l'.val < 2176 then _ else _) = _
    split_ifs at hl with h
    · rw [dif_pos (by omega)]
      exact congrArg (fun l => m ((c : Thread nD τ).loc main_arg3) (ix2 k l)) (Fin.ext hl)
    · rw [dif_neg (by omega), if_neg (by omega)]
      exact congrArg (fun l => m ((c : Thread nD τ).loc main_arg3) (ix2 k l)) (Fin.ext (by show l'.val - 120 = l.val; omega))
  unfold blockProj
  simp only [hw]
  rfl

abbrev memSq : Vec Ideal S128x3x1536 .f32 := m ((c : Thread nD τ).loc main_arg4)
abbrev memSs : Vec Ideal S128x2x512 .f32 := m ((c : Thread nD τ).loc main_arg5)

theorem state_sq (t : Fin cfg0.N) (s : Fin 3) (n : Fin 128) (l : Fin 1536) : (iblk m c 4 t : Vec Ideal S3x128x1536 .f32) (ix3 s n l) = memSq m c (ix3 n s l) :=
  congrFun (block_sq m c t) (ix3 s n l)

theorem state_ss (t : Fin cfg0.N) (s : Fin 2) (n : Fin 128) (l : Fin 512) : (iblk m c 5 t : Vec Ideal S2x128x512 .f32) (ix3 s n l) = memSs m c (ix3 n s l) :=
  congrFun (block_ss m c t) (ix3 s n l)

theorem lanes_al (t : Fin cfg0.N) (l : Fin 4) : (iblk m c 7 t : Vec Ideal S1x128 .f32) (ix2 0 ⟨l.val, by omega⟩) = m ((c : Thread nD τ).loc main_arg7) (ix1 l) :=
  (congrFun (block_al m c t) _).trans (dif_pos l.isLt)

theorem lanes_dt (t : Fin cfg0.N) (l : Fin 4) : (iblk m c 8 t : Vec Ideal S1x128 .f32) (ix2 0 ⟨l.val, by omega⟩) = m ((c : Thread nD τ).loc main_arg8) (ix1 l) :=
  (congrFun (block_dt m c t) _).trans (dif_pos l.isLt)

abbrev memQ : Vec Ideal S4x128x512 .f32 := queriesOf (memProj m c) (memSq m c) (m ((c : Thread nD τ).loc main_arg6))
abbrev memK : Vec Ideal S4x128x512 .f32 := keysOf (memProj m c) (memSq m c) (m ((c : Thread nD τ).loc main_arg6))
abbrev memV : Vec Ideal S4x128x512 .f32 := valuesOf (memProj m c) (memSq m c) (m ((c : Thread nD τ).loc main_arg6))
abbrev memG : Vec Ideal S4x128x128 .f32 := ratesOf (memProj m c) (m ((c : Thread nD τ).loc main_arg7)) (m ((c : Thread nD τ).loc main_arg8))
abbrev memZ : Vec Ideal S4x128x512 .f32 := gateOf (memProj m c)
abbrev memY : Vec Ideal S4x128x512 .f32 := shortOf (memProj m c) (memSs m c) (m ((c : Thread nD τ).loc main_arg9))
abbrev memRaw : Vec Ideal S3x128x1536 .f32 := rawTail (memProj m c) (memSq m c)
abbrev memInner : Vec Ideal S2x128x512 .f32 := innerTail (memProj m c) (memSs m c)

/-- The only block of a result is the whole of it. -/
theorem result_index {T L : ℕ} (t : Fin cfg0.N) (j e : (⟨3, ![T, 128, L]⟩ : Shape).Idx) (h0 : (e 0).val = win0_10.index t 0 * T + 1 * (j 0).val)
    (h1 : (e 1).val = win0_10.index t 1 * 128 + 1 * (j 1).val) (h2 : (e 2).val = win0_10.index t 2 * L + 1 * (j 2).val) : e = j := by
  obtain ⟨-, -, -, -, -, -, -, -, -, -, ⟨i0, i1, i2⟩⟩ := index_maps t
  exact whole_index3 i0 i1 i2 j e h0 h1 h2

theorem array_q : (Gen.dats m 0 c).arrAt 10 cfg0.N = memQ m c := by
  refine (Gen.dats m 0 c).arrAt_eq_of_cover 10 (memQ m c) (fun t _ => ?_) (fun i => ⟨⟨0, by decide⟩, by decide +kernel, ?_⟩)
  · rw [Value.flushed10, out_q _ _ _ _ (projects m c t) (state_sq m c t), block_cw]
    funext j
    rw [View.read_apply]
    exact congrArg (memQ m c) (result_index t j _ rfl rfl rfl).symm
  · exact Finset.mem_map.mpr ⟨i, Finset.mem_univ _, result_index _ i _ rfl rfl rfl⟩

theorem array_k : (Gen.dats m 0 c).arrAt 11 cfg0.N = memK m c := by
  refine (Gen.dats m 0 c).arrAt_eq_of_cover 11 (memK m c) (fun t _ => ?_) (fun i => ⟨⟨0, by decide⟩, by decide +kernel, ?_⟩)
  · rw [Value.flushed11, out_k _ _ _ _ (projects m c t) (state_sq m c t), block_cw]
    funext j
    rw [View.read_apply]
    exact congrArg (memK m c) (result_index t j _ rfl rfl rfl).symm
  · exact Finset.mem_map.mpr ⟨i, Finset.mem_univ _, result_index _ i _ rfl rfl rfl⟩

theorem array_v : (Gen.dats m 0 c).arrAt 12 cfg0.N = memV m c := by
  refine (Gen.dats m 0 c).arrAt_eq_of_cover 12 (memV m c) (fun t _ => ?_) (fun i => ⟨⟨0, by decide⟩, by decide +kernel, ?_⟩)
  · rw [Value.flushed12, out_v _ _ _ _ (projects m c t) (state_sq m c t), block_cw]
    funext j
    rw [View.read_apply]
    exact congrArg (memV m c) (result_index t j _ rfl rfl rfl).symm
  · exact Finset.mem_map.mpr ⟨i, Finset.mem_univ _, result_index _ i _ rfl rfl rfl⟩

theorem array_g : (Gen.dats m 0 c).arrAt 13 cfg0.N = memG m c := by
  refine (Gen.dats m 0 c).arrAt_eq_of_cover 13 (memG m c) (fun t _ => ?_) (fun i => ⟨⟨0, by decide⟩, by decide +kernel, ?_⟩)
  · rw [Value.flushed13, out_g _ _ _ _ _ _ (projects m c t) (lanes_al m c t) (lanes_dt m c t)]
    funext j
    rw [View.read_apply]
    exact congrArg (memG m c) (result_index t j _ rfl rfl rfl).symm
  · exact Finset.mem_map.mpr ⟨i, Finset.mem_univ _, result_index _ i _ rfl rfl rfl⟩

theorem array_z : (Gen.dats m 0 c).arrAt 14 cfg0.N = memZ m c := by
  refine (Gen.dats m 0 c).arrAt_eq_of_cover 14 (memZ m c) (fun t _ => ?_) (fun i => ⟨⟨0, by decide⟩, by decide +kernel, ?_⟩)
  · rw [Value.flushed14, out_z _ _ _ _ (projects m c t)]
    funext j
    rw [View.read_apply]
    exact congrArg (memZ m c) (result_index t j _ rfl rfl rfl).symm
  · exact Finset.mem_map.mpr ⟨i, Finset.mem_univ _, result_index _ i _ rfl rfl rfl⟩

theorem array_y : (Gen.dats m 0 c).arrAt 15 cfg0.N = memY m c := by
  refine (Gen.dats m 0 c).arrAt_eq_of_cover 15 (memY m c) (fun t _ => ?_) (fun i => ⟨⟨0, by decide⟩, by decide +kernel, ?_⟩)
  · rw [Value.flushed15, out_y _ _ _ _ (projects m c t) (state_ss m c t), block_sw]
    funext j
    rw [View.read_apply]
    exact congrArg (memY m c) (result_index t j _ rfl rfl rfl).symm
  · exact Finset.mem_map.mpr ⟨i, Finset.mem_univ _, result_index _ i _ rfl rfl rfl⟩

theorem array_rawTail : (Gen.dats m 0 c).arrAt 16 cfg0.N = memRaw m c := by
  refine (Gen.dats m 0 c).arrAt_eq_of_cover 16 (memRaw m c) (fun t _ => ?_) (fun i => ⟨⟨0, by decide⟩, by decide +kernel, ?_⟩)
  · rw [Value.flushed16, out_rawTail _ _ _ _ (projects m c t) (state_sq m c t)]
    funext j
    rw [View.read_apply]
    exact congrArg (memRaw m c) (result_index t j _ rfl rfl rfl).symm
  · exact Finset.mem_map.mpr ⟨i, Finset.mem_univ _, result_index _ i _ rfl rfl rfl⟩

theorem array_innerTail : (Gen.dats m 0 c).arrAt 17 cfg0.N = memInner m c := by
  refine (Gen.dats m 0 c).arrAt_eq_of_cover 17 (memInner m c) (fun t _ => ?_) (fun i => ⟨⟨0, by decide⟩, by decide +kernel, ?_⟩)
  · rw [Value.flushed17, out_innerTail _ _ _ _ (projects m c t) (state_ss m c t)]
    funext j
    rw [View.read_apply]
    exact congrArg (memInner m c) (result_index t j _ rfl rfl rfl).symm
  · exact Finset.mem_map.mpr ⟨i, Finset.mem_univ _, result_index _ i _ rfl rfl rfl⟩

/-- The kernel and the reference leave the same results, of the same arguments. -/
theorem algebraic : Cert.algebraic_DnInSIdeal_DnInSRefIdeal (hDnInSIdeal := Cert.DnInSIdeal.Gen.facts)
    (hDnInSRefIdeal := Cert.DnInSRefIdeal.Gen.facts) := by
  intro m g m' g' _ hargs
  refine ⟨fun c => memQ m c, fun c => memK m c, fun c => memV m c, fun c => memG m c, fun c => memZ m c, fun c => memY m c, fun c => memRaw m c,
    fun c => memInner m c, ?_, ?_⟩
  · refine (θ_run Cert.DnInSIdeal.defs _ _).mono (fun r h c => ?_) (Cert.DnInSIdeal.Value.run_blocks m g)
    obtain ⟨h0, h1, h2, h3, h4, h5, h6, h7, hk⟩ := h c
    exact ⟨h0.trans (array_q m c), h1.trans (array_k m c), h2.trans (array_v m c), h3.trans (array_g m c), h4.trans (array_z m c), h5.trans (array_y m c),
      h6.trans (array_rawTail m c), h7.trans (array_innerTail m c), hk⟩
  · refine (θ_run Cert.DnInSRefIdeal.defs _ _).mono (fun r h c => ?_) (Cert.DnInSRefIdeal.Value.run m' g')
    obtain ⟨h0, h1, h2, h3, h4, h5, h6, h7, hk⟩ := h c
    obtain ⟨e0, e1, e2, e3, e4, e5, e6, e7, e8, e9⟩ := hargs c
    have hq := DnInSRef.queries_eq m' c
    have hkeys := DnInSRef.keys_eq m' c
    have hv := DnInSRef.values_eq m' c
    have hg := DnInSRef.rates_eq m' c
    have hz := DnInSRef.gates_eq m' c
    have hy := DnInSRef.short_eq m' c
    have ht := DnInSRef.rawTail_eq m' c
    have hi := DnInSRef.innerTail_eq m' c
    have hp : DnInSRef.refProj m' c = memProj m c := by
      unfold DnInSRef.refProj
      rw [e0, e1, e2, e3]
    have hsq : DnInSRef.stateQ m' c = memSq m c := e4
    have hss : DnInSRef.stateS m' c = memSs m c := e5
    rw [hp] at hq hkeys hv hg hz hy ht hi
    exact ⟨h0.trans (hq.trans (congrArg₂ (queriesOf (memProj m c)) hsq e6)), h1.trans (hkeys.trans (congrArg₂ (keysOf (memProj m c)) hsq e6)),
      h2.trans (hv.trans (congrArg₂ (valuesOf (memProj m c)) hsq e6)), h3.trans (hg.trans (congrArg₂ (ratesOf (memProj m c)) e7 e8)), h4.trans hz,
      h5.trans (hy.trans (congrArg₂ (shortOf (memProj m c)) hss e9)), h6.trans (ht.trans (congrArg (rawTail (memProj m c)) hsq)),
      h7.trans (hi.trans (congrArg (innerTail (memProj m c)) hss)), hk⟩

/-- The reference's run leaves every semaphore at zero. -/
theorem reference_frame : Cert.quiescent_DnInSRefIdeal (hDnInSRefIdeal := Cert.DnInSRefIdeal.Gen.facts) := fun m ρ _ =>
  (θ_run Cert.DnInSRefIdeal.defs _ _).mono (fun r h => ⟨fun c => (h c).2.2.2.2.2.2.2.2, Idealize.ShloMosaic.sem_eq_zero_of_no_sems (by decide) r.2⟩)
    (Cert.DnInSRefIdeal.Value.run (F := Ideal) m ρ)

end Cert.DnInSValue

end
-- ==== Proof.ModValue.lean ====
/- The modulation of both layers: what its kernel leaves is the reference's result. -/
module

public import proofs.«01_k».proof.Defs
public import proofs.«01_k».proof.Proof.Gen.Mod.Frame
public import proofs.«01_k».proof.Proof.Gen.ModIdeal.Value
public import proofs.«01_k».proof.Proof.Gen.ModRefIdeal.Run
public import proofs.«01_k».proof.Proof.RowBlocks
public import Idealize.ShloMosaic.Lib.Claim

@[expose] public section

set_option maxRecDepth 16384

noncomputable section

namespace Cert.ModValue

open Idealize.ShloMosaic Idealize.ShloMosaic.TcCoe Idealize.SL.Sem
open Cert.ModIdeal Cert.ModIdeal.Gen Cert.RowBlocks

/-- The prompt batch's four conditioning rows, then the sample batch's 128. -/
def bothRows (cp : Vec Ideal S4x1024 .f32) (cs : Vec Ideal S128x1024 .f32) : Vec Ideal S132x1024 .f32 :=
  fun i => if h : (i 0).val < 4 then cp (ix2 ⟨(i 0).val, h⟩ (i 1)) else cs (ix2 ⟨(i 0).val - 4, by have h0 : (i 0).val < 132 := (i 0).isLt; omega⟩ (i 1))

/-- The modulation of each layer: each conditioning row times the layer's weights, plus the layer's offsets. -/
def modOf (a : Vec Ideal S132x1024 .f32) (w : Vec Ideal S2x1024x3072 .f32) (b : Vec Ideal S2x3072 .f32) : Vec Ideal S2x132x3072 .f32 :=
  fun i => (∑ k : Fin 1024, a (ix2 (i 1) k) * w (ix3 (i 0) k (i 2))) + b (ix2 (i 0) (i 2))

/-- The layer of grid point `t`. -/
def layerOf (t : ℕ) : Fin 2 := ⟨t / 3 % 2, Nat.mod_lt _ (by omega)⟩

/-- The lane of the whole modulation that grid point `t`'s lane `l` is. -/
def laneOf (t : ℕ) (l : Fin 1024) : Fin 3072 := ⟨t % 3 * 1024 + l.val, by omega⟩

/-- The index of the whole array that grid point `t`'s index `j` is. -/
def lanesAt {A : ℕ} (t : ℕ) (j : (⟨3, ![1, A, 1024]⟩ : Shape).Idx) : (⟨3, ![2, A, 3072]⟩ : Shape).Idx := ix3 (layerOf t) (j 1) (laneOf t (j 2))

/-- A block's index `j` at block index `t / 3, 0, t % 3` is the array's index `lanesAt t j`. -/
theorem lanes_index {A : ℕ} (t : ℕ) (ht : t < 6) {p q s : ℕ} (hp : p = t / 3) (hq : q = 0) (hs : s = t % 3) (j : (⟨3, ![1, A, 1024]⟩ : Shape).Idx)
    (e : (⟨3, ![2, A, 3072]⟩ : Shape).Idx) (h0 : (e 0).val = p * 1 + 1 * (j 0).val) (h1 : (e 1).val = q * A + 1 * (j 1).val)
    (h2 : (e 2).val = s * 1024 + 1 * (j 2).val) : e = lanesAt t j := by
  subst hp hq hs
  have hj : (j 0).val < 1 := (j 0).isLt
  funext b
  refine Fin.ext ?_
  fin_cases b
  · show (e 0).val = t / 3 % 2; omega
  · show (e 1).val = (j 1).val; omega
  · show (e 2).val = t % 3 * 1024 + (j 2).val; omega

/-- The grid point that holds an index of the modulation, and the index in its block. -/
def pointOf (i : S2x132x3072.Idx) : ℕ := (i 0).val * 3 + (i 2).val / 1024

def inPoint (i : S2x132x3072.Idx) : S1x132x1024.Idx := ix3 0 (i 1) ⟨(i 2).val % 1024, Nat.mod_lt _ (by omega)⟩

theorem pointOf_lt (i : S2x132x3072.Idx) : pointOf i < 6 := by
  have h0 : (i 0).val < 2 := (i 0).isLt
  have h2 : (i 2).val < 3072 := (i 2).isLt
  unfold pointOf
  omega

theorem lanesAt_pointOf (i : S2x132x3072.Idx) : lanesAt (pointOf i) (inPoint i) = i := by
  have h0 : (i 0).val < 2 := (i 0).isLt
  have h2 : (i 2).val < 3072 := (i 2).isLt
  funext b
  refine Fin.ext ?_
  fin_cases b
  · show ((i 0).val * 3 + (i 2).val / 1024) / 3 % 2 = (i 0).val; omega
  · rfl
  · show ((i 0).val * 3 + (i 2).val / 1024) % 3 * 1024 + (i 2).val % 1024 = (i 2).val; omega

/-- What the body computes of one block is the modulation there. -/
theorem point_mod (a : Vec Ideal S132x1024 .f32) (w : Vec Ideal S2x1024x3072 .f32) (b : Vec Ideal S2x3072 .f32) (t : ℕ) (j : S1x132x1024.Idx) :
    k0_pay1 (F := Ideal) a (fun i => w (lanesAt t i)) (fun i => b (ix2 (layerOf t) (laneOf t (i 2)))) j = modOf a w b (lanesAt t j) := by
  idx_vars j
  pointwise [k0_pay1, modOf, lanesAt]

variable (m : (ℓ : Loc nD τ sig) → Buf (Elt Ideal) ℓ) (c : Dev nD)

/-- The blocks that each grid point reads and writes. -/
theorem index_maps : ∀ t : Fin cfg0.N,
    (win0_0.index t 0 = 0 ∧ win0_0.index t 1 = 0) ∧
    (win0_1.index t 0 = t.val / 3 ∧ win0_1.index t 1 = 0 ∧ win0_1.index t 2 = t.val % 3) ∧
    (win0_2.index t 0 = t.val / 3 ∧ win0_2.index t 1 = 0 ∧ win0_2.index t 2 = t.val % 3) ∧
    (win0_3.index t 0 = t.val / 3 ∧ win0_3.index t 1 = 0 ∧ win0_3.index t 2 = t.val % 3) := by
  decide +kernel

theorem lt_N (t : Fin cfg0.N) : t.val < 6 := t.isLt

/-- The conditioning rows as the kernel takes them: the two batches' one after the other. -/
theorem entry_c : V m c main_v0 = bothRows (m ((c : Thread nD τ).loc main_arg0)) (m ((c : Thread nD τ).loc main_arg1)) := by
  entry_read
  funext i
  idx_vars i
  pointwise [bothRows]

/-- The offsets as the kernel takes them. -/
theorem entry_b : V m c main_v1 = fun i => m ((c : Thread nD τ).loc main_arg3) (ix2 (i 0) (i 2)) := by
  entry_read
  funext i
  pointwise

theorem block_c (t : Fin cfg0.N) : (iblk m c 0 t : Vec Ideal S132x1024 .f32) =
    bothRows (m ((c : Thread nD τ).loc main_arg0)) (m ((c : Thread nD τ).loc main_arg1)) := by
  obtain ⟨⟨h0, h1⟩, -⟩ := index_maps t
  funext j
  unfold iblk
  rw [View.read_apply]
  refine (congrFun (entry_c m c) _).trans ?_
  exact congrArg (bothRows (m ((c : Thread nD τ).loc main_arg0)) (m ((c : Thread nD τ).loc main_arg1))) (whole_index h0 h1 j _ rfl rfl)

theorem block_w (t : Fin cfg0.N) : (iblk m c 1 t : Vec Ideal S1x1024x1024 .f32) = fun i => m ((c : Thread nD τ).loc main_arg2) (lanesAt t.val i) := by
  obtain ⟨-, ⟨h0, h1, h2⟩, -⟩ := index_maps t
  funext j
  unfold iblk
  rw [View.read_apply]
  exact congrArg (m ((c : Thread nD τ).loc main_arg2)) (lanes_index t.val (lt_N t) h0 h1 h2 j _ rfl rfl rfl)

theorem block_b (t : Fin cfg0.N) : (iblk m c 2 t : Vec Ideal S1x1x1024 .f32) =
    fun i => m ((c : Thread nD τ).loc main_arg3) (ix2 (layerOf t.val) (laneOf t.val (i 2))) := by
  obtain ⟨-, -, ⟨h0, h1, h2⟩, -⟩ := index_maps t
  funext j
  unfold iblk
  rw [View.read_apply]
  refine (congrFun (entry_b m c) _).trans ?_
  exact congrArg (fun i : S2x1x3072.Idx => m ((c : Thread nD τ).loc main_arg3) (ix2 (i 0) (i 2))) (lanes_index t.val (lt_N t) h0 h1 h2 j _ rfl rfl rfl)

/-- The modulation, of the arguments in memory. -/
abbrev memMod : Vec Ideal S2x132x3072 .f32 :=
  modOf (bothRows (m ((c : Thread nD τ).loc main_arg0)) (m ((c : Thread nD τ).loc main_arg1))) (m ((c : Thread nD τ).loc main_arg2))
    (m ((c : Thread nD τ).loc main_arg3))

theorem ld_c (X : Vec Ideal S132x1024 .f32) : View.ld X r0_0 = X := View.ld_unit_zero (S := S132x1024) (by funext b; fin_cases b <;> rfl) _ X
theorem ld_w (X : Vec Ideal S1x1024x1024 .f32) : View.ld X r0_1 = X := View.ld_unit_zero (S := S1x1024x1024) (by funext b; fin_cases b <;> rfl) _ X
theorem ld_b (X : Vec Ideal S1x1x1024 .f32) : View.ld X r0_2 = X := View.ld_unit_zero (S := S1x1x1024) (by funext b; fin_cases b <;> rfl) _ X

/-- What a grid point leaves in its block. -/
theorem point_out (t : Fin cfg0.N) (j : S1x132x1024.Idx) :
    out0_3 (F := Ideal) (iblk m c 0 t) (iblk m c 1 t) (iblk m c 2 t) j = memMod m c (lanesAt t.val j) := by
  unfold out0_3
  rw [ld_c, ld_w, ld_b, block_c, block_w, block_b]
  refine (congrFun (View.canon_unit_zero (S := S1x132x1024) (by funext b; fin_cases b <;> rfl) _ _) j).trans ?_
  exact point_mod _ _ _ _ _

/-- The run leaves the modulation. -/
theorem array_mod : (Gen.dats m 0 c).arrAt 3 cfg0.N = memMod m c := by
  refine (Gen.dats m 0 c).arrAt_eq_of_cover 3 (memMod m c) (fun t _ => ?_) (fun i => ?_)
  · obtain ⟨-, -, -, ⟨h0, h1, h2⟩⟩ := index_maps t
    rw [Value.flushed3]
    funext j
    rw [View.read_apply]
    refine (point_out m c t j).trans ?_
    exact (congrArg (memMod m c) (lanes_index t.val (lt_N t) h0 h1 h2 j _ rfl rfl rfl)).symm
  · let t : Fin cfg0.N := ⟨pointOf i, pointOf_lt i⟩
    obtain ⟨-, -, -, ⟨h0, h1, h2⟩⟩ := index_maps t
    refine ⟨t, ?_, ?_⟩
    · exact (by decide +kernel : ∀ t : Fin cfg0.N, (cfg0.win 3).flush t = true) t
    · refine Finset.mem_map.mpr ⟨inPoint i, Finset.mem_univ _, ?_⟩
      exact (lanes_index t.val (lt_N t) h0 h1 h2 (inPoint i) _ rfl rfl rfl).trans (lanesAt_pointOf i)

/-- The kernel and the reference leave the same modulation, of the same arguments. -/
theorem algebraic : Cert.algebraic_ModIdeal_ModRefIdeal (hModIdeal := Cert.ModIdeal.Gen.facts)
    (hModRefIdeal := Cert.ModRefIdeal.Gen.facts) := by
  intro m g m' g' _ hargs
  refine ⟨fun c => memMod m c, ?_, ?_⟩
  · exact (θ_run Cert.ModIdeal.defs _ _).mono (fun r h c => ⟨(h c).1.trans (array_mod m c), (h c).2⟩) (Cert.ModIdeal.Value.run_blocks m g)
  · refine (θ_run Cert.ModRefIdeal.defs _ _).mono (fun r h c => ⟨(h c).1.trans ?_, (h c).2⟩) (Cert.ModRefIdeal.Value.run m' g')
    obtain ⟨e0, e1, e2, e3⟩ := hargs c
    rw [e0, e1, e2, e3]
    funext i
    obtain ⟨l, r, d, rfl⟩ : ∃ (l : Fin 2) (r : Fin 132) (d : Fin 3072), i = ix3 l r d := ⟨i 0, i 1, i 2, by funext b; fin_cases b <;> rfl⟩
    unfold memMod modOf
    fin_cases l
    · pointwise [bothRows]
      split_ifs <;> pointwise
    · pointwise [bothRows]
      split_ifs <;> pointwise

/-- The reference's run leaves its arguments unchanged, and it has no semaphores. -/
theorem reference_frame : Cert.quiescent_ModRefIdeal (hModRefIdeal := Cert.ModRefIdeal.Gen.facts) := fun m ρ _ =>
  (θ_run Cert.ModRefIdeal.defs _ _).mono (fun r h => ⟨fun c => (h c).2, Idealize.ShloMosaic.sem_eq_zero_of_no_sems (by decide) r.2⟩)
    (Cert.ModRefIdeal.Value.run (F := Ideal) m ρ)

end Cert.ModValue

end
-- ==== Proof.lean ====
/- The proof of the certificate's claims. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.ScanRef
public import proofs.«01_k».proof.Proof.Gen.AttnIn
public import proofs.«01_k».proof.Proof.Gen.AttnIn.Frame
public import proofs.«01_k».proof.Proof.Gen.AttnInIdeal
public import proofs.«01_k».proof.Proof.Gen.AttnInIdeal.Frame
public import proofs.«01_k».proof.Proof.Gen.AttnInIdeal.Value
public import proofs.«01_k».proof.Proof.Gen.AttnInRefIdeal
public import proofs.«01_k».proof.Proof.Gen.AttnInRefIdeal.Run
public import proofs.«01_k».proof.Proof.Gen.AttnOut
public import proofs.«01_k».proof.Proof.Gen.AttnOut.Frame
public import proofs.«01_k».proof.Proof.Gen.AttnOutIdeal
public import proofs.«01_k».proof.Proof.Gen.AttnOutIdeal.Frame
public import proofs.«01_k».proof.Proof.Gen.AttnOutIdeal.Value
public import proofs.«01_k».proof.Proof.Gen.AttnOutRefIdeal
public import proofs.«01_k».proof.Proof.Gen.AttnOutRefIdeal.Run
public import proofs.«01_k».proof.Proof.Gen.DnOut
public import proofs.«01_k».proof.Proof.Gen.DnOut.Frame
public import proofs.«01_k».proof.Proof.Gen.DnOutIdeal
public import proofs.«01_k».proof.Proof.Gen.DnOutIdeal.Frame
public import proofs.«01_k».proof.Proof.Gen.DnOutIdeal.Value
public import proofs.«01_k».proof.Proof.Gen.DnOutRefIdeal
public import proofs.«01_k».proof.Proof.Gen.DnOutRefIdeal.Run
public import proofs.«01_k».proof.Proof.Gen.DnIn
public import proofs.«01_k».proof.Proof.Gen.DnIn.Frame
public import proofs.«01_k».proof.Proof.Gen.DnInIdeal
public import proofs.«01_k».proof.Proof.Gen.DnInIdeal.Frame
public import proofs.«01_k».proof.Proof.Gen.DnInIdeal.Value
public import proofs.«01_k».proof.Proof.Gen.DnInRefIdeal
public import proofs.«01_k».proof.Proof.Gen.DnInRefIdeal.Run
public import proofs.«01_k».proof.Proof.Gen.AttnOutS
public import proofs.«01_k».proof.Proof.Gen.AttnOutS.Frame
public import proofs.«01_k».proof.Proof.Gen.AttnOutSIdeal
public import proofs.«01_k».proof.Proof.Gen.AttnOutSIdeal.Frame
public import proofs.«01_k».proof.Proof.Gen.AttnOutSIdeal.Value
public import proofs.«01_k».proof.Proof.Gen.AttnOutSRefIdeal
public import proofs.«01_k».proof.Proof.Gen.AttnOutSRefIdeal.Run
public import proofs.«01_k».proof.Proof.Gen.AttnInS
public import proofs.«01_k».proof.Proof.Gen.AttnInS.Frame
public import proofs.«01_k».proof.Proof.Gen.AttnInSIdeal
public import proofs.«01_k».proof.Proof.Gen.AttnInSIdeal.Frame
public import proofs.«01_k».proof.Proof.Gen.AttnInSIdeal.Value
public import proofs.«01_k».proof.Proof.Gen.AttnInSRefIdeal
public import proofs.«01_k».proof.Proof.Gen.AttnInSRefIdeal.Run
public import proofs.«01_k».proof.Proof.Gen.ScanS
public import proofs.«01_k».proof.Proof.Gen.ScanS.Frame
public import proofs.«01_k».proof.Proof.Gen.ScanSIdeal
public import proofs.«01_k».proof.Proof.Gen.ScanSIdeal.Frame
public import proofs.«01_k».proof.Proof.Gen.ScanSIdeal.Value
public import proofs.«01_k».proof.Proof.Gen.ScanSRefIdeal
public import proofs.«01_k».proof.Proof.Gen.ScanSRefIdeal.Run
public import proofs.«01_k».proof.Proof.Gen.DnInS
public import proofs.«01_k».proof.Proof.Gen.DnInS.Frame
public import proofs.«01_k».proof.Proof.Gen.DnInSIdeal
public import proofs.«01_k».proof.Proof.Gen.DnInSIdeal.Frame
public import proofs.«01_k».proof.Proof.Gen.DnInSIdeal.Value
public import proofs.«01_k».proof.Proof.Gen.DnInSRefIdeal
public import proofs.«01_k».proof.Proof.Gen.DnInSRefIdeal.Run
public import proofs.«01_k».proof.Proof.Gen.Mod
public import proofs.«01_k».proof.Proof.Gen.Mod.Frame
public import proofs.«01_k».proof.Proof.Gen.ModIdeal
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.Gen.Moba
public import proofs.«01_k».proof.Proof.Gen.Moba.Frame
public import proofs.«01_k».proof.Proof.Gen.MobaIdeal
public import proofs.«01_k».proof.Proof.Gen.MobaIdeal.Frame
public import proofs.«01_k».proof.Proof.Gen.MobaIdeal.Value
public import proofs.«01_k».proof.Proof.AttnInValue
public import proofs.«01_k».proof.Proof.AttnOutValue
public import proofs.«01_k».proof.Proof.DnOutValue
public import proofs.«01_k».proof.Proof.DnInValue
public import proofs.«01_k».proof.Proof.AttnOutSValue
public import proofs.«01_k».proof.Proof.AttnInSValue
public import proofs.«01_k».proof.Proof.ScanSValue
public import proofs.«01_k».proof.Proof.DnInSValue
public import proofs.«01_k».proof.Proof.ModValue
public import Idealize.ShloMosaic.Adequacy
public import Idealize.ShloMosaic.Init

@[expose] public section

noncomputable section

namespace Cert.Proof

open Idealize.ShloMosaic Idealize.SL.Sem Cert.Kernel

/-- The scan's kernel and its reference leave the same outputs and the same last state, of the same arguments. -/
theorem scan_algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.ScanBlock.memOut m c, fun c => Cert.ScanBlock.memState m c 64, ?_, ?_⟩
  · exact (θ_run _ _ _).mono (fun r h c => ⟨(h c).1.trans (Cert.ScanBlock.array_out m c), (h c).2.1.trans (Cert.ScanBlock.array_state m c), (h c).2.2⟩)
      (Cert.KernelIdeal.Value.run_blocks m g)
  · refine (θ_run _ _ _).mono (fun r h c => ?_) (Cert.ScanRun.run_states m' g')
    obtain ⟨e0, e1, e2, e3, e4, e5, e6⟩ := hargs c
    refine ⟨(h c).1.trans ((Cert.ScanRef.result_out m' c).trans ?_), (h c).2.1.trans ((Cert.ScanRef.result_state m' c).trans ?_), (h c).2.2⟩
    · unfold Cert.ScanRef.argU Cert.ScanRef.argW Cert.ScanRef.argQ Cert.ScanRef.argK Cert.ScanRef.argE Cert.ScanRef.argA Cert.ScanRef.argS
      rw [e0, e1, e2, e3, e4, e5, e6]
    · unfold Cert.ScanRef.argU Cert.ScanRef.argW Cert.ScanRef.argK Cert.ScanRef.argE Cert.ScanRef.argS
      rw [e0, e1, e3, e4, e6]

/-- The reference's run leaves its arguments unchanged, and it has no semaphores. -/
theorem scan_reference_frame : Cert.quiescent_ReferenceIdeal (hReferenceIdeal := Cert.ReferenceIdeal.Gen.facts) := fun m ρ _ =>
  (θ_run Cert.ReferenceIdeal.defs _ _).mono (fun r h => ⟨fun c => (h c).2.2, Idealize.ShloMosaic.sem_eq_zero_of_no_sems (by decide) r.2⟩)
    (Cert.ScanRun.run_states (F := Ideal) m ρ)

theorem claim : Cert.Claim := ⟨Cert.Kernel.Gen.facts, Cert.KernelIdeal.Gen.facts, Cert.ReferenceIdeal.Gen.facts,
  Cert.AttnIn.Gen.facts, Cert.AttnInIdeal.Gen.facts, Cert.AttnInRefIdeal.Gen.facts,
  Cert.AttnOut.Gen.facts, Cert.AttnOutIdeal.Gen.facts, Cert.AttnOutRefIdeal.Gen.facts,
  Cert.DnOut.Gen.facts, Cert.DnOutIdeal.Gen.facts, Cert.DnOutRefIdeal.Gen.facts,
  Cert.DnIn.Gen.facts, Cert.DnInIdeal.Gen.facts, Cert.DnInRefIdeal.Gen.facts,
  Cert.AttnOutS.Gen.facts, Cert.AttnOutSIdeal.Gen.facts, Cert.AttnOutSRefIdeal.Gen.facts,
  Cert.AttnInS.Gen.facts, Cert.AttnInSIdeal.Gen.facts, Cert.AttnInSRefIdeal.Gen.facts,
  Cert.ScanS.Gen.facts, Cert.ScanSIdeal.Gen.facts, Cert.ScanSRefIdeal.Gen.facts,
  Cert.DnInS.Gen.facts, Cert.DnInSIdeal.Gen.facts, Cert.DnInSRefIdeal.Gen.facts,
  Cert.Mod.Gen.facts, Cert.ModIdeal.Gen.facts, Cert.ModRefIdeal.Gen.facts,
  Cert.Moba.Gen.facts, Cert.MobaIdeal.Gen.facts,
  fun m ρ _ => Cert.Kernel.Gen.frame m ρ, fun m ρ _ => Cert.KernelIdeal.Gen.frame m ρ, scan_reference_frame,
  fun m ρ _ => Cert.AttnIn.Gen.frame m ρ, fun m ρ _ => Cert.AttnInIdeal.Gen.frame m ρ, Cert.AttnInValue.reference_frame,
  fun m ρ _ => Cert.AttnOut.Gen.frame m ρ, fun m ρ _ => Cert.AttnOutIdeal.Gen.frame m ρ, Cert.AttnOutValue.reference_frame,
  fun m ρ _ => Cert.DnOut.Gen.frame m ρ, fun m ρ _ => Cert.DnOutIdeal.Gen.frame m ρ, Cert.DnOutValue.reference_frame,
  fun m ρ _ => Cert.DnIn.Gen.frame m ρ, fun m ρ _ => Cert.DnInIdeal.Gen.frame m ρ, Cert.DnInValue.reference_frame,
  fun m ρ _ => Cert.AttnOutS.Gen.frame m ρ, fun m ρ _ => Cert.AttnOutSIdeal.Gen.frame m ρ, Cert.AttnOutSValue.reference_frame,
  fun m ρ _ => Cert.AttnInS.Gen.frame m ρ, fun m ρ _ => Cert.AttnInSIdeal.Gen.frame m ρ, Cert.AttnInSValue.reference_frame,
  fun m ρ _ => Cert.ScanS.Gen.frame m ρ, fun m ρ _ => Cert.ScanSIdeal.Gen.frame m ρ, Cert.ScanSValue.reference_frame,
  fun m ρ _ => Cert.DnInS.Gen.frame m ρ, fun m ρ _ => Cert.DnInSIdeal.Gen.frame m ρ, Cert.DnInSValue.reference_frame,
  fun m ρ _ => Cert.Mod.Gen.frame m ρ, fun m ρ _ => Cert.ModIdeal.Gen.frame m ρ, Cert.ModValue.reference_frame,
  fun m ρ _ => Cert.Moba.Gen.frame m ρ, fun m ρ _ => Cert.MobaIdeal.Gen.frame m ρ,
  trivial, scan_algebraic,
  trivial, Cert.AttnInValue.algebraic,
  trivial, Cert.AttnOutValue.algebraic,
  trivial, Cert.DnOutValue.algebraic,
  trivial, Cert.DnInValue.algebraic,
  trivial, Cert.AttnOutSValue.algebraic,
  trivial, Cert.AttnInSValue.algebraic,
  trivial, Cert.ScanSValue.algebraic,
  trivial, Cert.DnInSValue.algebraic,
  trivial, Cert.ModValue.algebraic,
  trivial⟩

end Cert.Proof

end
